-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S2x8192x4x192 : Shape := ⟨4, ![2, 8192, 4, 192]⟩
abbrev S2x8192x4x128 : Shape := ⟨4, ![2, 8192, 4, 128]⟩
abbrev S_ : Shape := ⟨0, ![]⟩

class Facts : Prop where
  bcast_S_S2x8192x4x192 : S_.BroadcastsInDim S2x8192x4x192 (![] : Fin 0 → Fin S2x8192x4x192.rank)

variable [Facts]

def fn {F : FTy → Type} [FloatOps F] (main_arg0 : FVec F S2x8192x4x192 .f32) (main_arg1 : FVec F S2x8192x4x192 .f32) (main_arg2 : FVec F S2x8192x4x128 .f32) : IVec S2x8192x4x192 1 × IVec S2x8192x4x192 1 :=
  let main_v0 : FVec F S2x8192x4x192 .f32 := Host.absf main_arg0
  let main_cst : FVec F S_ .f32 := constant S_ .f32 0x7F800000#32
  let main_v1 : FVec F S2x8192x4x192 .f32 := broadcastInDim S2x8192x4x192 ![] bcast_S_S2x8192x4x192 main_cst
  let main_v2 : IVec S2x8192x4x192 1 := cmpf .olt main_v0 main_v1
  let main_v3 : FVec F S2x8192x4x192 .f32 := Host.absf main_arg1
  let main_cst_0 : FVec F S_ .f32 := constant S_ .f32 0x7F800000#32
  let main_v4 : FVec F S2x8192x4x192 .f32 := broadcastInDim S2x8192x4x192 ![] bcast_S_S2x8192x4x192 main_cst_0
  let main_v5 : IVec S2x8192x4x192 1 := cmpf .olt main_v3 main_v4
  (main_v2, main_v5)
-- ==== Kernel.lean ====
abbrev S2x8192x4x192 : Shape := ⟨4, ![2, 8192, 4, 192]⟩
abbrev S2x8192x4x128 : Shape := ⟨4, ![2, 8192, 4, 128]⟩
abbrev S73 : Shape := ⟨1, ![73]⟩
abbrev S16384x4x192 : Shape := ⟨3, ![16384, 4, 192]⟩
abbrev S_ : Shape := ⟨0, ![]⟩
abbrev S16384x4x256 : Shape := ⟨3, ![16384, 4, 256]⟩
abbrev S16384x1024 : Shape := ⟨2, ![16384, 1024]⟩
abbrev S1024x16384 : Shape := ⟨2, ![1024, 16384]⟩
abbrev S16384x4x128 : Shape := ⟨3, ![16384, 4, 128]⟩
abbrev S16384x4x16 : Shape := ⟨3, ![16384, 4, 16]⟩
abbrev S16384x4x144 : Shape := ⟨3, ![16384, 4, 144]⟩
abbrev S16384x576 : Shape := ⟨2, ![16384, 576]⟩
abbrev S576x16384 : Shape := ⟨2, ![576, 16384]⟩
abbrev S16384x512 : Shape := ⟨2, ![16384, 512]⟩
abbrev S4x1024x1024 : Shape := ⟨3, ![4, 1024, 1024]⟩
abbrev S4x1x1024 : Shape := ⟨3, ![4, 1, 1024]⟩
abbrev S4x144x1024 : Shape := ⟨3, ![4, 144, 1024]⟩
abbrev S2x1024x1024 : Shape := ⟨3, ![2, 1024, 1024]⟩
abbrev S2 : Shape := ⟨1, ![2]⟩
abbrev S2x576x1024 : Shape := ⟨3, ![2, 576, 1024]⟩
abbrev S2x1024x512 : Shape := ⟨3, ![2, 1024, 512]⟩
abbrev S1 : Shape := ⟨1, ![1]⟩
abbrev S1x1024x1024 : Shape := ⟨3, ![1, 1024, 1024]⟩
abbrev S1024x1024 : Shape := ⟨2, ![1024, 1024]⟩
abbrev S1x576x1024 : Shape := ⟨3, ![1, 576, 1024]⟩
abbrev S576x1024 : Shape := ⟨2, ![576, 1024]⟩
abbrev S1x1x256 : Shape := ⟨3, ![1, 1, 256]⟩
abbrev S1x256 : Shape := ⟨2, ![1, 256]⟩
abbrev S1x1024x256 : Shape := ⟨3, ![1, 1024, 256]⟩
abbrev S1024x256 : Shape := ⟨2, ![1024, 256]⟩
abbrev S256x256 : Shape := ⟨2, ![256, 256]⟩
abbrev S256 : Shape := ⟨1, ![256]⟩
abbrev S144x1024 : Shape := ⟨2, ![144, 1024]⟩
abbrev S144x256 : Shape := ⟨2, ![144, 256]⟩
abbrev S1x144x256 : Shape := ⟨3, ![1, 144, 256]⟩
abbrev S1x256x256 : Shape := ⟨3, ![1, 256, 256]⟩
abbrev S512x256 : Shape := ⟨2, ![512, 256]⟩
abbrev S768x256 : Shape := ⟨2, ![768, 256]⟩
abbrev S1x512x256 : Shape := ⟨3, ![1, 512, 256]⟩
abbrev S1x768x256 : Shape := ⟨3, ![1, 768, 256]⟩
abbrev S144x512 : Shape := ⟨2, ![144, 512]⟩
abbrev S144x768 : Shape := ⟨2, ![144, 768]⟩
abbrev S1x144x1024 : Shape := ⟨3, ![1, 144, 1024]⟩
abbrev S128x1024 : Shape := ⟨2, ![128, 1024]⟩
abbrev S1x1024 : Shape := ⟨2, ![1, 1024]⟩
abbrev S1024x128 : Shape := ⟨2, ![1024, 128]⟩
abbrev S1x1024x512 : Shape := ⟨3, ![1, 1024, 512]⟩
abbrev S1024x512 : Shape := ⟨2, ![1024, 512]⟩
abbrev S1x1024x128 : Shape := ⟨3, ![1, 1024, 128]⟩

abbrev nBuf : Space → Nat
  | .hbm => 40
  | .vmem => 8
  | .smem => 7
  | _ => 0

abbrev bufTy : (tb : Table) → Fin (tcTables nBuf tb) → BufTy
  | .hbm, ⟨0, _⟩ => ⟨S2x8192x4x192, .f32⟩
  | .hbm, ⟨1, _⟩ => ⟨S2x8192x4x192, .f32⟩
  | .hbm, ⟨2, _⟩ => ⟨S2x8192x4x128, .f32⟩
  | .hbm, ⟨3, _⟩ => ⟨S73, .i32⟩
  | .hbm, ⟨4, _⟩ => ⟨S73, .i32⟩
  | .hbm, ⟨5, _⟩ => ⟨S73, .i32⟩
  | .hbm, ⟨6, _⟩ => ⟨S73, .i32⟩
  | .hbm, ⟨7, _⟩ => ⟨S73, .i32⟩
  | .hbm, ⟨8, _⟩ => ⟨S73, .i32⟩
  | .hbm, ⟨9, _⟩ => ⟨S73, .i32⟩
  | .hbm, ⟨10, _⟩ => ⟨S16384x4x192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x4x192, .f32⟩
  | .hbm, ⟨19, _⟩ => ⟨S16384x4x192, .f32⟩
  | .hbm, ⟨20, _⟩ => ⟨S_, .i32⟩
  | .hbm, ⟨21, _⟩ => ⟨S_, .f32⟩
  | .hbm, ⟨22, _⟩ => ⟨S16384x4x256, .f32⟩
  | .hbm, ⟨23, _⟩ => ⟨S16384x1024, .f32⟩
  | .hbm, ⟨24, _⟩ => ⟨S16384x1024, .bf16⟩
  | .hbm, ⟨25, _⟩ => ⟨S1024x16384, .bf16⟩
  | .hbm, ⟨26, _⟩ => ⟨S16384x4x192, .f32⟩
  | .hbm, ⟨27, _⟩ => ⟨S_, .i32⟩
  | .hbm, ⟨28, _⟩ => ⟨S_, .f32⟩
  | .hbm, ⟨29, _⟩ => ⟨S16384x4x256, .f32⟩
  | .hbm, ⟨30, _⟩ => ⟨S16384x1024, .f32⟩
  | .hbm, ⟨31, _⟩ => ⟨S16384x1024, .bf16⟩
  | .hbm, ⟨32, _⟩ => ⟨S16384x4x128, .f32⟩
  | .hbm, ⟨33, _⟩ => ⟨S_, .f32⟩
  | .hbm, ⟨34, _⟩ => ⟨S16384x4x16, .f32⟩
  | .hbm, ⟨35, _⟩ => ⟨S16384x4x144, .f32⟩
  | .hbm, ⟨36, _⟩ => ⟨S16384x576, .f32⟩
  | .hbm, ⟨37, _⟩ => ⟨S16384x576, .bf16⟩
  | .hbm, ⟨38, _⟩ => ⟨S576x16384, .bf16⟩
  | .hbm, ⟨39, _⟩ => ⟨S16384x512, .bf16⟩
  | .local _ .vmem, ⟨0, _⟩ => ⟨S4x1024x1024, .f32⟩
  | .local _ .vmem, ⟨1, _⟩ => ⟨S4x1x1024, .f32⟩
  | .local _ .vmem, ⟨2, _⟩ => ⟨S4x1x1024, .f32⟩
  | .local _ .vmem, ⟨3, _⟩ => ⟨S4x144x1024, .f32⟩
  | .local _ .vmem, ⟨4, _⟩ => ⟨S2x1024x1024, .bf16⟩
  | .local _ .vmem, ⟨5, _⟩ => ⟨S2x1024x1024, .bf16⟩
  | .local _ .vmem, ⟨6, _⟩ => ⟨S2x576x1024, .bf16⟩
  | .local _ .vmem, ⟨7, _⟩ => ⟨S2x1024x512, .bf16⟩
  | .local _ .smem, ⟨0, _⟩ => ⟨S73, .i32⟩
  | .local _ .smem, ⟨1, _⟩ => ⟨S73, .i32⟩
  | .local _ .smem, ⟨2, _⟩ => ⟨S73, .i32⟩
  | .local _ .smem, ⟨3, _⟩ => ⟨S73, .i32⟩
  | .local _ .smem, ⟨4, _⟩ => ⟨S73, .i32⟩
  | .local _ .smem, ⟨5, _⟩ => ⟨S73, .i32⟩
  | .local _ .smem, ⟨6, _⟩ => ⟨S73, .i32⟩
  | _, _ => ⟨S2x8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_6 : Ref sig .tc := ⟨.hbm, 13, rfl⟩
abbrev main_v2 : Ref sig .tc := ⟨.hbm, 14, rfl⟩
abbrev main_v3 : Ref sig .tc := ⟨.hbm, 15, rfl⟩
abbrev main_cst_7 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_8 : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_9 : Ref sig .tc := ⟨.hbm, 27, rfl⟩
abbrev main_call1_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_10 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scoped0 : Ref sig .tc := ⟨.vmem, 4, rfl⟩
abbrev cc0_scoped2 : Ref sig .tc := ⟨.vmem, 5, rfl⟩
abbrev cc0_scoped4 : Ref sig .tc := ⟨.vmem, 6, rfl⟩
abbrev cc0_scoped6 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 : Fin 1 → Nat :=
  let c0_i32_14_r0 : BitVec 32 := 0#32
  let c2_i32_r0 : BitVec 32 := 2#32
  let v17_r0 : BitVec 32 := Scalar.remui c0_i32_14_r0 c2_i32_r0
  ![v17_r0.toNat]
def k0_off2 : Fin 3 → Nat :=
  let c0_i32_14_r0 : BitVec 32 := 0#32
  let c2_i32_r0 : BitVec 32 := 2#32
  let v17_r0 : BitVec 32 := Scalar.remui c0_i32_14_r0 c2_i32_r0
  let c0_i32_15_r0 : BitVec 32 := 0#32
  let c0_i32_16_r0 : BitVec 32 := 0#32
  ![v17_r0.toNat, 0, 0]
def k0_off3 (v18_r0 : BitVec 32) : Fin 2 → Nat :=
  let c0_i32_17_r0 : BitVec 32 := 0#32
  let c1024_i32_r0 : BitVec 32 := 1024#32
  let v19_r0 : BitVec 32 := Scalar.muli c1024_i32_r0 v18_r0
  ![0, v19_r0.toNat]

def k0_chk1 (v18_r0 : BitVec 32) : Prop :=
  (∀ a, (k0_off3 v18_r0) a + S1024x1024.size a ≤ S1024x16384.size a) ∧
  (∀ (hinb : ∀ a, (k0_off3 v18_r0) a + S1024x1024.size a ≤ S1024x16384.size a), (Rect.unit (s := S1024x16384) (k0_off3 v18_r0) S1024x1024.size hinb).WholeWords (EltTy.packing .bf16))
theorem k0_off3_inb : ∀ (v18_r0 : BitVec 32) (k0_hw1 : k0_chk1 v18_r0), ∀ a, (k0_off3 v18_r0) a + S1024x1024.size a ≤ S1024x16384.size a := fun v18_r0 k0_hw1 => k0_hw1.1
theorem k0_off3_wordsbf16 : ∀ (v18_r0 : BitVec 32) (k0_hw1 : k0_chk1 v18_r0), (Rect.unit (s := S1024x16384) (k0_off3 v18_r0) S1024x1024.size (k0_off3_inb v18_r0 k0_hw1)).WholeWords (EltTy.packing .bf16) := fun v18_r0 k0_hw1 => k0_hw1.2 (k0_off3_inb v18_r0 k0_hw1)

def k0_off4 : Fin 1 → Nat :=
  let c0_i32_20_r0 : BitVec 32 := 0#32
  let c2_i32_21_r0 : BitVec 32 := 2#32
  let v26_r0 : BitVec 32 := Scalar.remui c0_i32_20_r0 c2_i32_21_r0
  ![v26_r0.toNat]
def k0_off5 : Fin 3 → Nat :=
  let c0_i32_20_r0 : BitVec 32 := 0#32
  let c2_i32_21_r0 : BitVec 32 := 2#32
  let v26_r0 : BitVec 32 := Scalar.remui c0_i32_20_r0 c2_i32_21_r0
  let c0_i32_24_r0 : BitVec 32 := 0#32
  let c0_i32_25_r0 : BitVec 32 := 0#32
  ![v26_r0.toNat, 0, 0]
def k0_off6 (v27_r0 : BitVec 32) : Fin 2 → Nat :=
  let c1024_i32_23_r0 : BitVec 32 := 1024#32
  let v28_r0 : BitVec 32 := Scalar.muli c1024_i32_23_r0 v27_r0
  let c0_i32_26_r0 : BitVec 32 := 0#32
  ![v28_r0.toNat, 0]

def k0_chk2 (v27_r0 : BitVec 32) : Prop :=
  (∀ a, (k0_off6 v27_r0) a + S1024x1024.size a ≤ S16384x1024.size a) ∧
  (∀ (hinb : ∀ a, (k0_off6 v27_r0) a + S1024x1024.size a ≤ S16384x1024.size a), (Rect.unit (s := S16384x1024) (k0_off6 v27_r0) S1024x1024.size hinb).WholeWords (EltTy.packing .bf16))
theorem k0_off6_inb : ∀ (v27_r0 : BitVec 32) (k0_hw2 : k0_chk2 v27_r0), ∀ a, (k0_off6 v27_r0) a + S1024x1024.size a ≤ S16384x1024.size a := fun v27_r0 k0_hw2 => k0_hw2.1
theorem k0_off6_wordsbf16 : ∀ (v27_r0 : BitVec 32) (k0_hw2 : k0_chk2 v27_r0), (Rect.unit (s := S16384x1024) (k0_off6 v27_r0) S1024x1024.size (k0_off6_inb v27_r0 k0_hw2)).WholeWords (EltTy.packing .bf16) := fun v27_r0 k0_hw2 => k0_hw2.2 (k0_off6_inb v27_r0 k0_hw2)

def k0_off7 : Fin 1 → Nat :=
  let c0_i32_29_r0 : BitVec 32 := 0#32
  let c2_i32_30_r0 : BitVec 32 := 2#32
  let v35_r0 : BitVec 32 := Scalar.remui c0_i32_29_r0 c2_i32_30_r0
  ![v35_r0.toNat]
def k0_off8 : Fin 3 → Nat :=
  let c0_i32_29_r0 : BitVec 32 := 0#32
  let c2_i32_30_r0 : BitVec 32 := 2#32
  let v35_r0 : BitVec 32 := Scalar.remui c0_i32_29_r0 c2_i32_30_r0
  let c0_i32_33_r0 : BitVec 32 := 0#32
  let c0_i32_34_r0 : BitVec 32 := 0#32
  ![v35_r0.toNat, 0, 0]
def k0_off9 (v36_r0 : BitVec 32) : Fin 2 → Nat :=
  let c0_i32_35_r0 : BitVec 32 := 0#32
  let c1024_i32_32_r0 : BitVec 32 := 1024#32
  let v37_r0 : BitVec 32 := Scalar.muli c1024_i32_32_r0 v36_r0
  ![0, v37_r0.toNat]

def k0_chk3 (v36_r0 : BitVec 32) : Prop :=
  (∀ a, (k0_off9 v36_r0) a + S576x1024.size a ≤ S576x16384.size a) ∧
  (∀ (hinb : ∀ a, (k0_off9 v36_r0) a + S576x1024.size a ≤ S576x16384.size a), (Rect.unit (s := S576x16384) (k0_off9 v36_r0) S576x1024.size hinb).WholeWords (EltTy.packing .bf16))
theorem k0_off9_inb : ∀ (v36_r0 : BitVec 32) (k0_hw3 : k0_chk3 v36_r0), ∀ a, (k0_off9 v36_r0) a + S576x1024.size a ≤ S576x16384.size a := fun v36_r0 k0_hw3 => k0_hw3.1
theorem k0_off9_wordsbf16 : ∀ (v36_r0 : BitVec 32) (k0_hw3 : k0_chk3 v36_r0), (Rect.unit (s := S576x16384) (k0_off9 v36_r0) S576x1024.size (k0_off9_inb v36_r0 k0_hw3)).WholeWords (EltTy.packing .bf16) := fun v36_r0 k0_hw3 => k0_hw3.2 (k0_off9_inb v36_r0 k0_hw3)

@[reducible] def k0_t1_loop : Scf.Loop 32 :=
  let c0_i32_44_r0 : BitVec 32 := 0#32
  let c73_i32_45_r0 : BitVec 32 := 73#32
  let v44_r0 : BitVec 32 := Scalar.addi c0_i32_44_r0 c73_i32_45_r0
  let c1_i32_46_r0 : BitVec 32 := 1#32
  ⟨c0_i32_44_r0, v44_r0, c1_i32_46_r0⟩
def k0_off10 (arg24_r0 : BitVec 32) : Fin 1 → Nat :=
  let c0_i32_75_r0 : BitVec 32 := 0#32
  let v77_r0 : BitVec 32 := Scalar.addi arg24_r0 c0_i32_75_r0
  let v93_r0 : Index := Scalar.indexCast v77_r0
  ![v93_r0.toNat]

def k0_off11 (arg24_r0 : BitVec 32) : Fin 1 → Nat :=
  let true_82_r0 : BitVec 1 := 1#1
  let c1_i32_81_r0 : BitVec 32 := 1#32
  let v83_r0 : BitVec 32 := Scalar.addi arg24_r0 c1_i32_81_r0
  let v84_r0 : BitVec 32 := Scalar.select true_82_r0 v83_r0 arg24_r0
  let c73_i32_83_r0 : BitVec 32 := 73#32
  let v85_r0 : BitVec 1 := Scalar.cmpi .eq v84_r0 c73_i32_83_r0
  let c0_i32_84_r0 : BitVec 32 := 0#32
  let v86_r0 : BitVec 32 := Scalar.select v85_r0 c0_i32_84_r0 v84_r0
  let c0_i32_85_r0 : BitVec 32 := 0#32
  let v87_r0 : BitVec 32 := Scalar.addi v86_r0 c0_i32_85_r0
  let v95_r0 : Index := Scalar.indexCast v87_r0
  ![v95_r0.toNat]
def k0_off12 (arg24_r0 : BitVec 32) : Fin 1 → Nat :=
  let true_82_r0 : BitVec 1 := 1#1
  let c1_i32_81_r0 : BitVec 32 := 1#32
  let v83_r0 : BitVec 32 := Scalar.addi arg24_r0 c1_i32_81_r0
  let v84_r0 : BitVec 32 := Scalar.select true_82_r0 v83_r0 arg24_r0
  let c73_i32_83_r0 : BitVec 32 := 73#32
  let v85_r0 : BitVec 1 := Scalar.cmpi .eq v84_r0 c73_i32_83_r0
  let c0_i32_84_r0 : BitVec 32 := 0#32
  let v86_r0 : BitVec 32 := Scalar.select v85_r0 c0_i32_84_r0 v84_r0
  let c0_i32_85_r0 : BitVec 32 := 0#32
  let v87_r0 : BitVec 32 := Scalar.addi v86_r0 c0_i32_85_r0
  let v288_r0 : Index := Scalar.indexCast v87_r0
  ![v288_r0.toNat]
def k0_cond1 (k0_t1 : Fin k0_t1_loop.trips) (v94_r0 : BitVec 32) (v96_r0 : BitVec 32) : BitVec 1 :=
  let v97_r0 : BitVec 1 := Scalar.cmpi .ne v94_r0 v96_r0
  let c0_i32_44_r0 : BitVec 32 := 0#32
  let c1_i32_46_r0 : BitVec 32 := 1#32
  let arg15_r0 : BitVec 32 := Scf.iv c0_i32_44_r0 c1_i32_46_r0 k0_t1
  let c72_i32_91_r0 : BitVec 32 := 72#32
  let v98_r0 : BitVec 1 := Scalar.cmpi .sge arg15_r0 c72_i32_91_r0
  let true_92_r0 : BitVec 1 := 1#1
  let v99_r0 : BitVec 1 := Scalar.xori v98_r0 true_92_r0
  let v100_r0 : BitVec 1 := Scalar.andi v97_r0 v99_r0
  let true_93_r0 : BitVec 1 := 1#1
  let v101_r0 : BitVec 1 := Scalar.andi v100_r0 true_93_r0
  let v102_r0 : BitVec 32 := Scalar.extui v101_r0
  let c0_i32_94_r0 : BitVec 32 := 0#32
  let v103_r0 : BitVec 1 := Scalar.cmpi .ne v102_r0 c0_i32_94_r0
  v103_r0

def k0_off13 (arg16_r0 : BitVec 32) : Fin 1 → Nat :=
  let c2_i32_178_r0 : BitVec 32 := 2#32
  let v287_r0 : BitVec 32 := Scalar.remui arg16_r0 c2_i32_178_r0
  ![v287_r0.toNat]
def k0_off14 (arg16_r0 : BitVec 32) : Fin 3 → Nat :=
  let c2_i32_178_r0 : BitVec 32 := 2#32
  let v287_r0 : BitVec 32 := Scalar.remui arg16_r0 c2_i32_178_r0
  let c0_i32_180_r0 : BitVec 32 := 0#32
  let c0_i32_181_r0 : BitVec 32 := 0#32
  ![v287_r0.toNat, 0, 0]
def k0_off15 (v289_r0 : BitVec 32) : Fin 2 → Nat :=
  let c0_i32_182_r0 : BitVec 32 := 0#32
  let c1024_i32_179_r0 : BitVec 32 := 1024#32
  let v290_r0 : BitVec 32 := Scalar.muli c1024_i32_179_r0 v289_r0
  ![0, v290_r0.toNat]

def k0_chk6 (k0_t1 : Fin k0_t1_loop.trips) (v94_r0 : BitVec 32) (v96_r0 : BitVec 32) (v289_r0 : BitVec 32) : Prop :=
  (∀ (k0_h1 : k0_cond1 k0_t1 v94_r0 v96_r0 = 1#1), ∀ a, (k0_off15 v289_r0) a + S1024x1024.size a ≤ S1024x16384.size a) ∧
  (∀ (k0_h1 : k0_cond1 k0_t1 v94_r0 v96_r0 = 1#1), ∀ (hinb : ∀ a, (k0_off15 v289_r0) a + S1024x1024.size a ≤ S1024x16384.size a), (Rect.unit (s := S1024x16384) (k0_off15 v289_r0) S1024x1024.size hinb).WholeWords (EltTy.packing .bf16))
theorem k0_off15_inb : ∀ (k0_t1 : Fin k0_t1_loop.trips) (v94_r0 : BitVec 32) (v96_r0 : BitVec 32) (v289_r0 : BitVec 32) (k0_hw6 : k0_chk6 k0_t1 v94_r0 v96_r0 v289_r0), ∀ (k0_h1 : k0_cond1 k0_t1 v94_r0 v96_r0 = 1#1), ∀ a, (k0_off15 v289_r0) a + S1024x1024.size a ≤ S1024x16384.size a := fun k0_t1 v94_r0 v96_r0 v289_r0 k0_hw6 k0_h1 => k0_hw6.1 k0_h1
theorem k0_off15_wordsbf16 : ∀ (k0_t1 : Fin k0_t1_loop.trips) (v94_r0 : BitVec 32) (v96_r0 : BitVec 32) (v289_r0 : BitVec 32) (k0_hw6 : k0_chk6 k0_t1 v94_r0 v96_r0 v289_r0), ∀ (k0_h1 : k0_cond1 k0_t1 v94_r0 v96_r0 = 1#1), (Rect.unit (s := S1024x16384) (k0_off15 v289_r0) S1024x1024.size (k0_off15_inb k0_t1 v94_r0 v96_r0 v289_r0 k0_hw6 k0_h1)).WholeWords (EltTy.packing .bf16) := fun k0_t1 v94_r0 v96_r0 v289_r0 k0_hw6 k0_h1 => k0_hw6.2 k0_h1 (k0_off15_inb k0_t1 v94_r0 v96_r0 v289_r0 k0_hw6 k0_h1)

def k0_chk5 (k0_t1 : Fin k0_t1_loop.trips) (arg16_r0 : BitVec 32) (arg24_r0 : BitVec 32) (v94_r0 : BitVec 32) (v96_r0 : BitVec 32) : Prop :=
  (∀ (k0_h1 : k0_cond1 k0_t1 v94_r0 v96_r0 = 1#1), ∀ a, (k0_off12 arg24_r0) a + S1.size a ≤ S73.size a) ∧
  (∀ (k0_h1 : k0_cond1 k0_t1 v94_r0 v96_r0 = 1#1), ∀ a, (k0_off13 arg16_r0) a + S1.size a ≤ S2.size a) ∧
  (∀ (k0_h1 : k0_cond1 k0_t1 v94_r0 v96_r0 = 1#1), ∀ a, (k0_off14 arg16_r0) a + S1x1024x1024.size a ≤ S2x1024x1024.size a) ∧
  (∀ (k0_h1 : k0_cond1 k0_t1 v94_r0 v96_r0 = 1#1), ∀ (hinb : ∀ a, (k0_off14 arg16_r0) a + S1x1024x1024.size a ≤ S2x1024x1024.size a), (Rect.unit (s := S2x1024x1024) (k0_off14 arg16_r0) S1x1024x1024.size hinb).WholeWords (EltTy.packing .bf16))
theorem k0_off12_inb : ∀ (k0_t1 : Fin k0_t1_loop.trips) (arg16_r0 : BitVec 32) (arg24_r0 : BitVec 32) (v94_r0 : BitVec 32) (v96_r0 : BitVec 32) (k0_hw5 : k0_chk5 k0_t1 arg16_r0 arg24_r0 v94_r0 v96_r0), ∀ (k0_h1 : k0_cond1 k0_t1 v94_r0 v96_r0 = 1#1), ∀ a, (k0_off12 arg24_r0) a + S1.size a ≤ S73.size a := fun k0_t1 arg16_r0 arg24_r0 v94_r0 v96_r0 k0_hw5 k0_h1 => k0_hw5.1 k0_h1
theorem k0_off13_inb : ∀ (k0_t1 : Fin k0_t1_loop.trips) (arg16_r0 : BitVec 32) (arg24_r0 : BitVec 32) (v94_r0 : BitVec 32) (v96_r0 : BitVec 32) (k0_hw5 : k0_chk5 k0_t1 arg16_r0 arg24_r0 v94_r0 v96_r0), ∀ (k0_h1 : k0_cond1 k0_t1 v94_r0 v96_r0 = 1#1), ∀ a, (k0_off13 arg16_r0) a + S1.size a ≤ S2.size a := fun k0_t1 arg16_r0 arg24_r0 v94_r0 v96_r0 k0_hw5 k0_h1 => k0_hw5.2.1 k0_h1
theorem k0_off14_inb : ∀ (k0_t1 : Fin k0_t1_loop.trips) (arg16_r0 : BitVec 32) (arg24_r0 : BitVec 32) (v94_r0 : BitVec 32) (v96_r0 : BitVec 32) (k0_hw5 : k0_chk5 k0_t1 arg16_r0 arg24_r0 v94_r0 v96_r0), ∀ (k0_h1 : k0_cond1 k0_t1 v94_r0 v96_r0 = 1#1), ∀ a, (k0_off14 arg16_r0) a + S1x1024x1024.size a ≤ S2x1024x1024.size a := fun k0_t1 arg16_r0 arg24_r0 v94_r0 v96_r0 k0_hw5 k0_h1 => k0_hw5.2.2.1 k0_h1
theorem k0_off14_wordsbf16 : ∀ (k0_t1 : Fin k0_t1_loop.trips) (arg16_r0 : BitVec 32) (arg24_r0 : BitVec 32) (v94_r0 : BitVec 32) (v96_r0 : BitVec 32) (k0_hw5 : k0_chk5 k0_t1 arg16_r0 arg24_r0 v94_r0 v96_r0), ∀ (k0_h1 : k0_cond1 k0_t1 v94_r0 v96_r0 = 1#1), (Rect.unit (s := S2x1024x1024) (k0_off14 arg16_r0) S1x1024x1024.size (k0_off14_inb k0_t1 arg16_r0 arg24_r0 v94_r0 v96_r0 k0_hw5 k0_h1)).WholeWords (EltTy.packing .bf16) := fun k0_t1 arg16_r0 arg24_r0 v94_r0 v96_r0 k0_hw5 k0_h1 => k0_hw5.2.2.2 k0_h1 (k0_off14_inb k0_t1 arg16_r0 arg24_r0 v94_r0 v96_r0 k0_hw5 k0_h1)

def k0_off16 (arg24_r0 : BitVec 32) : Fin 1 → Nat :=
  let c0_i32_75_r0 : BitVec 32 := 0#32
  let v77_r0 : BitVec 32 := Scalar.addi arg24_r0 c0_i32_75_r0
  let v107_r0 : Index := Scalar.indexCast v77_r0
  ![v107_r0.toNat]
def k0_off17 (arg24_r0 : BitVec 32) : Fin 1 → Nat :=
  let true_82_r0 : BitVec 1 := 1#1
  let c1_i32_81_r0 : BitVec 32 := 1#32
  let v83_r0 : BitVec 32 := Scalar.addi arg24_r0 c1_i32_81_r0
  let v84_r0 : BitVec 32 := Scalar.select true_82_r0 v83_r0 arg24_r0
  let c73_i32_83_r0 : BitVec 32 := 73#32
  let v85_r0 : BitVec 1 := Scalar.cmpi .eq v84_r0 c73_i32_83_r0
  let c0_i32_84_r0 : BitVec 32 := 0#32
  let v86_r0 : BitVec 32 := Scalar.select v85_r0 c0_i32_84_r0 v84_r0
  let c0_i32_85_r0 : BitVec 32 := 0#32
  let v87_r0 : BitVec 32 := Scalar.addi v86_r0 c0_i32_85_r0
  let v109_r0 : Index := Scalar.indexCast v87_r0
  ![v109_r0.toNat]
def k0_off18 (arg24_r0 : BitVec 32) : Fin 1 → Nat :=
  let true_82_r0 : BitVec 1 := 1#1
  let c1_i32_81_r0 : BitVec 32 := 1#32
  let v83_r0 : BitVec 32 := Scalar.addi arg24_r0 c1_i32_81_r0
  let v84_r0 : BitVec 32 := Scalar.select true_82_r0 v83_r0 arg24_r0
  let c73_i32_83_r0 : BitVec 32 := 73#32
  let v85_r0 : BitVec 1 := Scalar.cmpi .eq v84_r0 c73_i32_83_r0
  let c0_i32_84_r0 : BitVec 32 := 0#32
  let v86_r0 : BitVec 32 := Scalar.select v85_r0 c0_i32_84_r0 v84_r0
  let c0_i32_85_r0 : BitVec 32 := 0#32
  let v87_r0 : BitVec 32 := Scalar.addi v86_r0 c0_i32_85_r0
  let v288_r0 : Index := Scalar.indexCast v87_r0
  ![v288_r0.toNat]
def k0_cond2 (k0_t1 : Fin k0_t1_loop.trips) (v108_r0 : BitVec 32) (v110_r0 : BitVec 32) : BitVec 1 :=
  let v111_r0 : BitVec 1 := Scalar.cmpi .ne v108_r0 v110_r0
  let c0_i32_44_r0 : BitVec 32 := 0#32
  let c1_i32_46_r0 : BitVec 32 := 1#32
  let arg15_r0 : BitVec 32 := Scf.iv c0_i32_44_r0 c1_i32_46_r0 k0_t1
  let c72_i32_97_r0 : BitVec 32 := 72#32
  let v112_r0 : BitVec 1 := Scalar.cmpi .sge arg15_r0 c72_i32_97_r0
  let true_98_r0 : BitVec 1 := 1#1
  let v113_r0 : BitVec 1 := Scalar.xori v112_r0 true_98_r0
  let v114_r0 : BitVec 1 := Scalar.andi v111_r0 v113_r0
  let true_99_r0 : BitVec 1 := 1#1
  let v115_r0 : BitVec 1 := Scalar.andi v114_r0 true_99_r0
  let v116_r0 : BitVec 32 := Scalar.extui v115_r0
  let c0_i32_100_r0 : BitVec 32 := 0#32
  let v117_r0 : BitVec 1 := Scalar.cmpi .ne v116_r0 c0_i32_100_r0
  v117_r0

def k0_off19 (arg18_r0 : BitVec 32) : Fin 1 → Nat :=
  let c2_i32_178_r0 : BitVec 32 := 2#32
  let v287_r0 : BitVec 32 := Scalar.remui arg18_r0 c2_i32_178_r0
  ![v287_r0.toNat]
def k0_off20 (arg18_r0 : BitVec 32) : Fin 3 → Nat :=
  let c2_i32_178_r0 : BitVec 32 := 2#32
  let v287_r0 : BitVec 32 := Scalar.remui arg18_r0 c2_i32_178_r0
  let c0_i32_180_r0 : BitVec 32 := 0#32
  let c0_i32_181_r0 : BitVec 32 := 0#32
  ![v287_r0.toNat, 0, 0]
def k0_off21 (v289_r0 : BitVec 32) : Fin 2 → Nat :=
  let c1024_i32_179_r0 : BitVec 32 := 1024#32
  let v290_r0 : BitVec 32 := Scalar.muli c1024_i32_179_r0 v289_r0
  let c0_i32_182_r0 : BitVec 32 := 0#32
  ![v290_r0.toNat, 0]

def k0_chk8 (k0_t1 : Fin k0_t1_loop.trips) (v108_r0 : BitVec 32) (v110_r0 : BitVec 32) (v289_r0 : BitVec 32) : Prop :=
  (∀ (k0_h2 : k0_cond2 k0_t1 v108_r0 v110_r0 = 1#1), ∀ a, (k0_off21 v289_r0) a + S1024x1024.size a ≤ S16384x1024.size a) ∧
  (∀ (k0_h2 : k0_cond2 k0_t1 v108_r0 v110_r0 = 1#1), ∀ (hinb : ∀ a, (k0_off21 v289_r0) a + S1024x1024.size a ≤ S16384x1024.size a), (Rect.unit (s := S16384x1024) (k0_off21 v289_r0) S1024x1024.size hinb).WholeWords (EltTy.packing .bf16))
theorem k0_off21_inb : ∀ (k0_t1 : Fin k0_t1_loop.trips) (v108_r0 : BitVec 32) (v110_r0 : BitVec 32) (v289_r0 : BitVec 32) (k0_hw8 : k0_chk8 k0_t1 v108_r0 v110_r0 v289_r0), ∀ (k0_h2 : k0_cond2 k0_t1 v108_r0 v110_r0 = 1#1), ∀ a, (k0_off21 v289_r0) a + S1024x1024.size a ≤ S16384x1024.size a := fun k0_t1 v108_r0 v110_r0 v289_r0 k0_hw8 k0_h2 => k0_hw8.1 k0_h2
theorem k0_off21_wordsbf16 : ∀ (k0_t1 : Fin k0_t1_loop.trips) (v108_r0 : BitVec 32) (v110_r0 : BitVec 32) (v289_r0 : BitVec 32) (k0_hw8 : k0_chk8 k0_t1 v108_r0 v110_r0 v289_r0), ∀ (k0_h2 : k0_cond2 k0_t1 v108_r0 v110_r0 = 1#1), (Rect.unit (s := S16384x1024) (k0_off21 v289_r0) S1024x1024.size (k0_off21_inb k0_t1 v108_r0 v110_r0 v289_r0 k0_hw8 k0_h2)).WholeWords (EltTy.packing .bf16) := fun k0_t1 v108_r0 v110_r0 v289_r0 k0_hw8 k0_h2 => k0_hw8.2 k0_h2 (k0_off21_inb k0_t1 v108_r0 v110_r0 v289_r0 k0_hw8 k0_h2)

def k0_chk7 (k0_t1 : Fin k0_t1_loop.trips) (arg18_r0 : BitVec 32) (arg24_r0 : BitVec 32) (v108_r0 : BitVec 32) (v110_r0 : BitVec 32) : Prop :=
  (∀ (k0_h2 : k0_cond2 k0_t1 v108_r0 v110_r0 = 1#1), ∀ a, (k0_off18 arg24_r0) a + S1.size a ≤ S73.size a) ∧
  (∀ (k0_h2 : k0_cond2 k0_t1 v108_r0 v110_r0 = 1#1), ∀ a, (k0_off19 arg18_r0) a + S1.size a ≤ S2.size a) ∧
  (∀ (k0_h2 : k0_cond2 k0_t1 v108_r0 v110_r0 = 1#1), ∀ a, (k0_off20 arg18_r0) a + S1x1024x1024.size a ≤ S2x1024x1024.size a) ∧
  (∀ (k0_h2 : k0_cond2 k0_t1 v108_r0 v110_r0 = 1#1), ∀ (hinb : ∀ a, (k0_off20 arg18_r0) a + S1x1024x1024.size a ≤ S2x1024x1024.size a), (Rect.unit (s := S2x1024x1024) (k0_off20 arg18_r0) S1x1024x1024.size hinb).WholeWords (EltTy.packing .bf16))
theorem k0_off18_inb : ∀ (k0_t1 : Fin k0_t1_loop.trips) (arg18_r0 : BitVec 32) (arg24_r0 : BitVec 32) (v108_r0 : BitVec 32) (v110_r0 : BitVec 32) (k0_hw7 : k0_chk7 k0_t1 arg18_r0 arg24_r0 v108_r0 v110_r0), ∀ (k0_h2 : k0_cond2 k0_t1 v108_r0 v110_r0 = 1#1), ∀ a, (k0_off18 arg24_r0) a + S1.size a ≤ S73.size a := fun k0_t1 arg18_r0 arg24_r0 v108_r0 v110_r0 k0_hw7 k0_h2 => k0_hw7.1 k0_h2
theorem k0_off19_inb : ∀ (k0_t1 : Fin k0_t1_loop.trips) (arg18_r0 : BitVec 32) (arg24_r0 : BitVec 32) (v108_r0 : BitVec 32) (v110_r0 : BitVec 32) (k0_hw7 : k0_chk7 k0_t1 arg18_r0 arg24_r0 v108_r0 v110_r0), ∀ (k0_h2 : k0_cond2 k0_t1 v108_r0 v110_r0 = 1#1), ∀ a, (k0_off19 arg18_r0) a + S1.size a ≤ S2.size a := fun k0_t1 arg18_r0 arg24_r0 v108_r0 v110_r0 k0_hw7 k0_h2 => k0_hw7.2.1 k0_h2
theorem k0_off20_inb : ∀ (k0_t1 : Fin k0_t1_loop.trips) (arg18_r0 : BitVec 32) (arg24_r0 : BitVec 32) (v108_r0 : BitVec 32) (v110_r0 : BitVec 32) (k0_hw7 : k0_chk7 k0_t1 arg18_r0 arg24_r0 v108_r0 v110_r0), ∀ (k0_h2 : k0_cond2 k0_t1 v108_r0 v110_r0 = 1#1), ∀ a, (k0_off20 arg18_r0) a + S1x1024x1024.size a ≤ S2x1024x1024.size a := fun k0_t1 arg18_r0 arg24_r0 v108_r0 v110_r0 k0_hw7 k0_h2 => k0_hw7.2.2.1 k0_h2
theorem k0_off20_wordsbf16 : ∀ (k0_t1 : Fin k0_t1_loop.trips) (arg18_r0 : BitVec 32) (arg24_r0 : BitVec 32) (v108_r0 : BitVec 32) (v110_r0 : BitVec 32) (k0_hw7 : k0_chk7 k0_t1 arg18_r0 arg24_r0 v108_r0 v110_r0), ∀ (k0_h2 : k0_cond2 k0_t1 v108_r0 v110_r0 = 1#1), (Rect.unit (s := S2x1024x1024) (k0_off20 arg18_r0) S1x1024x1024.size (k0_off20_inb k0_t1 arg18_r0 arg24_r0 v108_r0 v110_r0 k0_hw7 k0_h2)).WholeWords (EltTy.packing .bf16) := fun k0_t1 arg18_r0 arg24_r0 v108_r0 v110_r0 k0_hw7 k0_h2 => k0_hw7.2.2.2 k0_h2 (k0_off20_inb k0_t1 arg18_r0 arg24_r0 v108_r0 v110_r0 k0_hw7 k0_h2)

def k0_off22 (arg24_r0 : BitVec 32) : Fin 1 → Nat :=
  let c0_i32_75_r0 : BitVec 32 := 0#32
  let v77_r0 : BitVec 32 := Scalar.addi arg24_r0 c0_i32_75_r0
  let v121_r0 : Index := Scalar.indexCast v77_r0
  ![v121_r0.toNat]
def k0_off23 (arg24_r0 : BitVec 32) : Fin 1 → Nat :=
  let true_82_r0 : BitVec 1 := 1#1
  let c1_i32_81_r0 : BitVec 32 := 1#32
  let v83_r0 : BitVec 32 := Scalar.addi arg24_r0 c1_i32_81_r0
  let v84_r0 : BitVec 32 := Scalar.select true_82_r0 v83_r0 arg24_r0
  let c73_i32_83_r0 : BitVec 32 := 73#32
  let v85_r0 : BitVec 1 := Scalar.cmpi .eq v84_r0 c73_i32_83_r0
  let c0_i32_84_r0 : BitVec 32 := 0#32
  let v86_r0 : BitVec 32 := Scalar.select v85_r0 c0_i32_84_r0 v84_r0
  let c0_i32_85_r0 : BitVec 32 := 0#32
  let v87_r0 : BitVec 32 := Scalar.addi v86_r0 c0_i32_85_r0
  let v123_r0 : Index := Scalar.indexCast v87_r0
  ![v123_r0.toNat]
def k0_off24 (arg24_r0 : BitVec 32) : Fin 1 → Nat :=
  let true_82_r0 : BitVec 1 := 1#1
  let c1_i32_81_r0 : BitVec 32 := 1#32
  let v83_r0 : BitVec 32 := Scalar.addi arg24_r0 c1_i32_81_r0
  let v84_r0 : BitVec 32 := Scalar.select true_82_r0 v83_r0 arg24_r0
  let c73_i32_83_r0 : BitVec 32 := 73#32
  let v85_r0 : BitVec 1 := Scalar.cmpi .eq v84_r0 c73_i32_83_r0
  let c0_i32_84_r0 : BitVec 32 := 0#32
  let v86_r0 : BitVec 32 := Scalar.select v85_r0 c0_i32_84_r0 v84_r0
  let c0_i32_85_r0 : BitVec 32 := 0#32
  let v87_r0 : BitVec 32 := Scalar.addi v86_r0 c0_i32_85_r0
  let v288_r0 : Index := Scalar.indexCast v87_r0
  ![v288_r0.toNat]
def k0_cond3 (k0_t1 : Fin k0_t1_loop.trips) (v122_r0 : BitVec 32) (v124_r0 : BitVec 32) : BitVec 1 :=
  let v125_r0 : BitVec 1 := Scalar.cmpi .ne v122_r0 v124_r0
  let c0_i32_44_r0 : BitVec 32 := 0#32
  let c1_i32_46_r0 : BitVec 32 := 1#32
  let arg15_r0 : BitVec 32 := Scf.iv c0_i32_44_r0 c1_i32_46_r0 k0_t1
  let c72_i32_103_r0 : BitVec 32 := 72#32
  let v126_r0 : BitVec 1 := Scalar.cmpi .sge arg15_r0 c72_i32_103_r0
  let true_104_r0 : BitVec 1 := 1#1
  let v127_r0 : BitVec 1 := Scalar.xori v126_r0 true_104_r0
  let v128_r0 : BitVec 1 := Scalar.andi v125_r0 v127_r0
  let true_105_r0 : BitVec 1 := 1#1
  let v129_r0 : BitVec 1 := Scalar.andi v128_r0 true_105_r0
  let v130_r0 : BitVec 32 := Scalar.extui v129_r0
  let c0_i32_106_r0 : BitVec 32 := 0#32
  let v131_r0 : BitVec 1 := Scalar.cmpi .ne v130_r0 c0_i32_106_r0
  v131_r0

def k0_off25 (arg20_r0 : BitVec 32) : Fin 1 → Nat :=
  let c2_i32_178_r0 : BitVec 32 := 2#32
  let v287_r0 : BitVec 32 := Scalar.remui arg20_r0 c2_i32_178_r0
  ![v287_r0.toNat]
def k0_off26 (arg20_r0 : BitVec 32) : Fin 3 → Nat :=
  let c2_i32_178_r0 : BitVec 32 := 2#32
  let v287_r0 : BitVec 32 := Scalar.remui arg20_r0 c2_i32_178_r0
  let c0_i32_180_r0 : BitVec 32 := 0#32
  let c0_i32_181_r0 : BitVec 32 := 0#32
  ![v287_r0.toNat, 0, 0]
def k0_off27 (v289_r0 : BitVec 32) : Fin 2 → Nat :=
  let c0_i32_182_r0 : BitVec 32 := 0#32
  let c1024_i32_179_r0 : BitVec 32 := 1024#32
  let v290_r0 : BitVec 32 := Scalar.muli c1024_i32_179_r0 v289_r0
  ![0, v290_r0.toNat]

def k0_chk10 (k0_t1 : Fin k0_t1_loop.trips) (v122_r0 : BitVec 32) (v124_r0 : BitVec 32) (v289_r0 : BitVec 32) : Prop :=
  (∀ (k0_h3 : k0_cond3 k0_t1 v122_r0 v124_r0 = 1#1), ∀ a, (k0_off27 v289_r0) a + S576x1024.size a ≤ S576x16384.size a) ∧
  (∀ (k0_h3 : k0_cond3 k0_t1 v122_r0 v124_r0 = 1#1), ∀ (hinb : ∀ a, (k0_off27 v289_r0) a + S576x1024.size a ≤ S576x16384.size a), (Rect.unit (s := S576x16384) (k0_off27 v289_r0) S576x1024.size hinb).WholeWords (EltTy.packing .bf16))
theorem k0_off27_inb : ∀ (k0_t1 : Fin k0_t1_loop.trips) (v122_r0 : BitVec 32) (v124_r0 : BitVec 32) (v289_r0 : BitVec 32) (k0_hw10 : k0_chk10 k0_t1 v122_r0 v124_r0 v289_r0), ∀ (k0_h3 : k0_cond3 k0_t1 v122_r0 v124_r0 = 1#1), ∀ a, (k0_off27 v289_r0) a + S576x1024.size a ≤ S576x16384.size a := fun k0_t1 v122_r0 v124_r0 v289_r0 k0_hw10 k0_h3 => k0_hw10.1 k0_h3
theorem k0_off27_wordsbf16 : ∀ (k0_t1 : Fin k0_t1_loop.trips) (v122_r0 : BitVec 32) (v124_r0 : BitVec 32) (v289_r0 : BitVec 32) (k0_hw10 : k0_chk10 k0_t1 v122_r0 v124_r0 v289_r0), ∀ (k0_h3 : k0_cond3 k0_t1 v122_r0 v124_r0 = 1#1), (Rect.unit (s := S576x16384) (k0_off27 v289_r0) S576x1024.size (k0_off27_inb k0_t1 v122_r0 v124_r0 v289_r0 k0_hw10 k0_h3)).WholeWords (EltTy.packing .bf16) := fun k0_t1 v122_r0 v124_r0 v289_r0 k0_hw10 k0_h3 => k0_hw10.2 k0_h3 (k0_off27_inb k0_t1 v122_r0 v124_r0 v289_r0 k0_hw10 k0_h3)

def k0_chk9 (k0_t1 : Fin k0_t1_loop.trips) (arg20_r0 : BitVec 32) (arg24_r0 : BitVec 32) (v122_r0 : BitVec 32) (v124_r0 : BitVec 32) : Prop :=
  (∀ (k0_h3 : k0_cond3 k0_t1 v122_r0 v124_r0 = 1#1), ∀ a, (k0_off24 arg24_r0) a + S1.size a ≤ S73.size a) ∧
  (∀ (k0_h3 : k0_cond3 k0_t1 v122_r0 v124_r0 = 1#1), ∀ a, (k0_off25 arg20_r0) a + S1.size a ≤ S2.size a) ∧
  (∀ (k0_h3 : k0_cond3 k0_t1 v122_r0 v124_r0 = 1#1), ∀ a, (k0_off26 arg20_r0) a + S1x576x1024.size a ≤ S2x576x1024.size a) ∧
  (∀ (k0_h3 : k0_cond3 k0_t1 v122_r0 v124_r0 = 1#1), ∀ (hinb : ∀ a, (k0_off26 arg20_r0) a + S1x576x1024.size a ≤ S2x576x1024.size a), (Rect.unit (s := S2x576x1024) (k0_off26 arg20_r0) S1x576x1024.size hinb).WholeWords (EltTy.packing .bf16))
theorem k0_off24_inb : ∀ (k0_t1 : Fin k0_t1_loop.trips) (arg20_r0 : BitVec 32) (arg24_r0 : BitVec 32) (v122_r0 : BitVec 32) (v124_r0 : BitVec 32) (k0_hw9 : k0_chk9 k0_t1 arg20_r0 arg24_r0 v122_r0 v124_r0), ∀ (k0_h3 : k0_cond3 k0_t1 v122_r0 v124_r0 = 1#1), ∀ a, (k0_off24 arg24_r0) a + S1.size a ≤ S73.size a := fun k0_t1 arg20_r0 arg24_r0 v122_r0 v124_r0 k0_hw9 k0_h3 => k0_hw9.1 k0_h3
theorem k0_off25_inb : ∀ (k0_t1 : Fin k0_t1_loop.trips) (arg20_r0 : BitVec 32) (arg24_r0 : BitVec 32) (v122_r0 : BitVec 32) (v124_r0 : BitVec 32) (k0_hw9 : k0_chk9 k0_t1 arg20_r0 arg24_r0 v122_r0 v124_r0), ∀ (k0_h3 : k0_cond3 k0_t1 v122_r0 v124_r0 = 1#1), ∀ a, (k0_off25 arg20_r0) a + S1.size a ≤ S2.size a := fun k0_t1 arg20_r0 arg24_r0 v122_r0 v124_r0 k0_hw9 k0_h3 => k0_hw9.2.1 k0_h3
theorem k0_off26_inb : ∀ (k0_t1 : Fin k0_t1_loop.trips) (arg20_r0 : BitVec 32) (arg24_r0 : BitVec 32) (v122_r0 : BitVec 32) (v124_r0 : BitVec 32) (k0_hw9 : k0_chk9 k0_t1 arg20_r0 arg24_r0 v122_r0 v124_r0), ∀ (k0_h3 : k0_cond3 k0_t1 v122_r0 v124_r0 = 1#1), ∀ a, (k0_off26 arg20_r0) a + S1x576x1024.size a ≤ S2x576x1024.size a := fun k0_t1 arg20_r0 arg24_r0 v122_r0 v124_r0 k0_hw9 k0_h3 => k0_hw9.2.2.1 k0_h3
theorem k0_off26_wordsbf16 : ∀ (k0_t1 : Fin k0_t1_loop.trips) (arg20_r0 : BitVec 32) (arg24_r0 : BitVec 32) (v122_r0 : BitVec 32) (v124_r0 : BitVec 32) (k0_hw9 : k0_chk9 k0_t1 arg20_r0 arg24_r0 v122_r0 v124_r0), ∀ (k0_h3 : k0_cond3 k0_t1 v122_r0 v124_r0 = 1#1), (Rect.unit (s := S2x576x1024) (k0_off26 arg20_r0) S1x576x1024.size (k0_off26_inb k0_t1 arg20_r0 arg24_r0 v122_r0 v124_r0 k0_hw9 k0_h3)).WholeWords (EltTy.packing .bf16) := fun k0_t1 arg20_r0 arg24_r0 v122_r0 v124_r0 k0_hw9 k0_h3 => k0_hw9.2.2.2 k0_h3 (k0_off26_inb k0_t1 arg20_r0 arg24_r0 v122_r0 v124_r0 k0_hw9 k0_h3)

def k0_off28 (arg24_r0 : BitVec 32) : Fin 1 → Nat :=
  let c0_i32_75_r0 : BitVec 32 := 0#32
  let v77_r0 : BitVec 32 := Scalar.addi arg24_r0 c0_i32_75_r0
  let v135_r0 : Index := Scalar.indexCast v77_r0
  ![v135_r0.toNat]
def k0_off29 (arg24_r0 : BitVec 32) : Fin 1 → Nat :=
  let true_82_r0 : BitVec 1 := 1#1
  let c1_i32_81_r0 : BitVec 32 := 1#32
  let v83_r0 : BitVec 32 := Scalar.addi arg24_r0 c1_i32_81_r0
  let v84_r0 : BitVec 32 := Scalar.select true_82_r0 v83_r0 arg24_r0
  let c73_i32_83_r0 : BitVec 32 := 73#32
  let v85_r0 : BitVec 1 := Scalar.cmpi .eq v84_r0 c73_i32_83_r0
  let c0_i32_84_r0 : BitVec 32 := 0#32
  let v86_r0 : BitVec 32 := Scalar.select v85_r0 c0_i32_84_r0 v84_r0
  let c0_i32_85_r0 : BitVec 32 := 0#32
  let v87_r0 : BitVec 32 := Scalar.addi v86_r0 c0_i32_85_r0
  let v137_r0 : Index := Scalar.indexCast v87_r0
  ![v137_r0.toNat]
def k0_off30 (arg24_r0 : BitVec 32) : Fin 1 → Nat :=
  let true_77_r0 : BitVec 1 := 1#1
  let c1_i32_76_r0 : BitVec 32 := 1#32
  let v78_r0 : BitVec 32 := Scalar.subi arg24_r0 c1_i32_76_r0
  let v79_r0 : BitVec 32 := Scalar.select true_77_r0 v78_r0 arg24_r0
  let c_m1_i32_78_r0 : BitVec 32 := 4294967295#32
  let v80_r0 : BitVec 1 := Scalar.cmpi .eq v79_r0 c_m1_i32_78_r0
  let c72_i32_79_r0 : BitVec 32 := 72#32
  let v81_r0 : BitVec 32 := Scalar.select v80_r0 c72_i32_79_r0 v79_r0
  let c0_i32_80_r0 : BitVec 32 := 0#32
  let v82_r0 : BitVec 32 := Scalar.addi v81_r0 c0_i32_80_r0
  let v143_r0 : Index := Scalar.indexCast v82_r0
  ![v143_r0.toNat]
def k0_off31 (arg24_r0 : BitVec 32) : Fin 1 → Nat :=
  let c0_i32_75_r0 : BitVec 32 := 0#32
  let v77_r0 : BitVec 32 := Scalar.addi arg24_r0 c0_i32_75_r0
  let v287_r0 : Index := Scalar.indexCast v77_r0
  ![v287_r0.toNat]
def k0_cond4 (k0_t1 : Fin k0_t1_loop.trips) (v94_r0 : BitVec 32) (v144_r0 : BitVec 32) : BitVec 1 :=
  let v145_r0 : BitVec 1 := Scalar.cmpi .ne v94_r0 v144_r0
  let c0_i32_44_r0 : BitVec 32 := 0#32
  let c1_i32_46_r0 : BitVec 32 := 1#32
  let arg15_r0 : BitVec 32 := Scf.iv c0_i32_44_r0 c1_i32_46_r0 k0_t1
  let c0_i32_73_r0 : BitVec 32 := 0#32
  let v75_r0 : BitVec 1 := Scalar.cmpi .eq arg15_r0 c0_i32_73_r0
  let v146_r0 : BitVec 1 := Scalar.ori v145_r0 v75_r0
  let c0_i32_111_r0 : BitVec 32 := 0#32
  let v147_r0 : BitVec 1 := Scalar.cmpi .sge arg15_r0 c0_i32_111_r0
  let v148_r0 : BitVec 1 := Scalar.andi v146_r0 v147_r0
  let v149_r0 : BitVec 32 := Scalar.extui v148_r0
  let c0_i32_112_r0 : BitVec 32 := 0#32
  let v150_r0 : BitVec 1 := Scalar.cmpi .ne v149_r0 c0_i32_112_r0
  v150_r0

def k0_off32 (arg17_r0 : BitVec 32) : Fin 1 → Nat :=
  let c2_i32_179_r0 : BitVec 32 := 2#32
  let v290_r0 : BitVec 32 := Scalar.remui arg17_r0 c2_i32_179_r0
  ![v290_r0.toNat]
def k0_off33 (arg17_r0 : BitVec 32) : Fin 3 → Nat :=
  let c2_i32_179_r0 : BitVec 32 := 2#32
  let v290_r0 : BitVec 32 := Scalar.remui arg17_r0 c2_i32_179_r0
  let c0_i32_180_r0 : BitVec 32 := 0#32
  let c0_i32_181_r0 : BitVec 32 := 0#32
  ![v290_r0.toNat, 0, 0]
def k0_off34 (v288_r0 : BitVec 32) : Fin 2 → Nat :=
  let c0_i32_182_r0 : BitVec 32 := 0#32
  let c1024_i32_178_r0 : BitVec 32 := 1024#32
  let v289_r0 : BitVec 32 := Scalar.muli c1024_i32_178_r0 v288_r0
  ![0, v289_r0.toNat]

def k0_chk12 (k0_t1 : Fin k0_t1_loop.trips) (v94_r0 : BitVec 32) (v144_r0 : BitVec 32) (v288_r0 : BitVec 32) : Prop :=
  (∀ (k0_h4 : k0_cond4 k0_t1 v94_r0 v144_r0 = 1#1), ∀ a, (k0_off34 v288_r0) a + S1024x1024.size a ≤ S1024x16384.size a) ∧
  (∀ (k0_h4 : k0_cond4 k0_t1 v94_r0 v144_r0 = 1#1), ∀ (hinb : ∀ a, (k0_off34 v288_r0) a + S1024x1024.size a ≤ S1024x16384.size a), (Rect.unit (s := S1024x16384) (k0_off34 v288_r0) S1024x1024.size hinb).WholeWords (EltTy.packing .bf16))
theorem k0_off34_inb : ∀ (k0_t1 : Fin k0_t1_loop.trips) (v94_r0 : BitVec 32) (v144_r0 : BitVec 32) (v288_r0 : BitVec 32) (k0_hw12 : k0_chk12 k0_t1 v94_r0 v144_r0 v288_r0), ∀ (k0_h4 : k0_cond4 k0_t1 v94_r0 v144_r0 = 1#1), ∀ a, (k0_off34 v288_r0) a + S1024x1024.size a ≤ S1024x16384.size a := fun k0_t1 v94_r0 v144_r0 v288_r0 k0_hw12 k0_h4 => k0_hw12.1 k0_h4
theorem k0_off34_wordsbf16 : ∀ (k0_t1 : Fin k0_t1_loop.trips) (v94_r0 : BitVec 32) (v144_r0 : BitVec 32) (v288_r0 : BitVec 32) (k0_hw12 : k0_chk12 k0_t1 v94_r0 v144_r0 v288_r0), ∀ (k0_h4 : k0_cond4 k0_t1 v94_r0 v144_r0 = 1#1), (Rect.unit (s := S1024x16384) (k0_off34 v288_r0) S1024x1024.size (k0_off34_inb k0_t1 v94_r0 v144_r0 v288_r0 k0_hw12 k0_h4)).WholeWords (EltTy.packing .bf16) := fun k0_t1 v94_r0 v144_r0 v288_r0 k0_hw12 k0_h4 => k0_hw12.2 k0_h4 (k0_off34_inb k0_t1 v94_r0 v144_r0 v288_r0 k0_hw12 k0_h4)

def k0_chk11 (k0_t1 : Fin k0_t1_loop.trips) (arg17_r0 : BitVec 32) (arg24_r0 : BitVec 32) (v94_r0 : BitVec 32) (v144_r0 : BitVec 32) : Prop :=
  (∀ (k0_h4 : k0_cond4 k0_t1 v94_r0 v144_r0 = 1#1), ∀ a, (k0_off31 arg24_r0) a + S1.size a ≤ S73.size a) ∧
  (∀ (k0_h4 : k0_cond4 k0_t1 v94_r0 v144_r0 = 1#1), ∀ a, (k0_off32 arg17_r0) a + S1.size a ≤ S2.size a) ∧
  (∀ (k0_h4 : k0_cond4 k0_t1 v94_r0 v144_r0 = 1#1), ∀ a, (k0_off33 arg17_r0) a + S1x1024x1024.size a ≤ S2x1024x1024.size a) ∧
  (∀ (k0_h4 : k0_cond4 k0_t1 v94_r0 v144_r0 = 1#1), ∀ (hinb : ∀ a, (k0_off33 arg17_r0) a + S1x1024x1024.size a ≤ S2x1024x1024.size a), (Rect.unit (s := S2x1024x1024) (k0_off33 arg17_r0) S1x1024x1024.size hinb).WholeWords (EltTy.packing .bf16))
theorem k0_off31_inb : ∀ (k0_t1 : Fin k0_t1_loop.trips) (arg17_r0 : BitVec 32) (arg24_r0 : BitVec 32) (v94_r0 : BitVec 32) (v144_r0 : BitVec 32) (k0_hw11 : k0_chk11 k0_t1 arg17_r0 arg24_r0 v94_r0 v144_r0), ∀ (k0_h4 : k0_cond4 k0_t1 v94_r0 v144_r0 = 1#1), ∀ a, (k0_off31 arg24_r0) a + S1.size a ≤ S73.size a := fun k0_t1 arg17_r0 arg24_r0 v94_r0 v144_r0 k0_hw11 k0_h4 => k0_hw11.1 k0_h4
theorem k0_off32_inb : ∀ (k0_t1 : Fin k0_t1_loop.trips) (arg17_r0 : BitVec 32) (arg24_r0 : BitVec 32) (v94_r0 : BitVec 32) (v144_r0 : BitVec 32) (k0_hw11 : k0_chk11 k0_t1 arg17_r0 arg24_r0 v94_r0 v144_r0), ∀ (k0_h4 : k0_cond4 k0_t1 v94_r0 v144_r0 = 1#1), ∀ a, (k0_off32 arg17_r0) a + S1.size a ≤ S2.size a := fun k0_t1 arg17_r0 arg24_r0 v94_r0 v144_r0 k0_hw11 k0_h4 => k0_hw11.2.1 k0_h4
theorem k0_off33_inb : ∀ (k0_t1 : Fin k0_t1_loop.trips) (arg17_r0 : BitVec 32) (arg24_r0 : BitVec 32) (v94_r0 : BitVec 32) (v144_r0 : BitVec 32) (k0_hw11 : k0_chk11 k0_t1 arg17_r0 arg24_r0 v94_r0 v144_r0), ∀ (k0_h4 : k0_cond4 k0_t1 v94_r0 v144_r0 = 1#1), ∀ a, (k0_off33 arg17_r0) a + S1x1024x1024.size a ≤ S2x1024x1024.size a := fun k0_t1 arg17_r0 arg24_r0 v94_r0 v144_r0 k0_hw11 k0_h4 => k0_hw11.2.2.1 k0_h4
theorem k0_off33_wordsbf16 : ∀ (k0_t1 : Fin k0_t1_loop.trips) (arg17_r0 : BitVec 32) (arg24_r0 : BitVec 32) (v94_r0 : BitVec 32) (v144_r0 : BitVec 32) (k0_hw11 : k0_chk11 k0_t1 arg17_r0 arg24_r0 v94_r0 v144_r0), ∀ (k0_h4 : k0_cond4 k0_t1 v94_r0 v144_r0 = 1#1), (Rect.unit (s := S2x1024x1024) (k0_off33 arg17_r0) S1x1024x1024.size (k0_off33_inb k0_t1 arg17_r0 arg24_r0 v94_r0 v144_r0 k0_hw11 k0_h4)).WholeWords (EltTy.packing .bf16) := fun k0_t1 arg17_r0 arg24_r0 v94_r0 v144_r0 k0_hw11 k0_h4 => k0_hw11.2.2.2 k0_h4 (k0_off33_inb k0_t1 arg17_r0 arg24_r0 v94_r0 v144_r0 k0_hw11 k0_h4)

def k0_off35 (arg24_r0 : BitVec 32) : Fin 1 → Nat :=
  let true_77_r0 : BitVec 1 := 1#1
  let c1_i32_76_r0 : BitVec 32 := 1#32
  let v78_r0 : BitVec 32 := Scalar.subi arg24_r0 c1_i32_76_r0
  let v79_r0 : BitVec 32 := Scalar.select true_77_r0 v78_r0 arg24_r0
  let c_m1_i32_78_r0 : BitVec 32 := 4294967295#32
  let v80_r0 : BitVec 1 := Scalar.cmpi .eq v79_r0 c_m1_i32_78_r0
  let c72_i32_79_r0 : BitVec 32 := 72#32
  let v81_r0 : BitVec 32 := Scalar.select v80_r0 c72_i32_79_r0 v79_r0
  let c0_i32_80_r0 : BitVec 32 := 0#32
  let v82_r0 : BitVec 32 := Scalar.addi v81_r0 c0_i32_80_r0
  let v151_r0 : Index := Scalar.indexCast v82_r0
  ![v151_r0.toNat]
def k0_off36 (arg24_r0 : BitVec 32) : Fin 1 → Nat :=
  let c0_i32_75_r0 : BitVec 32 := 0#32
  let v77_r0 : BitVec 32 := Scalar.addi arg24_r0 c0_i32_75_r0
  let v287_r0 : Index := Scalar.indexCast v77_r0
  ![v287_r0.toNat]
def k0_cond5 (k0_t1 : Fin k0_t1_loop.trips) (v108_r0 : BitVec 32) (v152_r0 : BitVec 32) : BitVec 1 :=
  let v153_r0 : BitVec 1 := Scalar.cmpi .ne v108_r0 v152_r0
  let c0_i32_44_r0 : BitVec 32 := 0#32
  let c1_i32_46_r0 : BitVec 32 := 1#32
  let arg15_r0 : BitVec 32 := Scf.iv c0_i32_44_r0 c1_i32_46_r0 k0_t1
  let c0_i32_73_r0 : BitVec 32 := 0#32
  let v75_r0 : BitVec 1 := Scalar.cmpi .eq arg15_r0 c0_i32_73_r0
  let v154_r0 : BitVec 1 := Scalar.ori v153_r0 v75_r0
  let c0_i32_113_r0 : BitVec 32 := 0#32
  let v155_r0 : BitVec 1 := Scalar.cmpi .sge arg15_r0 c0_i32_113_r0
  let v156_r0 : BitVec 1 := Scalar.andi v154_r0 v155_r0
  let v157_r0 : BitVec 32 := Scalar.extui v156_r0
  let c0_i32_114_r0 : BitVec 32 := 0#32
  let v158_r0 : BitVec 1 := Scalar.cmpi .ne v157_r0 c0_i32_114_r0
  v158_r0

def k0_off37 (arg19_r0 : BitVec 32) : Fin 1 → Nat :=
  let c2_i32_179_r0 : BitVec 32 := 2#32
  let v290_r0 : BitVec 32 := Scalar.remui arg19_r0 c2_i32_179_r0
  ![v290_r0.toNat]
def k0_off38 (arg19_r0 : BitVec 32) : Fin 3 → Nat :=
  let c2_i32_179_r0 : BitVec 32 := 2#32
  let v290_r0 : BitVec 32 := Scalar.remui arg19_r0 c2_i32_179_r0
  let c0_i32_180_r0 : BitVec 32 := 0#32
  let c0_i32_181_r0 : BitVec 32 := 0#32
  ![v290_r0.toNat, 0, 0]
def k0_off39 (v288_r0 : BitVec 32) : Fin 2 → Nat :=
  let c1024_i32_178_r0 : BitVec 32 := 1024#32
  let v289_r0 : BitVec 32 := Scalar.muli c1024_i32_178_r0 v288_r0
  let c0_i32_182_r0 : BitVec 32 := 0#32
  ![v289_r0.toNat, 0]

def k0_chk14 (k0_t1 : Fin k0_t1_loop.trips) (v108_r0 : BitVec 32) (v152_r0 : BitVec 32) (v288_r0 : BitVec 32) : Prop :=
  (∀ (k0_h5 : k0_cond5 k0_t1 v108_r0 v152_r0 = 1#1), ∀ a, (k0_off39 v288_r0) a + S1024x1024.size a ≤ S16384x1024.size a) ∧
  (∀ (k0_h5 : k0_cond5 k0_t1 v108_r0 v152_r0 = 1#1), ∀ (hinb : ∀ a, (k0_off39 v288_r0) a + S1024x1024.size a ≤ S16384x1024.size a), (Rect.unit (s := S16384x1024) (k0_off39 v288_r0) S1024x1024.size hinb).WholeWords (EltTy.packing .bf16))
theorem k0_off39_inb : ∀ (k0_t1 : Fin k0_t1_loop.trips) (v108_r0 : BitVec 32) (v152_r0 : BitVec 32) (v288_r0 : BitVec 32) (k0_hw14 : k0_chk14 k0_t1 v108_r0 v152_r0 v288_r0), ∀ (k0_h5 : k0_cond5 k0_t1 v108_r0 v152_r0 = 1#1), ∀ a, (k0_off39 v288_r0) a + S1024x1024.size a ≤ S16384x1024.size a := fun k0_t1 v108_r0 v152_r0 v288_r0 k0_hw14 k0_h5 => k0_hw14.1 k0_h5
theorem k0_off39_wordsbf16 : ∀ (k0_t1 : Fin k0_t1_loop.trips) (v108_r0 : BitVec 32) (v152_r0 : BitVec 32) (v288_r0 : BitVec 32) (k0_hw14 : k0_chk14 k0_t1 v108_r0 v152_r0 v288_r0), ∀ (k0_h5 : k0_cond5 k0_t1 v108_r0 v152_r0 = 1#1), (Rect.unit (s := S16384x1024) (k0_off39 v288_r0) S1024x1024.size (k0_off39_inb k0_t1 v108_r0 v152_r0 v288_r0 k0_hw14 k0_h5)).WholeWords (EltTy.packing .bf16) := fun k0_t1 v108_r0 v152_r0 v288_r0 k0_hw14 k0_h5 => k0_hw14.2 k0_h5 (k0_off39_inb k0_t1 v108_r0 v152_r0 v288_r0 k0_hw14 k0_h5)

def k0_chk13 (k0_t1 : Fin k0_t1_loop.trips) (arg19_r0 : BitVec 32) (arg24_r0 : BitVec 32) (v108_r0 : BitVec 32) (v152_r0 : BitVec 32) : Prop :=
  (∀ (k0_h5 : k0_cond5 k0_t1 v108_r0 v152_r0 = 1#1), ∀ a, (k0_off36 arg24_r0) a + S1.size a ≤ S73.size a) ∧
  (∀ (k0_h5 : k0_cond5 k0_t1 v108_r0 v152_r0 = 1#1), ∀ a, (k0_off37 arg19_r0) a + S1.size a ≤ S2.size a) ∧
  (∀ (k0_h5 : k0_cond5 k0_t1 v108_r0 v152_r0 = 1#1), ∀ a, (k0_off38 arg19_r0) a + S1x1024x1024.size a ≤ S2x1024x1024.size a) ∧
  (∀ (k0_h5 : k0_cond5 k0_t1 v108_r0 v152_r0 = 1#1), ∀ (hinb : ∀ a, (k0_off38 arg19_r0) a + S1x1024x1024.size a ≤ S2x1024x1024.size a), (Rect.unit (s := S2x1024x1024) (k0_off38 arg19_r0) S1x1024x1024.size hinb).WholeWords (EltTy.packing .bf16))
theorem k0_off36_inb : ∀ (k0_t1 : Fin k0_t1_loop.trips) (arg19_r0 : BitVec 32) (arg24_r0 : BitVec 32) (v108_r0 : BitVec 32) (v152_r0 : BitVec 32) (k0_hw13 : k0_chk13 k0_t1 arg19_r0 arg24_r0 v108_r0 v152_r0), ∀ (k0_h5 : k0_cond5 k0_t1 v108_r0 v152_r0 = 1#1), ∀ a, (k0_off36 arg24_r0) a + S1.size a ≤ S73.size a := fun k0_t1 arg19_r0 arg24_r0 v108_r0 v152_r0 k0_hw13 k0_h5 => k0_hw13.1 k0_h5
theorem k0_off37_inb : ∀ (k0_t1 : Fin k0_t1_loop.trips) (arg19_r0 : BitVec 32) (arg24_r0 : BitVec 32) (v108_r0 : BitVec 32) (v152_r0 : BitVec 32) (k0_hw13 : k0_chk13 k0_t1 arg19_r0 arg24_r0 v108_r0 v152_r0), ∀ (k0_h5 : k0_cond5 k0_t1 v108_r0 v152_r0 = 1#1), ∀ a, (k0_off37 arg19_r0) a + S1.size a ≤ S2.size a := fun k0_t1 arg19_r0 arg24_r0 v108_r0 v152_r0 k0_hw13 k0_h5 => k0_hw13.2.1 k0_h5
theorem k0_off38_inb : ∀ (k0_t1 : Fin k0_t1_loop.trips) (arg19_r0 : BitVec 32) (arg24_r0 : BitVec 32) (v108_r0 : BitVec 32) (v152_r0 : BitVec 32) (k0_hw13 : k0_chk13 k0_t1 arg19_r0 arg24_r0 v108_r0 v152_r0), ∀ (k0_h5 : k0_cond5 k0_t1 v108_r0 v152_r0 = 1#1), ∀ a, (k0_off38 arg19_r0) a + S1x1024x1024.size a ≤ S2x1024x1024.size a := fun k0_t1 arg19_r0 arg24_r0 v108_r0 v152_r0 k0_hw13 k0_h5 => k0_hw13.2.2.1 k0_h5
theorem k0_off38_wordsbf16 : ∀ (k0_t1 : Fin k0_t1_loop.trips) (arg19_r0 : BitVec 32) (arg24_r0 : BitVec 32) (v108_r0 : BitVec 32) (v152_r0 : BitVec 32) (k0_hw13 : k0_chk13 k0_t1 arg19_r0 arg24_r0 v108_r0 v152_r0), ∀ (k0_h5 : k0_cond5 k0_t1 v108_r0 v152_r0 = 1#1), (Rect.unit (s := S2x1024x1024) (k0_off38 arg19_r0) S1x1024x1024.size (k0_off38_inb k0_t1 arg19_r0 arg24_r0 v108_r0 v152_r0 k0_hw13 k0_h5)).WholeWords (EltTy.packing .bf16) := fun k0_t1 arg19_r0 arg24_r0 v108_r0 v152_r0 k0_hw13 k0_h5 => k0_hw13.2.2.2 k0_h5 (k0_off38_inb k0_t1 arg19_r0 arg24_r0 v108_r0 v152_r0 k0_hw13 k0_h5)

def k0_off40 (arg24_r0 : BitVec 32) : Fin 1 → Nat :=
  let true_77_r0 : BitVec 1 := 1#1
  let c1_i32_76_r0 : BitVec 32 := 1#32
  let v78_r0 : BitVec 32 := Scalar.subi arg24_r0 c1_i32_76_r0
  let v79_r0 : BitVec 32 := Scalar.select true_77_r0 v78_r0 arg24_r0
  let c_m1_i32_78_r0 : BitVec 32 := 4294967295#32
  let v80_r0 : BitVec 1 := Scalar.cmpi .eq v79_r0 c_m1_i32_78_r0
  let c72_i32_79_r0 : BitVec 32 := 72#32
  let v81_r0 : BitVec 32 := Scalar.select v80_r0 c72_i32_79_r0 v79_r0
  let c0_i32_80_r0 : BitVec 32 := 0#32
  let v82_r0 : BitVec 32 := Scalar.addi v81_r0 c0_i32_80_r0
  let v159_r0 : Index := Scalar.indexCast v82_r0
  ![v159_r0.toNat]
def k0_off41 (arg24_r0 : BitVec 32) : Fin 1 → Nat :=
  let c0_i32_75_r0 : BitVec 32 := 0#32
  let v77_r0 : BitVec 32 := Scalar.addi arg24_r0 c0_i32_75_r0
  let v287_r0 : Index := Scalar.indexCast v77_r0
  ![v287_r0.toNat]
def k0_cond6 (k0_t1 : Fin k0_t1_loop.trips) (v122_r0 : BitVec 32) (v160_r0 : BitVec 32) : BitVec 1 :=
  let v161_r0 : BitVec 1 := Scalar.cmpi .ne v122_r0 v160_r0
  let c0_i32_44_r0 : BitVec 32 := 0#32
  let c1_i32_46_r0 : BitVec 32 := 1#32
  let arg15_r0 : BitVec 32 := Scf.iv c0_i32_44_r0 c1_i32_46_r0 k0_t1
  let c0_i32_73_r0 : BitVec 32 := 0#32
  let v75_r0 : BitVec 1 := Scalar.cmpi .eq arg15_r0 c0_i32_73_r0
  let v162_r0 : BitVec 1 := Scalar.ori v161_r0 v75_r0
  let c0_i32_115_r0 : BitVec 32 := 0#32
  let v163_r0 : BitVec 1 := Scalar.cmpi .sge arg15_r0 c0_i32_115_r0
  let v164_r0 : BitVec 1 := Scalar.andi v162_r0 v163_r0
  let v165_r0 : BitVec 32 := Scalar.extui v164_r0
  let c0_i32_116_r0 : BitVec 32 := 0#32
  let v166_r0 : BitVec 1 := Scalar.cmpi .ne v165_r0 c0_i32_116_r0
  v166_r0

def k0_off42 (arg21_r0 : BitVec 32) : Fin 1 → Nat :=
  let c2_i32_179_r0 : BitVec 32 := 2#32
  let v290_r0 : BitVec 32 := Scalar.remui arg21_r0 c2_i32_179_r0
  ![v290_r0.toNat]
def k0_off43 (arg21_r0 : BitVec 32) : Fin 3 → Nat :=
  let c2_i32_179_r0 : BitVec 32 := 2#32
  let v290_r0 : BitVec 32 := Scalar.remui arg21_r0 c2_i32_179_r0
  let c0_i32_180_r0 : BitVec 32 := 0#32
  let c0_i32_181_r0 : BitVec 32 := 0#32
  ![v290_r0.toNat, 0, 0]
def k0_off44 (v288_r0 : BitVec 32) : Fin 2 → Nat :=
  let c0_i32_182_r0 : BitVec 32 := 0#32
  let c1024_i32_178_r0 : BitVec 32 := 1024#32
  let v289_r0 : BitVec 32 := Scalar.muli c1024_i32_178_r0 v288_r0
  ![0, v289_r0.toNat]

def k0_chk16 (k0_t1 : Fin k0_t1_loop.trips) (v122_r0 : BitVec 32) (v160_r0 : BitVec 32) (v288_r0 : BitVec 32) : Prop :=
  (∀ (k0_h6 : k0_cond6 k0_t1 v122_r0 v160_r0 = 1#1), ∀ a, (k0_off44 v288_r0) a + S576x1024.size a ≤ S576x16384.size a) ∧
  (∀ (k0_h6 : k0_cond6 k0_t1 v122_r0 v160_r0 = 1#1), ∀ (hinb : ∀ a, (k0_off44 v288_r0) a + S576x1024.size a ≤ S576x16384.size a), (Rect.unit (s := S576x16384) (k0_off44 v288_r0) S576x1024.size hinb).WholeWords (EltTy.packing .bf16))
theorem k0_off44_inb : ∀ (k0_t1 : Fin k0_t1_loop.trips) (v122_r0 : BitVec 32) (v160_r0 : BitVec 32) (v288_r0 : BitVec 32) (k0_hw16 : k0_chk16 k0_t1 v122_r0 v160_r0 v288_r0), ∀ (k0_h6 : k0_cond6 k0_t1 v122_r0 v160_r0 = 1#1), ∀ a, (k0_off44 v288_r0) a + S576x1024.size a ≤ S576x16384.size a := fun k0_t1 v122_r0 v160_r0 v288_r0 k0_hw16 k0_h6 => k0_hw16.1 k0_h6
theorem k0_off44_wordsbf16 : ∀ (k0_t1 : Fin k0_t1_loop.trips) (v122_r0 : BitVec 32) (v160_r0 : BitVec 32) (v288_r0 : BitVec 32) (k0_hw16 : k0_chk16 k0_t1 v122_r0 v160_r0 v288_r0), ∀ (k0_h6 : k0_cond6 k0_t1 v122_r0 v160_r0 = 1#1), (Rect.unit (s := S576x16384) (k0_off44 v288_r0) S576x1024.size (k0_off44_inb k0_t1 v122_r0 v160_r0 v288_r0 k0_hw16 k0_h6)).WholeWords (EltTy.packing .bf16) := fun k0_t1 v122_r0 v160_r0 v288_r0 k0_hw16 k0_h6 => k0_hw16.2 k0_h6 (k0_off44_inb k0_t1 v122_r0 v160_r0 v288_r0 k0_hw16 k0_h6)

def k0_chk15 (k0_t1 : Fin k0_t1_loop.trips) (arg21_r0 : BitVec 32) (arg24_r0 : BitVec 32) (v122_r0 : BitVec 32) (v160_r0 : BitVec 32) : Prop :=
  (∀ (k0_h6 : k0_cond6 k0_t1 v122_r0 v160_r0 = 1#1), ∀ a, (k0_off41 arg24_r0) a + S1.size a ≤ S73.size a) ∧
  (∀ (k0_h6 : k0_cond6 k0_t1 v122_r0 v160_r0 = 1#1), ∀ a, (k0_off42 arg21_r0) a + S1.size a ≤ S2.size a) ∧
  (∀ (k0_h6 : k0_cond6 k0_t1 v122_r0 v160_r0 = 1#1), ∀ a, (k0_off43 arg21_r0) a + S1x576x1024.size a ≤ S2x576x1024.size a) ∧
  (∀ (k0_h6 : k0_cond6 k0_t1 v122_r0 v160_r0 = 1#1), ∀ (hinb : ∀ a, (k0_off43 arg21_r0) a + S1x576x1024.size a ≤ S2x576x1024.size a), (Rect.unit (s := S2x576x1024) (k0_off43 arg21_r0) S1x576x1024.size hinb).WholeWords (EltTy.packing .bf16))
theorem k0_off41_inb : ∀ (k0_t1 : Fin k0_t1_loop.trips) (arg21_r0 : BitVec 32) (arg24_r0 : BitVec 32) (v122_r0 : BitVec 32) (v160_r0 : BitVec 32) (k0_hw15 : k0_chk15 k0_t1 arg21_r0 arg24_r0 v122_r0 v160_r0), ∀ (k0_h6 : k0_cond6 k0_t1 v122_r0 v160_r0 = 1#1), ∀ a, (k0_off41 arg24_r0) a + S1.size a ≤ S73.size a := fun k0_t1 arg21_r0 arg24_r0 v122_r0 v160_r0 k0_hw15 k0_h6 => k0_hw15.1 k0_h6
theorem k0_off42_inb : ∀ (k0_t1 : Fin k0_t1_loop.trips) (arg21_r0 : BitVec 32) (arg24_r0 : BitVec 32) (v122_r0 : BitVec 32) (v160_r0 : BitVec 32) (k0_hw15 : k0_chk15 k0_t1 arg21_r0 arg24_r0 v122_r0 v160_r0), ∀ (k0_h6 : k0_cond6 k0_t1 v122_r0 v160_r0 = 1#1), ∀ a, (k0_off42 arg21_r0) a + S1.size a ≤ S2.size a := fun k0_t1 arg21_r0 arg24_r0 v122_r0 v160_r0 k0_hw15 k0_h6 => k0_hw15.2.1 k0_h6
theorem k0_off43_inb : ∀ (k0_t1 : Fin k0_t1_loop.trips) (arg21_r0 : BitVec 32) (arg24_r0 : BitVec 32) (v122_r0 : BitVec 32) (v160_r0 : BitVec 32) (k0_hw15 : k0_chk15 k0_t1 arg21_r0 arg24_r0 v122_r0 v160_r0), ∀ (k0_h6 : k0_cond6 k0_t1 v122_r0 v160_r0 = 1#1), ∀ a, (k0_off43 arg21_r0) a + S1x576x1024.size a ≤ S2x576x1024.size a := fun k0_t1 arg21_r0 arg24_r0 v122_r0 v160_r0 k0_hw15 k0_h6 => k0_hw15.2.2.1 k0_h6
theorem k0_off43_wordsbf16 : ∀ (k0_t1 : Fin k0_t1_loop.trips) (arg21_r0 : BitVec 32) (arg24_r0 : BitVec 32) (v122_r0 : BitVec 32) (v160_r0 : BitVec 32) (k0_hw15 : k0_chk15 k0_t1 arg21_r0 arg24_r0 v122_r0 v160_r0), ∀ (k0_h6 : k0_cond6 k0_t1 v122_r0 v160_r0 = 1#1), (Rect.unit (s := S2x576x1024) (k0_off43 arg21_r0) S1x576x1024.size (k0_off43_inb k0_t1 arg21_r0 arg24_r0 v122_r0 v160_r0 k0_hw15 k0_h6)).WholeWords (EltTy.packing .bf16) := fun k0_t1 arg21_r0 arg24_r0 v122_r0 v160_r0 k0_hw15 k0_h6 => k0_hw15.2.2.2 k0_h6 (k0_off43_inb k0_t1 arg21_r0 arg24_r0 v122_r0 v160_r0 k0_hw15 k0_h6)

def k0_off45 (arg24_r0 : BitVec 32) : Fin 1 → Nat :=
  let true_77_r0 : BitVec 1 := 1#1
  let c1_i32_76_r0 : BitVec 32 := 1#32
  let v78_r0 : BitVec 32 := Scalar.subi arg24_r0 c1_i32_76_r0
  let v79_r0 : BitVec 32 := Scalar.select true_77_r0 v78_r0 arg24_r0
  let c_m1_i32_78_r0 : BitVec 32 := 4294967295#32
  let v80_r0 : BitVec 1 := Scalar.cmpi .eq v79_r0 c_m1_i32_78_r0
  let c72_i32_79_r0 : BitVec 32 := 72#32
  let v81_r0 : BitVec 32 := Scalar.select v80_r0 c72_i32_79_r0 v79_r0
  let c0_i32_80_r0 : BitVec 32 := 0#32
  let v82_r0 : BitVec 32 := Scalar.addi v81_r0 c0_i32_80_r0
  let v167_r0 : Index := Scalar.indexCast v82_r0
  ![v167_r0.toNat]
def k0_off46 (arg24_r0 : BitVec 32) : Fin 1 → Nat :=
  let c0_i32_75_r0 : BitVec 32 := 0#32
  let v77_r0 : BitVec 32 := Scalar.addi arg24_r0 c0_i32_75_r0
  let v182_r0 : Index := Scalar.indexCast v77_r0
  ![v182_r0.toNat]
def k0_off47 (arg24_r0 : BitVec 32) : Fin 1 → Nat :=
  let c0_i32_75_r0 : BitVec 32 := 0#32
  let v77_r0 : BitVec 32 := Scalar.addi arg24_r0 c0_i32_75_r0
  let v189_r0 : Index := Scalar.indexCast v77_r0
  ![v189_r0.toNat]

def k0_chk4 (arg24_r0 : BitVec 32) : Prop :=
  (∀ a, (k0_off10 arg24_r0) a + S1.size a ≤ S73.size a) ∧
  (∀ a, (k0_off11 arg24_r0) a + S1.size a ≤ S73.size a) ∧
  (∀ a, (k0_off16 arg24_r0) a + S1.size a ≤ S73.size a) ∧
  (∀ a, (k0_off17 arg24_r0) a + S1.size a ≤ S73.size a) ∧
  (∀ a, (k0_off22 arg24_r0) a + S1.size a ≤ S73.size a) ∧
  (∀ a, (k0_off23 arg24_r0) a + S1.size a ≤ S73.size a) ∧
  (∀ a, (k0_off28 arg24_r0) a + S1.size a ≤ S73.size a) ∧
  (∀ a, (k0_off29 arg24_r0) a + S1.size a ≤ S73.size a) ∧
  (∀ a, (k0_off30 arg24_r0) a + S1.size a ≤ S73.size a) ∧
  (∀ a, (k0_off35 arg24_r0) a + S1.size a ≤ S73.size a) ∧
  (∀ a, (k0_off40 arg24_r0) a + S1.size a ≤ S73.size a) ∧
  (∀ a, (k0_off45 arg24_r0) a + S1.size a ≤ S73.size a) ∧
  (∀ a, (k0_off46 arg24_r0) a + S1.size a ≤ S73.size a) ∧
  (∀ a, (k0_off47 arg24_r0) a + S1.size a ≤ S73.size a)
theorem k0_off10_inb : ∀ (arg24_r0 : BitVec 32) (k0_hw4 : k0_chk4 arg24_r0), ∀ a, (k0_off10 arg24_r0) a + S1.size a ≤ S73.size a := fun arg24_r0 k0_hw4 => k0_hw4.1
theorem k0_off11_inb : ∀ (arg24_r0 : BitVec 32) (k0_hw4 : k0_chk4 arg24_r0), ∀ a, (k0_off11 arg24_r0) a + S1.size a ≤ S73.size a := fun arg24_r0 k0_hw4 => k0_hw4.2.1
theorem k0_off16_inb : ∀ (arg24_r0 : BitVec 32) (k0_hw4 : k0_chk4 arg24_r0), ∀ a, (k0_off16 arg24_r0) a + S1.size a ≤ S73.size a := fun arg24_r0 k0_hw4 => k0_hw4.2.2.1
theorem k0_off17_inb : ∀ (arg24_r0 : BitVec 32) (k0_hw4 : k0_chk4 arg24_r0), ∀ a, (k0_off17 arg24_r0) a + S1.size a ≤ S73.size a := fun arg24_r0 k0_hw4 => k0_hw4.2.2.2.1
theorem k0_off22_inb : ∀ (arg24_r0 : BitVec 32) (k0_hw4 : k0_chk4 arg24_r0), ∀ a, (k0_off22 arg24_r0) a + S1.size a ≤ S73.size a := fun arg24_r0 k0_hw4 => k0_hw4.2.2.2.2.1
theorem k0_off23_inb : ∀ (arg24_r0 : BitVec 32) (k0_hw4 : k0_chk4 arg24_r0), ∀ a, (k0_off23 arg24_r0) a + S1.size a ≤ S73.size a := fun arg24_r0 k0_hw4 => k0_hw4.2.2.2.2.2.1
theorem k0_off28_inb : ∀ (arg24_r0 : BitVec 32) (k0_hw4 : k0_chk4 arg24_r0), ∀ a, (k0_off28 arg24_r0) a + S1.size a ≤ S73.size a := fun arg24_r0 k0_hw4 => k0_hw4.2.2.2.2.2.2.1
theorem k0_off29_inb : ∀ (arg24_r0 : BitVec 32) (k0_hw4 : k0_chk4 arg24_r0), ∀ a, (k0_off29 arg24_r0) a + S1.size a ≤ S73.size a := fun arg24_r0 k0_hw4 => k0_hw4.2.2.2.2.2.2.2.1
theorem k0_off30_inb : ∀ (arg24_r0 : BitVec 32) (k0_hw4 : k0_chk4 arg24_r0), ∀ a, (k0_off30 arg24_r0) a + S1.size a ≤ S73.size a := fun arg24_r0 k0_hw4 => k0_hw4.2.2.2.2.2.2.2.2.1
theorem k0_off35_inb : ∀ (arg24_r0 : BitVec 32) (k0_hw4 : k0_chk4 arg24_r0), ∀ a, (k0_off35 arg24_r0) a + S1.size a ≤ S73.size a := fun arg24_r0 k0_hw4 => k0_hw4.2.2.2.2.2.2.2.2.2.1
theorem k0_off40_inb : ∀ (arg24_r0 : BitVec 32) (k0_hw4 : k0_chk4 arg24_r0), ∀ a, (k0_off40 arg24_r0) a + S1.size a ≤ S73.size a := fun arg24_r0 k0_hw4 => k0_hw4.2.2.2.2.2.2.2.2.2.2.1
theorem k0_off45_inb : ∀ (arg24_r0 : BitVec 32) (k0_hw4 : k0_chk4 arg24_r0), ∀ a, (k0_off45 arg24_r0) a + S1.size a ≤ S73.size a := fun arg24_r0 k0_hw4 => k0_hw4.2.2.2.2.2.2.2.2.2.2.2.1
theorem k0_off46_inb : ∀ (arg24_r0 : BitVec 32) (k0_hw4 : k0_chk4 arg24_r0), ∀ a, (k0_off46 arg24_r0) a + S1.size a ≤ S73.size a := fun arg24_r0 k0_hw4 => k0_hw4.2.2.2.2.2.2.2.2.2.2.2.2.1
theorem k0_off47_inb : ∀ (arg24_r0 : BitVec 32) (k0_hw4 : k0_chk4 arg24_r0), ∀ a, (k0_off47 arg24_r0) a + S1.size a ≤ S73.size a := fun arg24_r0 k0_hw4 => k0_hw4.2.2.2.2.2.2.2.2.2.2.2.2.2

def k0_off48 (arg19_r0 : BitVec 32) : Fin 3 → Nat :=
  let c2_i32_120_r0 : BitVec 32 := 2#32
  let v176_r0 : BitVec 32 := Scalar.remui arg19_r0 c2_i32_120_r0
  let c0_i32_190_r0 : BitVec 32 := 0#32
  let c0_i32_191_r0 : BitVec 32 := 0#32
  ![v176_r0.toNat, 0, 0]
def k0_cond10 (v190_r0 : BitVec 32) (v193_r0 : BitVec 32) : BitVec 1 :=
  let c1_i32_128_r0 : BitVec 32 := 1#32
  let v191_r0 : BitVec 1 := Scalar.cmpi .eq v190_r0 c1_i32_128_r0
  let v_false_r0 : BitVec 1 := 0#1
  let v195_r0 : BitVec 1 := Scalar.xori v191_r0 v_false_r0
  let true_130_r0 : BitVec 1 := 1#1
  let v196_r0 : BitVec 1 := Scalar.xori v195_r0 true_130_r0
  let c1_i32_129_r0 : BitVec 32 := 1#32
  let v194_r0 : BitVec 1 := Scalar.cmpi .eq v193_r0 c1_i32_129_r0
  let false_131_r0 : BitVec 1 := 0#1
  let v197_r0 : BitVec 1 := Scalar.xori v194_r0 false_131_r0
  let true_132_r0 : BitVec 1 := 1#1
  let v198_r0 : BitVec 1 := Scalar.xori v197_r0 true_132_r0
  let v199_r0 : BitVec 1 := Scalar.andi v196_r0 v198_r0
  let v200_r0 : BitVec 32 := Scalar.extui v199_r0
  let c0_i32_133_r0 : BitVec 32 := 0#32
  let v201_r0 : BitVec 1 := Scalar.cmpi .ne v200_r0 c0_i32_133_r0
  v201_r0

def k0_off49 (arg17_r0 : BitVec 32) : Fin 3 → Nat :=
  let c2_i32_119_r0 : BitVec 32 := 2#32
  let v175_r0 : BitVec 32 := Scalar.remui arg17_r0 c2_i32_119_r0
  let c0_i32_194_r0 : BitVec 32 := 0#32
  let c0_i32_195_r0 : BitVec 32 := 0#32
  ![v175_r0.toNat, 0, 0]
def k0_off50 (arg21_r0 : BitVec 32) : Fin 3 → Nat :=
  let c2_i32_121_r0 : BitVec 32 := 2#32
  let v177_r0 : BitVec 32 := Scalar.remui arg21_r0 c2_i32_121_r0
  let c0_i32_205_r0 : BitVec 32 := 0#32
  let c0_i32_206_r0 : BitVec 32 := 0#32
  ![v177_r0.toNat, 0, 0]
def k0_off51 (arg19_r0 : BitVec 32) : Fin 3 → Nat :=
  let c2_i32_120_r0 : BitVec 32 := 2#32
  let v176_r0 : BitVec 32 := Scalar.remui arg19_r0 c2_i32_120_r0
  let c0_i32_190_r0 : BitVec 32 := 0#32
  let c0_i32_191_r0 : BitVec 32 := 0#32
  ![v176_r0.toNat, 0, 0]
def k0_cond11 (v190_r0 : BitVec 32) (v193_r0 : BitVec 32) : BitVec 1 :=
  let c1_i32_128_r0 : BitVec 32 := 1#32
  let v191_r0 : BitVec 1 := Scalar.cmpi .eq v190_r0 c1_i32_128_r0
  let false_134_r0 : BitVec 1 := 0#1
  let v202_r0 : BitVec 1 := Scalar.xori v191_r0 false_134_r0
  let true_135_r0 : BitVec 1 := 1#1
  let v203_r0 : BitVec 1 := Scalar.xori v202_r0 true_135_r0
  let c1_i32_129_r0 : BitVec 32 := 1#32
  let v194_r0 : BitVec 1 := Scalar.cmpi .eq v193_r0 c1_i32_129_r0
  let true_136_r0 : BitVec 1 := 1#1
  let v204_r0 : BitVec 1 := Scalar.xori v194_r0 true_136_r0
  let true_137_r0 : BitVec 1 := 1#1
  let v205_r0 : BitVec 1 := Scalar.xori v204_r0 true_137_r0
  let v206_r0 : BitVec 1 := Scalar.andi v203_r0 v205_r0
  let v207_r0 : BitVec 32 := Scalar.extui v206_r0
  let c0_i32_138_r0 : BitVec 32 := 0#32
  let v208_r0 : BitVec 1 := Scalar.cmpi .ne v207_r0 c0_i32_138_r0
  v208_r0

def k0_off52 (arg17_r0 : BitVec 32) : Fin 3 → Nat :=
  let c2_i32_119_r0 : BitVec 32 := 2#32
  let v175_r0 : BitVec 32 := Scalar.remui arg17_r0 c2_i32_119_r0
  let c0_i32_194_r0 : BitVec 32 := 0#32
  let c0_i32_195_r0 : BitVec 32 := 0#32
  ![v175_r0.toNat, 0, 0]
def k0_off53 (arg21_r0 : BitVec 32) : Fin 3 → Nat :=
  let c2_i32_121_r0 : BitVec 32 := 2#32
  let v177_r0 : BitVec 32 := Scalar.remui arg21_r0 c2_i32_121_r0
  let c0_i32_206_r0 : BitVec 32 := 0#32
  let c0_i32_207_r0 : BitVec 32 := 0#32
  ![v177_r0.toNat, 0, 0]
def k0_off54 (arg19_r0 : BitVec 32) : Fin 3 → Nat :=
  let c2_i32_120_r0 : BitVec 32 := 2#32
  let v176_r0 : BitVec 32 := Scalar.remui arg19_r0 c2_i32_120_r0
  let c0_i32_190_r0 : BitVec 32 := 0#32
  let c0_i32_191_r0 : BitVec 32 := 0#32
  ![v176_r0.toNat, 0, 0]
def k0_cond12 (v190_r0 : BitVec 32) (v193_r0 : BitVec 32) : BitVec 1 :=
  let c1_i32_128_r0 : BitVec 32 := 1#32
  let v191_r0 : BitVec 1 := Scalar.cmpi .eq v190_r0 c1_i32_128_r0
  let true_139_r0 : BitVec 1 := 1#1
  let v209_r0 : BitVec 1 := Scalar.xori v191_r0 true_139_r0
  let true_140_r0 : BitVec 1 := 1#1
  let v210_r0 : BitVec 1 := Scalar.xori v209_r0 true_140_r0
  let c1_i32_129_r0 : BitVec 32 := 1#32
  let v194_r0 : BitVec 1 := Scalar.cmpi .eq v193_r0 c1_i32_129_r0
  let false_141_r0 : BitVec 1 := 0#1
  let v211_r0 : BitVec 1 := Scalar.xori v194_r0 false_141_r0
  let true_142_r0 : BitVec 1 := 1#1
  let v212_r0 : BitVec 1 := Scalar.xori v211_r0 true_142_r0
  let v213_r0 : BitVec 1 := Scalar.andi v210_r0 v212_r0
  let v214_r0 : BitVec 32 := Scalar.extui v213_r0
  let c0_i32_143_r0 : BitVec 32 := 0#32
  let v215_r0 : BitVec 1 := Scalar.cmpi .ne v214_r0 c0_i32_143_r0
  v215_r0

def k0_off55 (arg17_r0 : BitVec 32) : Fin 3 → Nat :=
  let c2_i32_119_r0 : BitVec 32 := 2#32
  let v175_r0 : BitVec 32 := Scalar.remui arg17_r0 c2_i32_119_r0
  let c0_i32_194_r0 : BitVec 32 := 0#32
  let c0_i32_195_r0 : BitVec 32 := 0#32
  ![v175_r0.toNat, 0, 0]
def k0_off56 (arg21_r0 : BitVec 32) : Fin 3 → Nat :=
  let c2_i32_121_r0 : BitVec 32 := 2#32
  let v177_r0 : BitVec 32 := Scalar.remui arg21_r0 c2_i32_121_r0
  let c0_i32_205_r0 : BitVec 32 := 0#32
  let c0_i32_206_r0 : BitVec 32 := 0#32
  ![v177_r0.toNat, 0, 0]
def k0_off57 (arg22_r0 : BitVec 32) : Fin 3 → Nat :=
  let c2_i32_122_r0 : BitVec 32 := 2#32
  let v178_r0 : BitVec 32 := Scalar.remui arg22_r0 c2_i32_122_r0
  let c0_i32_333_r0 : BitVec 32 := 0#32
  let c0_i32_334_r0 : BitVec 32 := 0#32
  ![v178_r0.toNat, 0, 0]
def k0_off58 (arg22_r0 : BitVec 32) : Fin 3 → Nat :=
  let c2_i32_122_r0 : BitVec 32 := 2#32
  let v178_r0 : BitVec 32 := Scalar.remui arg22_r0 c2_i32_122_r0
  let c0_i32_333_r0 : BitVec 32 := 0#32
  let c0_i32_334_r0 : BitVec 32 := 0#32
  ![v178_r0.toNat, 0, 0]
def k0_off59 (arg19_r0 : BitVec 32) : Fin 3 → Nat :=
  let c2_i32_120_r0 : BitVec 32 := 2#32
  let v176_r0 : BitVec 32 := Scalar.remui arg19_r0 c2_i32_120_r0
  let c0_i32_348_r0 : BitVec 32 := 0#32
  let c0_i32_349_r0 : BitVec 32 := 0#32
  ![v176_r0.toNat, 0, 0]
def k0_off60 (arg17_r0 : BitVec 32) : Fin 3 → Nat :=
  let c2_i32_119_r0 : BitVec 32 := 2#32
  let v175_r0 : BitVec 32 := Scalar.remui arg17_r0 c2_i32_119_r0
  let c0_i32_352_r0 : BitVec 32 := 0#32
  let c0_i32_353_r0 : BitVec 32 := 0#32
  ![v175_r0.toNat, 0, 0]
def k0_off61 (arg21_r0 : BitVec 32) : Fin 3 → Nat :=
  let c2_i32_121_r0 : BitVec 32 := 2#32
  let v177_r0 : BitVec 32 := Scalar.remui arg21_r0 c2_i32_121_r0
  let c0_i32_364_r0 : BitVec 32 := 0#32
  let c0_i32_365_r0 : BitVec 32 := 0#32
  ![v177_r0.toNat, 0, 0]
def k0_off62 (arg22_r0 : BitVec 32) : Fin 3 → Nat :=
  let c2_i32_122_r0 : BitVec 32 := 2#32
  let v178_r0 : BitVec 32 := Scalar.remui arg22_r0 c2_i32_122_r0
  let c0_i32_494_r0 : BitVec 32 := 0#32
  ![v178_r0.toNat, 0, 128]
def k0_off63 (arg22_r0 : BitVec 32) : Fin 3 → Nat :=
  let c2_i32_122_r0 : BitVec 32 := 2#32
  let v178_r0 : BitVec 32 := Scalar.remui arg22_r0 c2_i32_122_r0
  let c0_i32_654_r0 : BitVec 32 := 0#32
  ![v178_r0.toNat, 0, 256]
def k0_off64 (arg22_r0 : BitVec 32) : Fin 3 → Nat :=
  let c2_i32_122_r0 : BitVec 32 := 2#32
  let v178_r0 : BitVec 32 := Scalar.remui arg22_r0 c2_i32_122_r0
  let c0_i32_815_r0 : BitVec 32 := 0#32
  ![v178_r0.toNat, 0, 384]
def k0_off65 (arg19_r0 : BitVec 32) : Fin 3 → Nat :=
  let c2_i32_120_r0 : BitVec 32 := 2#32
  let v176_r0 : BitVec 32 := Scalar.remui arg19_r0 c2_i32_120_r0
  let c0_i32_190_r0 : BitVec 32 := 0#32
  let c0_i32_191_r0 : BitVec 32 := 0#32
  ![v176_r0.toNat, 0, 0]
def k0_cond13 (v190_r0 : BitVec 32) (v193_r0 : BitVec 32) : BitVec 1 :=
  let c1_i32_128_r0 : BitVec 32 := 1#32
  let v191_r0 : BitVec 1 := Scalar.cmpi .eq v190_r0 c1_i32_128_r0
  let true_144_r0 : BitVec 1 := 1#1
  let v216_r0 : BitVec 1 := Scalar.xori v191_r0 true_144_r0
  let true_145_r0 : BitVec 1 := 1#1
  let v217_r0 : BitVec 1 := Scalar.xori v216_r0 true_145_r0
  let c1_i32_129_r0 : BitVec 32 := 1#32
  let v194_r0 : BitVec 1 := Scalar.cmpi .eq v193_r0 c1_i32_129_r0
  let true_146_r0 : BitVec 1 := 1#1
  let v218_r0 : BitVec 1 := Scalar.xori v194_r0 true_146_r0
  let true_147_r0 : BitVec 1 := 1#1
  let v219_r0 : BitVec 1 := Scalar.xori v218_r0 true_147_r0
  let v220_r0 : BitVec 1 := Scalar.andi v217_r0 v219_r0
  let v221_r0 : BitVec 32 := Scalar.extui v220_r0
  let c0_i32_148_r0 : BitVec 32 := 0#32
  let v222_r0 : BitVec 1 := Scalar.cmpi .ne v221_r0 c0_i32_148_r0
  v222_r0

def k0_off66 (arg17_r0 : BitVec 32) : Fin 3 → Nat :=
  let c2_i32_119_r0 : BitVec 32 := 2#32
  let v175_r0 : BitVec 32 := Scalar.remui arg17_r0 c2_i32_119_r0
  let c0_i32_194_r0 : BitVec 32 := 0#32
  let c0_i32_195_r0 : BitVec 32 := 0#32
  ![v175_r0.toNat, 0, 0]
def k0_off67 (arg21_r0 : BitVec 32) : Fin 3 → Nat :=
  let c2_i32_121_r0 : BitVec 32 := 2#32
  let v177_r0 : BitVec 32 := Scalar.remui arg21_r0 c2_i32_121_r0
  let c0_i32_206_r0 : BitVec 32 := 0#32
  let c0_i32_207_r0 : BitVec 32 := 0#32
  ![v177_r0.toNat, 0, 0]
def k0_off68 (arg22_r0 : BitVec 32) : Fin 3 → Nat :=
  let c2_i32_122_r0 : BitVec 32 := 2#32
  let v178_r0 : BitVec 32 := Scalar.remui arg22_r0 c2_i32_122_r0
  let c0_i32_349_r0 : BitVec 32 := 0#32
  let c0_i32_350_r0 : BitVec 32 := 0#32
  ![v178_r0.toNat, 0, 0]
def k0_off69 (arg22_r0 : BitVec 32) : Fin 3 → Nat :=
  let c2_i32_122_r0 : BitVec 32 := 2#32
  let v178_r0 : BitVec 32 := Scalar.remui arg22_r0 c2_i32_122_r0
  let c0_i32_349_r0 : BitVec 32 := 0#32
  let c0_i32_350_r0 : BitVec 32 := 0#32
  ![v178_r0.toNat, 0, 0]
def k0_off70 (arg22_r0 : BitVec 32) : Fin 3 → Nat :=
  let c2_i32_122_r0 : BitVec 32 := 2#32
  let v178_r0 : BitVec 32 := Scalar.remui arg22_r0 c2_i32_122_r0
  let c0_i32_526_r0 : BitVec 32 := 0#32
  ![v178_r0.toNat, 0, 128]
def k0_off71 (arg22_r0 : BitVec 32) : Fin 3 → Nat :=
  let c2_i32_122_r0 : BitVec 32 := 2#32
  let v178_r0 : BitVec 32 := Scalar.remui arg22_r0 c2_i32_122_r0
  let c0_i32_702_r0 : BitVec 32 := 0#32
  ![v178_r0.toNat, 0, 256]
def k0_off72 (arg22_r0 : BitVec 32) : Fin 3 → Nat :=
  let c2_i32_122_r0 : BitVec 32 := 2#32
  let v178_r0 : BitVec 32 := Scalar.remui arg22_r0 c2_i32_122_r0
  let c0_i32_879_r0 : BitVec 32 := 0#32
  ![v178_r0.toNat, 0, 384]

def k0_chk17_0 (arg17_r0 : BitVec 32) (arg19_r0 : BitVec 32) (arg21_r0 : BitVec 32) (arg22_r0 : BitVec 32) (v190_r0 : BitVec 32) (v193_r0 : BitVec 32) : Prop :=
  (∀ (k0_h10 : k0_cond10 v190_r0 v193_r0 = 1#1), ∀ a, (k0_off48 arg19_r0) a + S1x1024x1024.size a ≤ S2x1024x1024.size a) ∧
  (∀ (k0_h10 : k0_cond10 v190_r0 v193_r0 = 1#1), ∀ a, (k0_off49 arg17_r0) a + S1x1024x1024.size a ≤ S2x1024x1024.size a) ∧
  (∀ (k0_h10 : k0_cond10 v190_r0 v193_r0 = 1#1), ∀ a, (k0_off50 arg21_r0) a + S1x576x1024.size a ≤ S2x576x1024.size a) ∧
  (∀ (k0_h11 : k0_cond11 v190_r0 v193_r0 = 1#1), ∀ a, (k0_off51 arg19_r0) a + S1x1024x1024.size a ≤ S2x1024x1024.size a) ∧
  (∀ (k0_h11 : k0_cond11 v190_r0 v193_r0 = 1#1), ∀ a, (k0_off52 arg17_r0) a + S1x1024x1024.size a ≤ S2x1024x1024.size a) ∧
  (∀ (k0_h11 : k0_cond11 v190_r0 v193_r0 = 1#1), ∀ a, (k0_off53 arg21_r0) a + S1x576x1024.size a ≤ S2x576x1024.size a) ∧
  (∀ (k0_h12 : k0_cond12 v190_r0 v193_r0 = 1#1), ∀ a, (k0_off54 arg19_r0) a + S1x1024x1024.size a ≤ S2x1024x1024.size a) ∧
  (∀ (k0_h12 : k0_cond12 v190_r0 v193_r0 = 1#1), ∀ a, (k0_off55 arg17_r0) a + S1x1024x1024.size a ≤ S2x1024x1024.size a) ∧
  (∀ (k0_h12 : k0_cond12 v190_r0 v193_r0 = 1#1), ∀ a, (k0_off56 arg21_r0) a + S1x576x1024.size a ≤ S2x576x1024.size a) ∧
  (∀ (k0_h12 : k0_cond12 v190_r0 v193_r0 = 1#1), ∀ a, (k0_off57 arg22_r0) a + S1x1024x512.size a ≤ S2x1024x512.size a) ∧
  (∀ (k0_h12 : k0_cond12 v190_r0 v193_r0 = 1#1), ∀ a, (k0_off58 arg22_r0) a + S1x1024x128.size a ≤ S2x1024x512.size a) ∧
  (∀ (k0_h12 : k0_cond12 v190_r0 v193_r0 = 1#1), ∀ (hinb : ∀ a, (k0_off58 arg22_r0) a + S1x1024x128.size a ≤ S2x1024x512.size a), (Rect.unit (s := S2x1024x512) (k0_off58 arg22_r0) S1x1024x128.size hinb).PackedRows (EltTy.packing .bf16)) ∧
  (∀ (k0_h12 : k0_cond12 v190_r0 v193_r0 = 1#1), ∀ a, (k0_off59 arg19_r0) a + S1x1024x1024.size a ≤ S2x1024x1024.size a) ∧
  (∀ (k0_h12 : k0_cond12 v190_r0 v193_r0 = 1#1), ∀ a, (k0_off60 arg17_r0) a + S1x1024x1024.size a ≤ S2x1024x1024.size a) ∧
  (∀ (k0_h12 : k0_cond12 v190_r0 v193_r0 = 1#1), ∀ a, (k0_off61 arg21_r0) a + S1x576x1024.size a ≤ S2x576x1024.size a) ∧
  (∀ (k0_h12 : k0_cond12 v190_r0 v193_r0 = 1#1), ∀ a, (k0_off62 arg22_r0) a + S1x1024x128.size a ≤ S2x1024x512.size a) ∧
  (∀ (k0_h12 : k0_cond12 v190_r0 v193_r0 = 1#1), ∀ (hinb : ∀ a, (k0_off62 arg22_r0) a + S1x1024x128.size a ≤ S2x1024x512.size a), (Rect.unit (s := S2x1024x512) (k0_off62 arg22_r0) S1x1024x128.size hinb).PackedRows (EltTy.packing .bf16)) ∧
  (∀ (k0_h12 : k0_cond12 v190_r0 v193_r0 = 1#1), ∀ a, (k0_off63 arg22_r0) a + S1x1024x128.size a ≤ S2x1024x512.size a) ∧
  (∀ (k0_h12 : k0_cond12 v190_r0 v193_r0 = 1#1), ∀ (hinb : ∀ a, (k0_off63 arg22_r0) a + S1x1024x128.size a ≤ S2x1024x512.size a), (Rect.unit (s := S2x1024x512) (k0_off63 arg22_r0) S1x1024x128.size hinb).PackedRows (EltTy.packing .bf16)) ∧
  (∀ (k0_h12 : k0_cond12 v190_r0 v193_r0 = 1#1), ∀ a, (k0_off64 arg22_r0) a + S1x1024x128.size a ≤ S2x1024x512.size a) ∧
  (∀ (k0_h12 : k0_cond12 v190_r0 v193_r0 = 1#1), ∀ (hinb : ∀ a, (k0_off64 arg22_r0) a + S1x1024x128.size a ≤ S2x1024x512.size a), (Rect.unit (s := S2x1024x512) (k0_off64 arg22_r0) S1x1024x128.size hinb).PackedRows (EltTy.packing .bf16)) ∧
  (∀ (k0_h13 : k0_cond13 v190_r0 v193_r0 = 1#1), ∀ a, (k0_off65 arg19_r0) a + S1x1024x1024.size a ≤ S2x1024x1024.size a) ∧
  (∀ (k0_h13 : k0_cond13 v190_r0 v193_r0 = 1#1), ∀ a, (k0_off66 arg17_r0) a + S1x1024x1024.size a ≤ S2x1024x1024.size a) ∧
  (∀ (k0_h13 : k0_cond13 v190_r0 v193_r0 = 1#1), ∀ a, (k0_off67 arg21_r0) a + S1x576x1024.size a ≤ S2x576x1024.size a) ∧
  (∀ (k0_h13 : k0_cond13 v190_r0 v193_r0 = 1#1), ∀ a, (k0_off68 arg22_r0) a + S1x1024x512.size a ≤ S2x1024x512.size a) ∧
  (∀ (k0_h13 : k0_cond13 v190_r0 v193_r0 = 1#1), ∀ a, (k0_off69 arg22_r0) a + S1x1024x128.size a ≤ S2x1024x512.size a) ∧
  (∀ (k0_h13 : k0_cond13 v190_r0 v193_r0 = 1#1), ∀ (hinb : ∀ a, (k0_off69 arg22_r0) a + S1x1024x128.size a ≤ S2x1024x512.size a), (Rect.unit (s := S2x1024x512) (k0_off69 arg22_r0) S1x1024x128.size hinb).PackedRows (EltTy.packing .bf16)) ∧
  (∀ (k0_h13 : k0_cond13 v190_r0 v193_r0 = 1#1), ∀ a, (k0_off70 arg22_r0) a + S1x1024x128.size a ≤ S2x1024x512.size a) ∧
  (∀ (k0_h13 : k0_cond13 v190_r0 v193_r0 = 1#1), ∀ (hinb : ∀ a, (k0_off70 arg22_r0) a + S1x1024x128.size a ≤ S2x1024x512.size a), (Rect.unit (s := S2x1024x512) (k0_off70 arg22_r0) S1x1024x128.size hinb).PackedRows (EltTy.packing .bf16)) ∧
  (∀ (k0_h13 : k0_cond13 v190_r0 v193_r0 = 1#1), ∀ a, (k0_off71 arg22_r0) a + S1x1024x128.size a ≤ S2x1024x512.size a) ∧
  (∀ (k0_h13 : k0_cond13 v190_r0 v193_r0 = 1#1), ∀ (hinb : ∀ a, (k0_off71 arg22_r0) a + S1x1024x128.size a ≤ S2x1024x512.size a), (Rect.unit (s := S2x1024x512) (k0_off71 arg22_r0) S1x1024x128.size hinb).PackedRows (EltTy.packing .bf16)) ∧
  (∀ (k0_h13 : k0_cond13 v190_r0 v193_r0 = 1#1), ∀ a, (k0_off72 arg22_r0) a + S1x1024x128.size a ≤ S2x1024x512.size a)
def k0_chk17_1 (arg17_r0 : BitVec 32) (arg19_r0 : BitVec 32) (arg21_r0 : BitVec 32) (arg22_r0 : BitVec 32) (v190_r0 : BitVec 32) (v193_r0 : BitVec 32) : Prop :=
  (∀ (k0_h13 : k0_cond13 v190_r0 v193_r0 = 1#1), ∀ (hinb : ∀ a, (k0_off72 arg22_r0) a + S1x1024x128.size a ≤ S2x1024x512.size a), (Rect.unit (s := S2x1024x512) (k0_off72 arg22_r0) S1x1024x128.size hinb).PackedRows (EltTy.packing .bf16))
def k0_chk17 (arg17_r0 : BitVec 32) (arg19_r0 : BitVec 32) (arg21_r0 : BitVec 32) (arg22_r0 : BitVec 32) (v190_r0 : BitVec 32) (v193_r0 : BitVec 32) : Prop :=
  k0_chk17_0 arg17_r0 arg19_r0 arg21_r0 arg22_r0 v190_r0 v193_r0 ∧
  k0_chk17_1 arg17_r0 arg19_r0 arg21_r0 arg22_r0 v190_r0 v193_r0
theorem k0_off48_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h10 : k0_cond10 v190_r0 v193_r0 = 1#1), ∀ a, (k0_off48 arg19_r0) a + S1x1024x1024.size a ≤ S2x1024x1024.size a := fun arg17_r0 arg19_r0 arg21_r0 arg22_r0 v190_r0 v193_r0 k0_hw17 k0_h10 => k0_hw17.1.1 k0_h10
theorem k0_off49_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h10 : k0_cond10 v190_r0 v193_r0 = 1#1), ∀ a, (k0_off49 arg17_r0) a + S1x1024x1024.size a ≤ S2x1024x1024.size a := fun arg17_r0 arg19_r0 arg21_r0 arg22_r0 v190_r0 v193_r0 k0_hw17 k0_h10 => k0_hw17.1.2.1 k0_h10
theorem k0_off50_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h10 : k0_cond10 v190_r0 v193_r0 = 1#1), ∀ a, (k0_off50 arg21_r0) a + S1x576x1024.size a ≤ S2x576x1024.size a := fun arg17_r0 arg19_r0 arg21_r0 arg22_r0 v190_r0 v193_r0 k0_hw17 k0_h10 => k0_hw17.1.2.2.1 k0_h10
theorem k0_off51_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h11 : k0_cond11 v190_r0 v193_r0 = 1#1), ∀ a, (k0_off51 arg19_r0) a + S1x1024x1024.size a ≤ S2x1024x1024.size a := fun arg17_r0 arg19_r0 arg21_r0 arg22_r0 v190_r0 v193_r0 k0_hw17 k0_h11 => k0_hw17.1.2.2.2.1 k0_h11
theorem k0_off52_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h11 : k0_cond11 v190_r0 v193_r0 = 1#1), ∀ a, (k0_off52 arg17_r0) a + S1x1024x1024.size a ≤ S2x1024x1024.size a := fun arg17_r0 arg19_r0 arg21_r0 arg22_r0 v190_r0 v193_r0 k0_hw17 k0_h11 => k0_hw17.1.2.2.2.2.1 k0_h11
theorem k0_off53_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h11 : k0_cond11 v190_r0 v193_r0 = 1#1), ∀ a, (k0_off53 arg21_r0) a + S1x576x1024.size a ≤ S2x576x1024.size a := fun arg17_r0 arg19_r0 arg21_r0 arg22_r0 v190_r0 v193_r0 k0_hw17 k0_h11 => k0_hw17.1.2.2.2.2.2.1 k0_h11
theorem k0_off54_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off54 arg19_r0) a + S1x1024x1024.size a ≤ S2x1024x1024.size a := fun arg17_r0 arg19_r0 arg21_r0 arg22_r0 v190_r0 v193_r0 k0_hw17 k0_h12 => k0_hw17.1.2.2.2.2.2.2.1 k0_h12
theorem k0_off55_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off55 arg17_r0) a + S1x1024x1024.size a ≤ S2x1024x1024.size a := fun arg17_r0 arg19_r0 arg21_r0 arg22_r0 v190_r0 v193_r0 k0_hw17 k0_h12 => k0_hw17.1.2.2.2.2.2.2.2.1 k0_h12
theorem k0_off56_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off56 arg21_r0) a + S1x576x1024.size a ≤ S2x576x1024.size a := fun arg17_r0 arg19_r0 arg21_r0 arg22_r0 v190_r0 v193_r0 k0_hw17 k0_h12 => k0_hw17.1.2.2.2.2.2.2.2.2.1 k0_h12
theorem k0_off57_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off57 arg22_r0) a + S1x1024x512.size a ≤ S2x1024x512.size a := fun arg17_r0 arg19_r0 arg21_r0 arg22_r0 v190_r0 v193_r0 k0_hw17 k0_h12 => k0_hw17.1.2.2.2.2.2.2.2.2.2.1 k0_h12
theorem k0_off58_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off58 arg22_r0) a + S1x1024x128.size a ≤ S2x1024x512.size a := fun arg17_r0 arg19_r0 arg21_r0 arg22_r0 v190_r0 v193_r0 k0_hw17 k0_h12 => k0_hw17.1.2.2.2.2.2.2.2.2.2.2.1 k0_h12
theorem k0_off58_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), (Rect.unit (s := S2x1024x512) (k0_off58 arg22_r0) S1x1024x128.size (k0_off58_inb arg17_r0 arg19_r0 arg21_r0 arg22_r0 v190_r0 v193_r0 k0_hw17 k0_h12)).PackedRows (EltTy.packing .bf16) := fun arg17_r0 arg19_r0 arg21_r0 arg22_r0 v190_r0 v193_r0 k0_hw17 k0_h12 => k0_hw17.1.2.2.2.2.2.2.2.2.2.2.2.1 k0_h12 (k0_off58_inb arg17_r0 arg19_r0 arg21_r0 arg22_r0 v190_r0 v193_r0 k0_hw17 k0_h12)
theorem k0_off59_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off59 arg19_r0) a + S1x1024x1024.size a ≤ S2x1024x1024.size a := fun arg17_r0 arg19_r0 arg21_r0 arg22_r0 v190_r0 v193_r0 k0_hw17 k0_h12 => k0_hw17.1.2.2.2.2.2.2.2.2.2.2.2.2.1 k0_h12
theorem k0_off60_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off60 arg17_r0) a + S1x1024x1024.size a ≤ S2x1024x1024.size a := fun arg17_r0 arg19_r0 arg21_r0 arg22_r0 v190_r0 v193_r0 k0_hw17 k0_h12 => k0_hw17.1.2.2.2.2.2.2.2.2.2.2.2.2.2.1 k0_h12
theorem k0_off61_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off61 arg21_r0) a + S1x576x1024.size a ≤ S2x576x1024.size a := fun arg17_r0 arg19_r0 arg21_r0 arg22_r0 v190_r0 v193_r0 k0_hw17 k0_h12 => k0_hw17.1.2.2.2.2.2.2.2.2.2.2.2.2.2.2.1 k0_h12
theorem k0_off62_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off62 arg22_r0) a + S1x1024x128.size a ≤ S2x1024x512.size a := fun arg17_r0 arg19_r0 arg21_r0 arg22_r0 v190_r0 v193_r0 k0_hw17 k0_h12 => k0_hw17.1.2.2.2.2.2.2.2.2.2.2.2.2.2.2.2.1 k0_h12
theorem k0_off62_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), (Rect.unit (s := S2x1024x512) (k0_off62 arg22_r0) S1x1024x128.size (k0_off62_inb arg17_r0 arg19_r0 arg21_r0 arg22_r0 v190_r0 v193_r0 k0_hw17 k0_h12)).PackedRows (EltTy.packing .bf16) := fun arg17_r0 arg19_r0 arg21_r0 arg22_r0 v190_r0 v193_r0 k0_hw17 k0_h12 => k0_hw17.1.2.2.2.2.2.2.2.2.2.2.2.2.2.2.2.2.1 k0_h12 (k0_off62_inb arg17_r0 arg19_r0 arg21_r0 arg22_r0 v190_r0 v193_r0 k0_hw17 k0_h12)
theorem k0_off63_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off63 arg22_r0) a + S1x1024x128.size a ≤ S2x1024x512.size a := fun arg17_r0 arg19_r0 arg21_r0 arg22_r0 v190_r0 v193_r0 k0_hw17 k0_h12 => k0_hw17.1.2.2.2.2.2.2.2.2.2.2.2.2.2.2.2.2.2.1 k0_h12
theorem k0_off63_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), (Rect.unit (s := S2x1024x512) (k0_off63 arg22_r0) S1x1024x128.size (k0_off63_inb arg17_r0 arg19_r0 arg21_r0 arg22_r0 v190_r0 v193_r0 k0_hw17 k0_h12)).PackedRows (EltTy.packing .bf16) := fun arg17_r0 arg19_r0 arg21_r0 arg22_r0 v190_r0 v193_r0 k0_hw17 k0_h12 => k0_hw17.1.2.2.2.2.2.2.2.2.2.2.2.2.2.2.2.2.2.2.1 k0_h12 (k0_off63_inb arg17_r0 arg19_r0 arg21_r0 arg22_r0 v190_r0 v193_r0 k0_hw17 k0_h12)
theorem k0_off64_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), ∀ a, (k0_off64 arg22_r0) a + S1x1024x128.size a ≤ S2x1024x512.size a := fun arg17_r0 arg19_r0 arg21_r0 arg22_r0 v190_r0 v193_r0 k0_hw17 k0_h12 => k0_hw17.1.2.2.2.2.2.2.2.2.2.2.2.2.2.2.2.2.2.2.2.1 k0_h12
theorem k0_off64_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h12 : k0_cond12 v190_r0 v193_r0 = 1#1), (Rect.unit (s := S2x1024x512) (k0_off64 arg22_r0) S1x1024x128.size (k0_off64_inb arg17_r0 arg19_r0 arg21_r0 arg22_r0 v190_r0 v193_r0 k0_hw17 k0_h12)).PackedRows (EltTy.packing .bf16) := fun arg17_r0 arg19_r0 arg21_r0 arg22_r0 v190_r0 v193_r0 k0_hw17 k0_h12 => k0_hw17.1.2.2.2.2.2.2.2.2.2.2.2.2.2.2.2.2.2.2.2.2.1 k0_h12 (k0_off64_inb arg17_r0 arg19_r0 arg21_r0 arg22_r0 v190_r0 v193_r0 k0_hw17 k0_h12)
theorem k0_off65_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off65 arg19_r0) a + S1x1024x1024.size a ≤ S2x1024x1024.size a := fun arg17_r0 arg19_r0 arg21_r0 arg22_r0 v190_r0 v193_r0 k0_hw17 k0_h13 => k0_hw17.1.2.2.2.2.2.2.2.2.2.2.2.2.2.2.2.2.2.2.2.2.2.1 k0_h13
theorem k0_off66_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off66 arg17_r0) a + S1x1024x1024.size a ≤ S2x1024x1024.size a := fun arg17_r0 arg19_r0 arg21_r0 arg22_r0 v190_r0 v193_r0 k0_hw17 k0_h13 => k0_hw17.1.2.2.2.2.2.2.2.2.2.2.2.2.2.2.2.2.2.2.2.2.2.2.1 k0_h13
theorem k0_off67_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off67 arg21_r0) a + S1x576x1024.size a ≤ S2x576x1024.size a := fun arg17_r0 arg19_r0 arg21_r0 arg22_r0 v190_r0 v193_r0 k0_hw17 k0_h13 => k0_hw17.1.2.2.2.2.2.2.2.2.2.2.2.2.2.2.2.2.2.2.2.2.2.2.2.1 k0_h13
theorem k0_off68_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off68 arg22_r0) a + S1x1024x512.size a ≤ S2x1024x512.size a := fun arg17_r0 arg19_r0 arg21_r0 arg22_r0 v190_r0 v193_r0 k0_hw17 k0_h13 => k0_hw17.1.2.2.2.2.2.2.2.2.2.2.2.2.2.2.2.2.2.2.2.2.2.2.2.2.1 k0_h13
theorem k0_off69_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off69 arg22_r0) a + S1x1024x128.size a ≤ S2x1024x512.size a := fun arg17_r0 arg19_r0 arg21_r0 arg22_r0 v190_r0 v193_r0 k0_hw17 k0_h13 => k0_hw17.1.2.2.2.2.2.2.2.2.2.2.2.2.2.2.2.2.2.2.2.2.2.2.2.2.2.1 k0_h13
theorem k0_off69_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), (Rect.unit (s := S2x1024x512) (k0_off69 arg22_r0) S1x1024x128.size (k0_off69_inb arg17_r0 arg19_r0 arg21_r0 arg22_r0 v190_r0 v193_r0 k0_hw17 k0_h13)).PackedRows (EltTy.packing .bf16) := fun arg17_r0 arg19_r0 arg21_r0 arg22_r0 v190_r0 v193_r0 k0_hw17 k0_h13 => k0_hw17.1.2.2.2.2.2.2.2.2.2.2.2.2.2.2.2.2.2.2.2.2.2.2.2.2.2.2.1 k0_h13 (k0_off69_inb arg17_r0 arg19_r0 arg21_r0 arg22_r0 v190_r0 v193_r0 k0_hw17 k0_h13)
theorem k0_off70_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off70 arg22_r0) a + S1x1024x128.size a ≤ S2x1024x512.size a := fun arg17_r0 arg19_r0 arg21_r0 arg22_r0 v190_r0 v193_r0 k0_hw17 k0_h13 => k0_hw17.1.2.2.2.2.2.2.2.2.2.2.2.2.2.2.2.2.2.2.2.2.2.2.2.2.2.2.2.1 k0_h13
theorem k0_off70_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), (Rect.unit (s := S2x1024x512) (k0_off70 arg22_r0) S1x1024x128.size (k0_off70_inb arg17_r0 arg19_r0 arg21_r0 arg22_r0 v190_r0 v193_r0 k0_hw17 k0_h13)).PackedRows (EltTy.packing .bf16) := fun arg17_r0 arg19_r0 arg21_r0 arg22_r0 v190_r0 v193_r0 k0_hw17 k0_h13 => k0_hw17.1.2.2.2.2.2.2.2.2.2.2.2.2.2.2.2.2.2.2.2.2.2.2.2.2.2.2.2.2.1 k0_h13 (k0_off70_inb arg17_r0 arg19_r0 arg21_r0 arg22_r0 v190_r0 v193_r0 k0_hw17 k0_h13)
theorem k0_off71_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off71 arg22_r0) a + S1x1024x128.size a ≤ S2x1024x512.size a := fun arg17_r0 arg19_r0 arg21_r0 arg22_r0 v190_r0 v193_r0 k0_hw17 k0_h13 => k0_hw17.1.2.2.2.2.2.2.2.2.2.2.2.2.2.2.2.2.2.2.2.2.2.2.2.2.2.2.2.2.2.1 k0_h13
theorem k0_off71_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), (Rect.unit (s := S2x1024x512) (k0_off71 arg22_r0) S1x1024x128.size (k0_off71_inb arg17_r0 arg19_r0 arg21_r0 arg22_r0 v190_r0 v193_r0 k0_hw17 k0_h13)).PackedRows (EltTy.packing .bf16) := fun arg17_r0 arg19_r0 arg21_r0 arg22_r0 v190_r0 v193_r0 k0_hw17 k0_h13 => k0_hw17.1.2.2.2.2.2.2.2.2.2.2.2.2.2.2.2.2.2.2.2.2.2.2.2.2.2.2.2.2.2.2.1 k0_h13 (k0_off71_inb arg17_r0 arg19_r0 arg21_r0 arg22_r0 v190_r0 v193_r0 k0_hw17 k0_h13)
theorem k0_off72_inb : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), ∀ a, (k0_off72 arg22_r0) a + S1x1024x128.size a ≤ S2x1024x512.size a := fun arg17_r0 arg19_r0 arg21_r0 arg22_r0 v190_r0 v193_r0 k0_hw17 k0_h13 => k0_hw17.1.2.2.2.2.2.2.2.2.2.2.2.2.2.2.2.2.2.2.2.2.2.2.2.2.2.2.2.2.2.2.2 k0_h13
theorem k0_off72_packedbf16 : ∀ (arg17_r0 : BitVec 32) (arg19_r0 : BitVec 32) (arg21_r0 : BitVec 32) (arg22_r0 : BitVec 32) (v190_r0 : BitVec 32) (v193_r0 : BitVec 32) (k0_hw17 : k0_chk17 arg17_r0 arg19_r0 arg21_r0 arg22_r0 v190_r0 v193_r0), ∀ (k0_h13 : k0_cond13 v190_r0 v193_r0 = 1#1), (Rect.unit (s := S2x1024x512) (k0_off72 arg22_r0) S1x1024x128.size (k0_off72_inb arg17_r0 arg19_r0 arg21_r0 arg22_r0 v190_r0 v193_r0 k0_hw17 k0_h13)).PackedRows (EltTy.packing .bf16) := fun arg17_r0 arg19_r0 arg21_r0 arg22_r0 v190_r0 v193_r0 k0_hw17 k0_h13 => k0_hw17.2 k0_h13 (k0_off72_inb arg17_r0 arg19_r0 arg21_r0 arg22_r0 v190_r0 v193_r0 k0_hw17 k0_h13)

def k0_off73 (arg24_r0 : BitVec 32) : Fin 1 → Nat :=
  let c0_i32_75_r0 : BitVec 32 := 0#32
  let v77_r0 : BitVec 32 := Scalar.addi arg24_r0 c0_i32_75_r0
  let v288_r0 : Index := Scalar.indexCast v77_r0
  ![v288_r0.toNat]
def k0_cond17 (k0_t1 : Fin k0_t1_loop.trips) (v136_r0 : BitVec 32) (v138_r0 : BitVec 32) : BitVec 1 :=
  let v238_r0 : BitVec 1 := Scalar.cmpi .ne v136_r0 v138_r0
  let c0_i32_44_r0 : BitVec 32 := 0#32
  let c1_i32_46_r0 : BitVec 32 := 1#32
  let arg15_r0 : BitVec 32 := Scf.iv c0_i32_44_r0 c1_i32_46_r0 k0_t1
  let c72_i32_74_r0 : BitVec 32 := 72#32
  let v76_r0 : BitVec 1 := Scalar.cmpi .eq arg15_r0 c72_i32_74_r0
  let v239_r0 : BitVec 1 := Scalar.ori v238_r0 v76_r0
  let v240_r0 : BitVec 32 := Scalar.extui v239_r0
  let c0_i32_155_r0 : BitVec 32 := 0#32
  let v241_r0 : BitVec 1 := Scalar.cmpi .ne v240_r0 c0_i32_155_r0
  v241_r0

def k0_off74 (arg22_r0 : BitVec 32) : Fin 1 → Nat :=
  let c2_i32_178_r0 : BitVec 32 := 2#32
  let v287_r0 : BitVec 32 := Scalar.remui arg22_r0 c2_i32_178_r0
  ![v287_r0.toNat]
def k0_off75 (v289_r0 : BitVec 32) : Fin 2 → Nat :=
  let c1024_i32_179_r0 : BitVec 32 := 1024#32
  let v290_r0 : BitVec 32 := Scalar.muli c1024_i32_179_r0 v289_r0
  let c0_i32_180_r0 : BitVec 32 := 0#32
  ![v290_r0.toNat, 0]

def k0_off76 (arg22_r0 : BitVec 32) : Fin 3 → Nat :=
  let c2_i32_178_r0 : BitVec 32 := 2#32
  let v287_r0 : BitVec 32 := Scalar.remui arg22_r0 c2_i32_178_r0
  let c0_i32_181_r0 : BitVec 32 := 0#32
  let c0_i32_182_r0 : BitVec 32 := 0#32
  ![v287_r0.toNat, 0, 0]

def k0_chk18 (k0_t1 : Fin k0_t1_loop.trips) (arg22_r0 : BitVec 32) (arg24_r0 : BitVec 32) (v136_r0 : BitVec 32) (v138_r0 : BitVec 32) : Prop :=
  (∀ (k0_h17 : k0_cond17 k0_t1 v136_r0 v138_r0 = 1#1), ∀ a, (k0_off73 arg24_r0) a + S1.size a ≤ S73.size a) ∧
  (∀ (k0_h17 : k0_cond17 k0_t1 v136_r0 v138_r0 = 1#1), ∀ a, (k0_off74 arg22_r0) a + S1.size a ≤ S2.size a) ∧
  (∀ (k0_h17 : k0_cond17 k0_t1 v136_r0 v138_r0 = 1#1), ∀ a, (k0_off76 arg22_r0) a + S1x1024x512.size a ≤ S2x1024x512.size a) ∧
  (∀ (k0_h17 : k0_cond17 k0_t1 v136_r0 v138_r0 = 1#1), ∀ (hinb : ∀ a, (k0_off76 arg22_r0) a + S1x1024x512.size a ≤ S2x1024x512.size a), (Rect.unit (s := S2x1024x512) (k0_off76 arg22_r0) S1x1024x512.size hinb).WholeWords (EltTy.packing .bf16))
theorem k0_off73_inb : ∀ (k0_t1 : Fin k0_t1_loop.trips) (arg22_r0 : BitVec 32) (arg24_r0 : BitVec 32) (v136_r0 : BitVec 32) (v138_r0 : BitVec 32) (k0_hw18 : k0_chk18 k0_t1 arg22_r0 arg24_r0 v136_r0 v138_r0), ∀ (k0_h17 : k0_cond17 k0_t1 v136_r0 v138_r0 = 1#1), ∀ a, (k0_off73 arg24_r0) a + S1.size a ≤ S73.size a := fun k0_t1 arg22_r0 arg24_r0 v136_r0 v138_r0 k0_hw18 k0_h17 => k0_hw18.1 k0_h17
theorem k0_off74_inb : ∀ (k0_t1 : Fin k0_t1_loop.trips) (arg22_r0 : BitVec 32) (arg24_r0 : BitVec 32) (v136_r0 : BitVec 32) (v138_r0 : BitVec 32) (k0_hw18 : k0_chk18 k0_t1 arg22_r0 arg24_r0 v136_r0 v138_r0), ∀ (k0_h17 : k0_cond17 k0_t1 v136_r0 v138_r0 = 1#1), ∀ a, (k0_off74 arg22_r0) a + S1.size a ≤ S2.size a := fun k0_t1 arg22_r0 arg24_r0 v136_r0 v138_r0 k0_hw18 k0_h17 => k0_hw18.2.1 k0_h17
theorem k0_off76_inb : ∀ (k0_t1 : Fin k0_t1_loop.trips) (arg22_r0 : BitVec 32) (arg24_r0 : BitVec 32) (v136_r0 : BitVec 32) (v138_r0 : BitVec 32) (k0_hw18 : k0_chk18 k0_t1 arg22_r0 arg24_r0 v136_r0 v138_r0), ∀ (k0_h17 : k0_cond17 k0_t1 v136_r0 v138_r0 = 1#1), ∀ a, (k0_off76 arg22_r0) a + S1x1024x512.size a ≤ S2x1024x512.size a := fun k0_t1 arg22_r0 arg24_r0 v136_r0 v138_r0 k0_hw18 k0_h17 => k0_hw18.2.2.1 k0_h17
theorem k0_off76_wordsbf16 : ∀ (k0_t1 : Fin k0_t1_loop.trips) (arg22_r0 : BitVec 32) (arg24_r0 : BitVec 32) (v136_r0 : BitVec 32) (v138_r0 : BitVec 32) (k0_hw18 : k0_chk18 k0_t1 arg22_r0 arg24_r0 v136_r0 v138_r0), ∀ (k0_h17 : k0_cond17 k0_t1 v136_r0 v138_r0 = 1#1), (Rect.unit (s := S2x1024x512) (k0_off76 arg22_r0) S1x1024x512.size (k0_off76_inb k0_t1 arg22_r0 arg24_r0 v136_r0 v138_r0 k0_hw18 k0_h17)).WholeWords (EltTy.packing .bf16) := fun k0_t1 arg22_r0 arg24_r0 v136_r0 v138_r0 k0_hw18 k0_h17 => k0_hw18.2.2.2 k0_h17 (k0_off76_inb k0_t1 arg22_r0 arg24_r0 v136_r0 v138_r0 k0_hw18 k0_h17)

def k0_chk19 (k0_t1 : Fin k0_t1_loop.trips) (v136_r0 : BitVec 32) (v138_r0 : BitVec 32) (v289_r0 : BitVec 32) : Prop :=
  (∀ (k0_h17 : k0_cond17 k0_t1 v136_r0 v138_r0 = 1#1), ∀ a, (k0_off75 v289_r0) a + S1024x512.size a ≤ S16384x512.size a) ∧
  (∀ (k0_h17 : k0_cond17 k0_t1 v136_r0 v138_r0 = 1#1), ∀ (hinb : ∀ a, (k0_off75 v289_r0) a + S1024x512.size a ≤ S16384x512.size a), (Rect.unit (s := S16384x512) (k0_off75 v289_r0) S1024x512.size hinb).WholeWords (EltTy.packing .bf16))
theorem k0_off75_inb : ∀ (k0_t1 : Fin k0_t1_loop.trips) (v136_r0 : BitVec 32) (v138_r0 : BitVec 32) (v289_r0 : BitVec 32) (k0_hw19 : k0_chk19 k0_t1 v136_r0 v138_r0 v289_r0), ∀ (k0_h17 : k0_cond17 k0_t1 v136_r0 v138_r0 = 1#1), ∀ a, (k0_off75 v289_r0) a + S1024x512.size a ≤ S16384x512.size a := fun k0_t1 v136_r0 v138_r0 v289_r0 k0_hw19 k0_h17 => k0_hw19.1 k0_h17
theorem k0_off75_wordsbf16 : ∀ (k0_t1 : Fin k0_t1_loop.trips) (v136_r0 : BitVec 32) (v138_r0 : BitVec 32) (v289_r0 : BitVec 32) (k0_hw19 : k0_chk19 k0_t1 v136_r0 v138_r0 v289_r0), ∀ (k0_h17 : k0_cond17 k0_t1 v136_r0 v138_r0 = 1#1), (Rect.unit (s := S16384x512) (k0_off75 v289_r0) S1024x512.size (k0_off75_inb k0_t1 v136_r0 v138_r0 v289_r0 k0_hw19 k0_h17)).WholeWords (EltTy.packing .bf16) := fun k0_t1 v136_r0 v138_r0 v289_r0 k0_hw19 k0_h17 => k0_hw19.2 k0_h17 (k0_off75_inb k0_t1 v136_r0 v138_r0 v289_r0 k0_hw19 k0_h17)

def k0_off77 (arg24_r0 : BitVec 32) : Fin 1 → Nat :=
  let true_77_r0 : BitVec 1 := 1#1
  let c1_i32_76_r0 : BitVec 32 := 1#32
  let v78_r0 : BitVec 32 := Scalar.subi arg24_r0 c1_i32_76_r0
  let v79_r0 : BitVec 32 := Scalar.select true_77_r0 v78_r0 arg24_r0
  let c_m1_i32_78_r0 : BitVec 32 := 4294967295#32
  let v80_r0 : BitVec 1 := Scalar.cmpi .eq v79_r0 c_m1_i32_78_r0
  let c72_i32_79_r0 : BitVec 32 := 72#32
  let v81_r0 : BitVec 32 := Scalar.select v80_r0 c72_i32_79_r0 v79_r0
  let c0_i32_80_r0 : BitVec 32 := 0#32
  let v82_r0 : BitVec 32 := Scalar.addi v81_r0 c0_i32_80_r0
  let v288_r0 : Index := Scalar.indexCast v82_r0
  ![v288_r0.toNat]
def k0_cond21 (k0_t1 : Fin k0_t1_loop.trips) (v136_r0 : BitVec 32) (v168_r0 : BitVec 32) : BitVec 1 :=
  let v263_r0 : BitVec 1 := Scalar.cmpi .ne v136_r0 v168_r0
  let c0_i32_44_r0 : BitVec 32 := 0#32
  let c1_i32_46_r0 : BitVec 32 := 1#32
  let arg15_r0 : BitVec 32 := Scf.iv c0_i32_44_r0 c1_i32_46_r0 k0_t1
  let c0_i32_73_r0 : BitVec 32 := 0#32
  let v75_r0 : BitVec 1 := Scalar.cmpi .eq arg15_r0 c0_i32_73_r0
  let true_167_r0 : BitVec 1 := 1#1
  let v264_r0 : BitVec 1 := Scalar.xori v75_r0 true_167_r0
  let v265_r0 : BitVec 1 := Scalar.andi v263_r0 v264_r0
  let v266_r0 : BitVec 32 := Scalar.extui v265_r0
  let c0_i32_168_r0 : BitVec 32 := 0#32
  let v267_r0 : BitVec 1 := Scalar.cmpi .ne v266_r0 c0_i32_168_r0
  v267_r0

def k0_off78 (arg23_r0 : BitVec 32) : Fin 1 → Nat :=
  let c2_i32_178_r0 : BitVec 32 := 2#32
  let v287_r0 : BitVec 32 := Scalar.remui arg23_r0 c2_i32_178_r0
  ![v287_r0.toNat]
def k0_off79 (v289_r0 : BitVec 32) : Fin 2 → Nat :=
  let c1024_i32_179_r0 : BitVec 32 := 1024#32
  let v290_r0 : BitVec 32 := Scalar.muli c1024_i32_179_r0 v289_r0
  let c0_i32_180_r0 : BitVec 32 := 0#32
  ![v290_r0.toNat, 0]

def k0_off80 (arg23_r0 : BitVec 32) : Fin 3 → Nat :=
  let c2_i32_178_r0 : BitVec 32 := 2#32
  let v287_r0 : BitVec 32 := Scalar.remui arg23_r0 c2_i32_178_r0
  let c0_i32_181_r0 : BitVec 32 := 0#32
  let c0_i32_182_r0 : BitVec 32 := 0#32
  ![v287_r0.toNat, 0, 0]

def k0_chk20 (k0_t1 : Fin k0_t1_loop.trips) (arg23_r0 : BitVec 32) (arg24_r0 : BitVec 32) (v136_r0 : BitVec 32) (v168_r0 : BitVec 32) : Prop :=
  (∀ (k0_h21 : k0_cond21 k0_t1 v136_r0 v168_r0 = 1#1), ∀ a, (k0_off77 arg24_r0) a + S1.size a ≤ S73.size a) ∧
  (∀ (k0_h21 : k0_cond21 k0_t1 v136_r0 v168_r0 = 1#1), ∀ a, (k0_off78 arg23_r0) a + S1.size a ≤ S2.size a) ∧
  (∀ (k0_h21 : k0_cond21 k0_t1 v136_r0 v168_r0 = 1#1), ∀ a, (k0_off80 arg23_r0) a + S1x1024x512.size a ≤ S2x1024x512.size a) ∧
  (∀ (k0_h21 : k0_cond21 k0_t1 v136_r0 v168_r0 = 1#1), ∀ (hinb : ∀ a, (k0_off80 arg23_r0) a + S1x1024x512.size a ≤ S2x1024x512.size a), (Rect.unit (s := S2x1024x512) (k0_off80 arg23_r0) S1x1024x512.size hinb).WholeWords (EltTy.packing .bf16))
theorem k0_off77_inb : ∀ (k0_t1 : Fin k0_t1_loop.trips) (arg23_r0 : BitVec 32) (arg24_r0 : BitVec 32) (v136_r0 : BitVec 32) (v168_r0 : BitVec 32) (k0_hw20 : k0_chk20 k0_t1 arg23_r0 arg24_r0 v136_r0 v168_r0), ∀ (k0_h21 : k0_cond21 k0_t1 v136_r0 v168_r0 = 1#1), ∀ a, (k0_off77 arg24_r0) a + S1.size a ≤ S73.size a := fun k0_t1 arg23_r0 arg24_r0 v136_r0 v168_r0 k0_hw20 k0_h21 => k0_hw20.1 k0_h21
theorem k0_off78_inb : ∀ (k0_t1 : Fin k0_t1_loop.trips) (arg23_r0 : BitVec 32) (arg24_r0 : BitVec 32) (v136_r0 : BitVec 32) (v168_r0 : BitVec 32) (k0_hw20 : k0_chk20 k0_t1 arg23_r0 arg24_r0 v136_r0 v168_r0), ∀ (k0_h21 : k0_cond21 k0_t1 v136_r0 v168_r0 = 1#1), ∀ a, (k0_off78 arg23_r0) a + S1.size a ≤ S2.size a := fun k0_t1 arg23_r0 arg24_r0 v136_r0 v168_r0 k0_hw20 k0_h21 => k0_hw20.2.1 k0_h21
theorem k0_off80_inb : ∀ (k0_t1 : Fin k0_t1_loop.trips) (arg23_r0 : BitVec 32) (arg24_r0 : BitVec 32) (v136_r0 : BitVec 32) (v168_r0 : BitVec 32) (k0_hw20 : k0_chk20 k0_t1 arg23_r0 arg24_r0 v136_r0 v168_r0), ∀ (k0_h21 : k0_cond21 k0_t1 v136_r0 v168_r0 = 1#1), ∀ a, (k0_off80 arg23_r0) a + S1x1024x512.size a ≤ S2x1024x512.size a := fun k0_t1 arg23_r0 arg24_r0 v136_r0 v168_r0 k0_hw20 k0_h21 => k0_hw20.2.2.1 k0_h21
theorem k0_off80_wordsbf16 : ∀ (k0_t1 : Fin k0_t1_loop.trips) (arg23_r0 : BitVec 32) (arg24_r0 : BitVec 32) (v136_r0 : BitVec 32) (v168_r0 : BitVec 32) (k0_hw20 : k0_chk20 k0_t1 arg23_r0 arg24_r0 v136_r0 v168_r0), ∀ (k0_h21 : k0_cond21 k0_t1 v136_r0 v168_r0 = 1#1), (Rect.unit (s := S2x1024x512) (k0_off80 arg23_r0) S1x1024x512.size (k0_off80_inb k0_t1 arg23_r0 arg24_r0 v136_r0 v168_r0 k0_hw20 k0_h21)).WholeWords (EltTy.packing .bf16) := fun k0_t1 arg23_r0 arg24_r0 v136_r0 v168_r0 k0_hw20 k0_h21 => k0_hw20.2.2.2 k0_h21 (k0_off80_inb k0_t1 arg23_r0 arg24_r0 v136_r0 v168_r0 k0_hw20 k0_h21)

def k0_chk21 (k0_t1 : Fin k0_t1_loop.trips) (v136_r0 : BitVec 32) (v168_r0 : BitVec 32) (v289_r0 : BitVec 32) : Prop :=
  (∀ (k0_h21 : k0_cond21 k0_t1 v136_r0 v168_r0 = 1#1), ∀ a, (k0_off79 v289_r0) a + S1024x512.size a ≤ S16384x512.size a) ∧
  (∀ (k0_h21 : k0_cond21 k0_t1 v136_r0 v168_r0 = 1#1), ∀ (hinb : ∀ a, (k0_off79 v289_r0) a + S1024x512.size a ≤ S16384x512.size a), (Rect.unit (s := S16384x512) (k0_off79 v289_r0) S1024x512.size hinb).WholeWords (EltTy.packing .bf16))
theorem k0_off79_inb : ∀ (k0_t1 : Fin k0_t1_loop.trips) (v136_r0 : BitVec 32) (v168_r0 : BitVec 32) (v289_r0 : BitVec 32) (k0_hw21 : k0_chk21 k0_t1 v136_r0 v168_r0 v289_r0), ∀ (k0_h21 : k0_cond21 k0_t1 v136_r0 v168_r0 = 1#1), ∀ a, (k0_off79 v289_r0) a + S1024x512.size a ≤ S16384x512.size a := fun k0_t1 v136_r0 v168_r0 v289_r0 k0_hw21 k0_h21 => k0_hw21.1 k0_h21
theorem k0_off79_wordsbf16 : ∀ (k0_t1 : Fin k0_t1_loop.trips) (v136_r0 : BitVec 32) (v168_r0 : BitVec 32) (v289_r0 : BitVec 32) (k0_hw21 : k0_chk21 k0_t1 v136_r0 v168_r0 v289_r0), ∀ (k0_h21 : k0_cond21 k0_t1 v136_r0 v168_r0 = 1#1), (Rect.unit (s := S16384x512) (k0_off79 v289_r0) S1024x512.size (k0_off79_inb k0_t1 v136_r0 v168_r0 v289_r0 k0_hw21 k0_h21)).WholeWords (EltTy.packing .bf16) := fun k0_t1 v136_r0 v168_r0 v289_r0 k0_hw21 k0_h21 => k0_hw21.2 k0_h21 (k0_off79_inb k0_t1 v136_r0 v168_r0 v289_r0 k0_hw21 k0_h21)

def k0_off81 (v45_8_r0 : BitVec 32) : Fin 1 → Nat :=
  let true_49_r0 : BitVec 1 := 1#1
  let c1_i32_48_r0 : BitVec 32 := 1#32
  let v46_r0 : BitVec 32 := Scalar.subi v45_8_r0 c1_i32_48_r0
  let v47_r0 : BitVec 32 := Scalar.select true_49_r0 v46_r0 v45_8_r0
  let c_m1_i32_50_r0 : BitVec 32 := 4294967295#32
  let v48_r0 : BitVec 1 := Scalar.cmpi .eq v47_r0 c_m1_i32_50_r0
  let c72_i32_51_r0 : BitVec 32 := 72#32
  let v49_r0 : BitVec 32 := Scalar.select v48_r0 c72_i32_51_r0 v47_r0
  let c0_i32_52_r0 : BitVec 32 := 0#32
  let v50_r0 : BitVec 32 := Scalar.addi v49_r0 c0_i32_52_r0
  let v67_r0 : Index := Scalar.indexCast v50_r0
  ![v67_r0.toNat]

def k0_chk22 (v45_8_r0 : BitVec 32) : Prop :=
  (∀ a, (k0_off81 v45_8_r0) a + S1.size a ≤ S73.size a)
theorem k0_off81_inb : ∀ (v45_8_r0 : BitVec 32) (k0_hw22 : k0_chk22 v45_8_r0), ∀ a, (k0_off81 v45_8_r0) a + S1.size a ≤ S73.size a := fun v45_8_r0 k0_hw22 => k0_hw22

def k0_off82 (v45_7_r0 : BitVec 32) : Fin 1 → Nat :=
  let c2_i32_68_r0 : BitVec 32 := 2#32
  let v66_r0 : BitVec 32 := Scalar.remui v45_7_r0 c2_i32_68_r0
  ![v66_r0.toNat]

def k0_off83 (v68_r0 : BitVec 32) : Fin 2 → Nat :=
  let c1024_i32_69_r0 : BitVec 32 := 1024#32
  let v69_r0 : BitVec 32 := Scalar.muli c1024_i32_69_r0 v68_r0
  let c0_i32_70_r0 : BitVec 32 := 0#32
  ![v69_r0.toNat, 0]

def k0_off84 (v45_7_r0 : BitVec 32) : Fin 3 → Nat :=
  let c2_i32_68_r0 : BitVec 32 := 2#32
  let v66_r0 : BitVec 32 := Scalar.remui v45_7_r0 c2_i32_68_r0
  let c0_i32_71_r0 : BitVec 32 := 0#32
  let c0_i32_72_r0 : BitVec 32 := 0#32
  ![v66_r0.toNat, 0, 0]

def k0_chk23 (v45_7_r0 : BitVec 32) : Prop :=
  (∀ a, (k0_off82 v45_7_r0) a + S1.size a ≤ S2.size a) ∧
  (∀ a, (k0_off84 v45_7_r0) a + S1x1024x512.size a ≤ S2x1024x512.size a) ∧
  (∀ (hinb : ∀ a, (k0_off84 v45_7_r0) a + S1x1024x512.size a ≤ S2x1024x512.size a), (Rect.unit (s := S2x1024x512) (k0_off84 v45_7_r0) S1x1024x512.size hinb).WholeWords (EltTy.packing .bf16))
theorem k0_off82_inb : ∀ (v45_7_r0 : BitVec 32) (k0_hw23 : k0_chk23 v45_7_r0), ∀ a, (k0_off82 v45_7_r0) a + S1.size a ≤ S2.size a := fun v45_7_r0 k0_hw23 => k0_hw23.1
theorem k0_off84_inb : ∀ (v45_7_r0 : BitVec 32) (k0_hw23 : k0_chk23 v45_7_r0), ∀ a, (k0_off84 v45_7_r0) a + S1x1024x512.size a ≤ S2x1024x512.size a := fun v45_7_r0 k0_hw23 => k0_hw23.2.1
theorem k0_off84_wordsbf16 : ∀ (v45_7_r0 : BitVec 32) (k0_hw23 : k0_chk23 v45_7_r0), (Rect.unit (s := S2x1024x512) (k0_off84 v45_7_r0) S1x1024x512.size (k0_off84_inb v45_7_r0 k0_hw23)).WholeWords (EltTy.packing .bf16) := fun v45_7_r0 k0_hw23 => k0_hw23.2.2 (k0_off84_inb v45_7_r0 k0_hw23)

def k0_chk24 (v68_r0 : BitVec 32) : Prop :=
  (∀ a, (k0_off83 v68_r0) a + S1024x512.size a ≤ S16384x512.size a) ∧
  (∀ (hinb : ∀ a, (k0_off83 v68_r0) a + S1024x512.size a ≤ S16384x512.size a), (Rect.unit (s := S16384x512) (k0_off83 v68_r0) S1024x512.size hinb).WholeWords (EltTy.packing .bf16))
theorem k0_off83_inb : ∀ (v68_r0 : BitVec 32) (k0_hw24 : k0_chk24 v68_r0), ∀ a, (k0_off83 v68_r0) a + S1024x512.size a ≤ S16384x512.size a := fun v68_r0 k0_hw24 => k0_hw24.1
theorem k0_off83_wordsbf16 : ∀ (v68_r0 : BitVec 32) (k0_hw24 : k0_chk24 v68_r0), (Rect.unit (s := S16384x512) (k0_off83 v68_r0) S1024x512.size (k0_off83_inb v68_r0 k0_hw24)).WholeWords (EltTy.packing .bf16) := fun v68_r0 k0_hw24 => k0_hw24.2 (k0_off83_inb v68_r0 k0_hw24)

abbrev stage0_0 : Fin 1 → Memref sig .tc .smem S73 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S73 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S73 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S73 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S73 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S73 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S73 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x8192x4x192 : Shape := ⟨4, ![2, 8192, 4, 192]⟩
abbrev S2x8192x4x128 : Shape := ⟨4, ![2, 8192, 4, 128]⟩
abbrev S2x4x8192x8192 : Shape := ⟨4, ![2, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x512 : Shape := ⟨2, ![16384, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x4x192, .f32⟩
  | .hbm, ⟨1, _⟩ => ⟨S2x8192x4x192, .f32⟩
  | .hbm, ⟨2, _⟩ => ⟨S2x8192x4x128, .f32⟩
  | .hbm, ⟨3, _⟩ => ⟨S2x4x8192x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x4x8192x8192, .f32⟩
  | .hbm, ⟨9, _⟩ => ⟨S2x4x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x1x8192x8192, .i1⟩
  | .hbm, ⟨17, _⟩ => ⟨S_, .f32⟩
  | .hbm, ⟨18, _⟩ => ⟨S_, .f32⟩
  | .hbm, ⟨19, _⟩ => ⟨S2x4x8192x8192, .i1⟩
  | .hbm, ⟨20, _⟩ => ⟨S2x4x8192x8192, .f32⟩
  | .hbm, ⟨21, _⟩ => ⟨S2x4x8192x8192, .f32⟩
  | .hbm, ⟨22, _⟩ => ⟨S_, .f32⟩
  | .hbm, ⟨23, _⟩ => ⟨S2x4x8192, .f32⟩
  | .hbm, ⟨24, _⟩ => ⟨S_, .f32⟩
  | .hbm, ⟨25, _⟩ => ⟨S2x4x8192, .f32⟩
  | .hbm, ⟨26, _⟩ => ⟨S2x4x8192, .f32⟩
  | .hbm, ⟨27, _⟩ => ⟨S2x4x8192x1, .f32⟩
  | .hbm, ⟨28, _⟩ => ⟨S2x4x8192x8192, .f32⟩
  | .hbm, ⟨29, _⟩ => ⟨S2x4x8192x8192, .f32⟩
  | .hbm, ⟨30, _⟩ => ⟨S2x4x8192x8192, .f32⟩
  | .hbm, ⟨31, _⟩ => ⟨S_, .f32⟩
  | .hbm, ⟨32, _⟩ => ⟨S2x4x8192, .f32⟩
  | .hbm, ⟨33, _⟩ => ⟨S2x4x8192x1, .f32⟩
  | .hbm, ⟨34, _⟩ => ⟨S2x4x8192x8192, .f32⟩
  | .hbm, ⟨35, _⟩ => ⟨S2x4x8192x8192, .f32⟩
  | .hbm, ⟨36, _⟩ => ⟨S2x4x128x8192, .f32⟩
  | .hbm, ⟨37, _⟩ => ⟨S2x8192x4x128, .f32⟩
  | .hbm, ⟨38, _⟩ => ⟨S16384x512, .f32⟩
  | .hbm, ⟨39, _⟩ => ⟨S16384x512, .bf16⟩
  | _, _ => ⟨S2x8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S2x8192x512 : Shape := ⟨3, ![2, 8192, 512]⟩
abbrev S2x8192x1024 : Shape := ⟨3, ![2, 8192, 1024]⟩
abbrev S2x8192x256 : Shape := ⟨3, ![2, 8192, 256]⟩
abbrev S512 : Shape := ⟨1, ![512]⟩
abbrev S1024x1024 : Shape := ⟨2, ![1024, 1024]⟩
abbrev S1024 : Shape := ⟨1, ![1024]⟩
abbrev S256x1024 : Shape := ⟨2, ![256, 1024]⟩
abbrev S16384x512 : Shape := ⟨2, ![16384, 512]⟩
abbrev S_ : Shape := ⟨0, ![]⟩
abbrev S16384x1024 : Shape := ⟨2, ![16384, 1024]⟩
abbrev S16384x256 : Shape := ⟨2, ![16384, 256]⟩
abbrev S1x512 : Shape := ⟨2, ![1, 512]⟩
abbrev S1x1024 : Shape := ⟨2, ![1, 1024]⟩
abbrev S1024x512 : Shape := ⟨2, ![1024, 512]⟩
abbrev S1024x256 : Shape := ⟨2, ![1024, 256]⟩
abbrev S256x512 : Shape := ⟨2, ![256, 512]⟩
abbrev S256 : Shape := ⟨1, ![256]⟩
abbrev S256x1 : Shape := ⟨2, ![256, 1]⟩
abbrev S256x256 : Shape := ⟨2, ![256, 256]⟩

abbrev nBuf : Space → Nat
  | .hbm => 33
  | .vmem => 17
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S2x8192x256, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S16384x512, .f32⟩
  | .hbm, ⟨11, _⟩ => ⟨S16384x512, .bf16⟩
  | .hbm, ⟨12, _⟩ => ⟨S2x8192x512, .f32⟩
  | .hbm, ⟨13, _⟩ => ⟨S2x8192x512, .f32⟩
  | .hbm, ⟨14, _⟩ => ⟨S_, .f32⟩
  | .hbm, ⟨15, _⟩ => ⟨S2x8192x512, .f32⟩
  | .hbm, ⟨16, _⟩ => ⟨S2x8192x512, .f32⟩
  | .hbm, ⟨17, _⟩ => ⟨S_, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x512, .bf16⟩
  | .hbm, ⟨25, _⟩ => ⟨S16384x1024, .f32⟩
  | .hbm, ⟨26, _⟩ => ⟨S16384x256, .f32⟩
  | .hbm, ⟨27, _⟩ => ⟨S1x512, .f32⟩
  | .hbm, ⟨28, _⟩ => ⟨S1024x1024, .bf16⟩
  | .hbm, ⟨29, _⟩ => ⟨S1x1024, .f32⟩
  | .hbm, ⟨30, _⟩ => ⟨S1024x1024, .bf16⟩
  | .hbm, ⟨31, _⟩ => ⟨S256x1024, .bf16⟩
  | .hbm, ⟨32, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S1024x1024, .f32⟩
  | .local _ .vmem, ⟨16, _⟩ => ⟨S1024x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x8192x512 : Shape := ⟨3, ![2, 8192, 512]⟩
abbrev S2x8192x1024 : Shape := ⟨3, ![2, 8192, 1024]⟩
abbrev S2x8192x256 : Shape := ⟨3, ![2, 8192, 256]⟩
abbrev S512 : Shape := ⟨1, ![512]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S2x8192x256, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S2x8192x512, .f32⟩
  | .hbm, ⟨11, _⟩ => ⟨S2x8192x512, .f32⟩
  | .hbm, ⟨12, _⟩ => ⟨S_, .f32⟩
  | .hbm, ⟨13, _⟩ => ⟨S2x8192x512, .f32⟩
  | .hbm, ⟨14, _⟩ => ⟨S2x8192x512, .f32⟩
  | .hbm, ⟨15, _⟩ => ⟨S_, .f32⟩
  | .hbm, ⟨16, _⟩ => ⟨S2x8192x512, .f32⟩
  | .hbm, ⟨17, _⟩ => ⟨S2x8192x512, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x512, .f32⟩
  | .hbm, ⟨32, _⟩ => ⟨S2x8192x512, .f32⟩
  | .hbm, ⟨33, _⟩ => ⟨S1x1x512, .f32⟩
  | .hbm, ⟨34, _⟩ => ⟨S2x8192x512, .f32⟩
  | .hbm, ⟨35, _⟩ => ⟨S2x8192x512, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1024, .f32⟩
  | .hbm, ⟨60, _⟩ => ⟨S2x8192x1024, .f32⟩
  | .hbm, ⟨61, _⟩ => ⟨S_, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S16384x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Kernel3.lean ====
abbrev S1024x3008 : Shape := ⟨2, ![1024, 3008]⟩
abbrev S1024 : Shape := ⟨1, ![1024]⟩
abbrev S5 : Shape := ⟨1, ![5]⟩
abbrev S3008x1024 : Shape := ⟨2, ![3008, 1024]⟩
abbrev S1x1024 : Shape := ⟨2, ![1, 1024]⟩
abbrev S1024x512 : Shape := ⟨2, ![1024, 512]⟩
abbrev S1024x2560 : Shape := ⟨2, ![1024, 2560]⟩
abbrev S448x1024 : Shape := ⟨2, ![448, 1024]⟩
abbrev S256x1024 : Shape := ⟨2, ![256, 1024]⟩
abbrev S1 : Shape := ⟨1, ![1]⟩
abbrev S64x1024 : Shape := ⟨2, ![64, 1024]⟩
abbrev S512x1024 : Shape := ⟨2, ![512, 1024]⟩
abbrev S1024x256 : Shape := ⟨2, ![1024, 256]⟩
abbrev S1024x128 : Shape := ⟨2, ![1024, 128]⟩

abbrev nBuf : Space → Nat
  | .hbm => 8
  | .vmem => 9
  | .smem => 2
  | _ => 0

abbrev bufTy : (tb : Table) → Fin (tcTables nBuf tb) → BufTy
  | .hbm, ⟨0, _⟩ => ⟨S1024x3008, .f32⟩
  | .hbm, ⟨1, _⟩ => ⟨S1024, .f32⟩
  | .hbm, ⟨2, _⟩ => ⟨S3008x1024, .f32⟩
  | .hbm, ⟨3, _⟩ => ⟨S3008x1024, .f32⟩
  | .hbm, ⟨4, _⟩ => ⟨S3008x1024, .f32⟩
  | .hbm, ⟨5, _⟩ => ⟨S1x1024, .f32⟩
  | .hbm, ⟨6, _⟩ => ⟨S1024x512, .bf16⟩
  | .hbm, ⟨7, _⟩ => ⟨S1024x2560, .bf16⟩
  | .local _ .vmem, ⟨0, _⟩ => ⟨S448x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .smem, ⟨0, _⟩ => ⟨S5, .i32⟩
  | .local _ .smem, ⟨1, _⟩ => ⟨S5, .i32⟩
  | _, _ => ⟨S1024x3008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![5], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def k0_mult2 (pf : pre0.Contents (Elt F)) (i : grid0.Coords) : BitVec 32 :=
  let arg0 : BitVec 32 := BitVec.ofNat 32 (i 0).val
  let v0 : Index := Scalar.indexCast arg0
  let v1 : BitVec 32 := pf.atD 1 ![v0.toNat]
  v1

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S5) ![v0.toNat] S1.size (k0_off1_inb i)) numel1_S1
  let v2 : BitVec 32 := v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S5) ![v0.toNat] S1.size (k0_off1_inb i)) numel1_S1
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S1024x3008 : Shape := ⟨2, ![1024, 3008]⟩
abbrev S1024 : Shape := ⟨1, ![1024]⟩
abbrev S1024x1 : Shape := ⟨2, ![1024, 1]⟩
abbrev S1024x448 : Shape := ⟨2, ![1024, 448]⟩
abbrev S1024x512 : Shape := ⟨2, ![1024, 512]⟩
abbrev S_ : Shape := ⟨0, ![]⟩
abbrev S1024x64 : Shape := ⟨2, ![1024, 64]⟩
abbrev S1024x256 : Shape := ⟨2, ![1024, 256]⟩
abbrev S1024x2x1x128 : Shape := ⟨4, ![1024, 2, 1, 128]⟩
abbrev S1024x2x2x128 : Shape := ⟨4, ![1024, 2, 2, 128]⟩
abbrev S1024x4x1x128 : Shape := ⟨4, ![1024, 4, 1, 128]⟩
abbrev S1024x4x2x128 : Shape := ⟨4, ![1024, 4, 2, 128]⟩
abbrev S1024x1024 : Shape := ⟨2, ![1024, 1024]⟩
abbrev S1024x2048 : Shape := ⟨2, ![1024, 2048]⟩
abbrev S1024x2560 : Shape := ⟨2, ![1024, 2560]⟩

abbrev nBuf : Space → Nat
  | .hbm => 32
  | .vmem => 0
  | .smem => 0
  | _ => 0

abbrev bufTy : (tb : Table) → Fin (tcTables nBuf tb) → BufTy
  | .hbm, ⟨0, _⟩ => ⟨S1024x3008, .f32⟩
  | .hbm, ⟨1, _⟩ => ⟨S1024, .f32⟩
  | .hbm, ⟨2, _⟩ => ⟨S1024x1, .f32⟩
  | .hbm, ⟨3, _⟩ => ⟨S1024x3008, .f32⟩
  | .hbm, ⟨4, _⟩ => ⟨S1024x3008, .f32⟩
  | .hbm, ⟨5, _⟩ => ⟨S1024x448, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x64, .f32⟩
  | .hbm, ⟨13, _⟩ => ⟨S1024x512, .f32⟩
  | .hbm, ⟨14, _⟩ => ⟨S1024x256, .f32⟩
  | .hbm, ⟨15, _⟩ => ⟨S1024x256, .f32⟩
  | .hbm, ⟨16, _⟩ => ⟨S1024x2x1x128, .f32⟩
  | .hbm, ⟨17, _⟩ => ⟨S1024x2x1x128, .f32⟩
  | .hbm, ⟨18, _⟩ => ⟨S1024x2x2x128, .f32⟩
  | .hbm, ⟨19, _⟩ => ⟨S1024x512, .f32⟩
  | .hbm, ⟨20, _⟩ => ⟨S1024x4x1x128, .f32⟩
  | .hbm, ⟨21, _⟩ => ⟨S1024x4x1x128, .f32⟩
  | .hbm, ⟨22, _⟩ => ⟨S1024x4x2x128, .f32⟩
  | .hbm, ⟨23, _⟩ => ⟨S1024x1024, .f32⟩
  | .hbm, ⟨24, _⟩ => ⟨S1024x4x1x128, .f32⟩
  | .hbm, ⟨25, _⟩ => ⟨S1024x4x1x128, .f32⟩
  | .hbm, ⟨26, _⟩ => ⟨S1024x4x2x128, .f32⟩
  | .hbm, ⟨27, _⟩ => ⟨S1024x1024, .f32⟩
  | .hbm, ⟨28, _⟩ => ⟨S1024x2048, .f32⟩
  | .hbm, ⟨29, _⟩ => ⟨S1024x2560, .f32⟩
  | .hbm, ⟨30, _⟩ => ⟨S1024x512, .bf16⟩
  | .hbm, ⟨31, _⟩ => ⟨S1024x2560, .bf16⟩
  | _, _ => ⟨S1024x3008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Proof.Clean.lean ====
module

public import proofs.«01_k».proof.Proof.Gen.KernelIdeal.Frame
public import proofs.«01_k».proof.Proof.Gen.KernelIdeal.Skeleton

/-! One tile of the attention, written once for every head and every strip of 256 queries, and the
    four printed forms of it. -/

@[expose] public section

set_option synthInstance.maxSize 4096

noncomputable section

namespace Cert.KernelIdeal.Attn

open Idealize.ShloMosaic Idealize.SL.Sem Cert.KernelIdeal Cert.KernelIdeal.Gen

variable {F : FTy → Type} [FloatOps F] [Named F]

abbrev PG (F : FTy → Type) (α : Type) := Prog (TpuEff nD τ sig (Elt F) Λ₀ .tc) α
abbrev sh2 (a b : ℕ) : Shape := ⟨2, ![a, b]⟩
abbrev sh3 (a b : ℕ) : Shape := ⟨3, ![1, a, b]⟩

/-- What the operations on `R` rows of scores need of `R`. -/
structure RowF (R : ℕ) : Prop where
  le : R ≤ 1024
  pos : 0 < R
  cast : (sh3 R 256).ShapeCasts (sh2 R 256)
  castB : (sh2 R 256).ShapeCasts (sh3 R 256)
  castK : (sh2 R 256).ShapeCasts (sh2 R 256)
  castV : (sh2 144 R).ShapeCasts (sh2 144 R)
  bc : S1x256.Broadcasts (sh2 R 256)
  red : (sh2 R 256).Reduces [0] S256
  wfV : DotDims.WF (sh2 144 R) (sh2 R 256) S144x256 [1] [0] [0] [1] [] []
  wfK : DotDims.WF (sh2 R 256) S256x256 (sh2 R 256) [1] [0] [0] [1] [] []

theorem rowF256 : RowF 256 := ⟨by decide, by decide, shapeCasts_S1x256x256_S256x256, shapeCasts_S256x256_S1x256x256, shapeCasts_S256x256_S256x256, shapeCasts_S144x256_S144x256, broadcasts_S1x256_S256x256, reduces_S256x256_S256, dot_S144x256_S256x256_S144x256_1_0_0_1_n_n_wf, dot_S256x256_S256x256_S256x256_1_0_0_1_n_n_wf⟩
theorem rowF512 : RowF 512 := ⟨by decide, by decide, shapeCasts_S1x512x256_S512x256, shapeCasts_S512x256_S1x512x256, shapeCasts_S512x256_S512x256, shapeCasts_S144x512_S144x512, broadcasts_S1x256_S512x256, reduces_S512x256_S256, dot_S144x512_S512x256_S144x256_1_0_0_1_n_n_wf, dot_S512x256_S256x256_S512x256_1_0_0_1_n_n_wf⟩
theorem rowF768 : RowF 768 := ⟨by decide, by decide, shapeCasts_S1x768x256_S768x256, by decide, shapeCasts_S768x256_S768x256, shapeCasts_S144x768_S144x768, broadcasts_S1x256_S768x256, reduces_S768x256_S256, dot_S144x768_S768x256_S144x256_1_0_0_1_n_n_wf, dot_S768x256_S256x256_S768x256_1_0_0_1_n_n_wf⟩
theorem rowF1024 : RowF 1024 := ⟨by decide, by decide, shapeCasts_S1x1024x256_S1024x256, shapeCasts_S1024x256_S1x1024x256, shapeCasts_S1024x256_S1024x256, shapeCasts_S144x1024_S144x1024, broadcasts_S1x256_S1024x256, reduces_S1024x256_S256, dot_S144x1024_S1024x256_S144x256_1_0_0_1_n_n_wf, dot_S1024x256_S256x256_S1024x256_1_0_0_1_n_n_wf⟩

def dotV {R : ℕ} (h : RowF R) : DotDims (sh2 144 R) (sh2 R 256) S144x256 where
  lhsContracting := [1]
  rhsContracting := [0]
  lhsNonContracting := [0]
  rhsNonContracting := [1]
  lhsBatch := []
  rhsBatch := []
  wf := h.wfV

def dotK {R : ℕ} (h : RowF R) : DotDims (sh2 R 256) S256x256 (sh2 R 256) where
  lhsContracting := [1]
  rhsContracting := [0]
  lhsNonContracting := [0]
  rhsNonContracting := [1]
  lhsBatch := []
  rhsBatch := []
  wf := h.wfK

/-- The rows a strip of queries meets in a tile: all of them, or on the diagonal those up to the strip's end. -/
def rows (t : Bool) (c : Fin 4) : ℕ := bif t then 256 * (c.val + 1) else 1024

theorem rowF (t : Bool) (c : Fin 4) : RowF (rows t c) := by
  cases t
  · exact rowF1024
  · fin_cases c
    exacts [rowF256, rowF512, rowF768, rowF1024]

theorem pos2 {a b : ℕ} (ha : 0 < a) (hb : 0 < b) : 0 < (sh2 a b).numel := by
  simp [Shape.numel, Fin.prod_univ_succ, ha, hb]

theorem pos3 {a b : ℕ} (ha : 0 < a) (hb : 0 < b) : 0 < (sh3 a b).numel := by
  simp [Shape.numel, Fin.prod_univ_succ, ha, hb]

theorem inb_s (hd c : Fin 4) (r R : ℕ) (h : r + R ≤ 1024) :
    ∀ a, (![hd.val, r, 256 * c.val] : Fin 3 → ℕ) a + (sh3 R 256).size a ≤ S4x1024x1024.size a := by
  intro a; fin_cases a <;> simp <;> omega

theorem inb_m (hd c : Fin 4) :
    ∀ a, (![hd.val, 0, 256 * c.val] : Fin 3 → ℕ) a + S1x1x256.size a ≤ S4x1x1024.size a := by
  intro a; fin_cases a <;> simp <;> omega

theorem inb_a (hd c : Fin 4) :
    ∀ a, (![hd.val, 0, 256 * c.val] : Fin 3 → ℕ) a + S1x144x256.size a ≤ S4x144x1024.size a := by
  intro a; fin_cases a <;> simp <;> omega

theorem inb_ah (hd : Fin 4) :
    ∀ a, (![hd.val, 0, 0] : Fin 3 → ℕ) a + S1x144x1024.size a ≤ S4x144x1024.size a := by
  intro a; fin_cases a <;> simp <;> omega

theorem inb_k (hd : Fin 4) (R : ℕ) (h : R ≤ 1024) :
    ∀ a, (![0, 256 * hd.val] : Fin 2 → ℕ) a + (sh2 R 256).size a ≤ S1024x1024.size a := by
  intro a; fin_cases a <;> simp <;> omega

theorem inb_q (hd c : Fin 4) :
    ∀ a, (![256 * hd.val, 256 * c.val] : Fin 2 → ℕ) a + S256x256.size a ≤ S1024x1024.size a := by
  intro a; fin_cases a <;> simp <;> omega

theorem inb_v (hd : Fin 4) (R : ℕ) (h : R ≤ 1024) :
    ∀ a, (![144 * hd.val, 0] : Fin 2 → ℕ) a + (sh2 144 R).size a ≤ S576x1024.size a := by
  intro a; fin_cases a <;> simp <;> omega

theorem inb_o (hd : Fin 4) :
    ∀ a, (![0, 128 * hd.val] : Fin 2 → ℕ) a + S1024x128.size a ≤ S1024x512.size a := by
  intro a; fin_cases a <;> simp <;> omega

/-! ## The values -/

def mNew (m x : Vec F S1x1x256 .f32) : FVec F S1x256 .f32 :=
  maximumf (shapeCast S1x256 m shapeCasts_S1x1x256_S1x256) (shapeCast S1x256 x shapeCasts_S1x1x256_S1x256)
def mSt (m x : Vec F S1x1x256 .f32) : FVec F S1x1x256 .f32 := shapeCast S1x1x256 (mNew m x) shapeCasts_S1x256_S1x1x256
def alphaOf (m x : Vec F S1x1x256 .f32) : FVec F S1x256 .f32 :=
  exp2 (subf (shapeCast S1x256 m shapeCasts_S1x1x256_S1x256) (mNew m x))
def pOf {R : ℕ} (h : RowF R) (m x : Vec F S1x1x256 .f32) (s : Vec F (sh3 R 256) .f32) : FVec F (sh2 R 256) .bf16 :=
  exp2 (truncf .bf16 (subf (shapeCast (sh2 R 256) s h.cast) (broadcastTo (sh2 R 256) (mNew m x) h.bc)) bitsLt_bf16_f32)
def scOf {R : ℕ} (h : RowF R) (k : Vec F (sh2 R 256) .bf16) (q : Vec F S256x256 .bf16) : FVec F (sh2 R 256) .f32 :=
  matmul (dotK h) none (shapeCast (sh2 R 256) k h.castK) (shapeCast S256x256 q shapeCasts_S256x256_S256x256)
    (constant (sh2 R 256) .f32 0x00000000#32)
def sSt {R : ℕ} (h : RowF R) (x : FVec F (sh2 R 256) .f32) : FVec F (sh3 R 256) .f32 := shapeCast (sh3 R 256) x h.castB
def mxOf {R : ℕ} (h : RowF R) (x : FVec F (sh2 R 256) .f32) : FVec F S1x256 .f32 :=
  shapeCast S1x256 (multiReduction .maximumf [0] S256 x 0xFF800000#32 h.red (.inl rfl) rfl) shapeCasts_S256_S1x256
def xSt (x : FVec F S1x256 .f32) : FVec F S1x1x256 .f32 := shapeCast S1x1x256 x shapeCasts_S1x256_S1x1x256
def tri : IVec S256x256 1 :=
  cmpi .sle (iota .tc S256x256 32 [0] iota_S256x256_d0_w32) (iota .tc S256x256 32 [1] iota_S256x256_d1_w32)
def maskOf (x : FVec F S256x256 .f32) : FVec F S256x256 .f32 :=
  select tri x (broadcast S256x256 (Named.named κ "mask" 0xF149F2CA#32))
def accOf {R : ℕ} (h : RowF R) (al : FVec F S1x256 .f32) (p : FVec F (sh2 R 256) .bf16) (v : Vec F (sh2 144 R) .bf16)
    (a : Vec F S1x144x256 .f32) : FVec F S1x144x256 .f32 :=
  shapeCast S1x144x256 (addf (mulf (broadcastTo S144x256 al broadcasts_S1x256_S144x256) (shapeCast S144x256 a shapeCasts_S1x144x256_S144x256))
    (matmul (dotV h) none (shapeCast (sh2 144 R) v h.castV) p (constant S144x256 .f32 0x00000000#32))) shapeCasts_S144x256_S1x144x256
def oOf (a : Vec F S1x144x1024 .f32) : FVec F S1024x128 .bf16 :=
  truncf .bf16 (transpose S1024x128 [1, 0]
    (divf (extractStridedSlice S128x1024 ![0, 0] (shapeCast S144x1024 a shapeCasts_S1x144x1024_S144x1024) slices_S144x1024_o0_0_S128x1024)
      (broadcastTo S128x1024 (extractStridedSlice S1x1024 ![128, 0] (shapeCast S144x1024 a shapeCasts_S1x144x1024_S144x1024) slices_S144x1024_o128_0_S1x1024)
        broadcasts_S1x1024_S128x1024)) transposes_S128x1024_p1_0_S1024x128) bitsLt_bf16_f32
def oSt (x : FVec F S1024x128 .bf16) : Vec F S1x1024x128 .bf16 := shapeCast S1x1024x128 x shapeCasts_S1024x128_S1x1024x128

/-! ## A slot of a ring of two blocks, as a block -/

theorem inb_slot {a b n : ℕ} (hn : n < 2) :
    ∀ i, (![n, 0, 0] : Fin 3 → ℕ) i + (sh3 a b).size i ≤ (⟨3, ![2, a, b]⟩ : Shape).size i := by
  intro i; fin_cases i <;> simp <;> omega

def slotK (AL : Memref sig .tc .vmem S2x1024x1024 .bf16) (n : ℕ) (hn : n < 2) : Memref sig .tc .vmem S1024x1024 .bf16 :=
  (AL.slice (Rect.unit (s := S2x1024x1024) ![n, 0, 0] S1x1024x1024.size (inb_slot hn)) (fun _ => rfl)).squeeze S1024x1024 squeezes_S1x1024x1024_S1024x1024
def slotV (AL : Memref sig .tc .vmem S2x576x1024 .bf16) (n : ℕ) (hn : n < 2) : Memref sig .tc .vmem S576x1024 .bf16 :=
  (AL.slice (Rect.unit (s := S2x576x1024) ![n, 0, 0] S1x576x1024.size (inb_slot hn)) (fun _ => rfl)).squeeze S576x1024 squeezes_S1x576x1024_S576x1024
def slotO (AL : Memref sig .tc .vmem S2x1024x512 .bf16) (n : ℕ) (hn : n < 2) : Memref sig .tc .vmem S1024x512 .bf16 :=
  (AL.slice (Rect.unit (s := S2x1024x512) ![n, 0, 0] S1x1024x512.size (inb_slot hn)) (fun _ => rfl)).squeeze S1024x512 squeezes_S1x1024x512_S1024x512

/-- The slot a counter names. -/
def sl (x : BitVec 32) : ℕ := (Scalar.remui x 2#32).toNat

/-! ## The programs -/

section
variable (S : Memref sig .tc .vmem S4x1024x1024 .f32) (X : Memref sig .tc .vmem S4x1x1024 .f32)
  (M : Memref sig .tc .vmem S4x1x1024 .f32) (A : Memref sig .tc .vmem S4x144x1024 .f32)
  (Q : Memref sig .tc .vmem S1024x1024 .bf16) (K : Memref sig .tc .vmem S1024x1024 .bf16)
  (V : Memref sig .tc .vmem S576x1024 .bf16)

def uA (t : Bool) (hd c : Fin 4) : PG F (Σ' (_ : FVec F S1x256 .f32), FVec F (sh2 (rows t c) 256) .bf16) := do
  let m : Vec F S1x1x256 .f32 ← Prog.lift (.load M (Rect.unit (s := S4x1x1024) ![hd.val, 0, 256 * c.val] S1x1x256.size (inb_m hd c)).toLoadRect (View.loadsAt_vmem h_S1x1x256))
  let x : Vec F S1x1x256 .f32 ← Prog.lift (.load X (Rect.unit (s := S4x1x1024) ![hd.val, 0, 256 * c.val] S1x1x256.size (inb_m hd c)).toLoadRect (View.loadsAt_vmem h_S1x1x256))
  let _d : Vec F S1x1x256 .f32 ← Prog.lift (.load M (Rect.unit (s := S4x1x1024) ![hd.val, 0, 256 * c.val] S1x1x256.size (inb_m hd c)).toLoadRect (View.loadsAt_vmem h_S1x1x256))
  Prog.lift (.store M (Rect.unit (s := S4x1x1024) ![hd.val, 0, 256 * c.val] S1x1x256.size (inb_m hd c)) (mSt m x) Finset.univ (View.stores_vmem_bits_univ h_S1x1x256 rfl) (.inl rfl))
  let s : Vec F (sh3 (rows t c) 256) .f32 ← Prog.lift (.load S (Rect.unit (s := S4x1024x1024) ![hd.val, 0, 256 * c.val] (sh3 (rows t c) 256).size (inb_s hd c 0 _ (by have := (rowF t c).le; omega))).toLoadRect (View.loadsAt_vmem (pos3 (rowF t c).pos (by decide))))
  pure ⟨alphaOf m x, pOf (rowF t c) m x s⟩

def uF (hd c : Fin 4) : PG F (FVec F S1x256 .f32) := do
  let k : Vec F S1024x256 .bf16 ← Prog.lift (.load K (Rect.unit (s := S1024x1024) ![0, 256 * hd.val] S1024x256.size (inb_k hd 1024 le_rfl)).toLoadRect (View.loadsAt_vmem h_S1024x256))
  let q : Vec F S256x256 .bf16 ← Prog.lift (.load Q (Rect.unit (s := S1024x1024) ![256 * hd.val, 256 * c.val] S256x256.size (inb_q hd c)).toLoadRect (View.loadsAt_vmem h_S256x256))
  let _d : Vec F S1x1024x256 .f32 ← Prog.lift (.load S (Rect.unit (s := S4x1024x1024) ![hd.val, 0, 256 * c.val] S1x1024x256.size (inb_s hd c 0 1024 le_rfl)).toLoadRect (View.loadsAt_vmem h_S1x1024x256))
  Prog.lift (.store S (Rect.unit (s := S4x1024x1024) ![hd.val, 0, 256 * c.val] S1x1024x256.size (inb_s hd c 0 1024 le_rfl)) (sSt rowF1024 (scOf rowF1024 k q)) Finset.univ (View.stores_vmem_bits_univ h_S1x1024x256 rfl) (.inl rfl))
  pure (mxOf rowF1024 (scOf rowF1024 k q))

def uT0 (hd : Fin 4) : PG F (FVec F S1x256 .f32) := do
  let k : Vec F S256x256 .bf16 ← Prog.lift (.load K (Rect.unit (s := S1024x1024) ![0, 256 * hd.val] S256x256.size (inb_k hd 256 (by decide))).toLoadRect (View.loadsAt_vmem h_S256x256))
  let q : Vec F S256x256 .bf16 ← Prog.lift (.load Q (Rect.unit (s := S1024x1024) ![256 * hd.val, 0] S256x256.size (inb_q hd 0)).toLoadRect (View.loadsAt_vmem h_S256x256))
  let _d : Vec F S1x256x256 .f32 ← Prog.lift (.load S (Rect.unit (s := S4x1024x1024) ![hd.val, 0, 0] S1x256x256.size (inb_s hd 0 0 256 (by decide))).toLoadRect (View.loadsAt_vmem h_S1x256x256))
  Prog.lift (.store S (Rect.unit (s := S4x1024x1024) ![hd.val, 0, 0] S1x256x256.size (inb_s hd 0 0 256 (by decide))) (sSt rowF256 (maskOf (scOf rowF256 k q))) Finset.univ (View.stores_vmem_bits_univ h_S1x256x256 rfl) (.inl rfl))
  pure (mxOf rowF256 (maskOf (scOf rowF256 k q)))

/-- The facts of a strip whose `r` first rows are wholly below the diagonal and whose last 256 are cut by it. -/
structure CutF (r : ℕ) : Prop where
  rw : RowF r
  rw' : RowF (r + 256)
  slL : (sh2 (r + 256) 256).Slices ![r, 0] S256x256
  slF : (sh2 (r + 256) 256).Slices ![0, 0] (sh2 r 256)

theorem cut256 : CutF 256 := ⟨rowF256, rowF512, slices_S512x256_o256_0_S256x256, slices_S512x256_o0_0_S256x256⟩
theorem cut512 : CutF 512 := ⟨rowF512, rowF768, slices_S768x256_o512_0_S256x256, slices_S768x256_o0_0_S512x256⟩
theorem cut768 : CutF 768 := ⟨rowF768, rowF1024, slices_S1024x256_o768_0_S256x256, slices_S1024x256_o0_0_S768x256⟩

def lastOf {r : ℕ} (h : CutF r) (x : FVec F (sh2 (r + 256) 256) .f32) : FVec F S256x256 .f32 :=
  maskOf (extractStridedSlice S256x256 ![r, 0] x h.slL)
def firstOf {r : ℕ} (h : CutF r) (x : FVec F (sh2 (r + 256) 256) .f32) : FVec F (sh2 r 256) .f32 :=
  extractStridedSlice (sh2 r 256) ![0, 0] x h.slF

def uTc (hd c : Fin 4) {r : ℕ} (h : CutF r) : PG F (FVec F S1x256 .f32) := do
  let k : Vec F (sh2 (r + 256) 256) .bf16 ← Prog.lift (.load K (Rect.unit (s := S1024x1024) ![0, 256 * hd.val] (sh2 (r + 256) 256).size (inb_k hd _ h.rw'.le)).toLoadRect (View.loadsAt_vmem (pos2 h.rw'.pos (by decide))))
  let q : Vec F S256x256 .bf16 ← Prog.lift (.load Q (Rect.unit (s := S1024x1024) ![256 * hd.val, 256 * c.val] S256x256.size (inb_q hd c)).toLoadRect (View.loadsAt_vmem h_S256x256))
  let _d : Vec F S1x256x256 .f32 ← Prog.lift (.load S (Rect.unit (s := S4x1024x1024) ![hd.val, r, 256 * c.val] S1x256x256.size (inb_s hd c r 256 h.rw'.le)).toLoadRect (View.loadsAt_vmem h_S1x256x256))
  Prog.lift (.store S (Rect.unit (s := S4x1024x1024) ![hd.val, r, 256 * c.val] S1x256x256.size (inb_s hd c r 256 h.rw'.le)) (sSt rowF256 (lastOf h (scOf h.rw' k q))) Finset.univ (View.stores_vmem_bits_univ h_S1x256x256 rfl) (.inl rfl))
  let _e : Vec F (sh3 r 256) .f32 ← Prog.lift (.load S (Rect.unit (s := S4x1024x1024) ![hd.val, 0, 256 * c.val] (sh3 r 256).size (inb_s hd c 0 r (by have := h.rw.le; omega))).toLoadRect (View.loadsAt_vmem (pos3 h.rw.pos (by decide))))
  Prog.lift (.store S (Rect.unit (s := S4x1024x1024) ![hd.val, 0, 256 * c.val] (sh3 r 256).size (inb_s hd c 0 r (by have := h.rw.le; omega))) (sSt h.rw (firstOf h (scOf h.rw' k q))) Finset.univ (View.stores_vmem_bits_univ (pos3 h.rw.pos (by decide)) rfl) (.inl rfl))
  pure (maximumf (mxOf rowF256 (lastOf h (scOf h.rw' k q))) (mxOf h.rw (firstOf h (scOf h.rw' k q))))

def uS (t : Bool) (hd : Fin 4) : Fin 4 → PG F (FVec F S1x256 .f32)
  | 0 => bif t then uT0 S Q K hd else uF S Q K hd 0
  | 1 => bif t then uTc S Q K hd 1 cut256 else uF S Q K hd 1
  | 2 => bif t then uTc S Q K hd 2 cut512 else uF S Q K hd 2
  | 3 => bif t then uTc S Q K hd 3 cut768 else uF S Q K hd 3

def uB (t : Bool) (hd c : Fin 4) (al : FVec F S1x256 .f32) (p : FVec F (sh2 (rows t c) 256) .bf16) (x : FVec F S1x256 .f32) : PG F PUnit := do
  let _d : Vec F S1x1x256 .f32 ← Prog.lift (.load X (Rect.unit (s := S4x1x1024) ![hd.val, 0, 256 * c.val] S1x1x256.size (inb_m hd c)).toLoadRect (View.loadsAt_vmem h_S1x1x256))
  Prog.lift (.store X (Rect.unit (s := S4x1x1024) ![hd.val, 0, 256 * c.val] S1x1x256.size (inb_m hd c)) (xSt x) Finset.univ (View.stores_vmem_bits_univ h_S1x1x256 rfl) (.inl rfl))
  let v : Vec F (sh2 144 (rows t c)) .bf16 ← Prog.lift (.load V (Rect.unit (s := S576x1024) ![144 * hd.val, 0] (sh2 144 (rows t c)).size (inb_v hd _ (rowF t c).le)).toLoadRect (View.loadsAt_vmem (pos2 (by decide) (rowF t c).pos)))
  let a : Vec F S1x144x256 .f32 ← Prog.lift (.load A (Rect.unit (s := S4x144x1024) ![hd.val, 0, 256 * c.val] S1x144x256.size (inb_a hd c)).toLoadRect (View.loadsAt_vmem h_S1x144x256))
  let _e : Vec F S1x144x256 .f32 ← Prog.lift (.load A (Rect.unit (s := S4x144x1024) ![hd.val, 0, 256 * c.val] S1x144x256.size (inb_a hd c)).toLoadRect (View.loadsAt_vmem h_S1x144x256))
  Prog.lift (.store A (Rect.unit (s := S4x144x1024) ![hd.val, 0, 256 * c.val] S1x144x256.size (inb_a hd c)) (accOf (rowF t c) al p v a) Finset.univ (View.stores_vmem_bits_univ h_S1x144x256 rfl) (.inl rfl))

def unit (t t' : Bool) (hd c : Fin 4) : PG F PUnit := do
  let ap ← uA S X M t hd c
  let x ← uS S Q K t' hd c
  uB X A V t hd c ap.1 ap.2 x

def head (t t' : Bool) (hd : Fin 4) : PG F PUnit := do
  unit S X M A Q K V t t' hd 0
  unit S X M A Q K V t t' hd 1
  unit S X M A Q K V t t' hd 2
  unit S X M A Q K V t t' hd 3

/-- A tile that no block of queries ends with. -/
def tile (t' : Bool) : PG F PUnit := do
  head S X M A Q K V false t' 0
  head S X M A Q K V false t' 1
  head S X M A Q K V false t' 2
  head S X M A Q K V false t' 3

variable (O : Memref sig .tc .vmem S1024x512 .bf16) (OA : Memref sig .tc .vmem S2x1024x512 .bf16) (so : ℕ)
  (hin : ∀ hd : Fin 4, ∀ a, (![so, 0, 128 * hd.val] : Fin 3 → ℕ) a + S1x1024x128.size a ≤ S2x1024x512.size a)
  (hst : ∀ hd : Fin 4, (OA.access (Rect.unit (s := S2x1024x512) ![so, 0, 128 * hd.val] S1x1024x128.size (hin hd))).Stores Finset.univ)

def outp (hd : Fin 4) : PG F PUnit := do
  let a : Vec F S1x144x1024 .f32 ← Prog.lift (.load A (Rect.unit (s := S4x144x1024) ![hd.val, 0, 0] S1x144x1024.size (inb_ah hd)).toLoadRect (View.loadsAt_vmem h_S1x144x1024))
  let _d : Vec F S1024x128 .bf16 ← Prog.lift (.load O (Rect.unit (s := S1024x512) ![0, 128 * hd.val] S1024x128.size (inb_o hd)).toLoadRect (View.loadsAt_vmem h_S1024x128))
  Prog.lift (.store OA (Rect.unit (s := S2x1024x512) ![so, 0, 128 * hd.val] S1x1024x128.size (hin hd)) (oSt (oOf a)) Finset.univ (hst hd) (.inl rfl))

/-- The last tile of a block of queries, which also writes the block's result. -/
def last (t' : Bool) : PG F PUnit := do
  head S X M A Q K V true t' 0
  outp A O OA so hin hst 0
  head S X M A Q K V true t' 1
  outp A O OA so hin hst 1
  head S X M A Q K V true t' 2
  outp A O OA so hin hst 2
  head S X M A Q K V true t' 3
  outp A O OA so hin hst 3

end

end Cert.KernelIdeal.Attn
-- ==== Proof.Rules.lean ====
module

public import proofs.«01_k».proof.Proof.Clean
public import Idealize.ShloMosaic.Lib.Pipeline.Routed
public import Idealize.ShloMosaic.Lib.Pipeline.FrameBody
public import Idealize.ShloMosaic.Lib.Transfers

@[expose] public section

/-!
  What a piece of the kernel does, said as a deterministic run: from the resources `A` the program `p` ends at the value
  `r` with the resources `B`. Runs compose along the program, and a load or a store of an owned block is a run.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

/-- The weakest precondition of a program on core `c`. -/
abbrev WP (c : Dev nD) {α : Type} (p : PG F α) (Q : α → sProp 𝕄) : sProp 𝕄 :=
  wp frame (wpE (defs₀ (F := F)) Variants.none (c : Thread nD τ) none) Set.univ p Q

/-- From `A` the program ends at `r` with `B`. -/
def Runs (c : Dev nD) {α : Type} (A : sProp 𝕄) (p : PG F α) (r : α) (B : sProp 𝕄) : Prop :=
  A ⊢ WP c p (fun x => iprop(⌜x = r⌝ ∗ B))

variable {c : Dev nD} {α β : Type}

theorem Runs.wp {A B : sProp 𝕄} {p : PG F α} {r : α} (h : Runs c A p r B) {Q : α → sProp 𝕄} :
    A ⊢ iprop((B -∗ Q r) -∗ WP c p Q) := by
  iintro HA HK
  ihave H := (show A ⊢ WP c p (fun x => iprop(⌜x = r⌝ ∗ B)) from h) $$ HA
  iapply (wp_wand frame _ Set.univ) $$ H
  iintro %x ⟨%hx, HB⟩
  subst hx
  iapply HK; iexact HB

theorem Runs.bind {A B C : sProp 𝕄} {p : PG F α} {r : α} {k : α → PG F β} {r' : β}
    (h : Runs c A p r B) (h' : Runs c B (k r) r' C) : Runs c A (p >>= k) r' C := by
  unfold Runs WP
  rw [wp_bind]
  refine h.trans (wp_mono _ _ _ fun x => ?_)
  iintro ⟨%hx, HB⟩
  subst hx
  iapply (show B ⊢ WP c (k x) (fun x => iprop(⌜x = r'⌝ ∗ C)) from h'); iexact HB

theorem Runs.pure (A : sProp 𝕄) (r : α) : Runs c A (Pure.pure r : PG F α) r A := by
  unfold Runs WP
  rw [wp_pure]
  iintro H
  imodintro
  isplitr
  · ipureintro; rfl
  · iexact H

theorem Runs.frame {A B : sProp 𝕄} {p : PG F α} {r : α} (h : Runs c A p r B) (R : sProp 𝕄) :
    Runs c iprop(A ∗ R) p r iprop(B ∗ R) := by
  unfold Runs
  iintro ⟨HA, HR⟩
  iapply h.wp $$ HA
  iintro HB
  isplitr
  · ipureintro; rfl
  isplitl [HB] <;> iassumption

theorem Runs.conseq {A A' B B' : sProp 𝕄} {p : PG F α} {r : α} (h : Runs c A p r B) (hA : A' ⊢ A) (hB : B ⊢ B') :
    Runs c A' p r B' :=
  hA.trans (h.trans (wp_mono _ _ _ fun _ => sep_mono_r hB))

theorem runs_load {sp : CoreSpace} {s : Shape} {e : EltTy} (m : Memref sig .tc sp s e) (r : Rect s) (hl : m.view.LoadsAt r.toLoadRect)
    (q : PosShare TreeShare) (X : s.Idx → Elt F e) :
    Runs c (owns (c : Thread nD τ) m q X) (Prog.lift (.load m r.toLoadRect hl)) (View.ld X r) (owns (c : Thread nD τ) m q X) := by
  unfold Runs owns
  iintro ⟨%f, %hf, H⟩
  iapply (wp_load Variants.none (c : Thread nD τ) none Set.univ (S := m.view.set) (View.setOn_subset_set ..)) $$ H
  iintro H
  iapply le_wp_ret
  isplitr
  · ipureintro; subst hf; exact View.readAt_eq_ld _ _ _
  iexists f
  isplitr
  · ipureintro; exact hf
  · iexact H

theorem runs_store {sp : CoreSpace} {s : Shape} {e : EltTy} (m : Memref sig .tc sp s e) (r : Rect s) (w : r.shape.Idx → Elt F e)
    (hx : (m.access r).Stores Finset.univ) (hm : (Finset.univ : Finset r.shape.Idx) = Finset.univ ∨ ∀ a, r.stride a = 1)
    (X : s.Idx → Elt F e) :
    Runs c (owns (c : Thread nD τ) m fullShare X) (Prog.lift (.store m r w Finset.univ hx hm)) ⟨⟩
      (owns (c : Thread nD τ) m fullShare (r.overlay X w)) := by
  unfold Runs owns
  iintro ⟨%f, %hf, H⟩
  iapply (wp_store Variants.none (c : Thread nD τ) none Set.univ (m := m) (r := r) (w := w) (hx := hx) (hm := hm) (S := m.view.set) (f := f)
    ((View.setOn_subset_set ..).trans (View.set_slice_subset ..))) $$ H
  iintro H
  iapply le_wp_ret
  isplitr
  · ipureintro; rfl
  iexists _
  isplitr
  swap; · iexact H
  ipureintro
  subst hf
  funext j
  by_cases hj : j ∈ r.set
  · obtain ⟨i, rfl⟩ := r.exists_idx_of_mem hj
    change m.view.read (Elt F) _ (r.emb i) = r.overlay _ w (r.emb i)
    rw [Rect.overlay_emb]
    exact congrFun (View.read_write_univ (v := (m.view.slice r)) f w) i
  · rw [Rect.overlay_of_not_mem _ _ _ hj]
    exact View.read_slice_write_of_not_mem _ _ _ _ (by rw [Rect.map_emb_univ]; exact hj)

end Cert.KernelIdeal.Attn

end
-- ==== Proof.Tile.lean ====
module

public import proofs.«01_k».proof.Proof.Rules
public import Idealize.ShloMosaic.Lib.Pipeline.Regions

@[expose] public section

/-!
  One tile as a run: from the four scratch arrays at a state and the blocks of queries, keys and values, the tile's program
  ends with the arrays at the next state, a function of the old one and of the blocks.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Tactic

variable {F : FTy → Type} [FloatOps F] [Named F]

local notation "𝕄" => MT nD τ sig Unit (Elt F) ℕ (Pipeline.UC sig nD τ) ℕ

/-! ## The rectangles -/

abbrev rM (hd c : Fin 4) : Rect S4x1x1024 := Rect.unit (s := S4x1x1024) ![hd.val, 0, 256 * c.val] S1x1x256.size (inb_m hd c)
abbrev rS (hd c : Fin 4) (r R : ℕ) (h : r + R ≤ 1024) : Rect S4x1024x1024 :=
  Rect.unit (s := S4x1024x1024) ![hd.val, r, 256 * c.val] (sh3 R 256).size (inb_s hd c r R h)
abbrev rA (hd c : Fin 4) : Rect S4x144x1024 := Rect.unit (s := S4x144x1024) ![hd.val, 0, 256 * c.val] S1x144x256.size (inb_a hd c)
abbrev rAh (hd : Fin 4) : Rect S4x144x1024 := Rect.unit (s := S4x144x1024) ![hd.val, 0, 0] S1x144x1024.size (inb_ah hd)
abbrev rK (hd : Fin 4) (R : ℕ) (h : R ≤ 1024) : Rect S1024x1024 := Rect.unit (s := S1024x1024) ![0, 256 * hd.val] (sh2 R 256).size (inb_k hd R h)
abbrev rQ (hd c : Fin 4) : Rect S1024x1024 := Rect.unit (s := S1024x1024) ![256 * hd.val, 256 * c.val] S256x256.size (inb_q hd c)
abbrev rV (hd : Fin 4) (R : ℕ) (h : R ≤ 1024) : Rect S576x1024 := Rect.unit (s := S576x1024) ![144 * hd.val, 0] (sh2 144 R).size (inb_v hd R h)
abbrev rO (hd : Fin 4) : Rect S1024x512 := Rect.unit (s := S1024x512) ![0, 128 * hd.val] S1024x128.size (inb_o hd)

/-! ## The state of the scratch arrays, and the tile on it -/

/-- The four scratch arrays: scores, their maxima, the running maxima, the running sums. -/
structure TS (F : FTy → Type) where
  s : Vec F S4x1024x1024 .f32
  x : Vec F S4x1x1024 .f32
  m : Vec F S4x1x1024 .f32
  a : Vec F S4x144x1024 .f32

/-- A tile's blocks of queries, keys and values. -/
structure TB (F : FTy → Type) where
  q : Vec F S1024x1024 .bf16
  k : Vec F S1024x1024 .bf16
  v : Vec F S576x1024 .bf16

def stA (hd c : Fin 4) (st : TS F) : TS F :=
  { st with m := (rM hd c).overlay st.m (mSt (View.ld st.m (rM hd c)) (View.ld st.x (rM hd c))) }
def alA (hd c : Fin 4) (st : TS F) : FVec F S1x256 .f32 := alphaOf (View.ld st.m (rM hd c)) (View.ld st.x (rM hd c))
def pA (t : Bool) (hd c : Fin 4) (st : TS F) : FVec F (sh2 (rows t c) 256) .bf16 :=
  pOf (rowF t c) (View.ld st.m (rM hd c)) (View.ld st.x (rM hd c))
    (View.ld st.s (rS hd c 0 (rows t c) (by have := (rowF t c).le; omega)))

/-- The scores a strip computes. -/
def scB (b : TB F) (hd c : Fin 4) {R : ℕ} (h : RowF R) : FVec F (sh2 R 256) .f32 :=
  scOf h (View.ld b.k (rK hd R h.le)) (View.ld b.q (rQ hd c))

def sF (b : TB F) (hd c : Fin 4) (s : Vec F S4x1024x1024 .f32) : Vec F S4x1024x1024 .f32 :=
  (rS hd c 0 1024 le_rfl).overlay s (sSt rowF1024 (scB b hd c rowF1024))
def xF (b : TB F) (hd c : Fin 4) : FVec F S1x256 .f32 := mxOf rowF1024 (scB b hd c rowF1024)
def sT0 (b : TB F) (hd : Fin 4) (s : Vec F S4x1024x1024 .f32) : Vec F S4x1024x1024 .f32 :=
  (rS hd 0 0 256 (by decide)).overlay s (sSt rowF256 (maskOf (scB b hd 0 rowF256)))
def xT0 (b : TB F) (hd : Fin 4) : FVec F S1x256 .f32 := mxOf rowF256 (maskOf (scB b hd 0 rowF256))
def sTc (b : TB F) (hd c : Fin 4) {r : ℕ} (h : CutF r) (s : Vec F S4x1024x1024 .f32) : Vec F S4x1024x1024 .f32 :=
  (rS hd c 0 r (by have := h.rw.le; omega)).overlay
    ((rS hd c r 256 h.rw'.le).overlay s (sSt rowF256 (lastOf h (scB b hd c h.rw'))))
    (sSt h.rw (firstOf h (scB b hd c h.rw')))
def xTc (b : TB F) (hd c : Fin 4) {r : ℕ} (h : CutF r) : FVec F S1x256 .f32 :=
  maximumf (mxOf rowF256 (lastOf h (scB b hd c h.rw'))) (mxOf h.rw (firstOf h (scB b hd c h.rw')))

def sS (b : TB F) (t : Bool) (hd : Fin 4) (s : Vec F S4x1024x1024 .f32) : Fin 4 → Vec F S4x1024x1024 .f32
  | 0 => bif t then sT0 b hd s else sF b hd 0 s
  | 1 => bif t then sTc b hd 1 cut256 s else sF b hd 1 s
  | 2 => bif t then sTc b hd 2 cut512 s else sF b hd 2 s
  | 3 => bif t then sTc b hd 3 cut768 s else sF b hd 3 s
def xS (b : TB F) (t : Bool) (hd : Fin 4) : Fin 4 → FVec F S1x256 .f32
  | 0 => bif t then xT0 b hd else xF b hd 0
  | 1 => bif t then xTc b hd 1 cut256 else xF b hd 1
  | 2 => bif t then xTc b hd 2 cut512 else xF b hd 2
  | 3 => bif t then xTc b hd 3 cut768 else xF b hd 3
def stS (b : TB F) (t : Bool) (hd c : Fin 4) (st : TS F) : TS F := { st with s := sS b t hd st.s c }

def stB (b : TB F) (t : Bool) (hd c : Fin 4) (al : FVec F S1x256 .f32) (p : FVec F (sh2 (rows t c) 256) .bf16)
    (x : FVec F S1x256 .f32) (st : TS F) : TS F :=
  { st with
    x := (rM hd c).overlay st.x (xSt x)
    a := (rA hd c).overlay st.a (accOf (rowF t c) al p (View.ld b.v (rV hd _ (rowF t c).le)) (View.ld st.a (rA hd c))) }

def stU (b : TB F) (t t' : Bool) (hd c : Fin 4) (st : TS F) : TS F :=
  stB b t hd c (alA hd c st) (pA t hd c st) (xS b t' hd c) (stS b t' hd c (stA hd c st))
def stH (b : TB F) (t t' : Bool) (hd : Fin 4) (st : TS F) : TS F :=
  stU b t t' hd 3 (stU b t t' hd 2 (stU b t t' hd 1 (stU b t t' hd 0 st)))
/-- The state after a tile. -/
def stT (b : TB F) (t t' : Bool) (st : TS F) : TS F := stH b t t' 3 (stH b t t' 2 (stH b t t' 1 (stH b t t' 0 st)))

def oO (hd : Fin 4) (st : TS F) (o : Vec F S1024x512 .bf16) : Vec F S1024x512 .bf16 :=
  (rO hd).overlay o (oOf (View.ld st.a (rAh hd)))
/-- The block of the result a last tile writes. -/
def oT (b : TB F) (t' : Bool) (st : TS F) (o : Vec F S1024x512 .bf16) : Vec F S1024x512 .bf16 :=
  let s0 := stH b true t' 0 st
  let s1 := stH b true t' 1 s0
  let s2 := stH b true t' 2 s1
  let s3 := stH b true t' 3 s2
  oO 3 s3 (oO 2 s2 (oO 1 s1 (oO 0 s0 o)))

/-! ## The runs -/

section
variable (c : Dev nD) (S : Memref sig .tc .vmem S4x1024x1024 .f32) (X : Memref sig .tc .vmem S4x1x1024 .f32)
  (M : Memref sig .tc .vmem S4x1x1024 .f32) (A : Memref sig .tc .vmem S4x144x1024 .f32)
  (Q : Memref sig .tc .vmem S1024x1024 .bf16) (K : Memref sig .tc .vmem S1024x1024 .bf16)
  (V : Memref sig .tc .vmem S576x1024 .bf16)

/-- The arrays at a state and the blocks. -/
def T (st : TS F) (b : TB F) : sProp 𝕄 :=
  iprop(owns (c : Thread nD τ) S fullShare st.s ∗ owns (c : Thread nD τ) X fullShare st.x ∗ owns (c : Thread nD τ) M fullShare st.m
    ∗ owns (c : Thread nD τ) A fullShare st.a ∗ owns (c : Thread nD τ) Q fullShare b.q ∗ owns (c : Thread nD τ) K fullShare b.k
    ∗ owns (c : Thread nD τ) V fullShare b.v)

variable {c S X M A Q K V}

theorem loadS (st : TS F) (b : TB F) {r : Rect S4x1024x1024} {hl : S.view.LoadsAt r.toLoadRect} :
    Runs c (T c S X M A Q K V st b) (Prog.lift (.load S r.toLoadRect hl)) (View.ld st.s r) (T c S X M A Q K V st b) := by
  unfold Runs T
  iintro ⟨HS, HX, HM, HA, HQ, HK, HV⟩
  iapply (runs_load S r hl fullShare st.s).wp $$ HS
  iintro HS
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem storeS (st : TS F) (b : TB F) {r : Rect S4x1024x1024} {w : r.shape.Idx → Elt F .f32} {hx : (S.access r).Stores Finset.univ}
    {hm : (Finset.univ : Finset r.shape.Idx) = Finset.univ ∨ ∀ a, r.stride a = 1} :
    Runs c (T c S X M A Q K V st b) (Prog.lift (.store S r w Finset.univ hx hm)) ⟨⟩
      (T c S X M A Q K V { st with s := r.overlay st.s w } b) := by
  unfold Runs T
  iintro ⟨HS, HX, HM, HA, HQ, HK, HV⟩
  iapply (runs_store S r w hx hm st.s).wp $$ HS
  iintro HS
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem loadX (st : TS F) (b : TB F) {r : Rect S4x1x1024} {hl : X.view.LoadsAt r.toLoadRect} :
    Runs c (T c S X M A Q K V st b) (Prog.lift (.load X r.toLoadRect hl)) (View.ld st.x r) (T c S X M A Q K V st b) := by
  unfold Runs T
  iintro ⟨HS, HX, HM, HA, HQ, HK, HV⟩
  iapply (runs_load X r hl fullShare st.x).wp $$ HX
  iintro HX
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem storeX (st : TS F) (b : TB F) {r : Rect S4x1x1024} {w : r.shape.Idx → Elt F .f32} {hx : (X.access r).Stores Finset.univ}
    {hm : (Finset.univ : Finset r.shape.Idx) = Finset.univ ∨ ∀ a, r.stride a = 1} :
    Runs c (T c S X M A Q K V st b) (Prog.lift (.store X r w Finset.univ hx hm)) ⟨⟩
      (T c S X M A Q K V { st with x := r.overlay st.x w } b) := by
  unfold Runs T
  iintro ⟨HS, HX, HM, HA, HQ, HK, HV⟩
  iapply (runs_store X r w hx hm st.x).wp $$ HX
  iintro HX
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem loadM (st : TS F) (b : TB F) {r : Rect S4x1x1024} {hl : M.view.LoadsAt r.toLoadRect} :
    Runs c (T c S X M A Q K V st b) (Prog.lift (.load M r.toLoadRect hl)) (View.ld st.m r) (T c S X M A Q K V st b) := by
  unfold Runs T
  iintro ⟨HS, HX, HM, HA, HQ, HK, HV⟩
  iapply (runs_load M r hl fullShare st.m).wp $$ HM
  iintro HM
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem storeM (st : TS F) (b : TB F) {r : Rect S4x1x1024} {w : r.shape.Idx → Elt F .f32} {hx : (M.access r).Stores Finset.univ}
    {hm : (Finset.univ : Finset r.shape.Idx) = Finset.univ ∨ ∀ a, r.stride a = 1} :
    Runs c (T c S X M A Q K V st b) (Prog.lift (.store M r w Finset.univ hx hm)) ⟨⟩
      (T c S X M A Q K V { st with m := r.overlay st.m w } b) := by
  unfold Runs T
  iintro ⟨HS, HX, HM, HA, HQ, HK, HV⟩
  iapply (runs_store M r w hx hm st.m).wp $$ HM
  iintro HM
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem loadA (st : TS F) (b : TB F) {r : Rect S4x144x1024} {hl : A.view.LoadsAt r.toLoadRect} :
    Runs c (T c S X M A Q K V st b) (Prog.lift (.load A r.toLoadRect hl)) (View.ld st.a r) (T c S X M A Q K V st b) := by
  unfold Runs T
  iintro ⟨HS, HX, HM, HA, HQ, HK, HV⟩
  iapply (runs_load A r hl fullShare st.a).wp $$ HA
  iintro HA
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem storeA (st : TS F) (b : TB F) {r : Rect S4x144x1024} {w : r.shape.Idx → Elt F .f32} {hx : (A.access r).Stores Finset.univ}
    {hm : (Finset.univ : Finset r.shape.Idx) = Finset.univ ∨ ∀ a, r.stride a = 1} :
    Runs c (T c S X M A Q K V st b) (Prog.lift (.store A r w Finset.univ hx hm)) ⟨⟩
      (T c S X M A Q K V { st with a := r.overlay st.a w } b) := by
  unfold Runs T
  iintro ⟨HS, HX, HM, HA, HQ, HK, HV⟩
  iapply (runs_store A r w hx hm st.a).wp $$ HA
  iintro HA
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem loadQ (st : TS F) (b : TB F) {r : Rect S1024x1024} {hl : Q.view.LoadsAt r.toLoadRect} :
    Runs c (T c S X M A Q K V st b) (Prog.lift (.load Q r.toLoadRect hl)) (View.ld b.q r) (T c S X M A Q K V st b) := by
  unfold Runs T
  iintro ⟨HS, HX, HM, HA, HQ, HK, HV⟩
  iapply (runs_load Q r hl fullShare b.q).wp $$ HQ
  iintro HQ
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem loadK (st : TS F) (b : TB F) {r : Rect S1024x1024} {hl : K.view.LoadsAt r.toLoadRect} :
    Runs c (T c S X M A Q K V st b) (Prog.lift (.load K r.toLoadRect hl)) (View.ld b.k r) (T c S X M A Q K V st b) := by
  unfold Runs T
  iintro ⟨HS, HX, HM, HA, HQ, HK, HV⟩
  iapply (runs_load K r hl fullShare b.k).wp $$ HK
  iintro HK
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem loadV (st : TS F) (b : TB F) {r : Rect S576x1024} {hl : V.view.LoadsAt r.toLoadRect} :
    Runs c (T c S X M A Q K V st b) (Prog.lift (.load V r.toLoadRect hl)) (View.ld b.v r) (T c S X M A Q K V st b) := by
  unfold Runs T
  iintro ⟨HS, HX, HM, HA, HQ, HK, HV⟩
  iapply (runs_load V r hl fullShare b.v).wp $$ HV
  iintro HV
  isplitr; · ipureintro; rfl
  isplitl [HS]; · iexact HS
  isplitl [HX]; · iexact HX
  isplitl [HM]; · iexact HM
  isplitl [HA]; · iexact HA
  isplitl [HQ]; · iexact HQ
  isplitl [HK]; · iexact HK
  iexact HV

theorem Runs.pure_of {α : Type} {B C : sProp 𝕄} {r r' : α} (h : r = r') (h' : B = C) : Runs c B (Pure.pure r : PG F α) r' C := by
  subst h h'; exact Runs.pure _ _

theorem Runs.post {α : Type} {B C D : sProp 𝕄} {p : PG F α} {r : α} (h : Runs c B p r C) (h3 : C = D) : Runs c B p r D := by
  subst h3; exact h

theorem Runs.to {α : Type} {B C D : sProp 𝕄} {p p' : PG F α} {r r' : α} (h : Runs c B p r C) (h1 : p' = p) (h2 : r' = r) (h3 : D = C) :
    Runs c B p' r' D := by
  subst h1 h2 h3; exact h

theorem run_uA (t : Bool) (hd cc : Fin 4) (st : TS F) (b : TB F) :
    Runs c (T c S X M A Q K V st b) (uA S X M t hd cc) ⟨alA hd cc st, pA t hd cc st⟩ (T c S X M A Q K V (stA hd cc st) b) :=
  (loadM st b).bind <| (loadX st b).bind <| (loadM st b).bind <| (storeM st b).bind <| (loadS _ b).bind <| Runs.pure _ _

theorem run_uF (hd cc : Fin 4) (st : TS F) (b : TB F) :
    Runs c (T c S X M A Q K V st b) (uF S Q K hd cc) (xF b hd cc) (T c S X M A Q K V { st with s := sF b hd cc st.s } b) :=
  (loadK st b).bind <| (loadQ st b).bind <| (loadS st b).bind <| (storeS st b).bind <| Runs.pure _ _

theorem run_uT0 (hd : Fin 4) (st : TS F) (b : TB F) :
    Runs c (T c S X M A Q K V st b) (uT0 S Q K hd) (xT0 b hd) (T c S X M A Q K V { st with s := sT0 b hd st.s } b) :=
  (loadK st b).bind <| (loadQ st b).bind <| (loadS st b).bind <| (storeS st b).bind <| Runs.pure _ _

theorem run_uTc (hd cc : Fin 4) {r : ℕ} (h : CutF r) (st : TS F) (b : TB F) :
    Runs c (T c S X M A Q K V st b) (uTc S Q K hd cc h) (xTc b hd cc h) (T c S X M A Q K V { st with s := sTc b hd cc h st.s } b) := by
  unfold uTc sTc xTc scB
  refine (loadK st b).bind ?_
  refine (loadQ st b).bind ?_
  refine (loadS st b).bind ?_
  refine (storeS st b).bind ?_
  refine (loadS _ b).bind ?_
  refine (storeS _ b).bind ?_
  refine Runs.pure_of ?_ ?_ <;> chain_rfl

theorem run_uS : ∀ (t : Bool) (hd cc : Fin 4) (st : TS F) (b : TB F),
    Runs c (T c S X M A Q K V st b) (uS S Q K t hd cc) (xS b t hd cc) (T c S X M A Q K V (stS b t hd cc st) b)
  | false, hd, 0, st, b => (run_uF hd 0 st b).to (by chain_rfl) (by chain_rfl) (by chain_rfl)
  | false, hd, 1, st, b => (run_uF hd 1 st b).to (by chain_rfl) (by chain_rfl) (by chain_rfl)
  | false, hd, 2, st, b => (run_uF hd 2 st b).to (by chain_rfl) (by chain_rfl) (by chain_rfl)
  | false, hd, 3, st, b => (run_uF hd 3 st b).to (by chain_rfl) (by chain_rfl) (by chain_rfl)
  | true, hd, 0, st, b => (run_uT0 hd st b).to (by chain_rfl) (by chain_rfl) (by chain_rfl)
  | true, hd, 1, st, b => (run_uTc hd 1 cut256 st b).to (by chain_rfl) (by chain_rfl) (by chain_rfl)
  | true, hd, 2, st, b => (run_uTc hd 2 cut512 st b).to (by chain_rfl) (by chain_rfl) (by chain_rfl)
  | true, hd, 3, st, b => (run_uTc hd 3 cut768 st b).to (by chain_rfl) (by chain_rfl) (by chain_rfl)

theorem run_uB (t : Bool) (hd cc : Fin 4) (al : FVec F S1x256 .f32) (p : FVec F (sh2 (rows t cc) 256) .bf16) (x : FVec F S1x256 .f32)
    (st : TS F) (b : TB F) :
    Runs c (T c S X M A Q K V st b) (uB X A V t hd cc al p x) ⟨⟩ (T c S X M A Q K V (stB b t hd cc al p x st) b) := by
  unfold uB stB
  refine (loadX st b).bind ?_
  refine (storeX st b).bind ?_
  refine (loadV _ b).bind ?_
  refine (loadA _ b).bind ?_
  refine (loadA _ b).bind ?_
  refine (storeA _ b).post ?_
  chain_rfl

theorem run_unit (t t' : Bool) (hd cc : Fin 4) (st : TS F) (b : TB F) :
    Runs c (T c S X M A Q K V st b) (unit S X M A Q K V t t' hd cc) ⟨⟩ (T c S X M A Q K V (stU b t t' hd cc st) b) :=
  (run_uA t hd cc st b).bind <| (run_uS t' hd cc _ b).bind <| run_uB t hd cc _ _ _ _ b

theorem run_head (t t' : Bool) (hd : Fin 4) (st : TS F) (b : TB F) :
    Runs c (T c S X M A Q K V st b) (head S X M A Q K V t t' hd) ⟨⟩ (T c S X M A Q K V (stH b t t' hd st) b) :=
  (run_unit t t' hd 0 _ b).bind <| (run_unit t t' hd 1 _ b).bind <| (run_unit t t' hd 2 _ b).bind <| run_unit t t' hd 3 _ b

/-- A tile no block of queries ends with. -/
theorem run_tile (t' : Bool) (st : TS F) (b : TB F) :
    Runs c (T c S X M A Q K V st b) (tile S X M A Q K V t') ⟨⟩ (T c S X M A Q K V (stT b false t' st) b) :=
  (run_head false t' 0 _ b).bind <| (run_head false t' 1 _ b).bind <| (run_head false t' 2 _ b).bind <| run_head false t' 3 _ b

end

end Cert.KernelIdeal.Attn

end
-- ==== Proof.Outp.lean ====
module

public import proofs.«01_k».proof.Proof.Tile
public import Idealize.ShloMosaic.Lib.Pipeline.Value

@[expose] public section

/-! The last tile of a block of queries as a run: it also writes the block's result into its slot. -/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Tactic

variable {F : FTy → Type} [FloatOps F] [Named F]

local notation "𝕄" => MT nD τ sig Unit (Elt F) ℕ (Pipeline.UC sig nD τ) ℕ

section
variable {c : Dev nD} {S : Memref sig .tc .vmem S4x1024x1024 .f32} {X : Memref sig .tc .vmem S4x1x1024 .f32}
  {M : Memref sig .tc .vmem S4x1x1024 .f32} {A : Memref sig .tc .vmem S4x144x1024 .f32}
  {Q : Memref sig .tc .vmem S1024x1024 .bf16} {K : Memref sig .tc .vmem S1024x1024 .bf16}
  {V : Memref sig .tc .vmem S576x1024 .bf16}
  {OA : Memref sig .tc .vmem S2x1024x512 .bf16} {so : ℕ} {hso : so < 2}
  {hin : ∀ hd : Fin 4, ∀ a, (![so, 0, 128 * hd.val] : Fin 3 → ℕ) a + S1x1024x128.size a ≤ S2x1024x512.size a}
  {hst : ∀ hd : Fin 4, (OA.access (Rect.unit (s := S2x1024x512) ![so, 0, 128 * hd.val] S1x1024x128.size (hin hd))).Stores Finset.univ}

/-- Where an element of a slot lies in the ring. -/
def slIdx (so : ℕ) (h : so < 2) (j : S1024x512.Idx) : S2x1024x512.Idx := Fin.cons ⟨so, h⟩ j

theorem read_slotO (f : OA.view.ty.Contents (Elt F)) (j : S1024x512.Idx) :
    (slotO OA so hso).view.read (Elt F) f j = OA.view.read (Elt F) f (slIdx so hso j) := by
  have h1 : (slotO OA so hso).view.read (Elt F) f
      = shapeCast S1024x512 (OA.view.readAt (Elt F) (Rect.unit (s := S2x1024x512) ![so, 0, 0] S1x1024x512.size (inb_slot hso)).toLoadRect f)
        (show (sh3 1024 512).ShapeCasts S1024x512 by decide) := rfl
  rw [h1]
  refine (shapeCast_dropUnit_apply (n := 2) ![1024, 512] _ _ j).trans ?_
  refine congrArg (OA.view.read (Elt F) f) (funext fun a => Fin.ext ?_)
  fin_cases a
  · show so + 1 * 0 = so
    omega
  · show 0 + 1 * (j 0).val = (j 0).val
    omega
  · show 0 + 1 * (j 1).val = (j 1).val
    omega

theorem read_slot_store (hd : Fin 4) (w : FVec F S1024x128 .bf16) (f : OA.view.ty.Contents (Elt F)) :
    (slotO OA so hso).view.read (Elt F)
        ((OA.access (Rect.unit (s := S2x1024x512) ![so, 0, 128 * hd.val] S1x1024x128.size (hin hd))).write (Elt F) f (oSt w) Finset.univ)
      = (rO hd).overlay ((slotO OA so hso).view.read (Elt F) f) w := by
  funext j
  rw [read_slotO]
  by_cases hj : j ∈ (rO hd).set
  · obtain ⟨i, rfl⟩ := (rO hd).exists_idx_of_mem hj
    change _ = (rO hd).overlay _ w ((rO hd).emb i)
    rw [Rect.overlay_emb]
    have e : slIdx so hso ((rO hd).idx i)
        = (Rect.unit (s := S2x1024x512) ![so, 0, 128 * hd.val] S1x1024x128.size (hin hd)).emb (Fin.cons ⟨0, Nat.one_pos⟩ i : S1x1024x128.Idx) := by
      refine funext fun a => Fin.ext ?_
      fin_cases a
      · show so = so + 1 * 0
        omega
      · show 0 + 1 * (i 0).val = 0 + 1 * (i 0).val
        rfl
      · show 128 * hd.val + 1 * (i 1).val = 128 * hd.val + 1 * (i 1).val
        rfl
    rw [e]
    refine (congrFun (View.read_write_univ (v := (OA.view.slice (Rect.unit (s := S2x1024x512) ![so, 0, 128 * hd.val] S1x1024x128.size (hin hd)))) f (oSt w)) _).trans ?_
    exact (shapeCast_addUnit_apply (n := 2) ![1024, 128] w _ _)
  · rw [Rect.overlay_of_not_mem _ _ _ hj, read_slotO]
    refine View.read_slice_write_of_not_mem _ _ _ _ ?_
    rw [Rect.map_emb_univ]
    intro h
    apply hj
    rw [Rect.mem_set_unit] at h ⊢
    intro a
    have h1 := h a.succ
    fin_cases a
    · exact h1
    · exact h1

theorem store_slot (hd : Fin 4) (o : Vec F S1024x512 .bf16) (w : FVec F S1024x128 .bf16) :
    Runs c (owns (c : Thread nD τ) (slotO OA so hso) fullShare o)
      (Prog.lift (.store OA (Rect.unit (s := S2x1024x512) ![so, 0, 128 * hd.val] S1x1024x128.size (hin hd)) (oSt w) Finset.univ (hst hd) (.inl rfl)))
      ⟨⟩ (owns (c : Thread nD τ) (slotO OA so hso) fullShare ((rO hd).overlay o w)) := by
  unfold Runs owns
  iintro ⟨%f, %hf, H⟩
  have hS : (OA.access (Rect.unit (s := S2x1024x512) ![so, 0, 128 * hd.val] S1x1024x128.size (hin hd))).setOn Finset.univ
      ⊆ (slotO OA so hso).view.set := by
    rw [show (slotO OA so hso).view.set = (OA.view.slice (Rect.unit (s := S2x1024x512) ![so, 0, 0] S1x1024x512.size (inb_slot hso))).set from
      View.set_reshape _ _]
    refine (View.setOn_subset_set _ _).trans ?_
    rw [View.set_slice, View.set_slice]
    refine Finset.map_subset_map.mpr fun i hi => ?_
    rw [Rect.mem_set_unit] at hi ⊢
    intro a
    have h0 := hi a
    fin_cases a <;> simp at h0 ⊢ <;> omega
  have key : ((slotO OA so hso).view.loc (c : Thread nD τ) ↦[(slotO OA so hso).view.set]{fullShare} f : sProp 𝕄)
      ⊢ iprop((((slotO OA so hso).view.loc (c : Thread nD τ) ↦[(slotO OA so hso).view.set]{fullShare}
            ((OA.access (Rect.unit (s := S2x1024x512) ![so, 0, 128 * hd.val] S1x1024x128.size (hin hd))).write (Elt F) f (oSt w) Finset.univ))
          -∗ WP c (Prog.ret PUnit.unit) (fun x => iprop(⌜x = PUnit.unit⌝ ∗ owns (c : Thread nD τ) (slotO OA so hso) fullShare ((rO hd).overlay o w))))
        -∗ WP c (Prog.lift (.store OA (Rect.unit (s := S2x1024x512) ![so, 0, 128 * hd.val] S1x1024x128.size (hin hd)) (oSt w) Finset.univ (hst hd) (.inl rfl)))
          (fun x => iprop(⌜x = ⟨⟩⌝ ∗ owns (c : Thread nD τ) (slotO OA so hso) fullShare ((rO hd).overlay o w)))) :=
    wp_store Variants.none (c : Thread nD τ) none Set.univ (m := OA)
      (r := Rect.unit (s := S2x1024x512) ![so, 0, 128 * hd.val] S1x1024x128.size (hin hd)) (w := oSt w) (hx := hst hd) (hm := .inl rfl)
      (S := (slotO OA so hso).view.set) (f := f) hS
  unfold owns at key
  iapply key $$ H
  iintro H
  iapply le_wp_ret
  isplitr
  · ipureintro; rfl
  iexists _
  isplitr
  swap; · iexact H
  ipureintro
  subst hf
  exact read_slot_store hd w f

theorem run_outp (hd : Fin 4) (st : TS F) (b : TB F) (o : Vec F S1024x512 .bf16) :
    Runs c iprop(T c S X M A Q K V st b ∗ owns (c : Thread nD τ) (slotO OA so hso) fullShare o)
      (outp A (slotO OA so hso) OA so hin hst hd) ⟨⟩
      iprop(T c S X M A Q K V st b ∗ owns (c : Thread nD τ) (slotO OA so hso) fullShare (oO hd st o)) := by
  unfold outp
  refine ((loadA st b).frame _).bind ?_
  refine (((runs_load (slotO OA so hso) (rO hd) _ fullShare o).frame (T c S X M A Q K V st b)).conseq sep_comm sep_comm).bind ?_
  exact (((store_slot hd o _).frame (T c S X M A Q K V st b)).conseq sep_comm sep_comm)

/-- The last tile of a block of queries. -/
theorem run_last (t' : Bool) (st : TS F) (b : TB F) (o : Vec F S1024x512 .bf16) :
    Runs c iprop(T c S X M A Q K V st b ∗ owns (c : Thread nD τ) (slotO OA so hso) fullShare o)
      (last S X M A Q K V (slotO OA so hso) OA so hin hst t') ⟨⟩
      iprop(T c S X M A Q K V (stT b true t' st) b ∗ owns (c : Thread nD τ) (slotO OA so hso) fullShare (oT b t' st o)) :=
  ((run_head true t' 0 _ b).frame _).bind <| (run_outp 0 _ b _).bind <|
  ((run_head true t' 1 _ b).frame _).bind <| (run_outp 1 _ b _).bind <|
  ((run_head true t' 2 _ b).frame _).bind <| (run_outp 2 _ b _).bind <|
  ((run_head true t' 3 _ b).frame _).bind <| (run_outp 3 _ b _)

end

end Cert.KernelIdeal.Attn

end
-- ==== Proof.Window.lean ====
module

public import proofs.«01_k».proof.Proof.Rules

@[expose] public section

/-!
  The reads of the schedule's tables, the checks, and the two ends of a copy as deterministic runs: a copy is issued from an
  owned source and an owned destination, is pending, and is awaited.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

variable {c : Dev nD} {α β : Type}

/-- A run at the head of a program. -/
theorem Runs.step {A B : sProp 𝕄} {p : PG F α} {r : α} (h : Runs c A p r B) {k : α → PG F β} {Q : β → sProp 𝕄} :
    A ⊢ iprop((B -∗ WP c (k r) Q) -∗ WP c (p >>= k) Q) := by
  have h' : A ⊢ iprop((B -∗ WP c (k r) Q) -∗ WP c p (fun a => WP c (k a) Q)) := h.wp (Q := fun a => WP c (k a) Q)
  unfold WP at h' ⊢
  rw [wp_bind]
  exact h'

/-- A condition decides which of two runs is taken. -/
theorem Runs.dite {A B : sProp 𝕄} {P : Prop} [Decidable P] {p : P → PG F α} {q : ¬ P → PG F α} {r : α}
    (h : ∀ hp, Runs c A (p hp) r B) (h' : ∀ hp, Runs c A (q hp) r B) : Runs c A (dite P p q) r B := by
  by_cases hp : P
  · rw [dif_pos hp]; exact h hp
  · rw [dif_neg hp]; exact h' hp

theorem Runs.assume (A : sProp 𝕄) {P : Prop} {d : Decidable P} (h : P) :
    Runs c A (Prog.lift (TpuEff.assume P d) : PG F _) ⟨h⟩ A := by
  unfold Runs WP
  refine (?_ : A ⊢ Sem.wp Idealize.ShloMosaic.frame (wpE (defs₀ (F := F)) Variants.none (c : Thread nD τ) none) Set.univ (Prog.op (.assume P d) fun x => .ret x) _)
  rw [wp_assume_of _ _ _ _ h]
  iintro H
  iapply le_wp_ret
  isplitr
  · ipureintro; rfl
  iexact H

/-- One word of a table. -/
theorem runs_smem {s : Shape} (m : Memref sig .tc .smem s .i32) (r : Rect s) (h1 : r.shape.numel = 1) (q : PosShare TreeShare)
    (X : s.Idx → Elt F .i32) (w : Elt F .i32) (hw : View.ld X r (Shape.Idx.first (h1.symm ▸ Nat.one_pos)) = w) :
    Runs c (owns (c : Thread nD τ) m q X) (smemLoad m r h1 rfl : PG F _) w (owns (c : Thread nD τ) m q X) := by
  subst hw
  unfold Runs owns smemLoad smemLoadElt
  iintro ⟨%f, %hf, H⟩
  iapply (wp_load Variants.none (c : Thread nD τ) none Set.univ (S := m.view.set) (View.setOn_subset_set ..)) $$ H
  iintro H
  iapply le_wp_ret
  isplitr
  · ipureintro; subst hf; exact congrFun (View.readAt_eq_ld _ _ _) _
  iexists f
  isplitr
  · ipureintro; exact hf
  · iexact H

/-- The copies' counters. -/
abbrev EC : UEmb Counters 𝕄 := countersEmb (U := Pipeline.UC sig nD τ)

/-- A copy under way on a semaphore, which will give `G`. -/
def Pend (c : Dev nD) (sm : SemLoc sig) (N : ℕ) (G : sProp 𝕄) : sProp 𝕄 :=
  iprop(∃ D, Transfers.Flight EC (c : Thread nD τ) sm () N D ∗ (D -∗ G))

/-- What waits have been made. -/
def Owes (c : Dev nD) : sProp 𝕄 := iprop(∃ W, owes (c : Thread nD τ) 0 W)

theorem runs_dma {sp sp' : Space} {s : Shape} {e : EltTy} (src : Memref sig .tc sp s e) (dst : Memref sig .tc sp' s e) (sm : SemLoc sig)
    (h0 : 0 < s.numel) (sem : DmaSem sig) (hs : sm = .dma sem) (q : PosShare TreeShare) (X Y : s.Idx → Elt F e)
    (h1 : src.view.WordExact) (h2 : dst.view.WordExact) (h3) :
    Runs c iprop(owns (c : Thread nD τ) src q X ∗ owns (c : Thread nD τ) dst fullShare Y ∗ semVal ((c : Thread nD τ), sm) 0)
      (Prog.lift (.enqueueDma src (.here dst) sm h1 h2 h3) : PG F _) ⟨⟩
      (Pend c sm dst.view.dmaCredit iprop(owns (c : Thread nD τ) dst fullShare X ∗ owns (c : Thread nD τ) src q X)) := by
  subst hs
  unfold Runs owns
  iintro ⟨⟨%f, %hf, Hs⟩, ⟨%g, %hg, Hd⟩, Hv⟩
  iapply (Transfers.wp_dmaLocal EC Variants.none (c : Thread nD τ) none () dst.view.dmaCredit rfl (View.dmaCredit_pos _ h0) (Finset.Subset.refl _)) $$ [Hs Hd Hv]
  · isplitl [Hs]; · iexact Hs
    isplitl [Hd] <;> iassumption
  iintro HF
  iapply le_wp_ret
  isplitr
  · ipureintro; rfl
  unfold Pend
  iexists _
  isplitl [HF]; · iexact HF
  iintro ⟨Hd, Hs⟩
  isplitl [Hd]
  · iexists _
    isplitr
    swap; · iexact Hd
    ipureintro
    rw [← hf]
    exact View.read_write_univ _ _
  · iexists _
    isplitr
    swap; · iexact Hs
    ipureintro; exact hf

/-- A block of an array is copied to a slot; the array's share comes back with it. -/
theorem runs_fetch {sp sp' : Space} {s : Shape} {e : EltTy} (m : Memref sig .tc sp s e) (r : Rect s) (hr : ∀ a, r.stride a = 1)
    (dst : Memref sig .tc sp' r.shape e) (sm : SemLoc sig)
    (h0 : 0 < r.shape.numel) (sem : DmaSem sig) (hs : sm = .dma sem) (q : PosShare TreeShare) (X : s.Idx → Elt F e) (Y : r.shape.Idx → Elt F e)
    (h1 : (m.slice r hr).view.WordExact) (h2 : dst.view.WordExact) (h3) :
    Runs c iprop(owns (c : Thread nD τ) m q X ∗ owns (c : Thread nD τ) dst fullShare Y ∗ semVal ((c : Thread nD τ), sm) 0)
      (Prog.lift (.enqueueDma (m.slice r hr) (.here dst) sm h1 h2 h3) : PG F _) ⟨⟩
      (Pend c sm dst.view.dmaCredit iprop(owns (c : Thread nD τ) dst fullShare (View.ld X r) ∗ owns (c : Thread nD τ) m q X)) := by
  unfold Runs
  iintro ⟨Hm, Hd, Hv⟩
  ihave H := (owns_slice_split (c : Thread nD τ) m q r hr X) $$ Hm
  icases H with ⟨Hs, %f, %hf, Hr⟩
  iapply (runs_dma (m.slice r hr) dst sm h0 sem hs q (fun i => X (r.emb i)) Y h1 h2 h3).wp $$ [Hs Hd Hv]
  · isplitl [Hs]; · iexact Hs
    isplitl [Hd] <;> iassumption
  unfold Pend
  iintro ⟨%D, HF, HD⟩
  isplitr
  · ipureintro; rfl
  iexists D
  isplitl [HF]; · iexact HF
  iintro H
  ihave H := HD $$ H
  icases H with ⟨Hd, Hs⟩
  isplitl [Hd]; · iexact Hd
  have hj : (r.overlay (m.view.read (Elt F) f) (fun i => X (r.emb i))) = X := by
    funext j
    by_cases hj : j ∈ r.set
    · obtain ⟨i, rfl⟩ := r.exists_idx_of_mem hj
      exact r.overlay_emb _ _ i
    · rw [Rect.overlay_of_not_mem _ _ _ hj, hf]
  have hjoin : iprop(owns (c : Thread nD τ) (m.slice r hr) q (fun i => X (r.emb i)) ∗ m.view.loc (c : Thread nD τ) ↦[m.view.set \ (m.slice r hr).view.set]{q} f)
      ⊢ (owns (c : Thread nD τ) m q (r.overlay (m.view.read (Elt F) f) (fun i => X (r.emb i))) : sProp 𝕄) := owns_slice_join (c : Thread nD τ) m q r hr (fun i => X (r.emb i)) f
  rw [hj] at hjoin
  iapply hjoin
  isplitl [Hs] <;> iassumption

theorem runs_wait {sp sp' : Space} {s : Shape} {e : EltTy} {s' : Shape} {e' : EltTy} (src : Memref sig .tc sp' s' e') (dst : Memref sig .tc sp s e) (sem : DmaSem sig)
    (N : ℕ) (hN : dst.view.dmaCredit = N) (G : sProp 𝕄) (h1 : src.view.WordExact) (h2 : dst.view.WordExact) :
    Runs c iprop(Pend c (.dma sem) N G ∗ Owes c) (Prog.lift (.waitDma2 sem src dst h1 h2) : PG F _) ⟨⟩
      iprop(G ∗ semVal ((c : Thread nD τ), .dma sem) 0 ∗ Owes c) := by
  unfold Runs Pend Owes
  iintro ⟨⟨%D, HF, HD⟩, %W, HW⟩
  iapply (Transfers.wp_waitLocal EC Variants.none (c : Thread nD τ) none () hN) $$ [HF HW]
  · isplitl [HF] <;> iassumption
  iintro ⟨H, Hv, HW⟩
  iapply le_wp_ret
  isplitr
  · ipureintro; rfl
  isplitl [H HD]
  · iapply HD; iexact H
  isplitl [Hv]; · iexact Hv
  iexists _; iexact HW

end Cert.KernelIdeal.Attn

end
-- ==== Proof.Sched.lean ====
module

public import proofs.«01_k».proof.Proof.Clean

@[expose] public section

/-!
  The schedule: which block of the queries, the keys, the values and the output each of the 73 trips works on, and what the
  printed counters, offsets, conditions and checks come to on it.
-/

noncomputable section

namespace Cert.KernelIdeal.Attn

open Idealize.ShloMosaic Idealize.ShloMosaic.TcCoe
open Cert.KernelIdeal Cert.KernelIdeal.Gen

/-- The trip after trip `k`, the first after the last. -/
def nx (k : Fin 73) : Fin 73 := k + 1
/-- The trip before trip `k`, the last before the first. -/
def pv (k : Fin 73) : Fin 73 := k - 1
/-- Does the block a table names change after trip `k`? -/
def mv (t : Fin 73 → BitVec 32) (k : Fin 73) : Bool := k.1 < 72 && t k != t (nx k)
/-- Is trip `k` the first at the block a table names? -/
def fr (t : Fin 73 → BitVec 32) (k : Fin 73) : Bool := k.1 == 0 || t k != t (pv k)
/-- Does trip `k` end a block of queries? -/
def ls (k : Fin 73) : Bool := lit6 k == 1#32
/-- Is the tile after trip `k`'s on the diagonal? -/
def dg (k : Fin 73) : Bool := lit4 k == 1#32
/-- Does trip `k` begin a block of queries (or the run)? -/
def fs (k : Fin 73) : Bool := k.1 == 0 || lit5 k == 1#32
/-- Does trip `k` await an output block? -/
def wt (k : Fin 73) : Bool := k.1 != 0 && fr lit3 k
/-- How often the block a table names has changed before trip `k`; the end of the run counts as a change. -/
def cn (t : Fin 73 → BitVec 32) : ℕ → ℕ
  | 0 => 0
  | k + 1 => if h : k < 73 then (if k = 72 || t ⟨k, h⟩ != t (nx ⟨k, h⟩) then cn t k + 1 else cn t k) else 0
/-- The counter as the program carries it. -/
def cw (t : Fin 73 → BitVec 32) (k : ℕ) : BitVec 32 := BitVec.ofNat 32 (cn t k)
/-- The counter of the blocks asked for. -/
def aw (t : Fin 73 → BitVec 32) (k : ℕ) : BitVec 32 := if k = 73 then cw t k else cw t k + 1#32
/-- The number of output blocks awaited. -/
def wn : ℕ → ℕ
  | 0 => 0
  | k + 1 => if h : k < 73 then (if wt ⟨k, h⟩ then wn k + 1 else wn k) else 0
/-- The counter of the output blocks awaited. -/
def ww (k : ℕ) : BitVec 32 := BitVec.ofNat 32 (wn k)
/-- The trip's number as the program carries it. -/
def tw (k : ℕ) : BitVec 32 := BitVec.ofNat 32 (k % 73)

/-- What the loop carries into trip `k`. -/
def carry (k : ℕ) : BitVec 32 × BitVec 32 × BitVec 32 × BitVec 32 × BitVec 32 × BitVec 32 × BitVec 32 × BitVec 32 × BitVec 32 :=
  (aw lit0 k, cw lit0 k, aw lit1 k, cw lit1 k, aw lit2 k, cw lit2 k, cw lit3 k, ww k, tw k)

/-- Where a block begins. -/
def col (v : BitVec 32) : ℕ := (Scalar.muli 1024#32 v).toNat
theorem sl_lt (x : BitVec 32) : sl x < 2 := by
  unfold sl Scalar.remui; exact (BitVec.toNat_umod .. ▸ Nat.mod_lt _ (by decide))
/-- The slot a counter names. -/
def slf (x : BitVec 32) : Fin 2 := ⟨sl x, sl_lt x⟩
/-- The slot of output block `n`. -/
def par (n : ℕ) : Fin 2 := ⟨n % 2, Nat.mod_lt _ (by decide)⟩

theorem inbQ : ∀ k : Fin 73, ∀ a, (![0, col (lit0 k)] : Fin 2 → ℕ) a + S1024x1024.size a ≤ S1024x16384.size a := by decide +kernel
theorem inbK : ∀ k : Fin 73, ∀ a, (![col (lit1 k), 0] : Fin 2 → ℕ) a + S1024x1024.size a ≤ S16384x1024.size a := by decide +kernel
theorem inbV : ∀ k : Fin 73, ∀ a, (![0, col (lit2 k)] : Fin 2 → ℕ) a + S576x1024.size a ≤ S576x16384.size a := by decide +kernel

theorem cond1_eq : ∀ k : Fin 73, (k0_cond1 k (lit0 k) (lit0 (nx k)) = 1#1) ↔ mv lit0 k = true := by decide +kernel
theorem cond2_eq : ∀ k : Fin 73, (k0_cond2 k (lit1 k) (lit1 (nx k)) = 1#1) ↔ mv lit1 k = true := by decide +kernel
theorem cond3_eq : ∀ k : Fin 73, (k0_cond3 k (lit2 k) (lit2 (nx k)) = 1#1) ↔ mv lit2 k = true := by decide +kernel
theorem cond4_eq : ∀ k : Fin 73, (k0_cond4 k (lit0 k) (lit0 (pv k)) = 1#1) ↔ fr lit0 k = true := by decide +kernel
theorem cond5_eq : ∀ k : Fin 73, (k0_cond5 k (lit1 k) (lit1 (pv k)) = 1#1) ↔ fr lit1 k = true := by decide +kernel
theorem cond6_eq : ∀ k : Fin 73, (k0_cond6 k (lit2 k) (lit2 (pv k)) = 1#1) ↔ fr lit2 k = true := by decide +kernel
theorem cond17_eq : ∀ k : Fin 73, (k0_cond17 k (lit3 k) (lit3 (nx k)) = 1#1) ↔ ls k = true := by decide +kernel
theorem cond21_eq : ∀ k : Fin 73, (k0_cond21 k (lit3 k) (lit3 (pv k)) = 1#1) ↔ wt k = true := by decide +kernel
theorem cond10_eq : ∀ k : Fin 73, (k0_cond10 (lit6 k) (lit4 k) = 1#1) ↔ (ls k = false ∧ dg k = false) := by decide +kernel
theorem cond11_eq : ∀ k : Fin 73, (k0_cond11 (lit6 k) (lit4 k) = 1#1) ↔ (ls k = false ∧ dg k = true) := by decide +kernel
theorem cond12_eq : ∀ k : Fin 73, (k0_cond12 (lit6 k) (lit4 k) = 1#1) ↔ (ls k = true ∧ dg k = false) := by decide +kernel
theorem cond13_eq : ∀ k : Fin 73, (k0_cond13 (lit6 k) (lit4 k) = 1#1) ↔ (ls k = true ∧ dg k = true) := by decide +kernel
theorem chk4_ok : ∀ k : Fin 73, k0_chk4 (tw k) := by decide +kernel
instance idec5 (k : Fin 73) (a0 : BitVec 32) (a1 : BitVec 32) (a2 : BitVec 32) (a3 : BitVec 32) : Decidable (k0_chk5 k a0 a1 a2 a3) := k0_chk5.dec k a0 a1 a2 a3
theorem chk5_ok : ∀ k : Fin 73, k0_chk5 k (aw lit0 k) (tw k) (lit0 k) (lit0 (nx k)) := by decide +kernel
instance idec7 (k : Fin 73) (a0 : BitVec 32) (a1 : BitVec 32) (a2 : BitVec 32) (a3 : BitVec 32) : Decidable (k0_chk7 k a0 a1 a2 a3) := k0_chk7.dec k a0 a1 a2 a3
theorem chk7_ok : ∀ k : Fin 73, k0_chk7 k (aw lit1 k) (tw k) (lit1 k) (lit1 (nx k)) := by decide +kernel
instance idec9 (k : Fin 73) (a0 : BitVec 32) (a1 : BitVec 32) (a2 : BitVec 32) (a3 : BitVec 32) : Decidable (k0_chk9 k a0 a1 a2 a3) := k0_chk9.dec k a0 a1 a2 a3
theorem chk9_ok : ∀ k : Fin 73, k0_chk9 k (aw lit2 k) (tw k) (lit2 k) (lit2 (nx k)) := by decide +kernel
instance idec6 (k : Fin 73) (a0 : BitVec 32) (a1 : BitVec 32) (a2 : BitVec 32) : Decidable (k0_chk6 k a0 a1 a2) := k0_chk6.dec k a0 a1 a2
theorem chk6_ok : ∀ k : Fin 73, k0_chk6 k (lit0 k) (lit0 (nx k)) (lit0 (nx k)) := by decide +kernel
instance idec8 (k : Fin 73) (a0 : BitVec 32) (a1 : BitVec 32) (a2 : BitVec 32) : Decidable (k0_chk8 k a0 a1 a2) := k0_chk8.dec k a0 a1 a2
theorem chk8_ok : ∀ k : Fin 73, k0_chk8 k (lit1 k) (lit1 (nx k)) (lit1 (nx k)) := by decide +kernel
instance idec10 (k : Fin 73) (a0 : BitVec 32) (a1 : BitVec 32) (a2 : BitVec 32) : Decidable (k0_chk10 k a0 a1 a2) := k0_chk10.dec k a0 a1 a2
theorem chk10_ok : ∀ k : Fin 73, k0_chk10 k (lit2 k) (lit2 (nx k)) (lit2 (nx k)) := by decide +kernel
instance idec18 (k : Fin 73) (a0 : BitVec 32) (a1 : BitVec 32) (a2 : BitVec 32) (a3 : BitVec 32) : Decidable (k0_chk18 k a0 a1 a2 a3) := k0_chk18.dec k a0 a1 a2 a3
theorem chk18_ok : ∀ k : Fin 73, k0_chk18 k (cw lit3 k) (tw k) (lit3 k) (lit3 (nx k)) := by decide +kernel
instance idec11 (k : Fin 73) (a0 : BitVec 32) (a1 : BitVec 32) (a2 : BitVec 32) (a3 : BitVec 32) : Decidable (k0_chk11 k a0 a1 a2 a3) := k0_chk11.dec k a0 a1 a2 a3
theorem chk11_ok : ∀ k : Fin 73, k0_chk11 k (cw lit0 k) (tw k) (lit0 k) (lit0 (pv k)) := by decide +kernel
instance idec13 (k : Fin 73) (a0 : BitVec 32) (a1 : BitVec 32) (a2 : BitVec 32) (a3 : BitVec 32) : Decidable (k0_chk13 k a0 a1 a2 a3) := k0_chk13.dec k a0 a1 a2 a3
theorem chk13_ok : ∀ k : Fin 73, k0_chk13 k (cw lit1 k) (tw k) (lit1 k) (lit1 (pv k)) := by decide +kernel
instance idec15 (k : Fin 73) (a0 : BitVec 32) (a1 : BitVec 32) (a2 : BitVec 32) (a3 : BitVec 32) : Decidable (k0_chk15 k a0 a1 a2 a3) := k0_chk15.dec k a0 a1 a2 a3
theorem chk15_ok : ∀ k : Fin 73, k0_chk15 k (cw lit2 k) (tw k) (lit2 k) (lit2 (pv k)) := by decide +kernel
instance idec12 (k : Fin 73) (a0 : BitVec 32) (a1 : BitVec 32) (a2 : BitVec 32) : Decidable (k0_chk12 k a0 a1 a2) := k0_chk12.dec k a0 a1 a2
theorem chk12_ok : ∀ k : Fin 73, k0_chk12 k (lit0 k) (lit0 (pv k)) (lit0 k) := by decide +kernel
instance idec14 (k : Fin 73) (a0 : BitVec 32) (a1 : BitVec 32) (a2 : BitVec 32) : Decidable (k0_chk14 k a0 a1 a2) := k0_chk14.dec k a0 a1 a2
theorem chk14_ok : ∀ k : Fin 73, k0_chk14 k (lit1 k) (lit1 (pv k)) (lit1 k) := by decide +kernel
instance idec16 (k : Fin 73) (a0 : BitVec 32) (a1 : BitVec 32) (a2 : BitVec 32) : Decidable (k0_chk16 k a0 a1 a2) := k0_chk16.dec k a0 a1 a2
theorem chk16_ok : ∀ k : Fin 73, k0_chk16 k (lit2 k) (lit2 (pv k)) (lit2 k) := by decide +kernel
instance idec20 (k : Fin 73) (a0 : BitVec 32) (a1 : BitVec 32) (a2 : BitVec 32) (a3 : BitVec 32) : Decidable (k0_chk20 k a0 a1 a2 a3) := k0_chk20.dec k a0 a1 a2 a3
theorem chk20_ok : ∀ k : Fin 73, k0_chk20 k (ww k) (tw k) (lit3 k) (lit3 (pv k)) := by decide +kernel
theorem chk17_ok : ∀ k : Fin 73, k0_chk17 (cw lit0 k) (cw lit1 k) (cw lit2 k) (cw lit3 k) (lit6 k) (lit4 k) := by decide +kernel
instance idec19 (k : Fin 73) (a0 : BitVec 32) (a1 : BitVec 32) (a2 : BitVec 32) : Decidable (k0_chk19 k a0 a1 a2) := k0_chk19.dec k a0 a1 a2
theorem chk19_ok : ∀ k : Fin 73, k0_chk19 k (lit3 k) (lit3 (nx k)) (lit3 k) := by decide +kernel
instance idec21 (k : Fin 73) (a0 : BitVec 32) (a1 : BitVec 32) (a2 : BitVec 32) : Decidable (k0_chk21 k a0 a1 a2) := k0_chk21.dec k a0 a1 a2
theorem chk21_ok : ∀ k : Fin 73, k0_chk21 k (lit3 k) (lit3 (pv k)) (lit3 (pv k)) := by decide +kernel
-- the places of the tables read
theorem off10_eq : ∀ k : Fin 73, k0_off10 (tw k) 0 = k.1 := by decide +kernel
theorem off16_eq : ∀ k : Fin 73, k0_off16 (tw k) 0 = k.1 := by decide +kernel
theorem off22_eq : ∀ k : Fin 73, k0_off22 (tw k) 0 = k.1 := by decide +kernel
theorem off28_eq : ∀ k : Fin 73, k0_off28 (tw k) 0 = k.1 := by decide +kernel
theorem off31_eq : ∀ k : Fin 73, k0_off31 (tw k) 0 = k.1 := by decide +kernel
theorem off36_eq : ∀ k : Fin 73, k0_off36 (tw k) 0 = k.1 := by decide +kernel
theorem off41_eq : ∀ k : Fin 73, k0_off41 (tw k) 0 = k.1 := by decide +kernel
theorem off46_eq : ∀ k : Fin 73, k0_off46 (tw k) 0 = k.1 := by decide +kernel
theorem off47_eq : ∀ k : Fin 73, k0_off47 (tw k) 0 = k.1 := by decide +kernel
theorem off73_eq : ∀ k : Fin 73, k0_off73 (tw k) 0 = k.1 := by decide +kernel
theorem off11_eq : ∀ k : Fin 73, k0_off11 (tw k) 0 = (nx k).1 := by decide +kernel
theorem off17_eq : ∀ k : Fin 73, k0_off17 (tw k) 0 = (nx k).1 := by decide +kernel
theorem off12_eq : ∀ k : Fin 73, k0_off12 (tw k) 0 = (nx k).1 := by decide +kernel
theorem off23_eq : ∀ k : Fin 73, k0_off23 (tw k) 0 = (nx k).1 := by decide +kernel
theorem off18_eq : ∀ k : Fin 73, k0_off18 (tw k) 0 = (nx k).1 := by decide +kernel
theorem off24_eq : ∀ k : Fin 73, k0_off24 (tw k) 0 = (nx k).1 := by decide +kernel
theorem off29_eq : ∀ k : Fin 73, k0_off29 (tw k) 0 = (nx k).1 := by decide +kernel
theorem off30_eq : ∀ k : Fin 73, k0_off30 (tw k) 0 = (pv k).1 := by decide +kernel
theorem off35_eq : ∀ k : Fin 73, k0_off35 (tw k) 0 = (pv k).1 := by decide +kernel
theorem off40_eq : ∀ k : Fin 73, k0_off40 (tw k) 0 = (pv k).1 := by decide +kernel
theorem off45_eq : ∀ k : Fin 73, k0_off45 (tw k) 0 = (pv k).1 := by decide +kernel
theorem off77_eq : ∀ k : Fin 73, k0_off77 (tw k) 0 = (pv k).1 := by decide +kernel
theorem next0 : ∀ k : Fin 73, ∀ h : k.1 + 1 < 73, (if mv lit0 k then slf (cw lit0 (k.1 + 1)) = slf (aw lit0 k) ∧ slf (aw lit0 (k.1 + 1)) = slf (cw lit0 k) ∧ fr lit0 ⟨k.1 + 1, h⟩ = true ∧ nx k = ⟨k.1 + 1, h⟩
    else slf (cw lit0 (k.1 + 1)) = slf (cw lit0 k) ∧ slf (aw lit0 (k.1 + 1)) = slf (aw lit0 k) ∧ fr lit0 ⟨k.1 + 1, h⟩ = false ∧ lit0 ⟨k.1 + 1, h⟩ = lit0 k) := by decide +kernel
theorem next1 : ∀ k : Fin 73, ∀ h : k.1 + 1 < 73, (if mv lit1 k then slf (cw lit1 (k.1 + 1)) = slf (aw lit1 k) ∧ slf (aw lit1 (k.1 + 1)) = slf (cw lit1 k) ∧ fr lit1 ⟨k.1 + 1, h⟩ = true ∧ nx k = ⟨k.1 + 1, h⟩
    else slf (cw lit1 (k.1 + 1)) = slf (cw lit1 k) ∧ slf (aw lit1 (k.1 + 1)) = slf (aw lit1 k) ∧ fr lit1 ⟨k.1 + 1, h⟩ = false ∧ lit1 ⟨k.1 + 1, h⟩ = lit1 k) := by decide +kernel
theorem next2 : ∀ k : Fin 73, ∀ h : k.1 + 1 < 73, (if mv lit2 k then slf (cw lit2 (k.1 + 1)) = slf (aw lit2 k) ∧ slf (aw lit2 (k.1 + 1)) = slf (cw lit2 k) ∧ fr lit2 ⟨k.1 + 1, h⟩ = true ∧ nx k = ⟨k.1 + 1, h⟩
    else slf (cw lit2 (k.1 + 1)) = slf (cw lit2 k) ∧ slf (aw lit2 (k.1 + 1)) = slf (aw lit2 k) ∧ fr lit2 ⟨k.1 + 1, h⟩ = false ∧ lit2 ⟨k.1 + 1, h⟩ = lit2 k) := by decide +kernel
theorem onum : ∀ k : Fin 73, cn lit3 k < 16 ∧ (lit3 k).toNat = cn lit3 k ∧ slf (cw lit3 k) = par (cn lit3 k) ∧ slf (ww k) = par (wn k) ∧ (if wt k then wn k + 1 = cn lit3 k ∧ (lit3 (pv k)).toNat = wn k else wn k = cn lit3 k) ∧ col (lit3 k) = 1024 * cn lit3 k ∧ (wt k = true → col (lit3 (pv k)) = 1024 * wn k)
    ∧ cn lit3 (k.1 + 1) = (if ls k then cn lit3 k + 1 else cn lit3 k) ∧ wn (k.1 + 1) = (if wt k then wn k + 1 else wn k) := by decide +kernel
theorem stepA0 : ∀ k : Fin 73, Scalar.select (Scalar.andi (Scalar.andi (Scalar.cmpi .ne (lit0 k) (lit0 (nx k))) (Scalar.xori (Scalar.cmpi .sge (Scf.iv (0#32 : BitVec 32) 1#32 k.1) 72#32) 1#1)) 1#1) (Scalar.addi (aw lit0 k) 1#32) (aw lit0 k) = aw lit0 (k.1 + 1) := by decide +kernel
theorem stepC0 : ∀ k : Fin 73, Scalar.select (Scalar.ori (Scalar.cmpi .ne (lit0 k) (lit0 (nx k))) (Scalar.cmpi .eq (Scf.iv (0#32 : BitVec 32) 1#32 k.1) 72#32)) (Scalar.addi (cw lit0 k) 1#32) (cw lit0 k) = cw lit0 (k.1 + 1) := by decide +kernel
theorem stepA1 : ∀ k : Fin 73, Scalar.select (Scalar.andi (Scalar.andi (Scalar.cmpi .ne (lit1 k) (lit1 (nx k))) (Scalar.xori (Scalar.cmpi .sge (Scf.iv (0#32 : BitVec 32) 1#32 k.1) 72#32) 1#1)) 1#1) (Scalar.addi (aw lit1 k) 1#32) (aw lit1 k) = aw lit1 (k.1 + 1) := by decide +kernel
theorem stepC1 : ∀ k : Fin 73, Scalar.select (Scalar.ori (Scalar.cmpi .ne (lit1 k) (lit1 (nx k))) (Scalar.cmpi .eq (Scf.iv (0#32 : BitVec 32) 1#32 k.1) 72#32)) (Scalar.addi (cw lit1 k) 1#32) (cw lit1 k) = cw lit1 (k.1 + 1) := by decide +kernel
theorem stepA2 : ∀ k : Fin 73, Scalar.select (Scalar.andi (Scalar.andi (Scalar.cmpi .ne (lit2 k) (lit2 (nx k))) (Scalar.xori (Scalar.cmpi .sge (Scf.iv (0#32 : BitVec 32) 1#32 k.1) 72#32) 1#1)) 1#1) (Scalar.addi (aw lit2 k) 1#32) (aw lit2 k) = aw lit2 (k.1 + 1) := by decide +kernel
theorem stepC2 : ∀ k : Fin 73, Scalar.select (Scalar.ori (Scalar.cmpi .ne (lit2 k) (lit2 (nx k))) (Scalar.cmpi .eq (Scf.iv (0#32 : BitVec 32) 1#32 k.1) 72#32)) (Scalar.addi (cw lit2 k) 1#32) (cw lit2 k) = cw lit2 (k.1 + 1) := by decide +kernel
theorem stepO : ∀ k : Fin 73, Scalar.select (Scalar.andi (Scalar.ori (Scalar.cmpi .ne (lit3 k) (lit3 (nx k))) (Scalar.cmpi .eq (Scf.iv (0#32 : BitVec 32) 1#32 k.1) 72#32)) 1#1) (Scalar.addi (cw lit3 k) 1#32) (cw lit3 k) = cw lit3 (k.1 + 1) := by decide +kernel
theorem stepW : ∀ k : Fin 73, Scalar.select (Scalar.andi (Scalar.andi (Scalar.cmpi .ne (lit3 k) (lit3 (pv k))) (Scalar.xori (Scalar.cmpi .eq (Scf.iv (0#32 : BitVec 32) 1#32 k.1) 0#32) 1#1)) 1#1) (Scalar.addi (ww k) 1#32) (ww k) = ww (k.1 + 1) := by decide +kernel
theorem stepT : ∀ k : Fin 73, (let x := Scalar.select 1#1 (Scalar.addi (tw k) 1#32) (tw k); Scalar.select (Scalar.cmpi .eq x 73#32) 0#32 x) = tw (k.1 + 1) := by decide +kernel
theorem carry0 : carry 0 = (1#32, 0#32, 1#32, 0#32, 1#32, 0#32, 0#32, 0#32, 0#32) := by
  simp only [carry, Prod.mk.injEq]; decide +kernel
theorem condZ : ∀ k : Fin 73, (Scalar.cmpi .ne (Scalar.extui (Scalar.cmpi .eq (Scalar.addi (tw k) 0#32) 0#32) : BitVec 32) 0#32 = 1#1) ↔ k.1 = 0 := by decide +kernel
theorem condR : ∀ k : Fin 73, (Scalar.cmpi .ne (Scalar.extui (Scalar.ori (Scalar.cmpi .eq (lit5 k) 1#32) (Scalar.cmpi .eq (Scalar.addi (tw k) 0#32) 0#32)) : BitVec 32) 0#32 = 1#1) ↔ fs k = true := by decide +kernel
/-- The trip that ends output block `m`. -/
def lt (m : ℕ) : Fin 73 := ((List.finRange 73).find? fun k => ls k && cn lit3 k == m).getD 0
theorem lt_eq : ∀ k : Fin 73, ls k = true → lt (cn lit3 k) = k := by decide +kernel
theorem fin_end : slf (cw lit0 72) ≠ slf (aw lit0 72) ∧ slf (cw lit1 72) ≠ slf (aw lit1 72) ∧ slf (cw lit2 72) ≠ slf (aw lit2 72) ∧ mv lit0 72 = false ∧ mv lit1 72 = false ∧ mv lit2 72 = false ∧ cn lit3 73 = 16 ∧ wn 73 = 15 := by decide +kernel
theorem tw_zero : ∀ k : Fin 73, (Scalar.cmpi .eq (Scalar.addi (tw k) 0#32) 0#32 = 1#1) ↔ k.1 = 0 := by decide +kernel

end Cert.KernelIdeal.Attn
end
-- ==== Proof.Inv.lean ====
module

public import proofs.«01_k».proof.Proof.Outp
public import proofs.«01_k».proof.Proof.Window
public import proofs.«01_k».proof.Proof.Sched

@[expose] public section

/-!
  What the kernel holds between two trips: the tables, the windows on the queries, the keys and the values with their copies
  under way, the window on the output, and the scratch arrays at the state the tiles so far have left them in.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

/-- The buffers of the call. -/
structure Refs where
  arg0 : Memref sig .tc .smem S73 .i32
  harg0 : arg0.IsWhole
  arg1 : Memref sig .tc .smem S73 .i32
  harg1 : arg1.IsWhole
  arg2 : Memref sig .tc .smem S73 .i32
  harg2 : arg2.IsWhole
  arg3 : Memref sig .tc .smem S73 .i32
  harg3 : arg3.IsWhole
  arg4 : Memref sig .tc .smem S73 .i32
  harg4 : arg4.IsWhole
  arg5 : Memref sig .tc .smem S73 .i32
  harg5 : arg5.IsWhole
  arg6 : Memref sig .tc .smem S73 .i32
  harg6 : arg6.IsWhole
  arg7 : Memref sig .tc .hbm S1024x16384 .bf16
  harg7 : arg7.IsWhole
  arg8 : Memref sig .tc .hbm S16384x1024 .bf16
  harg8 : arg8.IsWhole
  arg9 : Memref sig .tc .hbm S576x16384 .bf16
  harg9 : arg9.IsWhole
  arg10 : Memref sig .tc .hbm S16384x512 .bf16
  harg10 : arg10.IsWhole
  arg11 : Memref sig .tc .vmem S4x1024x1024 .f32
  harg11 : arg11.IsWhole
  arg12 : Memref sig .tc .vmem S4x1x1024 .f32
  harg12 : arg12.IsWhole
  arg13 : Memref sig .tc .vmem S4x1x1024 .f32
  harg13 : arg13.IsWhole
  arg14 : Memref sig .tc .vmem S4x144x1024 .f32
  harg14 : arg14.IsWhole
  alloca_r0 : Memref sig .tc .vmem S2x1024x1024 .bf16
  halloca_r0 : alloca_r0.IsWhole
  v0_r0 : DmaSems sig S2
  alloca_0_r0 : Memref sig .tc .vmem S2x1024x1024 .bf16
  halloca_0_r0 : alloca_0_r0.IsWhole
  v1_r0 : DmaSems sig S2
  alloca_1_r0 : Memref sig .tc .vmem S2x576x1024 .bf16
  halloca_1_r0 : alloca_1_r0.IsWhole
  v2_r0 : DmaSems sig S2
  alloca_2_r0 : Memref sig .tc .vmem S2x1024x512 .bf16
  halloca_2_r0 : alloca_2_r0.IsWhole
  v3_r0 : DmaSems sig S2

/-- A table's contents. -/
def tabv (t : Fin 73 → BitVec 32) : S73.Idx → Elt F .i32 := fun i => t (S73.rowMajor i)

theorem inb_sem (n : Fin 2) : ∀ a, (![n.1] : Fin 1 → ℕ) a + S1.size a ≤ S2.size a := by
  intro a; fin_cases a; simp; omega
/-- A slot's semaphore. -/
def semOf (v : DmaSems sig S2) (n : Fin 2) : DmaSem sig :=
  ((v.slice (Rect.unit (s := S2) ![n.1] S1.size (inb_sem n))).squeeze S_ squeezes_S1_S_).sem

section Win

variable (c : Dev nD) {s : Shape} (dst : Fin 2 → Memref sig .tc .vmem s .bf16) (sem : Fin 2 → DmaSem sig) (P : Fin 2 → sProp (MT nD τ sig Unit (Elt F) ℕ (Pipeline.UC sig nD τ) ℕ))

/-- A slot whose block has arrived. -/
def Rdy (n : Fin 2) (X : s.Idx → Elt F .bf16) : sProp 𝕄 :=
  iprop(owns (c : Thread nD τ) (dst n) fullShare X ∗ semVal ((c : Thread nD τ), .dma (sem n)) 0 ∗ P n)
/-- A slot that may be written. -/
def Jnk (n : Fin 2) : sProp 𝕄 := iprop(∃ X, Rdy c dst sem P n X)
/-- A slot whose block is on its way. -/
def Pnd (n : Fin 2) (X : s.Idx → Elt F .bf16) : sProp 𝕄 :=
  Pend c (.dma (sem n)) (dst n).view.dmaCredit iprop(owns (c : Thread nD τ) (dst n) fullShare X ∗ P n)

variable (t : Fin 73 → BitVec 32) (blk : Fin 73 → s.Idx → Elt F .bf16)

/-- The window before trip `k`. -/
def winT (k : ℕ) : sProp 𝕄 :=
  if h : k < 73 then
    iprop((if fr t ⟨k, h⟩ then Pnd c dst sem P (slf (cw t k)) (blk ⟨k, h⟩) else Rdy c dst sem P (slf (cw t k)) (blk ⟨k, h⟩))
      ∗ Jnk c dst sem P (slf (aw t k)))
  else iprop(Jnk c dst sem P 0 ∗ Jnk c dst sem P 1)
/-- The window once trip `k` has asked for the next block. -/
def winA (k : Fin 73) : sProp 𝕄 :=
  iprop((if fr t k then Pnd c dst sem P (slf (cw t k)) (blk k) else Rdy c dst sem P (slf (cw t k)) (blk k))
    ∗ (if mv t k then Pnd c dst sem P (slf (aw t k)) (blk (nx k)) else Jnk c dst sem P (slf (aw t k))))
/-- The window once trip `k` has its block. -/
def winB (k : Fin 73) : sProp 𝕄 :=
  iprop(Rdy c dst sem P (slf (cw t k)) (blk k)
    ∗ (if mv t k then Pnd c dst sem P (slf (aw t k)) (blk (nx k)) else Jnk c dst sem P (slf (aw t k))))

theorem winT_top (k : Fin 73) : winT c dst sem P t blk k
    = iprop((if fr t k then Pnd c dst sem P (slf (cw t k)) (blk k) else Rdy c dst sem P (slf (cw t k)) (blk k))
      ∗ Jnk c dst sem P (slf (aw t k))) := by
  unfold winT; rw [dif_pos k.2]

theorem winB_next (hn : ∀ k : Fin 73, ∀ h : k.1 + 1 < 73, (if mv t k then slf (cw t (k.1 + 1)) = slf (aw t k) ∧ slf (aw t (k.1 + 1)) = slf (cw t k) ∧ fr t ⟨k.1 + 1, h⟩ = true ∧ nx k = ⟨k.1 + 1, h⟩
    else slf (cw t (k.1 + 1)) = slf (cw t k) ∧ slf (aw t (k.1 + 1)) = slf (aw t k) ∧ fr t ⟨k.1 + 1, h⟩ = false ∧ t ⟨k.1 + 1, h⟩ = t k))
    (he : slf (cw t 72) ≠ slf (aw t 72)) (hm : mv t 72 = false) (hb : ∀ k k', t k = t k' → blk k = blk k') (k : Fin 73) :
    winB c dst sem P t blk k ⊢ winT c dst sem P t blk (k.1 + 1) := by
  unfold winB winT
  by_cases h : k.1 + 1 < 73
  · rw [dif_pos h]
    have hk := hn k h
    by_cases hmv : mv t k = true
    · rw [if_pos hmv] at hk ⊢
      obtain ⟨h1, h2, h3, h4⟩ := hk
      rw [h1, h2, if_pos h3, ← h4]
      iintro ⟨Ha, Hb⟩
      isplitl [Hb]; · iexact Hb
      unfold Jnk; iexists _; iexact Ha
    · rw [if_neg hmv] at hk ⊢
      obtain ⟨h1, h2, h3, h4⟩ := hk
      rw [h1, h2, if_neg (by rw [h3]; decide), hb _ _ h4]
  · rw [dif_neg h]
    have hk : k = 72 := Fin.ext (by have := k.2; show k.1 = 72; omega)
    subst hk
    rw [if_neg (by rw [hm]; decide)]
    change slf (cw t 72) ≠ slf (aw t 72) at he
    change iprop(Rdy c dst sem P (slf (cw t 72)) _ ∗ Jnk c dst sem P (slf (aw t 72))) ⊢ _
    generalize slf (cw t 72) = a at he ⊢
    generalize slf (aw t 72) = b at he ⊢
    have : (a = 0 ∧ b = 1) ∨ (a = 1 ∧ b = 0) := by revert a b; decide
    rcases this with ⟨rfl, rfl⟩ | ⟨rfl, rfl⟩
    · iintro ⟨Ha, Hb⟩
      isplitl [Ha]
      · unfold Jnk; iexists _; iexact Ha
      · iexact Hb
    · iintro ⟨Ha, Hb⟩
      isplitl [Hb]
      · iexact Hb
      · unfold Jnk; iexists _; iexact Ha

end Win

/-! ## The data -/

/-- The arrays the call is given, and the shares its slots hold of them. -/
structure Arr (F : FTy → Type) where
  qt : Vec F S1024x16384 .bf16
  kt : Vec F S16384x1024 .bf16
  vt : Vec F S576x16384 .bf16
  sh : Fin 2 → PosShare TreeShare

variable (D : Arr F)

def blkQ (k : Fin 73) : Vec F S1024x1024 .bf16 := View.ld D.qt (Rect.unit (s := S1024x16384) ![0, col (lit0 k)] S1024x1024.size (inbQ k))
def blkK (k : Fin 73) : Vec F S1024x1024 .bf16 := View.ld D.kt (Rect.unit (s := S16384x1024) ![col (lit1 k), 0] S1024x1024.size (inbK k))
def blkV (k : Fin 73) : Vec F S576x1024 .bf16 := View.ld D.vt (Rect.unit (s := S576x16384) ![0, col (lit2 k)] S576x1024.size (inbV k))

theorem ld_off {s : Shape} {e : EltTy} (X : s.Idx → Elt F e) (sz off off' : Fin s.rank → ℕ) (h h') (e : off = off') :
    View.ld X (Rect.unit (s := s) off sz h) = View.ld X (Rect.unit (s := s) off' sz h') := by subst e; rfl

theorem blkQ_congr (k k' : Fin 73) (h : lit0 k = lit0 k') : blkQ D k = blkQ D k' := by
  unfold blkQ; exact ld_off _ _ _ _ _ _ (by rw [h])
theorem blkK_congr (k k' : Fin 73) (h : lit1 k = lit1 k') : blkK D k = blkK D k' := by
  unfold blkK; exact ld_off _ _ _ _ _ _ (by rw [h])
theorem blkV_congr (k k' : Fin 73) (h : lit2 k = lit2 k') : blkV D k = blkV D k' := by
  unfold blkV; exact ld_off _ _ _ _ _ _ (by rw [h])

/-- The blocks of trip `k`'s tile. -/
def tb (k : Fin 73) : TB F := ⟨blkQ D k, blkK D k, blkV D k⟩
def zS : Vec F S4x1024x1024 .f32 := k0_pay687
def zX : Vec F S4x1x1024 .f32 := k0_pay688
def zA : Vec F S4x144x1024 .f32 := k0_pay689
def zM : Vec F S4x1x1024 .f32 := k0_pay690
/-- The scratch arrays after the run's first trip has cleared them. -/
def clr (k : Fin 73) (st : TS F) : TS F := if k.1 = 0 then { st with s := zS, x := zX, a := zA } else st
/-- The scratch arrays after a block's first trip has reset the running maximum. -/
def rst (k : Fin 73) (st : TS F) : TS F := if fs k then { st with m := zM } else st
def pre (k : Fin 73) (st : TS F) : TS F := rst k (clr k st)
/-- The scratch arrays before trip `k`. -/
def stAt : ℕ → TS F
  | 0 => ⟨zS, zX, zM, zA⟩
  | k + 1 => if h : k < 73 then stT (tb D ⟨k, h⟩) (ls ⟨k, h⟩) (dg ⟨k, h⟩) (pre ⟨k, h⟩ (stAt k)) else stAt k
/-- Block `m` of the result. -/
def outB (m : ℕ) : Vec F S1024x512 .bf16 :=
  oT (tb D (lt m)) (dg (lt m)) (pre (lt m) (stAt D (lt m))) (fun _ => (Scalar.ofBits .bf16 0x0000#16 : F .bf16))

theorem pre_zero (st st' : TS F) : pre 0 st = pre 0 st' := by
  unfold pre rst clr
  rw [if_pos (show fs 0 = true from rfl), if_pos (show fs 0 = true from rfl), if_pos (show (0 : Fin 73).1 = 0 from rfl), if_pos (show (0 : Fin 73).1 = 0 from rfl)]

theorem overlay_cover (hd : Fin 4) (o o' : Vec F S1024x512 .bf16) (w : Vec F S1024x128 .bf16) (i : S1024x512.Idx)
    (h : i ∈ (rO hd).set ∨ o i = o' i) : (rO hd).overlay o w i = (rO hd).overlay o' w i := by
  by_cases hi : i ∈ (rO hd).set
  · obtain ⟨j, rfl⟩ := (rO hd).exists_idx_of_mem hi
    exact ((rO hd).overlay_emb _ _ j).trans ((rO hd).overlay_emb _ _ j).symm
  · rw [Rect.overlay_of_not_mem _ _ _ hi, Rect.overlay_of_not_mem _ _ _ hi]
    exact h.resolve_left hi

theorem mem_rO (i : S1024x512.Idx) (hd : Fin 4) (h : 128 * hd.val ≤ (i 1).val) (h' : (i 1).val < 128 * hd.val + 128) : i ∈ (rO hd).set := by
  refine Rect.mem_set_unit.mpr fun a => ?_
  fin_cases a
  · exact ⟨Nat.zero_le _, by have := (i 0).isLt; simpa using this⟩
  · exact ⟨h, h'⟩

theorem oT_indep (b : TB F) (t' : Bool) (st : TS F) (o o' : Vec F S1024x512 .bf16) : oT b t' st o = oT b t' st o' := by
  funext i
  have hi : (i 1).val < 512 := (i 1).isLt
  unfold oT
  refine overlay_cover 3 _ _ _ i ?_
  by_cases h3 : 384 ≤ (i 1).val
  · exact .inl (mem_rO i 3 h3 (by show _ < 512; omega))
  refine .inr (overlay_cover 2 _ _ _ i ?_)
  by_cases h2 : 256 ≤ (i 1).val
  · exact .inl (mem_rO i 2 h2 (by show _ < 384; omega))
  refine .inr (overlay_cover 1 _ _ _ i ?_)
  by_cases h1 : 128 ≤ (i 1).val
  · exact .inl (mem_rO i 1 h1 (by show _ < 256; omega))
  refine .inr (overlay_cover 0 _ _ _ i (.inl (mem_rO i 0 (Nat.zero_le _) (by show _ < 128; omega))))

theorem outB_eq (k : Fin 73) (h : ls k = true) (o : Vec F S1024x512 .bf16) :
    oT (tb D k) (dg k) (pre k (stAt D k)) o = outB D (cn lit3 k) := by
  unfold outB; rw [lt_eq k h]; exact oT_indep _ _ _ _ _

/-! ## The call's resources -/

variable (c : Dev nD) (R : Refs)

def Tabs : sProp 𝕄 :=
  iprop(owns (c : Thread nD τ) R.arg0 fullShare (tabv (F := F) lit0) ∗ owns (c : Thread nD τ) R.arg1 fullShare (tabv (F := F) lit1)
    ∗ owns (c : Thread nD τ) R.arg2 fullShare (tabv (F := F) lit2) ∗ owns (c : Thread nD τ) R.arg3 fullShare (tabv (F := F) lit3)
    ∗ owns (c : Thread nD τ) R.arg4 fullShare (tabv (F := F) lit4) ∗ owns (c : Thread nD τ) R.arg5 fullShare (tabv (F := F) lit5)
    ∗ owns (c : Thread nD τ) R.arg6 fullShare (tabv (F := F) lit6))

def Scr (st : TS F) : sProp 𝕄 :=
  iprop(owns (c : Thread nD τ) R.arg11 fullShare st.s ∗ owns (c : Thread nD τ) R.arg12 fullShare st.x
    ∗ owns (c : Thread nD τ) R.arg13 fullShare st.m ∗ owns (c : Thread nD τ) R.arg14 fullShare st.a)

def dQ (n : Fin 2) := slotK R.alloca_r0 n.1 n.2
def dK (n : Fin 2) := slotK R.alloca_0_r0 n.1 n.2
def dV (n : Fin 2) := slotV R.alloca_1_r0 n.1 n.2
def dO (n : Fin 2) := slotO R.alloca_2_r0 n.1 n.2
def PQ (n : Fin 2) : sProp 𝕄 := owns (c : Thread nD τ) R.arg7 (D.sh n) D.qt
def PK (n : Fin 2) : sProp 𝕄 := owns (c : Thread nD τ) R.arg8 (D.sh n) D.kt
def PV (n : Fin 2) : sProp 𝕄 := owns (c : Thread nD τ) R.arg9 (D.sh n) D.vt

theorem inb_ob (m : Fin 16) : ∀ a, (![1024 * m.val, 0] : Fin 2 → ℕ) a + S1024x512.size a ≤ S16384x512.size a := by
  intro a; fin_cases a <;> simp <;> omega
/-- Block `m` of the output array. -/
def oblk (m : Fin 16) : Memref sig .tc .hbm S1024x512 .bf16 :=
  R.arg10.slice (Rect.unit (s := S16384x512) ![1024 * m.val, 0] S1024x512.size (inb_ob m)) (fun _ => rfl)

/-- An output block when `n` blocks have been sent and `w` have arrived. -/
def obl (n w : ℕ) (j : Fin 16) : sProp 𝕄 :=
  if j.1 < w then owns (c : Thread nD τ) (oblk R j) fullShare (outB D j)
  else if j.1 < n then iprop(emp) else iprop(∃ X, owns (c : Thread nD τ) (oblk R j) fullShare X)
def obs (n w : ℕ) : sProp 𝕄 := BI.bigSep Finset.univ (obl D c R n w)
/-- An output slot that may be written. -/
def oJ (n : Fin 2) : sProp 𝕄 := iprop(∃ X, owns (c : Thread nD τ) (dO R n) fullShare X ∗ semVal ((c : Thread nD τ), .dma (semOf R.v3_r0 n)) 0)
/-- Output block `m` on its way. -/
def oFl (m : ℕ) : sProp 𝕄 :=
  if h : m < 16 then Pend c (.dma (semOf R.v3_r0 (par m))) (oblk R ⟨m, h⟩).view.dmaCredit
    iprop(owns (c : Thread nD τ) (oblk R ⟨m, h⟩) fullShare (outB D m) ∗ owns (c : Thread nD τ) (dO R (par m)) fullShare (outB D m))
  else iprop(emp)
/-- The output's other slot. -/
def oR (n w : ℕ) : sProp 𝕄 := if w = n then oJ c R (par (n + 1)) else oFl D c R w
/-- The output window when `n` blocks have been sent and `w` have arrived. -/
def oW (n w : ℕ) : sProp 𝕄 := iprop(obs D c R n w ∗ oJ c R (par n) ∗ oR D c R n w)

theorem obs_split (n w : ℕ) (j : Fin 16) :
    obs D c R n w = iprop(obl D c R n w j ∗ BI.bigSep (Finset.univ.erase j) (obl D c R n w)) :=
  BI.bigSep_univ_split j

theorem obs_send (n w : ℕ) (h : n < 16) (hw : w ≤ n) :
    obs D c R n w ⊢ iprop((∃ X, owns (c : Thread nD τ) (oblk R ⟨n, h⟩) fullShare X) ∗ obs D c R (n + 1) w) := by
  rw [obs_split D c R n w ⟨n, h⟩, obs_split D c R (n + 1) w ⟨n, h⟩]
  have e1 : obl D c R n w ⟨n, h⟩ = iprop(∃ X, owns (c : Thread nD τ) (oblk R ⟨n, h⟩) fullShare X) := by
    unfold obl; rw [if_neg (by show ¬ n < w; omega), if_neg (by show ¬ n < n; omega)]
  have e2 : obl D c R (n + 1) w ⟨n, h⟩ = iprop(emp) := by
    unfold obl; rw [if_neg (by show ¬ n < w; omega), if_pos (by show n < n + 1; omega)]
  have e3 : BI.bigSep (Finset.univ.erase (⟨n, h⟩ : Fin 16)) (obl D c R n w) = BI.bigSep (Finset.univ.erase (⟨n, h⟩ : Fin 16)) (obl D c R (n + 1) w) := by
    refine BI.bigSep_congr fun j hj => ?_
    have hj' : j.1 ≠ n := fun e => (Finset.mem_erase.mp hj).1 (Fin.ext e)
    unfold obl
    by_cases h1 : j.1 < w
    · rw [if_pos h1, if_pos h1]
    · rw [if_neg h1, if_neg h1]
      by_cases h2 : j.1 < n
      · rw [if_pos h2, if_pos (by omega)]
      · rw [if_neg h2, if_neg (by omega)]
  rw [e1, e2, e3]
  iintro ⟨H1, H2⟩
  isplitl [H1]; · iexact H1
  isplitr; · iempintro
  iexact H2

theorem obs_land (n w : ℕ) (h : w < 16) (hw : w < n) :
    iprop(owns (c : Thread nD τ) (oblk R ⟨w, h⟩) fullShare (outB D w) ∗ obs D c R n w) ⊢ obs D c R n (w + 1) := by
  rw [obs_split D c R n w ⟨w, h⟩, obs_split D c R n (w + 1) ⟨w, h⟩]
  have e1 : obl D c R n (w + 1) ⟨w, h⟩ = owns (c : Thread nD τ) (oblk R ⟨w, h⟩) fullShare (outB D w) := by
    unfold obl; rw [if_pos (by show w < w + 1; omega)]
  have e2 : obl D c R n w ⟨w, h⟩ = iprop(emp) := by
    unfold obl; rw [if_neg (by show ¬ w < w; omega), if_pos (by show w < n; omega)]
  have e3 : BI.bigSep (Finset.univ.erase (⟨w, h⟩ : Fin 16)) (obl D c R n w) = BI.bigSep (Finset.univ.erase (⟨w, h⟩ : Fin 16)) (obl D c R n (w + 1)) := by
    refine BI.bigSep_congr fun j hj => ?_
    have hj' : j.1 ≠ w := fun e => (Finset.mem_erase.mp hj).1 (Fin.ext e)
    unfold obl
    by_cases h1 : j.1 < w
    · rw [if_pos h1, if_pos (by omega)]
    · rw [if_neg h1, if_neg (c := j.1 < w + 1) (by omega)]
  rw [e1, e2, e3]
  iintro ⟨H1, H3, H2⟩
  isplitl [H1]; · iexact H1
  iexact H2

/-- What the call holds before trip `k`. -/
def Inv (k : ℕ) : sProp 𝕄 :=
  iprop(Tabs c R ∗ winT c (dQ R) (semOf R.v0_r0) (PQ D c R) lit0 (blkQ D) k ∗ winT c (dK R) (semOf R.v1_r0) (PK D c R) lit1 (blkK D) k
    ∗ winT c (dV R) (semOf R.v2_r0) (PV D c R) lit2 (blkV D) k ∗ oW D c R (cn lit3 k) (wn k)
    ∗ (∃ st, ⌜k ≠ 0 → st = stAt D k⌝ ∗ Scr c R st) ∗ Owes c)

end Cert.KernelIdeal.Attn

end
-- ==== Proof.Step.lean ====
module

public import proofs.«01_k».proof.Proof.Inv

@[expose] public section

set_option maxRecDepth 65536
set_option pp.maxSteps 400

/-!
  The steps a trip is made of: a read of a table, a copy asked for, a copy awaited; and the rule for a condition whose two
  branches join.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

variable {c : Dev nD} {α β : Type}

theorem Runs.of_eq {A B : sProp 𝕄} {p q : PG F α} {r : α} (e : p = q) (h : Runs c A q r B) : Runs c A p r B := by rw [e]; exact h

theorem Runs.of_res {A B : sProp 𝕄} {p : PG F α} {r r' : α} (h : Runs c A p r B) (e : r = r') : Runs c A p r' B := by rw [← e]; exact h

theorem Runs.pre {A A' B : sProp 𝕄} {p : PG F α} {r : α} (e : A' ⊢ A) (h : Runs c A p r B) : Runs c A' p r B := h.conseq e .rfl

/-- A run in a part of what is held. -/
theorem Runs.seq {A A' B C R : sProp 𝕄} {p : PG F α} {r : α} {k : α → PG F β} {r' : β} (e : A ⊢ iprop(A' ∗ R))
    (h : Runs c A' p r B) (hk : Runs c iprop(B ∗ R) (k r) r' C) : Runs c A (p >>= k) r' C :=
  Runs.bind ((h.frame R).conseq e .rfl) hk

/-- A condition whose two branches go on alike. -/
theorem Runs.diteJ {A C : sProp 𝕄} {P : Prop} [Decidable P] {p : P → PG F α} {j : PG F α} {r : α} (B : sProp 𝕄)
    (h : ∀ hp, Runs c B j r C → Runs c A (p hp) r C) (h0 : ¬ P → A ⊢ B) (hJ : Runs c B j r C) : Runs c A (_root_.dite P p (fun _ => j)) r C :=
  Runs.dite (fun hp => h hp hJ) (fun hn => hJ.conseq (h0 hn) .rfl)

theorem Runs.iteJ {A C : sProp 𝕄} {P : Prop} [Decidable P] {p : PG F α} {j : PG F α} {r : α} (B : sProp 𝕄)
    (h : P → Runs c B j r C → Runs c A p r C) (h0 : ¬ P → A ⊢ B) (hJ : Runs c B j r C) : Runs c A (ite P p j) r C := by
  by_cases hp : P
  · rw [if_pos hp]; exact h hp hJ
  · rw [if_neg hp]; exact hJ.conseq (h0 hp) .rfl

theorem Runs.same {A C : sProp 𝕄} {P : Prop} [Decidable P] {j : PG F α} {r : α} (hJ : Runs c A j r C) : Runs c A (ite P j j) r C := by
  rw [ite_self]; exact hJ

theorem Runs.ex {γ : Type} {Φ : γ → sProp 𝕄} {B : sProp 𝕄} {p : PG F α} {r : α} (h : ∀ x, Runs c (Φ x) p r B) :
    Runs c iprop(∃ x, Φ x) p r B := by
  unfold Runs
  iintro ⟨%x, H⟩
  iapply (show Φ x ⊢ WP c p (fun y => iprop(⌜y = r⌝ ∗ B)) from h x) $$ H

theorem Runs.of_pure {A B : sProp 𝕄} {φ : Prop} {p : PG F α} {r : α} (h : φ → Runs c A p r B) :
    Runs c iprop(⌜φ⌝ ∗ A) p r B := by
  unfold Runs
  iintro ⟨%hφ, H⟩
  iapply (show A ⊢ WP c p (fun y => iprop(⌜y = r⌝ ∗ B)) from h hφ) $$ H

theorem ld_tab (t : Fin 73 → BitVec 32) (off : Fin 1 → ℕ) (inb : ∀ a, off a + S1.size a ≤ S73.size a) (k : Fin 73) (h : off 0 = k.1) :
    View.ld (tabv (F := F) t) (Rect.unit (s := S73) off S1.size inb) (Shape.Idx.first (numel1_S1.symm ▸ Nat.one_pos)) = t k := by
  have e : S73.rowMajor ((Rect.unit (s := S73) off S1.size inb).emb (Shape.Idx.first (numel1_S1.symm ▸ Nat.one_pos))) = k := by
    apply Fin.ext
    refine (Shape.rowMajor_val_one _).trans ?_
    rw [Rect.emb_apply]
    have hx : (Shape.Idx.first (s := S1) (numel1_S1.symm ▸ Nat.one_pos) 0).val < 1 := (Shape.Idx.first (s := S1) (numel1_S1.symm ▸ Nat.one_pos) 0).isLt
    show off 0 + 1 * (Shape.Idx.first (s := S1) (numel1_S1.symm ▸ Nat.one_pos) 0).val = k.1
    omega
  exact congrArg t e

variable (D : Arr F) (R : Refs)

theorem runs_tab0 (off : Fin 1 → ℕ) (inb : ∀ a, off a + S1.size a ≤ S73.size a) (k : Fin 73) (h : off 0 = k.1) :
    Runs c (Tabs (F := F) c R) (smemLoad R.arg0 (Rect.unit (s := S73) off S1.size inb) numel1_S1 rfl) (lit0 k) (Tabs c R) := by
  have H := runs_smem (c := c) R.arg0 (Rect.unit (s := S73) off S1.size inb) numel1_S1 fullShare (tabv (F := F) lit0) (lit0 k) (ld_tab _ _ _ _ h)
  unfold Runs Tabs
  iintro ⟨H0, H1, H2, H3, H4, H5, H6⟩
  iapply H.wp $$ H0
  iintro H0
  isplitr
  · ipureintro; rfl
  isplitl [H0]; · iexact H0
  isplitl [H1]; · iexact H1
  isplitl [H2]; · iexact H2
  isplitl [H3]; · iexact H3
  isplitl [H4]; · iexact H4
  isplitl [H5]; · iexact H5
  iexact H6

theorem runs_tab1 (off : Fin 1 → ℕ) (inb : ∀ a, off a + S1.size a ≤ S73.size a) (k : Fin 73) (h : off 0 = k.1) :
    Runs c (Tabs (F := F) c R) (smemLoad R.arg1 (Rect.unit (s := S73) off S1.size inb) numel1_S1 rfl) (lit1 k) (Tabs c R) := by
  have H := runs_smem (c := c) R.arg1 (Rect.unit (s := S73) off S1.size inb) numel1_S1 fullShare (tabv (F := F) lit1) (lit1 k) (ld_tab _ _ _ _ h)
  unfold Runs Tabs
  iintro ⟨H0, H1, H2, H3, H4, H5, H6⟩
  iapply H.wp $$ H1
  iintro H1
  isplitr
  · ipureintro; rfl
  isplitl [H0]; · iexact H0
  isplitl [H1]; · iexact H1
  isplitl [H2]; · iexact H2
  isplitl [H3]; · iexact H3
  isplitl [H4]; · iexact H4
  isplitl [H5]; · iexact H5
  iexact H6

theorem runs_tab2 (off : Fin 1 → ℕ) (inb : ∀ a, off a + S1.size a ≤ S73.size a) (k : Fin 73) (h : off 0 = k.1) :
    Runs c (Tabs (F := F) c R) (smemLoad R.arg2 (Rect.unit (s := S73) off S1.size inb) numel1_S1 rfl) (lit2 k) (Tabs c R) := by
  have H := runs_smem (c := c) R.arg2 (Rect.unit (s := S73) off S1.size inb) numel1_S1 fullShare (tabv (F := F) lit2) (lit2 k) (ld_tab _ _ _ _ h)
  unfold Runs Tabs
  iintro ⟨H0, H1, H2, H3, H4, H5, H6⟩
  iapply H.wp $$ H2
  iintro H2
  isplitr
  · ipureintro; rfl
  isplitl [H0]; · iexact H0
  isplitl [H1]; · iexact H1
  isplitl [H2]; · iexact H2
  isplitl [H3]; · iexact H3
  isplitl [H4]; · iexact H4
  isplitl [H5]; · iexact H5
  iexact H6

theorem runs_tab3 (off : Fin 1 → ℕ) (inb : ∀ a, off a + S1.size a ≤ S73.size a) (k : Fin 73) (h : off 0 = k.1) :
    Runs c (Tabs (F := F) c R) (smemLoad R.arg3 (Rect.unit (s := S73) off S1.size inb) numel1_S1 rfl) (lit3 k) (Tabs c R) := by
  have H := runs_smem (c := c) R.arg3 (Rect.unit (s := S73) off S1.size inb) numel1_S1 fullShare (tabv (F := F) lit3) (lit3 k) (ld_tab _ _ _ _ h)
  unfold Runs Tabs
  iintro ⟨H0, H1, H2, H3, H4, H5, H6⟩
  iapply H.wp $$ H3
  iintro H3
  isplitr
  · ipureintro; rfl
  isplitl [H0]; · iexact H0
  isplitl [H1]; · iexact H1
  isplitl [H2]; · iexact H2
  isplitl [H3]; · iexact H3
  isplitl [H4]; · iexact H4
  isplitl [H5]; · iexact H5
  iexact H6

theorem runs_tab4 (off : Fin 1 → ℕ) (inb : ∀ a, off a + S1.size a ≤ S73.size a) (k : Fin 73) (h : off 0 = k.1) :
    Runs c (Tabs (F := F) c R) (smemLoad R.arg4 (Rect.unit (s := S73) off S1.size inb) numel1_S1 rfl) (lit4 k) (Tabs c R) := by
  have H := runs_smem (c := c) R.arg4 (Rect.unit (s := S73) off S1.size inb) numel1_S1 fullShare (tabv (F := F) lit4) (lit4 k) (ld_tab _ _ _ _ h)
  unfold Runs Tabs
  iintro ⟨H0, H1, H2, H3, H4, H5, H6⟩
  iapply H.wp $$ H4
  iintro H4
  isplitr
  · ipureintro; rfl
  isplitl [H0]; · iexact H0
  isplitl [H1]; · iexact H1
  isplitl [H2]; · iexact H2
  isplitl [H3]; · iexact H3
  isplitl [H4]; · iexact H4
  isplitl [H5]; · iexact H5
  iexact H6

theorem runs_tab5 (off : Fin 1 → ℕ) (inb : ∀ a, off a + S1.size a ≤ S73.size a) (k : Fin 73) (h : off 0 = k.1) :
    Runs c (Tabs (F := F) c R) (smemLoad R.arg5 (Rect.unit (s := S73) off S1.size inb) numel1_S1 rfl) (lit5 k) (Tabs c R) := by
  have H := runs_smem (c := c) R.arg5 (Rect.unit (s := S73) off S1.size inb) numel1_S1 fullShare (tabv (F := F) lit5) (lit5 k) (ld_tab _ _ _ _ h)
  unfold Runs Tabs
  iintro ⟨H0, H1, H2, H3, H4, H5, H6⟩
  iapply H.wp $$ H5
  iintro H5
  isplitr
  · ipureintro; rfl
  isplitl [H0]; · iexact H0
  isplitl [H1]; · iexact H1
  isplitl [H2]; · iexact H2
  isplitl [H3]; · iexact H3
  isplitl [H4]; · iexact H4
  isplitl [H5]; · iexact H5
  iexact H6

theorem runs_tab6 (off : Fin 1 → ℕ) (inb : ∀ a, off a + S1.size a ≤ S73.size a) (k : Fin 73) (h : off 0 = k.1) :
    Runs c (Tabs (F := F) c R) (smemLoad R.arg6 (Rect.unit (s := S73) off S1.size inb) numel1_S1 rfl) (lit6 k) (Tabs c R) := by
  have H := runs_smem (c := c) R.arg6 (Rect.unit (s := S73) off S1.size inb) numel1_S1 fullShare (tabv (F := F) lit6) (lit6 k) (ld_tab _ _ _ _ h)
  unfold Runs Tabs
  iintro ⟨H0, H1, H2, H3, H4, H5, H6⟩
  iapply H.wp $$ H6
  iintro H6
  isplitr
  · ipureintro; rfl
  isplitl [H0]; · iexact H0
  isplitl [H1]; · iexact H1
  isplitl [H2]; · iexact H2
  isplitl [H3]; · iexact H3
  isplitl [H4]; · iexact H4
  isplitl [H5]; · iexact H5
  iexact H6

theorem fetQ (n : Fin 2) (k : Fin 73) (h1 h2 h3) :
    Runs c (Jnk c (dQ R) (semOf R.v0_r0) (PQ D c R) n)
      (Prog.lift (.enqueueDma (R.arg7.slice (Rect.unit (s := S1024x16384) ![0, col (lit0 k)] S1024x1024.size (inbQ k)) (fun _ => rfl)) (.here (dQ R n)) (.dma (semOf R.v0_r0 n)) h1 h2 h3) : PG F _) ⟨⟩
      (Pnd c (dQ R) (semOf R.v0_r0) (PQ D c R) n (blkQ D k)) :=
  Runs.ex fun X => (runs_fetch R.arg7 (Rect.unit (s := S1024x16384) ![0, col (lit0 k)] S1024x1024.size (inbQ k)) (fun _ => rfl) (dQ R n) (.dma (semOf R.v0_r0 n)) (show 0 < S1024x1024.numel by decide) _ rfl (D.sh n) D.qt X h1 h2 h3).conseq
    (by unfold Rdy PQ; iintro ⟨Ha, Hb, Hc⟩; isplitl [Hc]; · iexact Hc
        isplitl [Ha] <;> iassumption) .rfl

theorem waiQ {sp' : Space} {s' : Shape} {e' : EltTy} (src : Memref sig .tc sp' s' e') (n : Fin 2) (X) (h1 h2) :
    Runs c iprop(Pnd c (dQ R) (semOf R.v0_r0) (PQ D c R) n X ∗ Owes c)
      (Prog.lift (.waitDma2 (semOf R.v0_r0 n) src (dQ R n) h1 h2) : PG F _) ⟨⟩
      iprop(Rdy c (dQ R) (semOf R.v0_r0) (PQ D c R) n X ∗ Owes c) :=
  (runs_wait src (dQ R n) (semOf R.v0_r0 n) _ rfl _ h1 h2).conseq .rfl
    (by unfold Rdy; iintro ⟨⟨Ha, Hb⟩, Hc, Hd⟩; isplitr [Hd]
        · isplitl [Ha]; · iexact Ha
          isplitl [Hc] <;> iassumption
        · iexact Hd)

theorem fetK (n : Fin 2) (k : Fin 73) (h1 h2 h3) :
    Runs c (Jnk c (dK R) (semOf R.v1_r0) (PK D c R) n)
      (Prog.lift (.enqueueDma (R.arg8.slice (Rect.unit (s := S16384x1024) ![col (lit1 k), 0] S1024x1024.size (inbK k)) (fun _ => rfl)) (.here (dK R n)) (.dma (semOf R.v1_r0 n)) h1 h2 h3) : PG F _) ⟨⟩
      (Pnd c (dK R) (semOf R.v1_r0) (PK D c R) n (blkK D k)) :=
  Runs.ex fun X => (runs_fetch R.arg8 (Rect.unit (s := S16384x1024) ![col (lit1 k), 0] S1024x1024.size (inbK k)) (fun _ => rfl) (dK R n) (.dma (semOf R.v1_r0 n)) (show 0 < S1024x1024.numel by decide) _ rfl (D.sh n) D.kt X h1 h2 h3).conseq
    (by unfold Rdy PK; iintro ⟨Ha, Hb, Hc⟩; isplitl [Hc]; · iexact Hc
        isplitl [Ha] <;> iassumption) .rfl

theorem waiK {sp' : Space} {s' : Shape} {e' : EltTy} (src : Memref sig .tc sp' s' e') (n : Fin 2) (X) (h1 h2) :
    Runs c iprop(Pnd c (dK R) (semOf R.v1_r0) (PK D c R) n X ∗ Owes c)
      (Prog.lift (.waitDma2 (semOf R.v1_r0 n) src (dK R n) h1 h2) : PG F _) ⟨⟩
      iprop(Rdy c (dK R) (semOf R.v1_r0) (PK D c R) n X ∗ Owes c) :=
  (runs_wait src (dK R n) (semOf R.v1_r0 n) _ rfl _ h1 h2).conseq .rfl
    (by unfold Rdy; iintro ⟨⟨Ha, Hb⟩, Hc, Hd⟩; isplitr [Hd]
        · isplitl [Ha]; · iexact Ha
          isplitl [Hc] <;> iassumption
        · iexact Hd)

theorem fetV (n : Fin 2) (k : Fin 73) (h1 h2 h3) :
    Runs c (Jnk c (dV R) (semOf R.v2_r0) (PV D c R) n)
      (Prog.lift (.enqueueDma (R.arg9.slice (Rect.unit (s := S576x16384) ![0, col (lit2 k)] S576x1024.size (inbV k)) (fun _ => rfl)) (.here (dV R n)) (.dma (semOf R.v2_r0 n)) h1 h2 h3) : PG F _) ⟨⟩
      (Pnd c (dV R) (semOf R.v2_r0) (PV D c R) n (blkV D k)) :=
  Runs.ex fun X => (runs_fetch R.arg9 (Rect.unit (s := S576x16384) ![0, col (lit2 k)] S576x1024.size (inbV k)) (fun _ => rfl) (dV R n) (.dma (semOf R.v2_r0 n)) (show 0 < S576x1024.numel by decide) _ rfl (D.sh n) D.vt X h1 h2 h3).conseq
    (by unfold Rdy PV; iintro ⟨Ha, Hb, Hc⟩; isplitl [Hc]; · iexact Hc
        isplitl [Ha] <;> iassumption) .rfl

theorem waiV {sp' : Space} {s' : Shape} {e' : EltTy} (src : Memref sig .tc sp' s' e') (n : Fin 2) (X) (h1 h2) :
    Runs c iprop(Pnd c (dV R) (semOf R.v2_r0) (PV D c R) n X ∗ Owes c)
      (Prog.lift (.waitDma2 (semOf R.v2_r0 n) src (dV R n) h1 h2) : PG F _) ⟨⟩
      iprop(Rdy c (dV R) (semOf R.v2_r0) (PV D c R) n X ∗ Owes c) :=
  (runs_wait src (dV R n) (semOf R.v2_r0 n) _ rfl _ h1 h2).conseq .rfl
    (by unfold Rdy; iintro ⟨⟨Ha, Hb⟩, Hc, Hd⟩; isplitr [Hd]
        · isplitl [Ha]; · iexact Ha
          isplitl [Hc] <;> iassumption
        · iexact Hd)

end Cert.KernelIdeal.Attn

end
-- ==== Proof.Trip1.lean ====
module

public import proofs.«01_k».proof.Proof.Step

@[expose] public section

set_option maxRecDepth 65536
set_option pp.maxSteps 400

/-!
  The first parts of a trip: the next blocks are asked for.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

variable {c : Dev nD} (D : Arr F) (R : Refs) (k : Fin 73) (X : sProp (MT nD τ sig Unit (Elt F) ℕ (Pipeline.UC sig nD τ) ℕ))

theorem run106 : Runs c iprop(Tabs c R ∗ winT c (dQ R) (semOf R.v0_r0) (PQ D c R) lit0 (blkQ D) k ∗ X)
    (k0_part106 (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 0#32 1#32 k (aw lit0 k) (tw k))
    ⟨(chk4_ok k), (Scf.iv 0#32 1#32 k), (Scalar.cmpi .eq (Scf.iv 0#32 1#32 k) 0#32), (Scalar.cmpi .eq (Scf.iv 0#32 1#32 k) 72#32), (Scalar.addi (tw k) 0#32), (Scalar.addi (Scalar.select (Scalar.cmpi .eq (Scalar.select 1#1 (Scalar.subi (tw k) 1#32) (tw k)) 4294967295#32) 72#32 (Scalar.select 1#1 (Scalar.subi (tw k) 1#32) (tw k))) 0#32), (Scalar.addi (Scalar.select (Scalar.cmpi .eq (Scalar.select 1#1 (Scalar.addi (tw k) 1#32) (tw k)) 73#32) 0#32 (Scalar.select 1#1 (Scalar.addi (tw k) 1#32) (tw k))) 0#32), (lit0 k), (lit0 (nx k)), (Scalar.select (Scalar.andi (Scalar.andi (Scalar.cmpi .ne (lit0 k) (lit0 (nx k))) (Scalar.xori (Scalar.cmpi .sge (Scf.iv 0#32 1#32 k) 72#32) 1#1)) 1#1) (Scalar.addi (aw lit0 k) 1#32) (aw lit0 k))⟩
    iprop(Tabs c R ∗ winA c (dQ R) (semOf R.v0_r0) (PQ D c R) lit0 (blkQ D) k ∗ X) := by
  rw [k0_part106_eq_skeleton]
  delta k0_part106_skel
  refine Runs.bind (Runs.assume _ (chk4_ok k)) ?_
  refine Runs.bind ((runs_tab0 R _ _ k (off10_eq k)).frame _) ?_
  refine Runs.bind ((runs_tab0 R _ _ (nx k) (off11_eq k)).frame _) ?_
  refine Runs.bind (Runs.assume _ (chk5_ok k)) ?_
  refine Runs.diteJ iprop(Tabs c R ∗ winA c (dQ R) (semOf R.v0_r0) (PQ D c R) lit0 (blkQ D) k ∗ X) (fun hp hj => ?_) (fun hn => ?_) ?_
  · refine Runs.bind ((runs_tab0 R _ _ (nx k) (off12_eq k)).frame _) ?_
    refine Runs.bind (Runs.assume _ (chk6_ok k)) ?_
    refine Runs.seq (R := iprop(Tabs c R ∗ (if fr lit0 k then Pnd c (dQ R) (semOf R.v0_r0) (PQ D c R) (slf (cw lit0 k)) (blkQ D k) else Rdy c (dQ R) (semOf R.v0_r0) (PQ D c R) (slf (cw lit0 k)) (blkQ D k)) ∗ X)) ?_ (fetQ D R (slf (aw lit0 k)) (nx k) _ _ _) (Runs.pre ?_ hj)
    · rw [winT_top]
      iintro ⟨H1, ⟨H2, H3⟩, H4⟩
      isplitl [H3]; · iexact H3
      isplitl [H1]; · iexact H1
      isplitl [H2] <;> iassumption
    · unfold winA
      rw [if_pos (c := mv lit0 k = true) ((cond1_eq k).mp hp)]
      iintro ⟨H3, H1, H2, H4⟩
      isplitl [H1]; · iexact H1
      isplitl [H2 H3]
      · isplitl [H2] <;> iassumption
      · iexact H4
  · unfold winA
    rw [winT_top, if_neg (c := mv lit0 k = true) (fun h => hn ((cond1_eq k).mpr h))]
  · exact Runs.pure _ _

theorem run107 : Runs c iprop(Tabs c R ∗ winT c (dK R) (semOf R.v1_r0) (PK D c R) lit1 (blkK D) k ∗ winT c (dV R) (semOf R.v2_r0) (PV D c R) lit2 (blkV D) k ∗ X)
    (k0_part107 (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 k (cw lit0 k) (aw lit1 k) (aw lit2 k) (cw lit3 k) (tw k) (chk4_ok k) (Scf.iv 0#32 1#32 k) (Scalar.cmpi .eq (Scf.iv 0#32 1#32 k) 0#32) (Scalar.addi (tw k) 0#32) (Scalar.addi (Scalar.select (Scalar.cmpi .eq (Scalar.select 1#1 (Scalar.subi (tw k) 1#32) (tw k)) 4294967295#32) 72#32 (Scalar.select 1#1 (Scalar.subi (tw k) 1#32) (tw k))) 0#32) (Scalar.addi (Scalar.select (Scalar.cmpi .eq (Scalar.select 1#1 (Scalar.addi (tw k) 1#32) (tw k)) 73#32) 0#32 (Scalar.select 1#1 (Scalar.addi (tw k) 1#32) (tw k))) 0#32) (lit0 k))
    ⟨(lit1 k), (lit1 (nx k)), (Scalar.select (Scalar.andi (Scalar.andi (Scalar.cmpi .ne (lit1 k) (lit1 (nx k))) (Scalar.xori (Scalar.cmpi .sge (Scf.iv 0#32 1#32 k) 72#32) 1#1)) 1#1) (Scalar.addi (aw lit1 k) 1#32) (aw lit1 k)), (lit2 k), (lit2 (nx k)), (Scalar.select (Scalar.andi (Scalar.andi (Scalar.cmpi .ne (lit2 k) (lit2 (nx k))) (Scalar.xori (Scalar.cmpi .sge (Scf.iv 0#32 1#32 k) 72#32) 1#1)) 1#1) (Scalar.addi (aw lit2 k) 1#32) (aw lit2 k)), (lit3 k), (lit3 (nx k)), (chk18_ok k), (lit0 (pv k)), (chk11_ok k), (Scalar.ori (Scalar.cmpi .ne (lit0 k) (lit0 (pv k))) (Scalar.cmpi .eq (Scf.iv 0#32 1#32 k) 0#32))⟩
    iprop(Tabs c R ∗ winA c (dV R) (semOf R.v2_r0) (PV D c R) lit2 (blkV D) k ∗ winA c (dK R) (semOf R.v1_r0) (PK D c R) lit1 (blkK D) k ∗ X) := by
  rw [k0_part107_eq_skeleton]
  delta k0_part107_skel
  refine Runs.bind ((runs_tab1 R _ _ k (off16_eq k)).frame _) ?_
  refine Runs.bind ((runs_tab1 R _ _ (nx k) (off17_eq k)).frame _) ?_
  refine Runs.bind (Runs.assume _ (chk7_ok k)) ?_
  refine Runs.diteJ iprop(Tabs c R ∗ winA c (dK R) (semOf R.v1_r0) (PK D c R) lit1 (blkK D) k ∗ winT c (dV R) (semOf R.v2_r0) (PV D c R) lit2 (blkV D) k ∗ X) (fun hp hj => ?_) (fun hn => ?_) ?_
  · refine Runs.bind ((runs_tab1 R _ _ (nx k) (off18_eq k)).frame _) ?_
    refine Runs.bind (Runs.assume _ (chk8_ok k)) ?_
    refine Runs.seq (R := iprop(Tabs c R ∗ (if fr lit1 k then Pnd c (dK R) (semOf R.v1_r0) (PK D c R) (slf (cw lit1 k)) (blkK D k) else Rdy c (dK R) (semOf R.v1_r0) (PK D c R) (slf (cw lit1 k)) (blkK D k)) ∗ winT c (dV R) (semOf R.v2_r0) (PV D c R) lit2 (blkV D) k ∗ X)) ?_ (fetK D R (slf (aw lit1 k)) (nx k) _ _ _) (Runs.pre ?_ hj)
    · rw [winT_top]
      iintro ⟨H1, ⟨H2, H3⟩, H4⟩
      isplitl [H3]; · iexact H3
      isplitl [H1]; · iexact H1
      isplitl [H2] <;> iassumption
    · unfold winA
      rw [if_pos (c := mv lit1 k = true) ((cond2_eq k).mp hp)]
      iintro ⟨H3, H1, H2, H4⟩
      isplitl [H1]; · iexact H1
      isplitl [H2 H3]
      · isplitl [H2] <;> iassumption
      · iexact H4
  · unfold winA
    rw [winT_top, if_neg (c := mv lit1 k = true) (fun h => hn ((cond2_eq k).mpr h))]
  refine Runs.pre (A := iprop(Tabs c R ∗ winT c (dV R) (semOf R.v2_r0) (PV D c R) lit2 (blkV D) k ∗ winA c (dK R) (semOf R.v1_r0) (PK D c R) lit1 (blkK D) k ∗ X)) ?_ ?_
  · iintro ⟨H1, H2, H3, H4⟩
    isplitl [H1]; · iexact H1
    isplitl [H3]; · iexact H3
    isplitl [H2] <;> iassumption
  refine Runs.bind ((runs_tab2 R _ _ k (off22_eq k)).frame _) ?_
  refine Runs.bind ((runs_tab2 R _ _ (nx k) (off23_eq k)).frame _) ?_
  refine Runs.bind (Runs.assume _ (chk9_ok k)) ?_
  refine Runs.diteJ iprop(Tabs c R ∗ winA c (dV R) (semOf R.v2_r0) (PV D c R) lit2 (blkV D) k ∗ winA c (dK R) (semOf R.v1_r0) (PK D c R) lit1 (blkK D) k ∗ X) (fun hp hj => ?_) (fun hn => ?_) ?_
  · refine Runs.bind ((runs_tab2 R _ _ (nx k) (off24_eq k)).frame _) ?_
    refine Runs.bind (Runs.assume _ (chk10_ok k)) ?_
    refine Runs.seq (R := iprop(Tabs c R ∗ (if fr lit2 k then Pnd c (dV R) (semOf R.v2_r0) (PV D c R) (slf (cw lit2 k)) (blkV D k) else Rdy c (dV R) (semOf R.v2_r0) (PV D c R) (slf (cw lit2 k)) (blkV D k)) ∗ winA c (dK R) (semOf R.v1_r0) (PK D c R) lit1 (blkK D) k ∗ X)) ?_ (fetV D R (slf (aw lit2 k)) (nx k) _ _ _) (Runs.pre ?_ hj)
    · rw [winT_top]
      iintro ⟨H1, ⟨H2, H3⟩, H4⟩
      isplitl [H3]; · iexact H3
      isplitl [H1]; · iexact H1
      isplitl [H2] <;> iassumption
    · unfold winA
      rw [if_pos (c := mv lit2 k = true) ((cond3_eq k).mp hp)]
      iintro ⟨H3, H1, H2, H4⟩
      isplitl [H1]; · iexact H1
      isplitl [H2 H3]
      · isplitl [H2] <;> iassumption
      · iexact H4
  · unfold winA
    rw [winT_top, if_neg (c := mv lit2 k = true) (fun h => hn ((cond3_eq k).mpr h))]
  refine Runs.bind ((runs_tab3 R _ _ k (off28_eq k)).frame _) ?_
  refine Runs.bind ((runs_tab3 R _ _ (nx k) (off29_eq k)).frame _) ?_
  refine Runs.bind (Runs.assume _ (chk18_ok k)) ?_
  refine Runs.bind ((runs_tab0 R _ _ (pv k) (off30_eq k)).frame _) ?_
  refine Runs.bind (Runs.assume _ (chk11_ok k)) ?_
  exact Runs.pure _ _

end Cert.KernelIdeal.Attn

end
-- ==== Proof.Trip2.lean ====
module

public import proofs.«01_k».proof.Proof.Step

@[expose] public section

set_option maxRecDepth 65536
set_option pp.maxSteps 400

/-!
  The middle part of a trip: its blocks are awaited, and the run's first trip clears the scratch arrays.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

variable {c : Dev nD} (D : Arr F) (R : Refs) (k : Fin 73) (X : sProp (MT nD τ sig Unit (Elt F) ℕ (Pipeline.UC sig nD τ) ℕ))

theorem overlay_whole {s : Shape} {e : EltTy} (o w : s.Idx → Elt F e) (off : Fin s.rank → ℕ) (inb) (h : ∀ a, off a = 0) :
    (Rect.unit (s := s) off s.size inb).overlay o w = w := by
  funext i
  have he : (Rect.unit (s := s) off s.size inb).emb i = i := by
    funext a; apply Fin.ext; rw [Rect.emb_apply]; show off a + 1 * (i a).val = _; rw [h a]; omega
  have := (Rect.unit (s := s) off s.size inb).overlay_emb o w i
  rw [he] at this; exact this

theorem stz {s : Shape} {e : EltTy} (m : Memref sig .tc .vmem s e) (off : Fin s.rank → ℕ) (inb) (h : ∀ a, off a = 0) (w : s.Idx → Elt F e) (o) (hx) (hm) :
    Runs c (owns (c : Thread nD τ) m fullShare o) (Prog.lift (.store m (Rect.unit (s := s) off s.size inb) w Finset.univ hx hm) : PG F _) ⟨⟩
      (owns (c : Thread nD τ) m fullShare w) := by
  have H := runs_store (c := c) m (Rect.unit (s := s) off s.size inb) w hx hm o
  rw [overlay_whole o w off inb h] at H
  exact H

theorem run108 (st : TS F) : Runs c iprop(Tabs c R ∗ winA c (dQ R) (semOf R.v0_r0) (PQ D c R) lit0 (blkQ D) k ∗ winA c (dK R) (semOf R.v1_r0) (PK D c R) lit1 (blkK D) k ∗ winA c (dV R) (semOf R.v2_r0) (PV D c R) lit2 (blkV D) k ∗ Owes c ∗ Scr c R st)
    (k0_part108 (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 k (cw lit0 k) (cw lit1 k) (cw lit2 k) (cw lit3 k) (ww k) (tw k) (chk4_ok k) (Scf.iv 0#32 1#32 k) (Scalar.cmpi .eq (Scf.iv 0#32 1#32 k) 0#32) (Scalar.addi (tw k) 0#32) (Scalar.addi (Scalar.select (Scalar.cmpi .eq (Scalar.select 1#1 (Scalar.subi (tw k) 1#32) (tw k)) 4294967295#32) 72#32 (Scalar.select 1#1 (Scalar.subi (tw k) 1#32) (tw k))) 0#32) (lit0 k) (lit1 k) (lit2 k) (lit3 k) (lit0 (pv k)) (chk11_ok k) (Scalar.ori (Scalar.cmpi .ne (lit0 k) (lit0 (pv k))) (Scalar.cmpi .eq (Scf.iv 0#32 1#32 k) 0#32)))
    ⟨(lit1 (pv k)), (lit2 (pv k)), (lit3 (pv k)), (chk20_ok k), (lit5 k), 1#32⟩
    iprop(Tabs c R ∗ winB c (dQ R) (semOf R.v0_r0) (PQ D c R) lit0 (blkQ D) k ∗ winB c (dK R) (semOf R.v1_r0) (PK D c R) lit1 (blkK D) k ∗ winB c (dV R) (semOf R.v2_r0) (PV D c R) lit2 (blkV D) k ∗ Owes c ∗ Scr c R (clr k st)) := by
  rw [k0_part108_eq_skeleton]
  delta k0_part108_skel
  refine Runs.pre (A := iprop(Tabs c R ∗ winA c (dQ R) (semOf R.v0_r0) (PQ D c R) lit0 (blkQ D) k ∗ Owes c ∗ winA c (dK R) (semOf R.v1_r0) (PK D c R) lit1 (blkK D) k ∗ winA c (dV R) (semOf R.v2_r0) (PV D c R) lit2 (blkV D) k ∗ Scr c R st)) ?_ ?_
  · iintro ⟨H1, H2, H3, H4, H5, H6⟩
    isplitl [H1]; · iexact H1
    isplitl [H2]; · iexact H2
    isplitl [H5]; · iexact H5
    isplitl [H3]; · iexact H3
    isplitl [H4] <;> iassumption
  refine Runs.diteJ iprop(Tabs c R ∗ winB c (dQ R) (semOf R.v0_r0) (PQ D c R) lit0 (blkQ D) k ∗ Owes c ∗ winA c (dK R) (semOf R.v1_r0) (PK D c R) lit1 (blkK D) k ∗ winA c (dV R) (semOf R.v2_r0) (PV D c R) lit2 (blkV D) k ∗ Scr c R st) (fun hp hj => ?_) (fun hn => ?_) ?_
  · refine Runs.bind ((runs_tab0 R _ _ k (off31_eq k)).frame _) ?_
    refine Runs.bind (Runs.assume _ (chk12_ok k)) ?_
    refine Runs.seq (R := iprop(Tabs c R ∗ (if mv lit0 k then Pnd c (dQ R) (semOf R.v0_r0) (PQ D c R) (slf (aw lit0 k)) (blkQ D (nx k)) else Jnk c (dQ R) (semOf R.v0_r0) (PQ D c R) (slf (aw lit0 k))) ∗ winA c (dK R) (semOf R.v1_r0) (PK D c R) lit1 (blkK D) k ∗ winA c (dV R) (semOf R.v2_r0) (PV D c R) lit2 (blkV D) k ∗ Scr c R st)) ?_ (waiQ D R _ (slf (cw lit0 k)) (blkQ D k) _ _) (Runs.pre ?_ hj)
    · unfold winA
      rw [if_pos (c := fr lit0 k = true) ((cond4_eq k).mp hp)]
      iintro ⟨H1, ⟨H2, H3⟩, H4, H5⟩
      isplitl [H2 H4]
      · isplitl [H2] <;> iassumption
      isplitl [H1]; · iexact H1
      isplitl [H3] <;> iassumption
    · unfold winB
      iintro ⟨⟨H2, H4⟩, H1, H3, H5⟩
      isplitl [H1]; · iexact H1
      isplitl [H2 H3]
      · isplitl [H2] <;> iassumption
      isplitl [H4] <;> iassumption
  · unfold winA winB
    rw [if_neg (c := fr lit0 k = true) (fun h => hn ((cond4_eq k).mpr h))]
  refine Runs.bind ((runs_tab1 R _ _ (pv k) (off35_eq k)).frame _) ?_
  refine Runs.bind (Runs.assume _ (chk13_ok k)) ?_
  refine Runs.pre (A := iprop(Tabs c R ∗ winA c (dK R) (semOf R.v1_r0) (PK D c R) lit1 (blkK D) k ∗ Owes c ∗ winB c (dQ R) (semOf R.v0_r0) (PQ D c R) lit0 (blkQ D) k ∗ winA c (dV R) (semOf R.v2_r0) (PV D c R) lit2 (blkV D) k ∗ Scr c R st)) ?_ ?_
  · iintro ⟨H1, H2, H5, H3, H4, H6⟩
    isplitl [H1]; · iexact H1
    isplitl [H3]; · iexact H3
    isplitl [H5]; · iexact H5
    isplitl [H2]; · iexact H2
    isplitl [H4] <;> iassumption
  refine Runs.diteJ iprop(Tabs c R ∗ winB c (dK R) (semOf R.v1_r0) (PK D c R) lit1 (blkK D) k ∗ Owes c ∗ winB c (dQ R) (semOf R.v0_r0) (PQ D c R) lit0 (blkQ D) k ∗ winA c (dV R) (semOf R.v2_r0) (PV D c R) lit2 (blkV D) k ∗ Scr c R st) (fun hp hj => ?_) (fun hn => ?_) ?_
  · refine Runs.bind ((runs_tab1 R _ _ k (off36_eq k)).frame _) ?_
    refine Runs.bind (Runs.assume _ (chk14_ok k)) ?_
    refine Runs.seq (R := iprop(Tabs c R ∗ (if mv lit1 k then Pnd c (dK R) (semOf R.v1_r0) (PK D c R) (slf (aw lit1 k)) (blkK D (nx k)) else Jnk c (dK R) (semOf R.v1_r0) (PK D c R) (slf (aw lit1 k))) ∗ winB c (dQ R) (semOf R.v0_r0) (PQ D c R) lit0 (blkQ D) k ∗ winA c (dV R) (semOf R.v2_r0) (PV D c R) lit2 (blkV D) k ∗ Scr c R st)) ?_ (waiK D R _ (slf (cw lit1 k)) (blkK D k) _ _) (Runs.pre ?_ hj)
    · unfold winA
      rw [if_pos (c := fr lit1 k = true) ((cond5_eq k).mp hp)]
      iintro ⟨H1, ⟨H2, H3⟩, H4, H5⟩
      isplitl [H2 H4]
      · isplitl [H2] <;> iassumption
      isplitl [H1]; · iexact H1
      isplitl [H3] <;> iassumption
    · unfold winB
      iintro ⟨⟨H2, H4⟩, H1, H3, H5⟩
      isplitl [H1]; · iexact H1
      isplitl [H2 H3]
      · isplitl [H2] <;> iassumption
      isplitl [H4] <;> iassumption
  · unfold winA winB
    rw [if_neg (c := fr lit1 k = true) (fun h => hn ((cond5_eq k).mpr h))]
  refine Runs.bind ((runs_tab2 R _ _ (pv k) (off40_eq k)).frame _) ?_
  refine Runs.bind (Runs.assume _ (chk15_ok k)) ?_
  refine Runs.pre (A := iprop(Tabs c R ∗ winA c (dV R) (semOf R.v2_r0) (PV D c R) lit2 (blkV D) k ∗ Owes c ∗ winB c (dQ R) (semOf R.v0_r0) (PQ D c R) lit0 (blkQ D) k ∗ winB c (dK R) (semOf R.v1_r0) (PK D c R) lit1 (blkK D) k ∗ Scr c R st)) ?_ ?_
  · iintro ⟨H1, H3, H5, H2, H4, H6⟩
    isplitl [H1]; · iexact H1
    isplitl [H4]; · iexact H4
    isplitl [H5]; · iexact H5
    isplitl [H2]; · iexact H2
    isplitl [H3] <;> iassumption
  refine Runs.diteJ iprop(Tabs c R ∗ winB c (dV R) (semOf R.v2_r0) (PV D c R) lit2 (blkV D) k ∗ Owes c ∗ winB c (dQ R) (semOf R.v0_r0) (PQ D c R) lit0 (blkQ D) k ∗ winB c (dK R) (semOf R.v1_r0) (PK D c R) lit1 (blkK D) k ∗ Scr c R st) (fun hp hj => ?_) (fun hn => ?_) ?_
  · refine Runs.bind ((runs_tab2 R _ _ k (off41_eq k)).frame _) ?_
    refine Runs.bind (Runs.assume _ (chk16_ok k)) ?_
    refine Runs.seq (R := iprop(Tabs c R ∗ (if mv lit2 k then Pnd c (dV R) (semOf R.v2_r0) (PV D c R) (slf (aw lit2 k)) (blkV D (nx k)) else Jnk c (dV R) (semOf R.v2_r0) (PV D c R) (slf (aw lit2 k))) ∗ winB c (dQ R) (semOf R.v0_r0) (PQ D c R) lit0 (blkQ D) k ∗ winB c (dK R) (semOf R.v1_r0) (PK D c R) lit1 (blkK D) k ∗ Scr c R st)) ?_ (waiV D R _ (slf (cw lit2 k)) (blkV D k) _ _) (Runs.pre ?_ hj)
    · unfold winA
      rw [if_pos (c := fr lit2 k = true) ((cond6_eq k).mp hp)]
      iintro ⟨H1, ⟨H2, H3⟩, H4, H5⟩
      isplitl [H2 H4]
      · isplitl [H2] <;> iassumption
      isplitl [H1]; · iexact H1
      isplitl [H3] <;> iassumption
    · unfold winB
      iintro ⟨⟨H2, H4⟩, H1, H3, H5⟩
      isplitl [H1]; · iexact H1
      isplitl [H2 H3]
      · isplitl [H2] <;> iassumption
      isplitl [H4] <;> iassumption
  · unfold winA winB
    rw [if_neg (c := fr lit2 k = true) (fun h => hn ((cond6_eq k).mpr h))]
  refine Runs.bind ((runs_tab3 R _ _ (pv k) (off45_eq k)).frame _) ?_
  refine Runs.bind (Runs.assume _ (chk20_ok k)) ?_
  refine Runs.same ?_
  refine Runs.pre (A := iprop(Scr c R st ∗ Tabs c R ∗ winB c (dQ R) (semOf R.v0_r0) (PQ D c R) lit0 (blkQ D) k ∗ winB c (dK R) (semOf R.v1_r0) (PK D c R) lit1 (blkK D) k ∗ winB c (dV R) (semOf R.v2_r0) (PV D c R) lit2 (blkV D) k ∗ Owes c)) ?_ ?_
  · iintro ⟨H1, H4, H5, H2, H3, H6⟩
    isplitl [H6]; · iexact H6
    isplitl [H1]; · iexact H1
    isplitl [H2]; · iexact H2
    isplitl [H3]; · iexact H3
    isplitl [H4] <;> iassumption
  refine Runs.iteJ iprop(Scr c R (clr k st) ∗ Tabs c R ∗ winB c (dQ R) (semOf R.v0_r0) (PQ D c R) lit0 (blkQ D) k ∗ winB c (dK R) (semOf R.v1_r0) (PK D c R) lit1 (blkK D) k ∗ winB c (dV R) (semOf R.v2_r0) (PV D c R) lit2 (blkV D) k ∗ Owes c) (fun hp hj => ?_) (fun hn => ?_) ?_
  · unfold Scr
    refine Runs.bind (((runs_load R.arg11 _ _ fullShare st.s).frame _).frame _) ?_
    refine Runs.bind (((stz R.arg11 ![0, 0, 0] _ (by decide) k0_pay687 st.s _ _).frame _).frame _) ?_
    refine Runs.pre (A := iprop((owns (c : Thread nD τ) R.arg12 fullShare st.x ∗ owns (c : Thread nD τ) R.arg11 fullShare zS ∗ owns (c : Thread nD τ) R.arg13 fullShare st.m ∗ owns (c : Thread nD τ) R.arg14 fullShare st.a) ∗ Tabs c R ∗ winB c (dQ R) (semOf R.v0_r0) (PQ D c R) lit0 (blkQ D) k ∗ winB c (dK R) (semOf R.v1_r0) (PK D c R) lit1 (blkK D) k ∗ winB c (dV R) (semOf R.v2_r0) (PV D c R) lit2 (blkV D) k ∗ Owes c)) ?_ ?_
    · iintro ⟨⟨H1, H2, H3, H4⟩, H5⟩
      isplitr [H5]
      · isplitl [H2]; · iexact H2
        isplitl [H1]; · iexact H1
        isplitl [H3] <;> iassumption
      · iexact H5
    refine Runs.bind (((runs_load R.arg12 _ _ fullShare st.x).frame _).frame _) ?_
    refine Runs.bind (((stz R.arg12 ![0, 0, 0] _ (by decide) k0_pay688 st.x _ _).frame _).frame _) ?_
    refine Runs.pre (A := iprop((owns (c : Thread nD τ) R.arg14 fullShare st.a ∗ owns (c : Thread nD τ) R.arg11 fullShare zS ∗ owns (c : Thread nD τ) R.arg12 fullShare zX ∗ owns (c : Thread nD τ) R.arg13 fullShare st.m) ∗ Tabs c R ∗ winB c (dQ R) (semOf R.v0_r0) (PQ D c R) lit0 (blkQ D) k ∗ winB c (dK R) (semOf R.v1_r0) (PK D c R) lit1 (blkK D) k ∗ winB c (dV R) (semOf R.v2_r0) (PV D c R) lit2 (blkV D) k ∗ Owes c)) ?_ ?_
    · iintro ⟨⟨H2, H1, H3, H4⟩, H5⟩
      isplitr [H5]
      · isplitl [H4]; · iexact H4
        isplitl [H1]; · iexact H1
        isplitl [H2]; · iexact H2
        iexact H3
      · iexact H5
    refine Runs.bind (((runs_load R.arg14 _ _ fullShare st.a).frame _).frame _) ?_
    refine Runs.bind (((stz R.arg14 ![0, 0, 0] _ (by decide) k0_pay689 st.a _ _).frame _).frame _) ?_
    refine Runs.pre ?_ hj
    rw [show clr k st = ⟨zS, zX, st.m, zA⟩ from by unfold clr; rw [if_pos ((condZ k).mp hp)]]
    unfold Scr
    iintro ⟨⟨H4, H1, H2, H3⟩, H5⟩
    isplitr [H5]
    · isplitl [H1]; · iexact H1
      isplitl [H2]; · iexact H2
      isplitl [H3]; · iexact H3
      iexact H4
    · iexact H5
  · unfold clr; rw [if_neg (fun h => hn ((condZ k).mpr h))]
  refine Runs.pre (A := iprop(Tabs c R ∗ winB c (dQ R) (semOf R.v0_r0) (PQ D c R) lit0 (blkQ D) k ∗ winB c (dK R) (semOf R.v1_r0) (PK D c R) lit1 (blkK D) k ∗ winB c (dV R) (semOf R.v2_r0) (PV D c R) lit2 (blkV D) k ∗ Owes c ∗ Scr c R (clr k st))) ?_ ?_
  · iintro ⟨H6, H1, H2, H3, H4, H5⟩
    isplitl [H1]; · iexact H1
    isplitl [H2]; · iexact H2
    isplitl [H3]; · iexact H3
    isplitl [H4]; · iexact H4
    isplitl [H5] <;> iassumption
  refine Runs.bind ((runs_tab5 R _ _ k (off46_eq k)).frame _) ?_
  exact Runs.pure _ _

end Cert.KernelIdeal.Attn

end
-- ==== Proof.M10.lean ====
module

public import proofs.«01_k».proof.Proof.Clean

/-! The printed tile is the tile. -/

@[expose] public section

set_option synthInstance.maxSize 4096
set_option maxRecDepth 65536

noncomputable section

namespace Cert.KernelIdeal.Attn

open Idealize.ShloMosaic Idealize.SL.Sem Cert.KernelIdeal Cert.KernelIdeal.Gen

variable {F : FTy → Type} [FloatOps F] [Named F]

theorem ff_eq (arg0 : Memref sig .tc .smem S73 .i32) (harg0 : arg0.IsWhole) (arg1 : Memref sig .tc .smem S73 .i32) (harg1 : arg1.IsWhole) (arg2 : Memref sig .tc .smem S73 .i32) (harg2 : arg2.IsWhole) (arg3 : Memref sig .tc .smem S73 .i32) (harg3 : arg3.IsWhole) (arg4 : Memref sig .tc .smem S73 .i32) (harg4 : arg4.IsWhole) (arg5 : Memref sig .tc .smem S73 .i32) (harg5 : arg5.IsWhole) (arg6 : Memref sig .tc .smem S73 .i32) (harg6 : arg6.IsWhole) (arg7 : Memref sig .tc .hbm S1024x16384 .bf16) (harg7 : arg7.IsWhole) (arg8 : Memref sig .tc .hbm S16384x1024 .bf16) (harg8 : arg8.IsWhole) (arg9 : Memref sig .tc .hbm S576x16384 .bf16) (harg9 : arg9.IsWhole) (arg10 : Memref sig .tc .hbm S16384x512 .bf16) (harg10 : arg10.IsWhole) (arg11 : Memref sig .tc .vmem S4x1024x1024 .f32) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x144x1024 .f32) (harg14 : arg14.IsWhole) (alloca_r0 : Memref sig .tc .vmem S2x1024x1024 .bf16) (halloca_r0 : alloca_r0.IsWhole) (v0_r0 : DmaSems sig S2) (alloca_0_r0 : Memref sig .tc .vmem S2x1024x1024 .bf16) (halloca_0_r0 : alloca_0_r0.IsWhole) (v1_r0 : DmaSems sig S2) (alloca_1_r0 : Memref sig .tc .vmem S2x576x1024 .bf16) (halloca_1_r0 : alloca_1_r0.IsWhole) (v2_r0 : DmaSems sig S2) (alloca_2_r0 : Memref sig .tc .vmem S2x1024x512 .bf16) (halloca_2_r0 : alloca_2_r0.IsWhole) (v3_r0 : DmaSems sig S2)
    (arg17_r0 arg19_r0 arg21_r0 arg22_r0 : BitVec 32) (v190_r0 v193_r0 : Elt F .i32)
    {γ : Type} (jp : PUnit → PG F γ) (k0_hw17 : k0_chk17 arg17_r0 arg19_r0 arg21_r0 arg22_r0 v190_r0 v193_r0) (k0_h10 : k0_cond10 v190_r0 v193_r0 = 1#1)
    (h17 : sl arg17_r0 < 2) (h19 : sl arg19_r0 < 2) (h21 : sl arg21_r0 < 2) :
    ((do
    let v1019_r0 : FVec F S144x256 .f32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h10
    let v1020_r0 : Vec F S1x144x256 .f32 ← Prog.lift (.load arg14 (Rect.unit (s := S4x144x1024) ![3, 0, 768] S1x144x256.size inb_S4x144x1024_S1x144x256_3_0_768).toLoadRect (View.loadsAt_vmem h_S1x144x256))
    Prog.lift (.store arg14 (Rect.unit (s := S4x144x1024) ![3, 0, 768] S1x144x256.size inb_S4x144x1024_S1x144x256_3_0_768) (k0_pay691 v1019_r0) Finset.univ (View.stores_vmem_bits_univ h_S1x144x256 rfl) (.inl rfl))
    jp ⟨⟩) : PG F γ) = tile arg11 arg12 arg13 arg14 (slotK alloca_r0 (sl arg17_r0) h17) (slotK alloca_0_r0 (sl arg19_r0) h19) (slotV alloca_1_r0 (sl arg21_r0) h21) false >>= jp := by
  chain_rfl

end Cert.KernelIdeal.Attn
-- ==== Proof.M11.lean ====
module

public import proofs.«01_k».proof.Proof.Clean

/-! The printed tile is the tile. -/

@[expose] public section

set_option synthInstance.maxSize 4096
set_option maxRecDepth 65536

noncomputable section

namespace Cert.KernelIdeal.Attn

open Idealize.ShloMosaic Idealize.SL.Sem Cert.KernelIdeal Cert.KernelIdeal.Gen

variable {F : FTy → Type} [FloatOps F] [Named F]

theorem ft_eq (arg0 : Memref sig .tc .smem S73 .i32) (harg0 : arg0.IsWhole) (arg1 : Memref sig .tc .smem S73 .i32) (harg1 : arg1.IsWhole) (arg2 : Memref sig .tc .smem S73 .i32) (harg2 : arg2.IsWhole) (arg3 : Memref sig .tc .smem S73 .i32) (harg3 : arg3.IsWhole) (arg4 : Memref sig .tc .smem S73 .i32) (harg4 : arg4.IsWhole) (arg5 : Memref sig .tc .smem S73 .i32) (harg5 : arg5.IsWhole) (arg6 : Memref sig .tc .smem S73 .i32) (harg6 : arg6.IsWhole) (arg7 : Memref sig .tc .hbm S1024x16384 .bf16) (harg7 : arg7.IsWhole) (arg8 : Memref sig .tc .hbm S16384x1024 .bf16) (harg8 : arg8.IsWhole) (arg9 : Memref sig .tc .hbm S576x16384 .bf16) (harg9 : arg9.IsWhole) (arg10 : Memref sig .tc .hbm S16384x512 .bf16) (harg10 : arg10.IsWhole) (arg11 : Memref sig .tc .vmem S4x1024x1024 .f32) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x144x1024 .f32) (harg14 : arg14.IsWhole) (alloca_r0 : Memref sig .tc .vmem S2x1024x1024 .bf16) (halloca_r0 : alloca_r0.IsWhole) (v0_r0 : DmaSems sig S2) (alloca_0_r0 : Memref sig .tc .vmem S2x1024x1024 .bf16) (halloca_0_r0 : alloca_0_r0.IsWhole) (v1_r0 : DmaSems sig S2) (alloca_1_r0 : Memref sig .tc .vmem S2x576x1024 .bf16) (halloca_1_r0 : alloca_1_r0.IsWhole) (v2_r0 : DmaSems sig S2) (alloca_2_r0 : Memref sig .tc .vmem S2x1024x512 .bf16) (halloca_2_r0 : alloca_2_r0.IsWhole) (v3_r0 : DmaSems sig S2)
    (arg17_r0 arg19_r0 arg21_r0 arg22_r0 : BitVec 32) (v190_r0 v193_r0 : Elt F .i32)
    {γ : Type} (jp : PUnit → PG F γ) (k0_hw17 : k0_chk17 arg17_r0 arg19_r0 arg21_r0 arg22_r0 v190_r0 v193_r0) (k0_h11 : k0_cond11 v190_r0 v193_r0 = 1#1)
    (h17 : sl arg17_r0 < 2) (h19 : sl arg19_r0 < 2) (h21 : sl arg21_r0 < 2) :
    ((do
    let ⟨v289_r0, v299_r0, v305_r0, v316_r0⟩ : Σ' (v289_r0 : IVec S256x256 1) (v299_r0 : FVec F S1x256 .f32) (v305_r0 : FVec F S1024x256 .bf16), FVec F S256x256 .f32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11
    let ⟨v342_r0, v347_r0, v349_r0⟩ : Σ' (v342_r0 : FVec F S1x256 .f32) (v347_r0 : FVec F S1x256 .f32), FVec F S1024x256 .f32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v299_r0 v305_r0 v316_r0
    let v353_r0 : FVec F S1024x256 .bf16 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v342_r0 v349_r0
    let ⟨v404_r0, v410_r0, v414_r0⟩ : Σ' (v404_r0 : FVec F S1x256 .f32) (v410_r0 : FVec F S1024x256 .bf16), FVec F S768x256 .bf16 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v347_r0 v353_r0
    let v448_r0 : FVec F S144x256 .f32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v404_r0 v410_r0 v414_r0
    let ⟨v461_r0, v467_r0, v476_r0, v479_r0⟩ : Σ' (v461_r0 : FVec F S1x256 .f32) (v467_r0 : FVec F S1024x256 .bf16) (v476_r0 : FVec F S1024x256 .f32), FVec F S256x256 .f32 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v448_r0
    let v510_r0 : FVec F S1x256 .f32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v461_r0 v467_r0 v476_r0 v479_r0
    let ⟨v518_r0, v524_r0⟩ : Σ' (v518_r0 : FVec F S1x256 .f32), FVec F S1024x256 .bf16 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v510_r0
    let ⟨v566_r0, v572_r0⟩ : Σ' (v566_r0 : FVec F S1x256 .f32), FVec F S1024x256 .bf16 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v518_r0 v524_r0
    let ⟨v605_r0, v606_r0⟩ : Σ' (v605_r0 : FVec F S144x256 .f32), Vec F S1x144x256 .f32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v572_r0
    let ⟨v623_r0, v629_r0, v638_r0, v639_r0, cst_449_r0⟩ : Σ' (v623_r0 : FVec F S1x256 .f32) (v629_r0 : FVec F S1024x256 .bf16) (v638_r0 : FVec F S768x256 .f32) (v639_r0 : FVec F S256x256 .f32), F .f32 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v566_r0 v605_r0 v606_r0
    k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v623_r0 v629_r0 v638_r0 v639_r0 cst_449_r0
    let ⟨v680_r0, v686_r0, v695_r0, v703_r0, v704_r0⟩ : Σ' (v680_r0 : FVec F S1x256 .f32) (v686_r0 : FVec F S1024x256 .bf16) (v695_r0 : FVec F S1024x256 .f32) (v703_r0 : FVec F S1x256 .f32), FVec F S768x256 .f32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0
    let ⟨v729_r0, v732_r0, v735_r0⟩ : Σ' (v729_r0 : FVec F S1x256 .f32) (v732_r0 : FVec F S1x256 .f32), FVec F S1x1x256 .f32 ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v680_r0 v686_r0 v695_r0 v703_r0 v704_r0
    let ⟨v737_r0, v767_r0⟩ : Σ' (v737_r0 : FVec F S1x256 .f32), FVec F S144x256 .f32 ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v729_r0 v732_r0 v735_r0
    let ⟨v785_r0, v791_r0, v795_r0, v799_r0⟩ : Σ' (v785_r0 : FVec F S1x256 .f32) (v791_r0 : FVec F S1024x256 .bf16) (v795_r0 : FVec F S512x256 .bf16), FVec F S256x256 .bf16 ← k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v737_r0 v767_r0
    let v832_r0 : FVec F S1x144x256 .f32 ← k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v785_r0 v791_r0 v795_r0 v799_r0
    let ⟨v842_r0, v848_r0, v857_r0, v860_r0⟩ : Σ' (v842_r0 : FVec F S1x256 .f32) (v848_r0 : FVec F S1024x256 .bf16) (v857_r0 : FVec F S768x256 .f32), FVec F S256x256 .f32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v832_r0
    let ⟨v891_r0, v894_r0⟩ : Σ' (v891_r0 : FVec F S1x256 .f32), FVec F S1x256 .f32 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v842_r0 v848_r0 v857_r0 v860_r0
    let ⟨v899_r0, v905_r0, v922_r0, v929_r0⟩ : Σ' (v899_r0 : FVec F S1x256 .f32) (v905_r0 : FVec F S1024x256 .bf16) (v922_r0 : FVec F S1x256 .f32), FVec F S1x256 .f32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v891_r0 v894_r0
    let ⟨v956_r0, v960_r0⟩ : Σ' (v956_r0 : FVec F S1x256 .f32), FVec F S1024x256 .f32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v899_r0 v905_r0 v922_r0 v929_r0
    let v991_r0 : FVec F S144x256 .f32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v956_r0 v960_r0
    let ⟨v1004_r0, v1010_r0, v1019_r0, v1022_r0, v1023_r0⟩ : Σ' (v1004_r0 : FVec F S1x256 .f32) (v1010_r0 : FVec F S1024x256 .bf16) (v1019_r0 : FVec F S512x256 .f32) (v1022_r0 : FVec F S256x256 .f32), Vec F S1x256x256 .f32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v991_r0
    let ⟨v1053_r0, v1054_r0⟩ : Σ' (v1053_r0 : FVec F S1x256 .f32), Vec F S1x1x256 .f32 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v1004_r0 v1010_r0 v1019_r0 v1022_r0 v1023_r0
    let ⟨v1061_r0, v1067_r0, v1076_r0, v1084_r0⟩ : Σ' (v1061_r0 : FVec F S1x256 .f32) (v1067_r0 : FVec F S1024x256 .bf16) (v1076_r0 : FVec F S768x256 .f32), FVec F S1x256 .f32 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v1053_r0 v1054_r0
    let ⟨v1113_r0, v1118_r0⟩ : Σ' (v1113_r0 : FVec F S1x256 .f32), FVec F S1x256 .f32 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v1061_r0 v1067_r0 v1076_r0 v1084_r0
    let v1124_r0 : FVec F S1024x256 .bf16 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h11 v289_r0 v1113_r0
    let v1153_r0 : Memref sig .tc .vmem S1x576x1024 .bf16 := alloca_1_r0.slice (Rect.unit (s := S2x576x1024) (k0_off53 arg21_r0) S1x576x1024.size (k0_off53_inb arg17_r0 arg19_r0 arg21_r0 arg22_r0 v190_r0 v193_r0 k0_hw17 k0_h11)) (fun _ => rfl)
    let v1154_r0 : Memref sig .tc .vmem S576x1024 .bf16 := v1153_r0.squeeze S576x1024 squeezes_S1x576x1024_S576x1024
    let v1155_r0 : Vec F S144x1024 .bf16 ← Prog.lift (.load v1154_r0 (Rect.unit (s := S576x1024) ![432, 0] S144x1024.size inb_S576x1024_S144x1024_432_0).toLoadRect (View.loadsAt_vmem h_S144x1024))
    let v1158_r0 : Vec F S1x144x256 .f32 ← Prog.lift (.load arg14 (Rect.unit (s := S4x144x1024) ![3, 0, 768] S1x144x256.size inb_S4x144x1024_S1x144x256_3_0_768).toLoadRect (View.loadsAt_vmem h_S1x144x256))
    let v1163_r0 : Vec F S1x144x256 .f32 ← Prog.lift (.load arg14 (Rect.unit (s := S4x144x1024) ![3, 0, 768] S1x144x256.size inb_S4x144x1024_S1x144x256_3_0_768).toLoadRect (View.loadsAt_vmem h_S1x144x256))
    Prog.lift (.store arg14 (Rect.unit (s := S4x144x1024) ![3, 0, 768] S1x144x256.size inb_S4x144x1024_S1x144x256_3_0_768) (k0_pay692 v1118_r0 v1124_r0 v1155_r0 v1158_r0) Finset.univ (View.stores_vmem_bits_univ h_S1x144x256 rfl) (.inl rfl))
    jp ⟨⟩) : PG F γ) = tile arg11 arg12 arg13 arg14 (slotK alloca_r0 (sl arg17_r0) h17) (slotK alloca_0_r0 (sl arg19_r0) h19) (slotV alloca_1_r0 (sl arg21_r0) h21) true >>= jp := by
  chain_rfl

end Cert.KernelIdeal.Attn
-- ==== Proof.M12.lean ====
module

public import proofs.«01_k».proof.Proof.Clean

/-! The printed tile is the tile. -/

@[expose] public section

set_option synthInstance.maxSize 4096
set_option maxRecDepth 65536

noncomputable section

namespace Cert.KernelIdeal.Attn

open Idealize.ShloMosaic Idealize.SL.Sem Cert.KernelIdeal Cert.KernelIdeal.Gen

variable {F : FTy → Type} [FloatOps F] [Named F]

theorem tf_eq (arg0 : Memref sig .tc .smem S73 .i32) (harg0 : arg0.IsWhole) (arg1 : Memref sig .tc .smem S73 .i32) (harg1 : arg1.IsWhole) (arg2 : Memref sig .tc .smem S73 .i32) (harg2 : arg2.IsWhole) (arg3 : Memref sig .tc .smem S73 .i32) (harg3 : arg3.IsWhole) (arg4 : Memref sig .tc .smem S73 .i32) (harg4 : arg4.IsWhole) (arg5 : Memref sig .tc .smem S73 .i32) (harg5 : arg5.IsWhole) (arg6 : Memref sig .tc .smem S73 .i32) (harg6 : arg6.IsWhole) (arg7 : Memref sig .tc .hbm S1024x16384 .bf16) (harg7 : arg7.IsWhole) (arg8 : Memref sig .tc .hbm S16384x1024 .bf16) (harg8 : arg8.IsWhole) (arg9 : Memref sig .tc .hbm S576x16384 .bf16) (harg9 : arg9.IsWhole) (arg10 : Memref sig .tc .hbm S16384x512 .bf16) (harg10 : arg10.IsWhole) (arg11 : Memref sig .tc .vmem S4x1024x1024 .f32) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x144x1024 .f32) (harg14 : arg14.IsWhole) (alloca_r0 : Memref sig .tc .vmem S2x1024x1024 .bf16) (halloca_r0 : alloca_r0.IsWhole) (v0_r0 : DmaSems sig S2) (alloca_0_r0 : Memref sig .tc .vmem S2x1024x1024 .bf16) (halloca_0_r0 : alloca_0_r0.IsWhole) (v1_r0 : DmaSems sig S2) (alloca_1_r0 : Memref sig .tc .vmem S2x576x1024 .bf16) (halloca_1_r0 : alloca_1_r0.IsWhole) (v2_r0 : DmaSems sig S2) (alloca_2_r0 : Memref sig .tc .vmem S2x1024x512 .bf16) (halloca_2_r0 : alloca_2_r0.IsWhole) (v3_r0 : DmaSems sig S2)
    (arg17_r0 arg19_r0 arg21_r0 arg22_r0 : BitVec 32) (v190_r0 v193_r0 : Elt F .i32)
    {γ : Type} (jp : PUnit → PG F γ) (k0_hw17 : k0_chk17 arg17_r0 arg19_r0 arg21_r0 arg22_r0 v190_r0 v193_r0) (k0_h12 : k0_cond12 v190_r0 v193_r0 = 1#1)
    (h17 : sl arg17_r0 < 2) (h19 : sl arg19_r0 < 2) (h21 : sl arg21_r0 < 2)
    (h22 : sl arg22_r0 < 2) (hin : ∀ hd : Fin 4, ∀ a, (![sl arg22_r0, 0, 128 * hd.val] : Fin 3 → ℕ) a + S1x1024x128.size a ≤ S2x1024x512.size a)
    (hst : ∀ hd : Fin 4, (alloca_2_r0.access (Rect.unit (s := S2x1024x512) ![sl arg22_r0, 0, 128 * hd.val] S1x1024x128.size (hin hd))).Stores Finset.univ) :
    ((do
    let ⟨v296_r0, v302_r0, v316_r0⟩ : Σ' (v296_r0 : FVec F S1x256 .f32) (v302_r0 : FVec F S256x256 .bf16), FVec F S1x256 .f32 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12
    let ⟨v342_r0, v348_r0⟩ : Σ' (v342_r0 : FVec F S1x256 .f32), FVec F S512x256 .bf16 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v296_r0 v302_r0 v316_r0
    k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v342_r0 v348_r0
    let ⟨v388_r0, v394_r0, v408_r0⟩ : Σ' (v388_r0 : FVec F S1x256 .f32) (v394_r0 : FVec F S768x256 .bf16), FVec F S1x256 .f32 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12
    let ⟨v434_r0, v440_r0⟩ : Σ' (v434_r0 : FVec F S1x256 .f32), FVec F S1024x256 .bf16 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v388_r0 v394_r0 v408_r0
    let v471_r0 : Vec F S1x144x1024 .f32 ← k0_part57 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v434_r0 v440_r0
    let ⟨v491_r0, v497_r0, v501_r0, v504_r0⟩ : Σ' (v491_r0 : FVec F S1x256 .f32) (v497_r0 : FVec F S256x256 .bf16) (v501_r0 : FVec F S1024x256 .bf16), Vec F S256x256 .bf16 ← k0_part58 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v471_r0
    let ⟨v529_r0, v532_r0, v533_r0⟩ : Σ' (v529_r0 : FVec F S1x256 .f32) (v532_r0 : FVec F S1x256 .f32), Vec F S1x1x256 .f32 ← k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v491_r0 v497_r0 v501_r0 v504_r0
    let ⟨v537_r0, v565_r0⟩ : Σ' (v537_r0 : FVec F S1x256 .f32), FVec F S144x256 .f32 ← k0_part60 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v529_r0 v532_r0 v533_r0
    let ⟨v583_r0, v589_r0, v593_r0, v597_r0, cst_433_r0⟩ : Σ' (v583_r0 : FVec F S1x256 .f32) (v589_r0 : FVec F S768x256 .bf16) (v593_r0 : FVec F S1024x256 .bf16) (v597_r0 : FVec F S256x256 .bf16), FVec F S1024x256 .f32 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v537_r0 v565_r0
    let ⟨v621_r0, v624_r0, v627_r0⟩ : Σ' (v621_r0 : FVec F S1x256 .f32) (v624_r0 : FVec F S1x256 .f32), FVec F S1x1x256 .f32 ← k0_part62 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v583_r0 v589_r0 v593_r0 v597_r0 cst_433_r0
    let ⟨v629_r0, v657_r0⟩ : Σ' (v629_r0 : FVec F S1x256 .f32), FVec F S144x256 .f32 ← k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v621_r0 v624_r0 v627_r0
    let ⟨v686_r0, v691_r0⟩ : Σ' (v686_r0 : FVec F S1x256 .f32), FVec F S256x256 .bf16 ← k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v629_r0 v657_r0
    let v722_r0 : FVec F S1x144x256 .f32 ← k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v686_r0 v691_r0
    let ⟨v732_r0, v738_r0, v752_r0⟩ : Σ' (v732_r0 : FVec F S1x256 .f32) (v738_r0 : FVec F S512x256 .bf16), FVec F S1x256 .f32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v722_r0
    let ⟨v778_r0, v784_r0⟩ : Σ' (v778_r0 : FVec F S1x256 .f32), FVec F S768x256 .bf16 ← k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v732_r0 v738_r0 v752_r0
    k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v778_r0 v784_r0
    let ⟨v824_r0, v830_r0, v844_r0, v845_r0⟩ : Σ' (v824_r0 : FVec F S1x256 .f32) (v830_r0 : FVec F S1024x256 .bf16) (v844_r0 : FVec F S1x256 .f32), Vec F S1x1x256 .f32 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12
    let ⟨v873_r0, v876_r0⟩ : Σ' (v873_r0 : FVec F S1x256 .f32), FVec F S1x256 .f32 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v824_r0 v830_r0 v844_r0 v845_r0
    let ⟨v881_r0, v887_r0, v908_r0⟩ : Σ' (v881_r0 : FVec F S1x256 .f32) (v887_r0 : FVec F S256x256 .bf16), FVec F S144x256 .bf16 ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v873_r0 v876_r0
    let ⟨v927_r0, v933_r0, v937_r0⟩ : Σ' (v927_r0 : FVec F S1x256 .f32) (v933_r0 : FVec F S512x256 .bf16), FVec F S1024x256 .bf16 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v881_r0 v887_r0 v908_r0
    let ⟨v965_r0, v968_r0⟩ : Σ' (v965_r0 : FVec F S1x256 .f32), FVec F S1x256 .f32 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v927_r0 v933_r0 v937_r0
    let ⟨v973_r0, v1001_r0⟩ : Σ' (v973_r0 : FVec F S1x256 .f32), FVec F S144x256 .f32 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v965_r0 v968_r0
    let ⟨v1019_r0, v1025_r0, v1029_r0, v1033_r0⟩ : Σ' (v1019_r0 : FVec F S1x256 .f32) (v1025_r0 : FVec F S1024x256 .bf16) (v1029_r0 : FVec F S1024x256 .bf16), FVec F S256x256 .bf16 ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v973_r0 v1001_r0
    let v1063_r0 : FVec F S1024x128 .bf16 ← k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h12 v1019_r0 v1025_r0 v1029_r0 v1033_r0
    let v1064_r0 : Memref sig .tc .vmem S1x1024x512 .bf16 := alloca_2_r0.slice (Rect.unit (s := S2x1024x512) (k0_off57 arg22_r0) S1x1024x512.size (k0_off57_inb arg17_r0 arg19_r0 arg21_r0 arg22_r0 v190_r0 v193_r0 k0_hw17 k0_h12)) (fun _ => rfl)
    let v1065_r0 : Memref sig .tc .vmem S1024x512 .bf16 := v1064_r0.squeeze S1024x512 squeezes_S1x1024x512_S1024x512
    let v1066_r0 : Vec F S1024x128 .bf16 ← Prog.lift (.load v1065_r0 (Rect.unit (s := S1024x512) ![0, 384] S1024x128.size inb_S1024x512_S1024x128_0_384).toLoadRect (View.loadsAt_vmem h_S1024x128))
    Prog.lift (.store alloca_2_r0 (Rect.unit (s := S2x1024x512) (k0_off64 arg22_r0) S1x1024x128.size (k0_off64_inb arg17_r0 arg19_r0 arg21_r0 arg22_r0 v190_r0 v193_r0 k0_hw17 k0_h12)) (k0_pay693 v1063_r0) Finset.univ (View.stores_vmem h_S1x1024x128 (halloca_2_r0.storeExact_slice rfl _ (k0_off64_packedbf16 arg17_r0 arg19_r0 arg21_r0 arg22_r0 v190_r0 v193_r0 k0_hw17 k0_h12)) (fun _ => rfl)) (.inl rfl))
    jp ⟨⟩) : PG F γ) = last arg11 arg12 arg13 arg14 (slotK alloca_r0 (sl arg17_r0) h17) (slotK alloca_0_r0 (sl arg19_r0) h19) (slotV alloca_1_r0 (sl arg21_r0) h21) (slotO alloca_2_r0 (sl arg22_r0) h22) alloca_2_r0 (sl arg22_r0) hin hst false >>= jp := by
  chain_rfl

end Cert.KernelIdeal.Attn
-- ==== Proof.M13.lean ====
module

public import proofs.«01_k».proof.Proof.Clean

/-! The printed tile is the tile. -/

@[expose] public section

set_option synthInstance.maxSize 4096
set_option maxRecDepth 65536

noncomputable section

namespace Cert.KernelIdeal.Attn

open Idealize.ShloMosaic Idealize.SL.Sem Cert.KernelIdeal Cert.KernelIdeal.Gen

variable {F : FTy → Type} [FloatOps F] [Named F]

theorem tt_eq (arg0 : Memref sig .tc .smem S73 .i32) (harg0 : arg0.IsWhole) (arg1 : Memref sig .tc .smem S73 .i32) (harg1 : arg1.IsWhole) (arg2 : Memref sig .tc .smem S73 .i32) (harg2 : arg2.IsWhole) (arg3 : Memref sig .tc .smem S73 .i32) (harg3 : arg3.IsWhole) (arg4 : Memref sig .tc .smem S73 .i32) (harg4 : arg4.IsWhole) (arg5 : Memref sig .tc .smem S73 .i32) (harg5 : arg5.IsWhole) (arg6 : Memref sig .tc .smem S73 .i32) (harg6 : arg6.IsWhole) (arg7 : Memref sig .tc .hbm S1024x16384 .bf16) (harg7 : arg7.IsWhole) (arg8 : Memref sig .tc .hbm S16384x1024 .bf16) (harg8 : arg8.IsWhole) (arg9 : Memref sig .tc .hbm S576x16384 .bf16) (harg9 : arg9.IsWhole) (arg10 : Memref sig .tc .hbm S16384x512 .bf16) (harg10 : arg10.IsWhole) (arg11 : Memref sig .tc .vmem S4x1024x1024 .f32) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x144x1024 .f32) (harg14 : arg14.IsWhole) (alloca_r0 : Memref sig .tc .vmem S2x1024x1024 .bf16) (halloca_r0 : alloca_r0.IsWhole) (v0_r0 : DmaSems sig S2) (alloca_0_r0 : Memref sig .tc .vmem S2x1024x1024 .bf16) (halloca_0_r0 : alloca_0_r0.IsWhole) (v1_r0 : DmaSems sig S2) (alloca_1_r0 : Memref sig .tc .vmem S2x576x1024 .bf16) (halloca_1_r0 : alloca_1_r0.IsWhole) (v2_r0 : DmaSems sig S2) (alloca_2_r0 : Memref sig .tc .vmem S2x1024x512 .bf16) (halloca_2_r0 : alloca_2_r0.IsWhole) (v3_r0 : DmaSems sig S2)
    (arg17_r0 arg19_r0 arg21_r0 arg22_r0 : BitVec 32) (v190_r0 v193_r0 : Elt F .i32)
    {γ : Type} (jp : PUnit → PG F γ) (k0_hw17 : k0_chk17 arg17_r0 arg19_r0 arg21_r0 arg22_r0 v190_r0 v193_r0) (k0_h13 : k0_cond13 v190_r0 v193_r0 = 1#1)
    (h17 : sl arg17_r0 < 2) (h19 : sl arg19_r0 < 2) (h21 : sl arg21_r0 < 2)
    (h22 : sl arg22_r0 < 2) (hin : ∀ hd : Fin 4, ∀ a, (![sl arg22_r0, 0, 128 * hd.val] : Fin 3 → ℕ) a + S1x1024x128.size a ≤ S2x1024x512.size a)
    (hst : ∀ hd : Fin 4, (alloca_2_r0.access (Rect.unit (s := S2x1024x512) ![sl arg22_r0, 0, 128 * hd.val] S1x1024x128.size (hin hd))).Stores Finset.univ) :
    ((do
    let v1204_r0 : FVec F S128x1024 .f32 ← k0_part105 arg0 harg0 arg1 harg1 arg2 harg2 arg3 harg3 arg4 harg4 arg5 harg5 arg6 harg6 arg7 harg7 arg8 harg8 arg9 harg9 arg10 harg10 arg11 harg11 arg12 harg12 arg13 harg13 arg14 harg14 alloca_r0 halloca_r0 v0_r0 alloca_0_r0 halloca_0_r0 v1_r0 alloca_1_r0 halloca_1_r0 v2_r0 alloca_2_r0 halloca_2_r0 v3_r0 arg17_r0 arg19_r0 arg21_r0 arg22_r0 v190_r0 v193_r0 k0_hw17 k0_h13
    let v1207_r0 : Memref sig .tc .vmem S1x1024x512 .bf16 := alloca_2_r0.slice (Rect.unit (s := S2x1024x512) (k0_off68 arg22_r0) S1x1024x512.size (k0_off68_inb arg17_r0 arg19_r0 arg21_r0 arg22_r0 v190_r0 v193_r0 k0_hw17 k0_h13)) (fun _ => rfl)
    let v1208_r0 : Memref sig .tc .vmem S1024x512 .bf16 := v1207_r0.squeeze S1024x512 squeezes_S1x1024x512_S1024x512
    let v1209_r0 : Vec F S1024x128 .bf16 ← Prog.lift (.load v1208_r0 (Rect.unit (s := S1024x512) ![0, 384] S1024x128.size inb_S1024x512_S1024x128_0_384).toLoadRect (View.loadsAt_vmem h_S1024x128))
    Prog.lift (.store alloca_2_r0 (Rect.unit (s := S2x1024x512) (k0_off72 arg22_r0) S1x1024x128.size (k0_off72_inb arg17_r0 arg19_r0 arg21_r0 arg22_r0 v190_r0 v193_r0 k0_hw17 k0_h13)) (k0_pay694 v1204_r0) Finset.univ (View.stores_vmem h_S1x1024x128 (halloca_2_r0.storeExact_slice rfl _ (k0_off72_packedbf16 arg17_r0 arg19_r0 arg21_r0 arg22_r0 v190_r0 v193_r0 k0_hw17 k0_h13)) (fun _ => rfl)) (.inl rfl))
    jp ⟨⟩) : PG F γ) = last arg11 arg12 arg13 arg14 (slotK alloca_r0 (sl arg17_r0) h17) (slotK alloca_0_r0 (sl arg19_r0) h19) (slotV alloca_1_r0 (sl arg21_r0) h21) (slotO alloca_2_r0 (sl arg22_r0) h22) alloca_2_r0 (sl arg22_r0) hin hst true >>= jp := by
  chain_rfl

end Cert.KernelIdeal.Attn
-- ==== Proof.Trip3.lean ====
module

public import proofs.«01_k».proof.Proof.Step
public import proofs.«01_k».proof.Proof.M10
public import proofs.«01_k».proof.Proof.M11
public import proofs.«01_k».proof.Proof.M12
public import proofs.«01_k».proof.Proof.M13
public import proofs.«01_k».proof.Proof.Trip2

@[expose] public section

set_option maxRecDepth 65536
set_option pp.maxSteps 400

/-!
  The tile of a trip, and the block of the result sent when it is complete.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

variable {c : Dev nD} (D : Arr F) (R : Refs) (k : Fin 73) (X : sProp (MT nD τ sig Unit (Elt F) ℕ (Pipeline.UC sig nD τ) ℕ))

theorem pre_st (st : TS F) (h : k.1 ≠ 0 → st = stAt D k) : rst k (clr k st) = pre k (stAt D k) := by
  by_cases hk : k.1 = 0
  · obtain rfl : k = 0 := Fin.ext hk
    exact pre_zero _ _
  · rw [h hk]; rfl

/-- The blocks of a trip. -/
def WB3 (c : Dev nD) : sProp 𝕄 :=
  iprop(winB c (dQ R) (semOf R.v0_r0) (PQ D c R) lit0 (blkQ D) k ∗ winB c (dK R) (semOf R.v1_r0) (PK D c R) lit1 (blkK D) k ∗ winB c (dV R) (semOf R.v2_r0) (PV D c R) lit2 (blkV D) k)

/-- The slot of the output. -/
def oSlot (c : Dev nD) (b : Bool) : sProp 𝕄 :=
  if b then iprop(owns (c : Thread nD τ) (dO R (slf (cw lit3 k))) fullShare (outB D (cn lit3 k)) ∗ semVal ((c : Thread nD τ), .dma (semOf R.v3_r0 (slf (cw lit3 k)))) 0)
  else oJ c R (slf (cw lit3 k))

/-- The scratch arrays and the output's slot before and after the tile. -/
def Tl (c : Dev nD) (b : Bool) : sProp 𝕄 :=
  if b then iprop(Scr c R (stT (tb D k) (ls k) (dg k) (pre k (stAt D k))) ∗ oSlot D R k c (ls k))
  else iprop(Scr c R (pre k (stAt D k)) ∗ oSlot D R k c false)

theorem tileN (hl : ls k = false) (t' : Bool) (ht : dg k = t') (h17 : sl (cw lit0 k) < 2) (h19 : sl (cw lit1 k) < 2) (h21 : sl (cw lit2 k) < 2) :
    Runs c iprop(Tl D R k c false ∗ WB3 D R k c ∗ X)
      (tile R.arg11 R.arg12 R.arg13 R.arg14 (slotK R.alloca_r0 (sl (cw lit0 k)) h17) (slotK R.alloca_0_r0 (sl (cw lit1 k)) h19) (slotV R.alloca_1_r0 (sl (cw lit2 k)) h21) t') ⟨⟩
      iprop(Tl D R k c true ∗ WB3 D R k c ∗ X) := by
  subst ht
  have H := run_tile (c := c) (S := R.arg11) (X := R.arg12) (M := R.arg13) (A := R.arg14) (Q := slotK R.alloca_r0 (sl (cw lit0 k)) h17)
    (K := slotK R.alloca_0_r0 (sl (cw lit1 k)) h19) (V := slotV R.alloca_1_r0 (sl (cw lit2 k)) h21) (dg k) (pre k (stAt D k)) (tb D k)
  unfold Tl
  rw [if_neg (c := false = true) (by decide), if_pos (c := true = true) rfl, hl]
  unfold Scr WB3 winB Rdy
  unfold T at H
  unfold Runs
  iintro ⟨⟨⟨HS, HX, HM, HA⟩, HO⟩, ⟨⟨⟨HQ, HQs⟩, HQo⟩, ⟨⟨HK, HKs⟩, HKo⟩, ⟨HV, HVs⟩, HVo⟩, HR⟩
  iapply H.wp $$ [HS HX HM HA HQ HK HV]
  · isplitl [HS]; · iexact HS
    isplitl [HX]; · iexact HX
    isplitl [HM]; · iexact HM
    isplitl [HA]; · iexact HA
    isplitl [HQ]; · iexact HQ
    isplitl [HK]; · iexact HK
    iexact HV
  iintro ⟨HS, HX, HM, HA, HQ, HK, HV⟩
  isplitr; · ipureintro; rfl
  isplitl [HS HX HM HA HO]
  · isplitr [HO]
    · isplitl [HS]; · iexact HS
      isplitl [HX]; · iexact HX
      isplitl [HM]; · iexact HM
      iexact HA
    · iexact HO
  isplitr [HR]
  · isplitl [HQ HQs HQo]
    · isplitr [HQo]
      · isplitl [HQ]; · iexact HQ
        iexact HQs
      · iexact HQo
    isplitl [HK HKs HKo]
    · isplitr [HKo]
      · isplitl [HK]; · iexact HK
        iexact HKs
      · iexact HKo
    isplitr [HVo]
    · isplitl [HV]; · iexact HV
      iexact HVs
    · iexact HVo
  · iexact HR

theorem lastN (hl : ls k = true) (t' : Bool) (ht : dg k = t') (h17 : sl (cw lit0 k) < 2) (h19 : sl (cw lit1 k) < 2) (h21 : sl (cw lit2 k) < 2)
    (h22 : sl (cw lit3 k) < 2) (hin hst) :
    Runs c iprop(Tl D R k c false ∗ WB3 D R k c ∗ X)
      (last R.arg11 R.arg12 R.arg13 R.arg14 (slotK R.alloca_r0 (sl (cw lit0 k)) h17) (slotK R.alloca_0_r0 (sl (cw lit1 k)) h19) (slotV R.alloca_1_r0 (sl (cw lit2 k)) h21)
        (slotO R.alloca_2_r0 (sl (cw lit3 k)) h22) R.alloca_2_r0 (sl (cw lit3 k)) hin hst t') ⟨⟩
      iprop(Tl D R k c true ∗ WB3 D R k c ∗ X) := by
  subst ht
  unfold Tl
  rw [if_neg (c := false = true) (by decide), if_pos (c := true = true) rfl, hl]
  unfold Scr WB3 winB Rdy oSlot
  rw [if_neg (c := false = true) (by decide), if_pos (c := true = true) rfl]
  unfold oJ
  unfold Runs
  iintro ⟨⟨⟨HS, HX, HM, HA⟩, %o, HO, HOs⟩, ⟨⟨⟨HQ, HQs⟩, HQo⟩, ⟨⟨HK, HKs⟩, HKo⟩, ⟨HV, HVs⟩, HVo⟩, HR⟩
  have H := run_last (c := c) (S := R.arg11) (X := R.arg12) (M := R.arg13) (A := R.arg14) (Q := slotK R.alloca_r0 (sl (cw lit0 k)) h17)
    (K := slotK R.alloca_0_r0 (sl (cw lit1 k)) h19) (V := slotV R.alloca_1_r0 (sl (cw lit2 k)) h21) (OA := R.alloca_2_r0) (so := sl (cw lit3 k)) (hso := h22)
    (hin := hin) (hst := hst) (dg k) (pre k (stAt D k)) (tb D k) o
  rw [outB_eq D k hl o] at H
  unfold T at H
  iapply H.wp $$ [HS HX HM HA HQ HK HV HO]
  · isplitr [HO]
    · isplitl [HS]; · iexact HS
      isplitl [HX]; · iexact HX
      isplitl [HM]; · iexact HM
      isplitl [HA]; · iexact HA
      isplitl [HQ]; · iexact HQ
      isplitl [HK]; · iexact HK
      iexact HV
    · iexact HO
  iintro ⟨⟨HS, HX, HM, HA, HQ, HK, HV⟩, HO⟩
  isplitr; · ipureintro; rfl
  isplitl [HS HX HM HA HO HOs]
  · isplitr [HO HOs]
    · isplitl [HS]; · iexact HS
      isplitl [HX]; · iexact HX
      isplitl [HM]; · iexact HM
      iexact HA
    · isplitl [HO]; · iexact HO
      iexact HOs
  isplitr [HR]
  · isplitl [HQ HQs HQo]
    · isplitr [HQo]
      · isplitl [HQ]; · iexact HQ
        iexact HQs
      · iexact HQo
    isplitl [HK HKs HKo]
    · isplitr [HKo]
      · isplitl [HK]; · iexact HK
        iexact HKs
      · iexact HKo
    isplitr [HVo]
    · isplitl [HV]; · iexact HV
      iexact HVs
    · iexact HVo
  · iexact HR

theorem inO (n : Fin 2) : ∀ hd : Fin 4, ∀ a, (![n.1, 0, 128 * hd.val] : Fin 3 → ℕ) a + S1x1024x128.size a ≤ S2x1024x512.size a := by
  intro hd a; fin_cases a <;> simp <;> omega

theorem sto12 (arg17 arg19 arg21 arg22 v190 v193 : BitVec 32) (hw : k0_chk17 arg17 arg19 arg21 arg22 v190 v193) (h12 : k0_cond12 v190 v193 = 1#1) (hd : Fin 4) :
    (R.alloca_2_r0.access (Rect.unit (s := S2x1024x512) ![sl arg22, 0, 128 * hd.val] S1x1024x128.size (inO ⟨sl arg22, sl_lt _⟩ hd))).Stores Finset.univ :=
  match hd with
  | 0 => View.stores_vmem h_S1x1024x128 (R.halloca_2_r0.storeExact_slice rfl _ (k0_off58_packedbf16 arg17 arg19 arg21 arg22 v190 v193 hw h12)) (fun _ => rfl)
  | 1 => View.stores_vmem h_S1x1024x128 (R.halloca_2_r0.storeExact_slice rfl _ (k0_off62_packedbf16 arg17 arg19 arg21 arg22 v190 v193 hw h12)) (fun _ => rfl)
  | 2 => View.stores_vmem h_S1x1024x128 (R.halloca_2_r0.storeExact_slice rfl _ (k0_off63_packedbf16 arg17 arg19 arg21 arg22 v190 v193 hw h12)) (fun _ => rfl)
  | 3 => View.stores_vmem h_S1x1024x128 (R.halloca_2_r0.storeExact_slice rfl _ (k0_off64_packedbf16 arg17 arg19 arg21 arg22 v190 v193 hw h12)) (fun _ => rfl)

theorem sto13 (arg17 arg19 arg21 arg22 v190 v193 : BitVec 32) (hw : k0_chk17 arg17 arg19 arg21 arg22 v190 v193) (h12 : k0_cond13 v190 v193 = 1#1) (hd : Fin 4) :
    (R.alloca_2_r0.access (Rect.unit (s := S2x1024x512) ![sl arg22, 0, 128 * hd.val] S1x1024x128.size (inO ⟨sl arg22, sl_lt _⟩ hd))).Stores Finset.univ :=
  match hd with
  | 0 => View.stores_vmem h_S1x1024x128 (R.halloca_2_r0.storeExact_slice rfl _ (k0_off69_packedbf16 arg17 arg19 arg21 arg22 v190 v193 hw h12)) (fun _ => rfl)
  | 1 => View.stores_vmem h_S1x1024x128 (R.halloca_2_r0.storeExact_slice rfl _ (k0_off70_packedbf16 arg17 arg19 arg21 arg22 v190 v193 hw h12)) (fun _ => rfl)
  | 2 => View.stores_vmem h_S1x1024x128 (R.halloca_2_r0.storeExact_slice rfl _ (k0_off71_packedbf16 arg17 arg19 arg21 arg22 v190 v193 hw h12)) (fun _ => rfl)
  | 3 => View.stores_vmem h_S1x1024x128 (R.halloca_2_r0.storeExact_slice rfl _ (k0_off72_packedbf16 arg17 arg19 arg21 arg22 v190 v193 hw h12)) (fun _ => rfl)

theorem run109 (st : TS F) (h : k.1 ≠ 0 → st = stAt D k) :
    Runs c iprop(Tabs c R ∗ Scr c R (clr k st) ∗ oJ c R (slf (cw lit3 k)) ∗ WB3 D R k c ∗ X)
    (k0_part109 (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 (cw lit0 k) (cw lit1 k) (cw lit2 k) (cw lit3 k) (tw k) (chk4_ok k) (Scalar.addi (tw k) 0#32) (lit5 k) 1#32)
    ⟨(lit6 k), (lit4 k), (chk17_ok k), (Scalar.cmpi .eq (lit4 k) 1#32), (Scalar.xori (Scalar.xori (Scalar.cmpi .eq (lit6 k) 1#32) 1#1) 1#1)⟩
    iprop(Tl D R k c (!ls k || !dg k) ∗ WB3 D R k c ∗ Tabs c R ∗ X) := by
  rw [k0_part109_eq_skeleton]
  delta k0_part109_skel
  refine Runs.iteJ iprop(Tabs c R ∗ Tl D R k c false ∗ WB3 D R k c ∗ X) (fun hp hj => ?_) (fun hn => ?_) ?_
  · unfold Scr
    refine Runs.pre (A := iprop(owns (c : Thread nD τ) R.arg13 fullShare (clr k st).m ∗ (owns (c : Thread nD τ) R.arg11 fullShare (clr k st).s ∗ owns (c : Thread nD τ) R.arg12 fullShare (clr k st).x ∗ owns (c : Thread nD τ) R.arg14 fullShare (clr k st).a) ∗ Tabs c R ∗ oJ c R (slf (cw lit3 k)) ∗ WB3 D R k c ∗ X)) ?_ ?_
    · iintro ⟨H1, ⟨HS, HX, HM, HA⟩, H2⟩
      isplitl [HM]; · iexact HM
      isplitl [HS HX HA]
      · isplitl [HS]; · iexact HS
        isplitl [HX] <;> iassumption
      isplitl [H1] <;> iassumption
    refine Runs.bind ((runs_load R.arg13 _ _ fullShare (clr k st).m).frame _) ?_
    refine Runs.bind ((stz R.arg13 ![0, 0, 0] _ (by decide) k0_pay690 (clr k st).m _ _).frame _) ?_
    refine Runs.pre ?_ hj
    unfold Tl oSlot
    rw [if_neg (c := false = true) (by decide), if_neg (c := false = true) (by decide), ← pre_st D k st h]
    have e : rst k (clr k st) = { clr k st with m := zM } := by unfold rst; rw [if_pos ((condR k).mp hp)]
    rw [e]
    unfold Scr
    iintro ⟨HM, ⟨HS, HX, HA⟩, H1, H2, H3⟩
    isplitl [H1]; · iexact H1
    isplitr [H3]
    · isplitr [H2]
      · isplitl [HS]; · iexact HS
        isplitl [HX]; · iexact HX
        isplitl [HM]; · iexact HM
        iexact HA
      · iexact H2
    · iexact H3
  · unfold Tl oSlot
    rw [if_neg (c := false = true) (by decide), if_neg (c := false = true) (by decide), ← pre_st D k st h]
    have e : rst k (clr k st) = clr k st := by unfold rst; rw [if_neg (fun h => hn ((condR k).mpr h))]
    rw [e]
    iintro ⟨H1, H2, H3, H4⟩
    isplitl [H1]; · iexact H1
    isplitl [H2 H3]
    · isplitl [H2] <;> iassumption
    · iexact H4
  refine Runs.bind ((runs_tab6 R _ _ k (off47_eq k)).frame _) ?_
  refine Runs.bind ((runs_tab4 R _ _ k (off47_eq k)).frame _) ?_
  refine Runs.bind (Runs.assume _ (chk17_ok k)) ?_
  refine Runs.pre (A := iprop(Tl D R k c false ∗ WB3 D R k c ∗ Tabs c R ∗ X)) ?_ ?_
  · iintro ⟨H1, H2, H3, H4⟩
    isplitl [H2]; · iexact H2
    isplitl [H3]; · iexact H3
    isplitl [H1] <;> iassumption
  refine Runs.diteJ iprop(Tl D R k c (!ls k && !dg k) ∗ WB3 D R k c ∗ Tabs c R ∗ X) (fun hp hj => ?_) (fun hn => ?_) ?_
  · obtain ⟨e1, e2⟩ := (cond10_eq k).mp hp
    refine Runs.of_eq (ff_eq R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 _ _ _ _ _ _ (fun _ => _) (chk17_ok k) hp (sl_lt _) (sl_lt _) (sl_lt _)) ((tileN D R k _ e1 false e2 (sl_lt _) (sl_lt _) (sl_lt _)).bind (Runs.pre ?_ hj))
    rw [show (!ls k && !dg k) = true from by rw [e1, e2]; rfl]
  · rw [show (!ls k && !dg k) = false from by
      have := mt (cond10_eq k).mpr hn
      cases h1 : ls k <;> cases h2 : dg k <;> simp_all]
  refine Runs.diteJ iprop(Tl D R k c (!ls k) ∗ WB3 D R k c ∗ Tabs c R ∗ X) (fun hp hj => ?_) (fun hn => ?_) ?_
  · obtain ⟨e1, e2⟩ := (cond11_eq k).mp hp
    refine Runs.pre (A := iprop(Tl D R k c false ∗ WB3 D R k c ∗ Tabs c R ∗ X)) (by rw [show (!ls k && !dg k) = false from by rw [e1, e2]; rfl]) ?_
    refine Runs.of_eq (ft_eq R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 _ _ _ _ _ _ (fun _ => _) (chk17_ok k) hp (sl_lt _) (sl_lt _) (sl_lt _)) ((tileN D R k _ e1 true e2 (sl_lt _) (sl_lt _) (sl_lt _)).bind (Runs.pre ?_ hj))
    rw [show (!ls k) = true from by rw [e1]; rfl]
  · rw [show (!ls k && !dg k) = !ls k from by
      have := mt (cond11_eq k).mpr hn
      cases h1 : ls k <;> cases h2 : dg k <;> simp_all]
  refine Runs.diteJ iprop(Tl D R k c (!ls k || !dg k) ∗ WB3 D R k c ∗ Tabs c R ∗ X) (fun hp hj => ?_) (fun hn => ?_) ?_
  · obtain ⟨e1, e2⟩ := (cond12_eq k).mp hp
    refine Runs.pre (A := iprop(Tl D R k c false ∗ WB3 D R k c ∗ Tabs c R ∗ X)) (by rw [show (!ls k) = false from by rw [e1]; rfl]) ?_
    refine Runs.of_eq (tf_eq R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 _ _ _ _ _ _ (fun _ => _) (chk17_ok k) hp (sl_lt _) (sl_lt _) (sl_lt _) (sl_lt _) (inO ⟨sl (cw lit3 k), sl_lt _⟩) (sto12 R _ _ _ _ _ _ (chk17_ok k) hp)) ((lastN D R k _ e1 false e2 (sl_lt _) (sl_lt _) (sl_lt _) (sl_lt _) _ _).bind (Runs.pre ?_ hj))
    rw [show (!ls k || !dg k) = true from by rw [e1, e2]; rfl]
  · rw [show (!ls k || !dg k) = !ls k from by
      have := mt (cond12_eq k).mpr hn
      cases h1 : ls k <;> cases h2 : dg k <;> simp_all]
  exact Runs.pure _ _

theorem sen (n : Fin 16) (i : Fin 2) (dst : Memref sig .tc .hbm S1024x512 .bf16) (e : dst = oblk R n) (B) (h1 h2 h3) :
    Runs c iprop((owns (c : Thread nD τ) (dO R i) fullShare B ∗ semVal ((c : Thread nD τ), .dma (semOf R.v3_r0 i)) 0) ∗ ∃ Y, owns (c : Thread nD τ) (oblk R n) fullShare Y)
      (Prog.lift (.enqueueDma (dO R i) (.here dst) (.dma (semOf R.v3_r0 i)) h1 h2 h3) : PG F _) ⟨⟩
      (Pend c (.dma (semOf R.v3_r0 i)) (oblk R n).view.dmaCredit iprop(owns (c : Thread nD τ) (oblk R n) fullShare B ∗ owns (c : Thread nD τ) (dO R i) fullShare B)) := by
  subst e
  refine Runs.pre (A := iprop(∃ Y, owns (c : Thread nD τ) (dO R i) fullShare B ∗ owns (c : Thread nD τ) (oblk R n) fullShare Y ∗ semVal ((c : Thread nD τ), .dma (semOf R.v3_r0 i)) 0)) ?_ ?_
  · iintro ⟨⟨H1, H2⟩, %Y, H3⟩
    iexists Y
    isplitl [H1]; · iexact H1
    isplitl [H3] <;> iassumption
  · exact Runs.ex fun Y => runs_dma (dO R i) (oblk R n) (.dma (semOf R.v3_r0 i)) (show 0 < S1024x512.numel by decide) _ rfl fullShare B Y h1 h2 h3

theorem oblk_off (off : Fin 2 → ℕ) (inb) (n : Fin 16) (h : off = ![1024 * n.1, 0]) :
    R.arg10.slice (Rect.unit (s := S16384x512) off S1024x512.size inb) (fun _ => rfl) = oblk R n := by subst h; rfl

/-- The output window after the sending. -/
def oP (c : Dev nD) (n w : ℕ) (b : Bool) : sProp 𝕄 :=
  if b then iprop(obs D c R (n + 1) w ∗ oFl D c R n ∗ oR D c R n w) else oW D c R n w

theorem run110 (hw : wn k ≤ cn lit3 k) :
    Runs c iprop(Tl D R k c (!ls k || !dg k) ∗ WB3 D R k c ∗ Tabs c R ∗ obs D c R (cn lit3 k) (wn k) ∗ oR D c R (cn lit3 k) (wn k) ∗ X)
    (k0_part110 (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 k (cw lit0 k) (cw lit1 k) (cw lit2 k) (cw lit3 k) (tw k) (Scalar.cmpi .eq (Scf.iv 0#32 1#32 k) 0#32) (Scalar.cmpi .eq (Scf.iv 0#32 1#32 k) 72#32) (Scalar.addi (tw k) 0#32) (lit0 k) (lit0 (nx k)) (lit1 k) (lit1 (nx k)) (lit2 k) (lit2 (nx k)) (lit3 k) (lit3 (nx k)) (chk18_ok k) (lit0 (pv k)) (lit1 (pv k)) (lit6 k) (lit4 k) (chk17_ok k) (Scalar.cmpi .eq (lit4 k) 1#32) (Scalar.xori (Scalar.xori (Scalar.cmpi .eq (lit6 k) 1#32) 1#1) 1#1))
    ⟨(Scalar.select (Scalar.andi (Scalar.ori (Scalar.cmpi .ne (lit3 k) (lit3 (nx k))) (Scalar.cmpi .eq (Scf.iv 0#32 1#32 k) 72#32)) 1#1) (Scalar.addi (cw lit3 k) 1#32) (cw lit3 k)), (Scalar.andi (Scalar.cmpi .ne (lit1 k) (lit1 (pv k))) (Scalar.xori (Scalar.cmpi .eq (Scf.iv 0#32 1#32 k) 0#32) 1#1)), (Scalar.extui (Scalar.andi (Scalar.cmpi .ne (lit1 k) (lit1 (pv k))) (Scalar.xori (Scalar.cmpi .eq (Scf.iv 0#32 1#32 k) 0#32) 1#1))), 0#32⟩
    iprop(Tabs c R ∗ oP D R c (cn lit3 k) (wn k) (ls k) ∗ Scr c R (stT (tb D k) (ls k) (dg k) (pre k (stAt D k))) ∗ WB3 D R k c ∗ X) := by
  rw [k0_part110_eq_skeleton]
  delta k0_part110_skel
  refine Runs.diteJ iprop(Tl D R k c true ∗ WB3 D R k c ∗ Tabs c R ∗ obs D c R (cn lit3 k) (wn k) ∗ oR D c R (cn lit3 k) (wn k) ∗ X) (fun hp hj => ?_) (fun hn => ?_) ?_
  · obtain ⟨e1, e2⟩ := (cond13_eq k).mp hp
    refine Runs.pre (A := iprop(Tl D R k c false ∗ WB3 D R k c ∗ Tabs c R ∗ obs D c R (cn lit3 k) (wn k) ∗ oR D c R (cn lit3 k) (wn k) ∗ X)) (by rw [show (!ls k || !dg k) = false from by rw [e1, e2]; rfl]) ?_
    exact Runs.of_eq (tt_eq R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 _ _ _ _ _ _ (fun _ => _) (chk17_ok k) hp (sl_lt _) (sl_lt _) (sl_lt _) (sl_lt _) (inO ⟨sl (cw lit3 k), sl_lt _⟩) (sto13 R _ _ _ _ _ _ (chk17_ok k) hp)) ((lastN D R k _ e1 true e2 (sl_lt _) (sl_lt _) (sl_lt _) (sl_lt _) _ _).bind hj)
  · rw [show (!ls k || !dg k) = true from by
      have := mt (cond13_eq k).mpr hn
      cases h1 : ls k <;> cases h2 : dg k <;> simp_all]
  refine Runs.same ?_
  refine Runs.same ?_
  refine Runs.same ?_
  obtain ⟨hn16, -, hsl, -, -, hcol, -⟩ := onum k
  refine Runs.pre (A := iprop(Tabs c R ∗ oSlot D R k c (ls k) ∗ obs D c R (cn lit3 k) (wn k) ∗ Scr c R (stT (tb D k) (ls k) (dg k) (pre k (stAt D k))) ∗ WB3 D R k c ∗ oR D c R (cn lit3 k) (wn k) ∗ X)) ?_ ?_
  · unfold Tl
    rw [if_pos (c := true = true) rfl]
    iintro ⟨⟨H1, H2⟩, H3, H4, H5, H6⟩
    isplitl [H4]; · iexact H4
    isplitl [H2]; · iexact H2
    isplitl [H5]; · iexact H5
    isplitl [H1]; · iexact H1
    isplitl [H3]; · iexact H3
    iexact H6
  refine Runs.diteJ iprop(Tabs c R ∗ oP D R c (cn lit3 k) (wn k) (ls k) ∗ Scr c R (stT (tb D k) (ls k) (dg k) (pre k (stAt D k))) ∗ WB3 D R k c ∗ X) (fun hp hj => ?_) (fun hn => ?_) ?_
  · have e1 := (cond17_eq k).mp hp
    refine Runs.bind ((runs_tab3 R _ _ k (off73_eq k)).frame _) ?_
    refine Runs.bind (Runs.assume _ (chk19_ok k)) ?_
    refine Runs.seq (R := iprop(Tabs c R ∗ obs D c R (cn lit3 k + 1) (wn k) ∗ Scr c R (stT (tb D k) (ls k) (dg k) (pre k (stAt D k))) ∗ WB3 D R k c ∗ oR D c R (cn lit3 k) (wn k) ∗ X)) ?_
      (sen R ⟨cn lit3 k, hn16⟩ (slf (cw lit3 k)) _ (oblk_off R _ _ _ (by show ![col (lit3 k), 0] = _; rw [hcol])) (outB D (cn lit3 k)) _ _ _) (Runs.pre ?_ hj)
    · unfold oSlot
      rw [if_pos e1]
      iintro ⟨H1, H2, H3, H4⟩
      ihave H3 := (obs_send D c R (cn lit3 k) (wn k) hn16 hw) $$ H3
      icases H3 with ⟨H5, H3⟩
      isplitl [H2 H5]
      · isplitl [H2] <;> iassumption
      isplitl [H1]; · iexact H1
      isplitl [H3] <;> iassumption
    · unfold oP oFl
      rw [if_pos (c := ls k = true) e1, dif_pos hn16, ← hsl]
      iintro ⟨H1, H2, H3, H4, H5, H6, H7⟩
      isplitl [H2]; · iexact H2
      isplitl [H1 H3 H6]
      · isplitl [H3]; · iexact H3
        isplitl [H1] <;> iassumption
      isplitl [H4]; · iexact H4
      isplitl [H5] <;> iassumption
  · have e1 : ls k ≠ true := fun h => hn ((cond17_eq k).mpr h)
    unfold oP oW oSlot
    rw [if_neg e1, if_neg (c := ls k = true) e1, hsl]
    iintro ⟨H1, H2, H3, H4, H5, H6, H7⟩
    isplitl [H1]; · iexact H1
    isplitl [H2 H3 H6]
    · isplitl [H3]; · iexact H3
      isplitl [H2] <;> iassumption
    isplitl [H4]; · iexact H4
    isplitl [H5] <;> iassumption
  refine Runs.same ?_
  exact Runs.pure _ _

end Cert.KernelIdeal.Attn

end
-- ==== Proof.Trip4.lean ====
module

public import proofs.«01_k».proof.Proof.Trip1
public import proofs.«01_k».proof.Proof.Trip2
public import proofs.«01_k».proof.Proof.Trip3

@[expose] public section

set_option maxRecDepth 65536
set_option pp.maxSteps 400

/-!
  One trip of the kernel's loop, whole.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

variable {c : Dev nD} (D : Arr F) (R : Refs)

theorem par_two (n : ℕ) : par (n + 2) = par n := by
  apply Fin.ext; show (n + 2) % 2 = n % 2; omega

theorem waiO {sp' : Space} {s' : Shape} {e' : EltTy} (src : Memref sig .tc sp' s' e') (n w : ℕ) (hw : w < 16) (hwn : w < n) (i : Fin 2) (hi : i = par w)
    (dst : Memref sig .tc .hbm S1024x512 .bf16) (e : dst = oblk R ⟨w, hw⟩) (h1 h2) :
    Runs c iprop(oFl D c R w ∗ obs D c R n w ∗ Owes c)
      (Prog.lift (.waitDma2 (semOf R.v3_r0 i) src dst h1 h2) : PG F _) ⟨⟩
      iprop(oJ c R (par w) ∗ obs D c R n (w + 1) ∗ Owes c) := by
  subst e hi
  unfold oFl
  rw [dif_pos hw]
  refine (((runs_wait src (oblk R ⟨w, hw⟩) (semOf R.v3_r0 (par w)) _ rfl iprop(owns (c : Thread nD τ) (oblk R ⟨w, hw⟩) fullShare (outB D w) ∗ owns (c : Thread nD τ) (dO R (par w)) fullShare (outB D w)) h1 h2).frame (obs D c R n w))).conseq ?_ ?_
  · iintro ⟨H1, H2, H3⟩
    isplitr [H2]
    · isplitl [H1] <;> iassumption
    · iexact H2
  · iintro ⟨⟨⟨H1, H2⟩, H3, H4⟩, H5⟩
    isplitl [H2 H3]
    · unfold oJ
      iexists _
      isplitl [H2] <;> iassumption
    isplitl [H1 H5]
    · iapply (obs_land D c R n w hw hwn)
      isplitl [H1] <;> iassumption
    · iexact H4

/-- What the output window holds apart from the block awaited. -/
def oX (c : Dev nD) (n : ℕ) (b : Bool) : sProp 𝕄 := if b then oFl D c R n else oJ c R (par n)
def up (n : ℕ) (b : Bool) : ℕ := if b then n + 1 else n

theorem o_wait (n w : ℕ) (b : Bool) (h : w + 1 = n) :
    oP D R c n w b ⊢ iprop((oFl D c R w ∗ obs D c R (up n b) w) ∗ oX D R c n b) := by
  subst h
  cases b
  · unfold oP oX up oW oR
    rw [if_neg (c := false = true) (by decide), if_neg (c := false = true) (by decide), if_neg (c := false = true) (by decide), if_neg (c := w = w + 1) (by omega)]
    iintro ⟨H1, H2, H3⟩
    isplitr [H2]
    · isplitl [H3] <;> iassumption
    · iexact H2
  · unfold oP oX up oR
    rw [if_pos (c := true = true) rfl, if_pos (c := true = true) rfl, if_pos (c := true = true) rfl, if_neg (c := w = w + 1) (by omega)]
    iintro ⟨H1, H2, H3⟩
    isplitr [H2]
    · isplitl [H3] <;> iassumption
    · iexact H2

theorem o_end (n w : ℕ) (b : Bool) (h : w + 1 = n) :
    iprop(oJ c R (par w) ∗ obs D c R (up n b) (w + 1) ∗ oX D R c n b) ⊢ oW D c R (up n b) (w + 1) := by
  subst h
  cases b
  · unfold oX up oW oR
    rw [if_neg (c := false = true) (by decide), if_neg (c := false = true) (by decide), if_pos (c := w + 1 = w + 1) rfl, show par (w + 1 + 1) = par w from par_two w]
    iintro ⟨H1, H2, H3⟩
    isplitl [H2]; · iexact H2
    isplitl [H3] <;> iassumption
  · unfold oX up oW oR
    rw [if_pos (c := true = true) rfl, if_pos (c := true = true) rfl, if_neg (c := w + 1 = w + 1 + 1) (by omega), show par (w + 1 + 1) = par w from par_two w]
    iintro ⟨H1, H2, H3⟩
    isplitl [H2]; · iexact H2
    isplitl [H1] <;> iassumption

theorem o_none (n : ℕ) (b : Bool) : oP D R c n n b ⊢ oW D c R (up n b) n := by
  cases b
  · unfold oP up
    rw [if_neg (c := false = true) (by decide), if_neg (c := false = true) (by decide)]
  · unfold oP up oW oR
    rw [if_pos (c := true = true) rfl, if_pos (c := true = true) rfl, if_pos (c := n = n) rfl, if_neg (c := n = n + 1) (by omega)]
    iintro ⟨H1, H2, H3⟩
    isplitl [H1]; · iexact H1
    isplitl [H3] <;> iassumption

variable (k : Fin 73)

theorem inv_next : iprop(Tabs c R ∗ oW D c R (up (cn lit3 k) (ls k)) (up (wn k) (wt k)) ∗ Owes c ∗ Scr c R (stT (tb D k) (ls k) (dg k) (pre k (stAt D k))) ∗ WB3 D R k c)
    ⊢ Inv D c R (k.1 + 1) := by
  obtain ⟨-, -, -, -, -, -, -, h1, h2⟩ := onum k
  obtain ⟨e0, e1, e2, m0, m1, m2, -, -⟩ := fin_end
  unfold Inv WB3
  rw [h1, h2]
  iintro ⟨H1, H2, H3, H4, H5, H6, H7⟩
  isplitl [H1]; · iexact H1
  isplitl [H5]
  · iapply (winB_next c (dQ R) (semOf R.v0_r0) (PQ D c R) lit0 (blkQ D) next0 e0 m0 (blkQ_congr D) k)
    iexact H5
  isplitl [H6]
  · iapply (winB_next c (dK R) (semOf R.v1_r0) (PK D c R) lit1 (blkK D) next1 e1 m1 (blkK_congr D) k)
    iexact H6
  isplitl [H7]
  · iapply (winB_next c (dV R) (semOf R.v2_r0) (PV D c R) lit2 (blkV D) next2 e2 m2 (blkV_congr D) k)
    iexact H7
  isplitl [H2]; · iexact H2
  isplitl [H4]
  · iexists _
    isplitr
    swap; · iexact H4
    ipureintro
    intro _
    show _ = (if h : k.1 < 73 then stT (tb D ⟨k.1, h⟩) (ls ⟨k.1, h⟩) (dg ⟨k.1, h⟩) (pre ⟨k.1, h⟩ (stAt D k.1)) else stAt D k.1)
    rw [dif_pos k.2]
  · iexact H3

theorem inv_top : Inv D c R k ⊢ iprop(∃ st, ⌜k.1 ≠ 0 → st = stAt D k⌝ ∗ Tabs c R ∗ winT c (dQ R) (semOf R.v0_r0) (PQ D c R) lit0 (blkQ D) k
    ∗ winT c (dK R) (semOf R.v1_r0) (PK D c R) lit1 (blkK D) k ∗ winT c (dV R) (semOf R.v2_r0) (PV D c R) lit2 (blkV D) k
    ∗ oW D c R (cn lit3 k) (wn k) ∗ Scr c R st ∗ Owes c) := by
  unfold Inv
  iintro ⟨H1, H2, H3, H4, H5, ⟨%st, %hst, H6⟩, H7⟩
  iexists st
  isplitr
  · ipureintro; exact hst
  isplitl [H1]; · iexact H1
  isplitl [H2]; · iexact H2
  isplitl [H3]; · iexact H3
  isplitl [H4]; · iexact H4
  isplitl [H5]; · iexact H5
  isplitl [H6] <;> iassumption

theorem run_body (v25 v27 : BitVec 32) (hw2 : k0_chk2 v27) :
    Runs c (Inv D c R k) (k0_t1_body (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 v25 v27 hw2 k (carry k)) (carry (k.1 + 1)) (Inv D c R (k.1 + 1)) := by
  obtain ⟨hn16, hnat, hsl, hww, hwt, hcol, hcolw, hcn, hwn⟩ := onum k
  have hle : wn k ≤ cn lit3 k := by
    cases e : wt k
    · rw [e, if_neg (by decide)] at hwt; omega
    · rw [e, if_pos rfl] at hwt; omega
  delta k0_t1_body
  unfold carry
  refine Runs.pre (inv_top D R k) (Runs.ex fun st => Runs.of_pure fun hst => ?_)
  refine Runs.bind (run106 D R k iprop(winT c (dK R) (semOf R.v1_r0) (PK D c R) lit1 (blkK D) k ∗ winT c (dV R) (semOf R.v2_r0) (PV D c R) lit2 (blkV D) k
    ∗ oW D c R (cn lit3 k) (wn k) ∗ Scr c R st ∗ Owes c)) ?_
  refine Runs.pre (A := iprop(Tabs c R ∗ winT c (dK R) (semOf R.v1_r0) (PK D c R) lit1 (blkK D) k ∗ winT c (dV R) (semOf R.v2_r0) (PV D c R) lit2 (blkV D) k
    ∗ winA c (dQ R) (semOf R.v0_r0) (PQ D c R) lit0 (blkQ D) k ∗ oW D c R (cn lit3 k) (wn k) ∗ Scr c R st ∗ Owes c)) ?_ ?_
  · iintro ⟨H1, H2, H3, H4, H5⟩
    isplitl [H1]; · iexact H1
    isplitl [H3]; · iexact H3
    isplitl [H4]; · iexact H4
    isplitl [H2] <;> iassumption
  refine Runs.bind (run107 D R k _) ?_
  refine Runs.seq (R := oW D c R (cn lit3 k) (wn k)) ?_ (run108 D R k st) ?_
  · iintro ⟨H1, H2, H3, H4, H5, H6, H7⟩
    isplitr [H5]
    · isplitl [H1]; · iexact H1
      isplitl [H4]; · iexact H4
      isplitl [H3]; · iexact H3
      isplitl [H2]; · iexact H2
      isplitl [H7] <;> iassumption
    · iexact H5
  refine Runs.pre (A := iprop(Tabs c R ∗ Scr c R (clr k st) ∗ oJ c R (slf (cw lit3 k)) ∗ WB3 D R k c ∗ obs D c R (cn lit3 k) (wn k) ∗ oR D c R (cn lit3 k) (wn k) ∗ Owes c)) ?_ ?_
  · unfold oW WB3
    rw [hsl]
    iintro ⟨⟨H1, H2, H3, H4, H5, H6⟩, H7, H8, H9⟩
    isplitl [H1]; · iexact H1
    isplitl [H6]; · iexact H6
    isplitl [H8]; · iexact H8
    isplitl [H2 H3 H4]
    · isplitl [H2]; · iexact H2
      isplitl [H3] <;> iassumption
    isplitl [H7]; · iexact H7
    isplitl [H9] <;> iassumption
  refine Runs.bind (run109 D R k _ st hst) ?_
  refine Runs.pre (A := iprop(Tl D R k c (!ls k || !dg k) ∗ WB3 D R k c ∗ Tabs c R ∗ obs D c R (cn lit3 k) (wn k) ∗ oR D c R (cn lit3 k) (wn k) ∗ Owes c)) .rfl ?_
  refine Runs.bind (run110 D R k _ hle) ?_
  refine Runs.same ?_
  refine Runs.same ?_
  refine Runs.diteJ iprop(Tabs c R ∗ oW D c R (up (cn lit3 k) (ls k)) (up (wn k) (wt k)) ∗ Owes c ∗ Scr c R (stT (tb D k) (ls k) (dg k) (pre k (stAt D k))) ∗ WB3 D R k c) (fun hp hj => ?_) (fun hn => ?_) ?_
  · have e1 := (cond21_eq k).mp hp
    rw [e1, if_pos rfl] at hwt
    refine Runs.bind ((runs_tab3 R _ _ (pv k) (off77_eq k)).frame _) ?_
    refine Runs.bind (Runs.assume _ (chk21_ok k)) ?_
    refine Runs.seq (R := iprop(Tabs c R ∗ oX D R c (cn lit3 k) (ls k) ∗ Scr c R (stT (tb D k) (ls k) (dg k) (pre k (stAt D k))) ∗ WB3 D R k c)) ?_
      (waiO D R _ (up (cn lit3 k) (ls k)) (wn k) (by omega) (by unfold up; split <;> omega) (slf (ww k)) hww _
        (oblk_off R _ _ _ (by show ![col (lit3 (pv k)), 0] = _; rw [hcolw e1])) _ _) (Runs.pre ?_ hj)
    · iintro ⟨H1, H2, H3, H4, H5⟩
      ihave H2 := (o_wait D R (cn lit3 k) (wn k) (ls k) hwt.1) $$ H2
      icases H2 with ⟨⟨H6, H7⟩, H8⟩
      isplitl [H6 H7 H5]
      · isplitl [H6]; · iexact H6
        isplitl [H7] <;> iassumption
      isplitl [H1]; · iexact H1
      isplitl [H8]; · iexact H8
      isplitl [H3] <;> iassumption
    · iintro ⟨⟨H1, H2, H3⟩, H4, H5, H6, H7⟩
      isplitl [H4]; · iexact H4
      isplitl [H1 H2 H5]
      · rw [show up (wn k) (wt k) = wn k + 1 from by unfold up; rw [if_pos e1]]
        iapply (o_end D R (cn lit3 k) (wn k) (ls k) hwt.1)
        isplitl [H1]; · iexact H1
        isplitl [H2] <;> iassumption
      isplitl [H3]; · iexact H3
      isplitl [H6] <;> iassumption
  · have e1 : wt k ≠ true := fun h => hn ((cond21_eq k).mpr h)
    rw [if_neg e1] at hwt
    rw [show up (wn k) (wt k) = cn lit3 k from by unfold up; rw [if_neg e1, hwt]]
    iintro ⟨H1, H2, H3, H4, H5⟩
    isplitl [H1]; · iexact H1
    isplitl [H2]
    · iapply (o_none D R (cn lit3 k) (ls k))
      rw [← hwt]
      iexact H2
    isplitl [H5]; · iexact H5
    isplitl [H3] <;> iassumption
  refine Runs.of_res ((Runs.pure _ _).conseq .rfl (inv_next D R k)) ?_
  exact Prod.ext (stepA0 k) (Prod.ext (stepC0 k) (Prod.ext (stepA1 k) (Prod.ext (stepC1 k) (Prod.ext (stepA2 k) (Prod.ext (stepC2 k)
    (Prod.ext (stepO k) (Prod.ext (stepW k) (stepT k))))))))

end Cert.KernelIdeal.Attn

end
-- ==== Proof.Whole.lean ====
module

public import proofs.«01_k».proof.Proof.Trip4

@[expose] public section

set_option maxRecDepth 65536
set_option pp.maxSteps 400

/-!
  The kernel whole: the copies asked for before the loop, the loop by its invariant, the copy awaited after it.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

variable {c : Dev nD} (D : Arr F) (R : Refs)

theorem run_for (v25 v27 : BitVec 32) (hw2 : k0_chk2 v27) (init) (hi : init = carry 0) :
    Runs c (Inv D c R 0) (Scf.Loop.for k0_t1_loop k0_t1_ok init (k0_t1_body (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 v25 v27 hw2)) (carry 73) (Inv D c R 73) := by
  subst hi
  unfold Runs WP
  refine (?_ : _ ⊢ iprop((⌜carry 0 = carry 0⌝ ∗ Inv D c R 0) ∗ ∀ acc, (⌜acc = carry 73⌝ ∗ Inv D c R 73) -∗ (⌜acc = carry 73⌝ ∗ Inv D c R 73))).trans
    (Scf.wp_for Idealize.ShloMosaic.frame (wpE (defs₀ (F := F)) Variants.none (c : Thread nD τ) none) Set.univ k0_t1_loop.lb k0_t1_loop.ub k0_t1_loop.st k0_t1_ok (carry 0)
      (k0_t1_body (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 v25 v27 hw2) (fun k acc => iprop(⌜acc = carry k⌝ ∗ Inv D c R k)) (fun k acc => ?_))
  · iintro H
    isplitl [H]
    · isplitr
      · ipureintro; rfl
      · iexact H
    · iintro %acc H
      iexact H
  · exact (Runs.of_pure (A := Inv D c R k) (φ := acc = carry k) fun e => by
      subst e
      exact run_body D R k v25 v27 hw2)

/-- What the call is given. -/
def Ini (c : Dev nD) : sProp 𝕄 :=
  iprop(Tabs c R ∗ (Jnk c (dQ R) (semOf R.v0_r0) (PQ D c R) 0 ∗ Jnk c (dQ R) (semOf R.v0_r0) (PQ D c R) 1)
    ∗ (Jnk c (dK R) (semOf R.v1_r0) (PK D c R) 0 ∗ Jnk c (dK R) (semOf R.v1_r0) (PK D c R) 1)
    ∗ (Jnk c (dV R) (semOf R.v2_r0) (PV D c R) 0 ∗ Jnk c (dV R) (semOf R.v2_r0) (PV D c R) 1)
    ∗ (obs D c R 0 0 ∗ oJ c R 0 ∗ oJ c R 1) ∗ (∃ st, Scr c R st) ∗ Owes c)

/-- What the call leaves. -/
def End (c : Dev nD) : sProp 𝕄 :=
  iprop(Tabs c R ∗ (Jnk c (dQ R) (semOf R.v0_r0) (PQ D c R) 0 ∗ Jnk c (dQ R) (semOf R.v0_r0) (PQ D c R) 1)
    ∗ (Jnk c (dK R) (semOf R.v1_r0) (PK D c R) 0 ∗ Jnk c (dK R) (semOf R.v1_r0) (PK D c R) 1)
    ∗ (Jnk c (dV R) (semOf R.v2_r0) (PV D c R) 0 ∗ Jnk c (dV R) (semOf R.v2_r0) (PV D c R) 1)
    ∗ (obs D c R 16 16 ∗ oJ c R 0 ∗ oJ c R 1) ∗ (∃ st, Scr c R st) ∗ Owes c)

theorem chk1_ok : k0_chk1 (lit0 0) := by decide +kernel
theorem chk2_ok : k0_chk2 (lit1 0) := by decide +kernel
theorem chk3_ok : k0_chk3 (lit2 0) := by decide +kernel
theorem chk22_ok : k0_chk22 (tw 73) := by decide +kernel
theorem chk23_ok : k0_chk23 (ww 73) := by decide +kernel
theorem chk24_ok : k0_chk24 (lit3 72) := by decide +kernel
theorem off81_eq : k0_off81 (tw 73) 0 = 72 := by decide +kernel
theorem slots0 : slf (cw lit0 0) = 0 ∧ slf (aw lit0 0) = 1 ∧ slf (cw lit1 0) = 0 ∧ slf (aw lit1 0) = 1 ∧ slf (cw lit2 0) = 0 ∧ slf (aw lit2 0) = 1
    ∧ fr lit0 0 = true ∧ fr lit1 0 = true ∧ fr lit2 0 = true := by decide +kernel
theorem end_nums : cn lit3 73 = 16 ∧ wn 73 = 15 ∧ slf (ww 73) = par 15 ∧ col (lit3 72) = 1024 * 15 := by decide +kernel

/-- The call between its parts. -/
def Mid (c : Dev nD) (PQ0 PK0 PV0 : sProp 𝕄) : sProp 𝕄 :=
  iprop(Tabs c R ∗ (PQ0 ∗ Jnk c (dQ R) (semOf R.v0_r0) (PQ D c R) 1)
    ∗ (PK0 ∗ Jnk c (dK R) (semOf R.v1_r0) (PK D c R) 1)
    ∗ (PV0 ∗ Jnk c (dV R) (semOf R.v2_r0) (PV D c R) 1)
    ∗ (obs D c R 0 0 ∗ oJ c R 0 ∗ oJ c R 1) ∗ (∃ st, Scr c R st) ∗ Owes c)

theorem mid_inv : Mid D R c (Pnd c (dQ R) (semOf R.v0_r0) (PQ D c R) 0 (blkQ D 0)) (Pnd c (dK R) (semOf R.v1_r0) (PK D c R) 0 (blkK D 0)) (Pnd c (dV R) (semOf R.v2_r0) (PV D c R) 0 (blkV D 0))
    ⊢ Inv D c R 0 := by
  obtain ⟨a1, a2, b1, b2, c1, c2, f1, f2, f3⟩ := slots0
  unfold Mid Inv winT
  rw [dif_pos (c := 0 < 73) (by omega), dif_pos (c := 0 < 73) (by omega), dif_pos (c := 0 < 73) (by omega), a1, a2, b1, b2, c1, c2,
    show (⟨0, by omega⟩ : Fin 73) = 0 from rfl, if_pos f1, if_pos f2, if_pos f3]
  unfold oW oR
  rw [show cn lit3 0 = 0 from rfl, show wn 0 = 0 from rfl, if_pos (c := 0 = 0) rfl, show par 0 = 0 from rfl, show par (0 + 1) = 1 from rfl]
  iintro ⟨H1, H2, H3, H4, H5, ⟨%st, H6⟩, H7⟩
  isplitl [H1]; · iexact H1
  isplitl [H2]; · iexact H2
  isplitl [H3]; · iexact H3
  isplitl [H4]; · iexact H4
  isplitl [H5]; · iexact H5
  isplitl [H6]
  · iexists st
    isplitr
    · ipureintro; exact fun h => absurd rfl h
    · iexact H6
  · iexact H7

theorem run111 (X Y : sProp 𝕄) : Runs c (Mid D R c (Jnk c (dQ R) (semOf R.v0_r0) (PQ D c R) 0) X Y)
    (k0_part111 (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0) ⟨Scalar.addi 0#32 1#32, lit1 0, chk2_ok⟩
    (Mid D R c (Pnd c (dQ R) (semOf R.v0_r0) (PQ D c R) 0 (blkQ D 0)) X Y) := by
  rw [k0_part111_eq_skeleton]
  delta k0_part111_skel
  unfold Mid
  refine Runs.bind ((runs_tab0 R _ _ 0 rfl).frame _) ?_
  refine Runs.bind (Runs.assume _ chk1_ok) ?_
  refine Runs.seq (R := iprop(Tabs c R ∗ Jnk c (dQ R) (semOf R.v0_r0) (PQ D c R) 1 ∗ (X ∗ Jnk c (dK R) (semOf R.v1_r0) (PK D c R) 1)
    ∗ (Y ∗ Jnk c (dV R) (semOf R.v2_r0) (PV D c R) 1)
    ∗ (obs D c R 0 0 ∗ oJ c R 0 ∗ oJ c R 1) ∗ (∃ st, Scr c R st) ∗ Owes c)) ?_ (fetQ D R 0 0 _ _ _) ?_
  · iintro ⟨H1, ⟨H2, H3⟩, H4⟩
    isplitl [H2]; · iexact H2
    isplitl [H1]; · iexact H1
    isplitl [H3] <;> iassumption
  refine Runs.pre (A := iprop(Tabs c R ∗ (Pnd c (dQ R) (semOf R.v0_r0) (PQ D c R) 0 (blkQ D 0) ∗ Jnk c (dQ R) (semOf R.v0_r0) (PQ D c R) 1) ∗ (X ∗ Jnk c (dK R) (semOf R.v1_r0) (PK D c R) 1)
    ∗ (Y ∗ Jnk c (dV R) (semOf R.v2_r0) (PV D c R) 1)
    ∗ (obs D c R 0 0 ∗ oJ c R 0 ∗ oJ c R 1) ∗ (∃ st, Scr c R st) ∗ Owes c)) ?_ ?_
  · iintro ⟨H2, H1, H3, H4⟩
    isplitl [H1]; · iexact H1
    isplitl [H2 H3]
    · isplitl [H2] <;> iassumption
    · iexact H4
  refine Runs.bind ((runs_tab1 R _ _ 0 rfl).frame _) ?_
  refine Runs.bind (Runs.assume _ chk2_ok) ?_
  exact Runs.pure _ _

/-- The last trip's number. -/
def t49 : BitVec 32 := (Scalar.select (Scalar.cmpi .eq (Scalar.select 1#1 (Scalar.subi (tw 73) 1#32) (tw 73)) 4294967295#32) 72#32 (Scalar.select 1#1 (Scalar.subi (tw 73) 1#32) (tw 73)))

theorem run112 : Runs c (Mid D R c (Pnd c (dQ R) (semOf R.v0_r0) (PQ D c R) 0 (blkQ D 0)) (Jnk c (dK R) (semOf R.v1_r0) (PK D c R) 0) (Jnk c (dV R) (semOf R.v2_r0) (PV D c R) 0))
    (k0_part112 (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0 (Scalar.addi 0#32 1#32) (lit1 0) chk2_ok)
    ⟨ww 73, tw 73, chk23_ok, chk22_ok, t49, Scalar.addi t49 0#32, Scalar.select 1#1 (Scalar.subi t49 1#32) t49, Scalar.cmpi .eq (Scalar.select 1#1 (Scalar.subi t49 1#32) t49) 4294967295#32⟩
    (Inv D c R 73) := by
  rw [k0_part112_eq_skeleton]
  delta k0_part112_skel
  refine Runs.seq (R := iprop(Tabs c R ∗ (Pnd c (dQ R) (semOf R.v0_r0) (PQ D c R) 0 (blkQ D 0) ∗ Jnk c (dQ R) (semOf R.v0_r0) (PQ D c R) 1) ∗ Jnk c (dK R) (semOf R.v1_r0) (PK D c R) 1
    ∗ (Jnk c (dV R) (semOf R.v2_r0) (PV D c R) 0 ∗ Jnk c (dV R) (semOf R.v2_r0) (PV D c R) 1)
    ∗ (obs D c R 0 0 ∗ oJ c R 0 ∗ oJ c R 1) ∗ (∃ st, Scr c R st) ∗ Owes c)) ?_ (fetK D R 0 0 _ _ _) ?_
  · unfold Mid
    iintro ⟨H1, H2, ⟨H3, H4⟩, H5⟩
    isplitl [H3]; · iexact H3
    isplitl [H1]; · iexact H1
    isplitl [H2]; · iexact H2
    isplitl [H4] <;> iassumption
  refine Runs.pre (A := iprop(Tabs c R ∗ Jnk c (dV R) (semOf R.v2_r0) (PV D c R) 0 ∗ (Pnd c (dQ R) (semOf R.v0_r0) (PQ D c R) 0 (blkQ D 0) ∗ Jnk c (dQ R) (semOf R.v0_r0) (PQ D c R) 1)
    ∗ (Pnd c (dK R) (semOf R.v1_r0) (PK D c R) 0 (blkK D 0) ∗ Jnk c (dK R) (semOf R.v1_r0) (PK D c R) 1)
    ∗ Jnk c (dV R) (semOf R.v2_r0) (PV D c R) 1
    ∗ (obs D c R 0 0 ∗ oJ c R 0 ∗ oJ c R 1) ∗ (∃ st, Scr c R st) ∗ Owes c)) ?_ ?_
  · iintro ⟨H1, H2, H3, H4, ⟨H5, H6⟩, H7⟩
    isplitl [H2]; · iexact H2
    isplitl [H5]; · iexact H5
    isplitl [H3]; · iexact H3
    isplitl [H1 H4]
    · isplitl [H1] <;> iassumption
    isplitl [H6] <;> iassumption
  refine Runs.bind ((runs_tab2 R _ _ 0 rfl).frame _) ?_
  refine Runs.bind (Runs.assume _ chk3_ok) ?_
  refine Runs.seq (R := iprop(Tabs c R ∗ (Pnd c (dQ R) (semOf R.v0_r0) (PQ D c R) 0 (blkQ D 0) ∗ Jnk c (dQ R) (semOf R.v0_r0) (PQ D c R) 1)
    ∗ (Pnd c (dK R) (semOf R.v1_r0) (PK D c R) 0 (blkK D 0) ∗ Jnk c (dK R) (semOf R.v1_r0) (PK D c R) 1)
    ∗ Jnk c (dV R) (semOf R.v2_r0) (PV D c R) 1
    ∗ (obs D c R 0 0 ∗ oJ c R 0 ∗ oJ c R 1) ∗ (∃ st, Scr c R st) ∗ Owes c)) ?_ (fetV D R 0 0 _ _ _) ?_
  · iintro ⟨H1, H2, H3⟩
    isplitl [H2]; · iexact H2
    isplitl [H1] <;> iassumption
  refine Runs.pre (A := Inv D c R 0) ?_ ?_
  · refine (?_ : _ ⊢ _).trans (mid_inv D R)
    unfold Mid
    iintro ⟨H1, H2, H3, H4, H5, H6⟩
    isplitl [H2]; · iexact H2
    isplitl [H3]; · iexact H3
    isplitl [H4]; · iexact H4
    isplitl [H1 H5]
    · isplitl [H1] <;> iassumption
    · iexact H6
  refine Runs.bind (run_for D R (Scalar.addi 0#32 1#32) (lit1 0) chk2_ok _ (by rw [carry0]; rfl)) ?_
  unfold carry
  refine Runs.bind (Runs.assume _ chk23_ok) ?_
  refine Runs.bind (Runs.assume _ chk22_ok) ?_
  exact Runs.pure _ _

theorem oR_end : oR D c R 16 15 = oFl D c R 15 := by unfold oR; rw [if_neg (by omega)]

theorem run_all : Runs c (Ini D R c) (cc0_mla_flash_attn (F := F) R.arg0 R.harg0 R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.alloca_r0 R.halloca_r0 R.v0_r0 R.alloca_0_r0 R.halloca_0_r0 R.v1_r0 R.alloca_1_r0 R.halloca_1_r0 R.v2_r0 R.alloca_2_r0 R.halloca_2_r0 R.v3_r0) ⟨⟩ (End D R c) := by
  obtain ⟨e1, e2, e3, e4⟩ := end_nums
  rw [cc0_mla_flash_attn_eq_skeleton]
  delta cc0_mla_flash_attn_skel
  refine Runs.pre (A := Mid D R c (Jnk c (dQ R) (semOf R.v0_r0) (PQ D c R) 0) (Jnk c (dK R) (semOf R.v1_r0) (PK D c R) 0) (Jnk c (dV R) (semOf R.v2_r0) (PV D c R) 0)) .rfl ?_
  refine Runs.bind (run111 D R _ _) ?_
  refine Runs.bind (run112 D R) ?_
  refine Runs.pre (A := iprop(Tabs c R ∗ (oFl D c R 15 ∗ obs D c R 16 15 ∗ Owes c) ∗ oJ c R 0
    ∗ (Jnk c (dQ R) (semOf R.v0_r0) (PQ D c R) 0 ∗ Jnk c (dQ R) (semOf R.v0_r0) (PQ D c R) 1)
    ∗ (Jnk c (dK R) (semOf R.v1_r0) (PK D c R) 0 ∗ Jnk c (dK R) (semOf R.v1_r0) (PK D c R) 1)
    ∗ (Jnk c (dV R) (semOf R.v2_r0) (PV D c R) 0 ∗ Jnk c (dV R) (semOf R.v2_r0) (PV D c R) 1) ∗ (∃ st, Scr c R st))) ?_ ?_
  · unfold Inv winT
    rw [dif_neg (c := 73 < 73) (by omega), dif_neg (c := 73 < 73) (by omega), dif_neg (c := 73 < 73) (by omega)]
    unfold oW
    rw [e1, e2, oR_end, show par 16 = 0 from rfl]
    iintro ⟨H1, H2, H3, H4, ⟨H5, H6, H7⟩, ⟨%st, %hst, H8⟩, H9⟩
    isplitl [H1]; · iexact H1
    isplitl [H5 H7 H9]
    · isplitl [H7]; · iexact H7
      isplitl [H5] <;> iassumption
    isplitl [H6]; · iexact H6
    isplitl [H2]; · iexact H2
    isplitl [H3]; · iexact H3
    isplitl [H4]; · iexact H4
    iexists st; iexact H8
  refine Runs.bind ((runs_tab3 R _ _ 72 off81_eq).frame _) ?_
  refine Runs.bind (Runs.assume _ chk24_ok) ?_
  refine Runs.seq (R := iprop(Tabs c R ∗ oJ c R 0
    ∗ (Jnk c (dQ R) (semOf R.v0_r0) (PQ D c R) 0 ∗ Jnk c (dQ R) (semOf R.v0_r0) (PQ D c R) 1)
    ∗ (Jnk c (dK R) (semOf R.v1_r0) (PK D c R) 0 ∗ Jnk c (dK R) (semOf R.v1_r0) (PK D c R) 1)
    ∗ (Jnk c (dV R) (semOf R.v2_r0) (PV D c R) 0 ∗ Jnk c (dV R) (semOf R.v2_r0) (PV D c R) 1) ∗ (∃ st, Scr c R st))) ?_
    (waiO D R _ 16 15 (by omega) (by omega) (slf (ww 73)) e3 _ (oblk_off R _ _ _ (by show ![col (lit3 72), 0] = _; rw [e4])) _ _) ?_
  · iintro ⟨H1, H2, H3⟩
    isplitl [H2]; · iexact H2
    isplitl [H1] <;> iassumption
  refine (Runs.pure _ _).conseq .rfl ?_
  unfold End
  iintro ⟨⟨H1, H2, H3⟩, H4, H5, H6, H7, H8, H9⟩
  isplitl [H4]; · iexact H4
  isplitl [H6]; · iexact H6
  isplitl [H7]; · iexact H7
  isplitl [H8]; · iexact H8
  isplitl [H1 H2 H5]
  · isplitl [H2]; · iexact H2
    isplitl [H5]; · iexact H5
    iexact H1
  isplitl [H9]; · iexact H9
  iexact H3

end Cert.KernelIdeal.Attn

end
-- ==== Proof.Ring.lean ====
module

public import proofs.«01_k».proof.Proof.Whole

@[expose] public section

set_option maxRecDepth 65536
set_option pp.maxSteps 400

/-!
  A ring of two slots as its slots, the output array as its sixteen blocks.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

theorem big2 (Φ : Fin 2 → sProp (MT nD τ sig Unit (Elt F) ℕ (Pipeline.UC sig nD τ) ℕ)) : BI.bigSep Finset.univ Φ = iprop(Φ 0 ∗ Φ 1) :=
  BI.bigSep_univ_eq_bigSepL [0, 1] (by decide) (by decide) Φ

section Gen
variable {c : Dev nD} {sp : Space} {s s' : Shape} {e : EltTy} (m : Memref sig .tc sp s e) {q : PosShare TreeShare}

theorem owns_sq (h : s.Squeezes s') :
    (iprop(∃ X, owns (c : Thread nD τ) m q X) : sProp 𝕄) ⊢ iprop(∃ X, owns (c : Thread nD τ) (m.squeeze s' h) q X) := by
  unfold owns
  iintro ⟨%X, %f, -, H⟩
  iexists _
  iexists f
  isplitr; · ipureintro; rfl
  rw [Memref.set_view_squeeze]
  iexact H

theorem owns_unsq (h : s.Squeezes s') :
    (iprop(∃ X, owns (c : Thread nD τ) (m.squeeze s' h) q X) : sProp 𝕄) ⊢ iprop(∃ X, owns (c : Thread nD τ) m q X) := by
  unfold owns
  iintro ⟨%X, %f, -, H⟩
  iexists _
  iexists f
  isplitr; · ipureintro; rfl
  rw [Memref.set_view_squeeze]
  iexact H

variable (r : Fin 2 → Rect s) (hr : ∀ t a, (r t).stride a = 1) (hq : ∀ t, (r t).shape.Squeezes s')
  (hd : ∀ t t', t ≠ t' → Disjoint (r t).set (r t').set)
  (hcov : (Finset.univ : Finset (Fin 2)).biUnion (fun t => (r t).set) = Finset.univ)
include hd hcov

/-- A ring of two slots is its slots. -/
theorem ring_split : (iprop(∃ X, owns (c : Thread nD τ) m q X) : sProp 𝕄)
    ⊢ iprop((∃ X, owns (c : Thread nD τ) ((m.slice (r 0) (hr 0)).squeeze s' (hq 0)) q X) ∗ ∃ X, owns (c : Thread nD τ) ((m.slice (r 1) (hr 1)).squeeze s' (hq 1)) q X) := by
  iintro ⟨%X, H⟩
  have h : (owns (c : Thread nD τ) m q X : sProp 𝕄) ⊢ _ := owns_rects (c : Thread nD τ) m q r hr hd hcov X
  rw [big2] at h
  ihave H := h $$ H
  icases H with ⟨H0, H1⟩
  isplitl [H0]
  · iapply (owns_sq (m.slice (r 0) (hr 0)) (hq 0)); iexists _; iexact H0
  · iapply (owns_sq (m.slice (r 1) (hr 1)) (hq 1)); iexists _; iexact H1

/-- and back. -/
theorem ring_join : (iprop((∃ X, owns (c : Thread nD τ) ((m.slice (r 0) (hr 0)).squeeze s' (hq 0)) q X) ∗ ∃ X, owns (c : Thread nD τ) ((m.slice (r 1) (hr 1)).squeeze s' (hq 1)) q X) : sProp 𝕄)
    ⊢ iprop(∃ X, owns (c : Thread nD τ) m q X) := by
  iintro ⟨H0, H1⟩
  ihave H0 := (owns_unsq (m.slice (r 0) (hr 0)) (hq 0)) $$ H0
  ihave H1 := (owns_unsq (m.slice (r 1) (hr 1)) (hq 1)) $$ H1
  icases H0 with ⟨%X0, H0⟩
  icases H1 with ⟨%X1, H1⟩
  have key (t : Fin 2) (X : (r t).shape.Idx → Elt F e) (Y : s.Idx → Elt F e) (h : (fun j => Y ((r t).emb j)) = X) :
      (owns (c : Thread nD τ) (m.slice (r t) (hr t)) q X : sProp 𝕄) ⊢ owns (c : Thread nD τ) (m.slice (r t) (hr t)) q (fun j => Y ((r t).emb j)) := by
    rw [h]
  have hY0 : (fun j => ((r 0).overlay ((r 1).overlay (fun _ => Classical.arbitrary _) X1) X0) ((r 0).emb j)) = X0 :=
    funext fun j => (r 0).overlay_emb _ _ j
  have hY1 : (fun j => ((r 0).overlay ((r 1).overlay (fun _ => Classical.arbitrary _) X1) X0) ((r 1).emb j)) = X1 := by
    funext j
    rw [Rect.overlay_of_not_mem]
    · exact (r 1).overlay_emb _ _ j
    · refine fun h => Finset.disjoint_left.mp (hd 0 1 (by decide)) h ?_
      rw [← Rect.map_emb_univ]; exact Finset.mem_map_of_mem _ (Finset.mem_univ j)
  iexists ((r 0).overlay ((r 1).overlay (fun _ => Classical.arbitrary _) X1) X0)
  iapply (owns_of_rects (c : Thread nD τ) m q r hr hd hcov _)
  rw [big2]
  isplitl [H0]
  · iapply (key 0 X0 _ hY0); iexact H0
  · iapply (key 1 X1 _ hY1); iexact H1

end Gen

theorem slot_disj {a b : ℕ} (t t' : Fin 2) (h : t ≠ t') :
    Disjoint (Rect.unit (s := ⟨3, ![2, a, b]⟩) ![t.1, 0, 0] ![1, a, b] (inb_slot t.2)).set (Rect.unit (s := ⟨3, ![2, a, b]⟩) ![t'.1, 0, 0] ![1, a, b] (inb_slot t'.2)).set := by
  refine Finset.disjoint_left.mpr fun i hi hi' => h (Fin.ext ?_)
  have h1 := Rect.mem_set_unit.mp hi 0
  have h2 := Rect.mem_set_unit.mp hi' 0
  simp at h1 h2
  omega

theorem slot_cov {a b : ℕ} : (Finset.univ : Finset (Fin 2)).biUnion (fun t => (Rect.unit (s := ⟨3, ![2, a, b]⟩) ![t.1, 0, 0] ![1, a, b] (inb_slot t.2)).set) = Finset.univ := by
  refine Finset.eq_univ_of_forall fun i => Finset.mem_biUnion.mpr ⟨i 0, Finset.mem_univ _, Rect.mem_set_unit.mpr fun x => ?_⟩
  have h1 := (i 1).isLt
  have h2 := (i 2).isLt
  fin_cases x
  · exact ⟨le_rfl, Nat.lt_succ_self _⟩
  · exact ⟨Nat.zero_le _, by simpa using h1⟩
  · exact ⟨Nat.zero_le _, by simpa using h2⟩

theorem ob_disj (t t' : Fin 16) (h : t ≠ t') :
    Disjoint (Rect.unit (s := S16384x512) ![1024 * t.val, 0] S1024x512.size (inb_ob t)).set (Rect.unit (s := S16384x512) ![1024 * t'.val, 0] S1024x512.size (inb_ob t')).set := by
  refine Finset.disjoint_left.mpr fun i hi hi' => h (Fin.ext ?_)
  have h1 := Rect.mem_set_unit.mp hi 0
  have h2 := Rect.mem_set_unit.mp hi' 0
  simp at h1 h2
  omega

theorem ob_cov : (Finset.univ : Finset (Fin 16)).biUnion (fun t => (Rect.unit (s := S16384x512) ![1024 * t.val, 0] S1024x512.size (inb_ob t)).set) = Finset.univ := by
  refine Finset.eq_univ_of_forall fun i => ?_
  have h0 : (i 0).val < 16384 := (i 0).isLt
  have h1 : (i 1).val < 512 := (i 1).isLt
  refine Finset.mem_biUnion.mpr ⟨⟨(i 0).val / 1024, by omega⟩, Finset.mem_univ _, Rect.mem_set_unit.mpr fun x => ?_⟩
  fin_cases x
  · show 1024 * ((i 0).val / 1024) ≤ (i 0).val ∧ (i 0).val < 1024 * ((i 0).val / 1024) + 1024
    omega
  · exact ⟨Nat.zero_le _, by exact (show (i 1).val < 0 + 512 from by omega)⟩

/-- The result, block by block. -/
def outA (D : Arr F) : Vec F S16384x512 .bf16 := fun i =>
  outB D ((i 0).val / 1024) (fun a => Fin.cases ⟨(i 0).val % 1024, Nat.mod_lt _ (by decide)⟩ (fun b => Fin.cases (i 1) (fun x => x.elim0) b) a)

theorem outA_blk (D : Arr F) (t : Fin 16) :
    (fun j => outA D ((Rect.unit (s := S16384x512) ![1024 * t.val, 0] S1024x512.size (inb_ob t)).emb j)) = outB D t := by
  funext j
  have h0 : (j 0).val < 1024 := (j 0).isLt
  have e0 : (((Rect.unit (s := S16384x512) ![1024 * t.val, 0] S1024x512.size (inb_ob t)).emb j) 0).val = 1024 * t.val + 1 * (j 0).val := rfl
  have e1 : (((Rect.unit (s := S16384x512) ![1024 * t.val, 0] S1024x512.size (inb_ob t)).emb j) 1).val = 0 + 1 * (j 1).val := rfl
  unfold outA
  have ed : (((Rect.unit (s := S16384x512) ![1024 * t.val, 0] S1024x512.size (inb_ob t)).emb j) 0).val / 1024 = t.val := by rw [e0]; omega
  rw [ed]
  refine congrArg (outB D t.val) (funext fun a => Fin.ext ?_)
  fin_cases a
  · show (((Rect.unit (s := S16384x512) ![1024 * t.val, 0] S1024x512.size (inb_ob t)).emb j) 0).val % 1024 = (j 0).val
    rw [e0]; omega
  · show (((Rect.unit (s := S16384x512) ![1024 * t.val, 0] S1024x512.size (inb_ob t)).emb j) 1).val = (j 1).val
    rw [e1]; omega

variable (D : Arr F) (c : Dev nD) (R : Refs)

theorem exI {s : Shape} {e : EltTy} {sp : Space} {c : Dev nD} {m : Memref sig .tc sp s e} {q : PosShare TreeShare} (X : s.Idx → Elt F e) :
    (owns (c : Thread nD τ) m q X : sProp 𝕄) ⊢ iprop(∃ X, owns (c : Thread nD τ) m q X) := by
  iintro H; iexists X; iexact H

theorem obs_intro (X : Vec F S16384x512 .bf16) : (owns (c : Thread nD τ) R.arg10 fullShare X : sProp 𝕄) ⊢ obs D c R 0 0 := by
  refine (owns_rects (c : Thread nD τ) R.arg10 fullShare _ (fun _ _ => rfl) ob_disj ob_cov X).trans ?_
  unfold obs
  refine BI.bigSep_mono fun t _ => ?_
  unfold obl
  rw [if_neg (by omega), if_neg (by omega)]
  exact exI _

theorem obs_elim : obs D c R 16 16 ⊢ (owns (c : Thread nD τ) R.arg10 fullShare (outA D) : sProp 𝕄) := by
  refine BIBase.Entails.trans ?_ (owns_of_rects (c : Thread nD τ) R.arg10 fullShare _ (fun _ _ => rfl) ob_disj ob_cov (outA D))
  unfold obs
  refine BI.bigSep_mono fun t _ => ?_
  rw [outA_blk]
  unfold obl
  rw [if_pos t.2]
  exact (show (owns (c : Thread nD τ) (oblk R t) fullShare (outB D t) : sProp 𝕄) ⊢ _ from .rfl)

end Cert.KernelIdeal.Attn

end
-- ==== Proof.Frame.lean ====
module

public import proofs.«01_k».proof.Proof.Ring
public import Idealize.ShloMosaic.Lib.Pipeline.Routed
public import Idealize.ShloMosaic.Lib.Claim

@[expose] public section

set_option maxRecDepth 65536
set_option pp.maxSteps 400

/-!
  The call within the whole program: what it is given, what it leaves, and that it ends.
-/

noncomputable section

namespace Cert.KernelIdeal.Attn

open Idealize.ShloMosaic Idealize.ShloMosaic.Tactic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

open Idealize.ShloMosaic.Pipeline (Dat Cfg Window BodyObligation BodyObligationLoose cellOf)

variable (m : (ℓ : Loc nD τ sig) → Buf (Elt F) ℓ) (ρ : Dev nD → PrngReg)

/-- The call's own semaphores. -/
abbrev osem : Fin 8 → SemLoc sig := fun j => (![SemLoc.dma 7, SemLoc.dma 8, SemLoc.dma 9, SemLoc.dma 10, SemLoc.dma 11, SemLoc.dma 12, SemLoc.dma 13, SemLoc.dma 14] : Fin 8 → SemLoc sig) j
theorem osemFacts : Pipeline.OwnSemFacts spec0 osem := by decide

/-- The unscoped buffers the body reads and writes itself. -/
def RB : Finset (Ref sig .tc) := {main_v10, main_v14, main_v20, main_v21}
theorem RB_sub : RB ⊆ Pipeline.restRefs sig spec0 := by
  intro b hb
  fin_cases hb <;> exact Pipeline.mem_restRefs_of _ (by decide) (by decide)

set_option maxHeartbeats 800000 in
theorem hmainC (𝒱₀ : Variants) : Pipeline.HMain (Ix := Unit) (Name := ℕ) (U := Pipeline.UC sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The arrays the call is given. -/
def DA (c : Dev nD) : Arr F := ⟨V m c main_v10, V m c main_v14, V m c main_v20, ![fullShare.left, fullShare.right]⟩
/-- The buffers of the call at its one point. -/
def RF (t : Fin cfg0.N) : Refs where
  arg0 := win0_0.stage (cfg0.slots t 0)
  harg0 := hstage0_0 0
  arg1 := win0_1.stage (cfg0.slots t 1)
  harg1 := hstage0_1 0
  arg2 := win0_2.stage (cfg0.slots t 2)
  harg2 := hstage0_2 0
  arg3 := win0_3.stage (cfg0.slots t 3)
  harg3 := hstage0_3 0
  arg4 := win0_4.stage (cfg0.slots t 4)
  harg4 := hstage0_4 0
  arg5 := win0_5.stage (cfg0.slots t 5)
  harg5 := hstage0_5 0
  arg6 := win0_6.stage (cfg0.slots t 6)
  harg6 := hstage0_6 0
  arg7 := Memref.whole main_v10
  harg7 := Memref.isWhole_whole _
  arg8 := Memref.whole main_v14
  harg8 := Memref.isWhole_whole _
  arg9 := Memref.whole main_v20
  harg9 := Memref.isWhole_whole _
  arg10 := Memref.whole main_v21
  harg10 := Memref.isWhole_whole _
  arg11 := Memref.whole cc0_scratch0
  harg11 := Memref.isWhole_whole _
  arg12 := Memref.whole cc0_scratch1
  harg12 := Memref.isWhole_whole _
  arg13 := Memref.whole cc0_scratch2
  harg13 := Memref.isWhole_whole _
  arg14 := Memref.whole cc0_scratch3
  harg14 := Memref.isWhole_whole _
  alloca_r0 := Memref.whole cc0_scoped0
  halloca_r0 := Memref.isWhole_whole _
  v0_r0 := cc0_scoped1
  alloca_0_r0 := Memref.whole cc0_scoped2
  halloca_0_r0 := Memref.isWhole_whole _
  v1_r0 := cc0_scoped3
  alloca_1_r0 := Memref.whole cc0_scoped4
  halloca_1_r0 := Memref.isWhole_whole _
  v2_r0 := cc0_scoped5
  alloca_2_r0 := Memref.whole cc0_scoped6
  halloca_2_r0 := Memref.isWhole_whole _
  v3_r0 := cc0_scoped7

/-- The routed buffers after the call. -/
def YF (c : Dev nD) : (b : Ref sig .tc) → Buf (Elt F) ((c : Thread nD τ).loc b) := Function.update (V m c) main_v21 (outA (DA m c))
theorem YF_out (c : Dev nD) : YF m c main_v21 = outA (DA m c) := Function.update_self ..
theorem YF_ne (c : Dev nD) (b : Ref sig .tc) (h : b ≠ main_v21) : YF m c b = V m c b := Function.update_of_ne h ..

def dats (_ : Fin 1) (c : Dev nD) : Dat τ (Elt F) Unit ℕ (Pipeline.UC sig nD τ) ℕ cfg0 c where
  A w := V m c (Pipeline.arrRef spec0 w)
  after w t := match w with
    | ⟨0, _⟩ => tabv (F := F) lit0
    | ⟨1, _⟩ => tabv (F := F) lit1
    | ⟨2, _⟩ => tabv (F := F) lit2
    | ⟨3, _⟩ => tabv (F := F) lit3
    | ⟨4, _⟩ => tabv (F := F) lit4
    | ⟨5, _⟩ => tabv (F := F) lit5
    | ⟨6, _⟩ => tabv (F := F) lit6
    | ⟨_ + 7, h⟩ => absurd h (Nat.not_lt.2 (Nat.le_add_left _ _))
  Φ t := Pipeline.Ends spec0 osem RB c (if t.1 = 0 then V m c else YF m c)
  q _ := fullShare
  owed _ := 0

/-! ## The tables -/

theorem V_c (c : Dev nD) :
    V m c main_c = tabv (F := F) lit0 ∧ V m c main_c_0 = tabv (F := F) lit1 ∧ V m c main_c_1 = tabv (F := F) lit2 ∧ V m c main_c_2 = tabv (F := F) lit3
    ∧ V m c main_c_3 = tabv (F := F) lit4 ∧ V m c main_c_4 = tabv (F := F) lit5 ∧ V m c main_c_5 = tabv (F := F) lit6 := by
  refine ⟨?_, ?_, ?_, ?_, ?_, ?_, ?_⟩ <;>
    (unfold_abbrev_sides
     simp only [hostOps0, hostOps0_1, hostOps0_2, hostOps0_3, hostOps0_4, List.flatten_cons, List.flatten_nil, List.append_nil, List.cons_append, List.nil_append]
     after_results
     try rfl)

theorem ib0 (c : Dev nD) (t : Fin cfg0.N) : iblk m c 0 t = tabv (F := F) lit0 := by
  have h : V m c main_c = tabv (F := F) lit0 := (V_c m c).1
  have := fin_N0 t; subst this
  funext j
  refine (congrFun h _).trans ?_
  refine congrArg (tabv (F := F) lit0) (funext fun a => Fin.ext ?_)
  fin_cases a
  show 0 * 73 + 1 * (j 0).val = (j 0).val
  omega
theorem bf0 (c : Dev nD) (t : Fin cfg0.N) (d) : (dats m 0 c).before 0 t d = tabv (F := F) lit0 :=
  (((dats m 0 c).before_in_eq_fetched 0 rfl (fun _ => rfl) (fun _ _ _ => rfl) (fun t => (ib0 m c t).symm) t d).trans (ib0 m c t))

theorem ib1 (c : Dev nD) (t : Fin cfg0.N) : iblk m c 1 t = tabv (F := F) lit1 := by
  have h : V m c main_c_0 = tabv (F := F) lit1 := (V_c m c).2.1
  have := fin_N0 t; subst this
  funext j
  refine (congrFun h _).trans ?_
  refine congrArg (tabv (F := F) lit1) (funext fun a => Fin.ext ?_)
  fin_cases a
  show 0 * 73 + 1 * (j 0).val = (j 0).val
  omega
theorem bf1 (c : Dev nD) (t : Fin cfg0.N) (d) : (dats m 0 c).before 1 t d = tabv (F := F) lit1 :=
  (((dats m 0 c).before_in_eq_fetched 1 rfl (fun _ => rfl) (fun _ _ _ => rfl) (fun t => (ib1 m c t).symm) t d).trans (ib1 m c t))

theorem ib2 (c : Dev nD) (t : Fin cfg0.N) : iblk m c 2 t = tabv (F := F) lit2 := by
  have h : V m c main_c_1 = tabv (F := F) lit2 := (V_c m c).2.2.1
  have := fin_N0 t; subst this
  funext j
  refine (congrFun h _).trans ?_
  refine congrArg (tabv (F := F) lit2) (funext fun a => Fin.ext ?_)
  fin_cases a
  show 0 * 73 + 1 * (j 0).val = (j 0).val
  omega
theorem bf2 (c : Dev nD) (t : Fin cfg0.N) (d) : (dats m 0 c).before 2 t d = tabv (F := F) lit2 :=
  (((dats m 0 c).before_in_eq_fetched 2 rfl (fun _ => rfl) (fun _ _ _ => rfl) (fun t => (ib2 m c t).symm) t d).trans (ib2 m c t))

theorem ib3 (c : Dev nD) (t : Fin cfg0.N) : iblk m c 3 t = tabv (F := F) lit3 := by
  have h : V m c main_c_2 = tabv (F := F) lit3 := (V_c m c).2.2.2.1
  have := fin_N0 t; subst this
  funext j
  refine (congrFun h _).trans ?_
  refine congrArg (tabv (F := F) lit3) (funext fun a => Fin.ext ?_)
  fin_cases a
  show 0 * 73 + 1 * (j 0).val = (j 0).val
  omega
theorem bf3 (c : Dev nD) (t : Fin cfg0.N) (d) : (dats m 0 c).before 3 t d = tabv (F := F) lit3 :=
  (((dats m 0 c).before_in_eq_fetched 3 rfl (fun _ => rfl) (fun _ _ _ => rfl) (fun t => (ib3 m c t).symm) t d).trans (ib3 m c t))

theorem ib4 (c : Dev nD) (t : Fin cfg0.N) : iblk m c 4 t = tabv (F := F) lit4 := by
  have h : V m c main_c_3 = tabv (F := F) lit4 := (V_c m c).2.2.2.2.1
  have := fin_N0 t; subst this
  funext j
  refine (congrFun h _).trans ?_
  refine congrArg (tabv (F := F) lit4) (funext fun a => Fin.ext ?_)
  fin_cases a
  show 0 * 73 + 1 * (j 0).val = (j 0).val
  omega
theorem bf4 (c : Dev nD) (t : Fin cfg0.N) (d) : (dats m 0 c).before 4 t d = tabv (F := F) lit4 :=
  (((dats m 0 c).before_in_eq_fetched 4 rfl (fun _ => rfl) (fun _ _ _ => rfl) (fun t => (ib4 m c t).symm) t d).trans (ib4 m c t))

theorem ib5 (c : Dev nD) (t : Fin cfg0.N) : iblk m c 5 t = tabv (F := F) lit5 := by
  have h : V m c main_c_4 = tabv (F := F) lit5 := (V_c m c).2.2.2.2.2.1
  have := fin_N0 t; subst this
  funext j
  refine (congrFun h _).trans ?_
  refine congrArg (tabv (F := F) lit5) (funext fun a => Fin.ext ?_)
  fin_cases a
  show 0 * 73 + 1 * (j 0).val = (j 0).val
  omega
theorem bf5 (c : Dev nD) (t : Fin cfg0.N) (d) : (dats m 0 c).before 5 t d = tabv (F := F) lit5 :=
  (((dats m 0 c).before_in_eq_fetched 5 rfl (fun _ => rfl) (fun _ _ _ => rfl) (fun t => (ib5 m c t).symm) t d).trans (ib5 m c t))

theorem ib6 (c : Dev nD) (t : Fin cfg0.N) : iblk m c 6 t = tabv (F := F) lit6 := by
  have h : V m c main_c_5 = tabv (F := F) lit6 := (V_c m c).2.2.2.2.2.2
  have := fin_N0 t; subst this
  funext j
  refine (congrFun h _).trans ?_
  refine congrArg (tabv (F := F) lit6) (funext fun a => Fin.ext ?_)
  fin_cases a
  show 0 * 73 + 1 * (j 0).val = (j 0).val
  omega
theorem bf6 (c : Dev nD) (t : Fin cfg0.N) (d) : (dats m 0 c).before 6 t d = tabv (F := F) lit6 :=
  (((dats m 0 c).before_in_eq_fetched 6 rfl (fun _ => rfl) (fun _ _ _ => rfl) (fun t => (ib6 m c t).symm) t d).trans (ib6 m c t))

theorem A_eq (c : Dev nD) (w : Fin cfg0.W) : (dats m 0 c).A w = V m c (Pipeline.arrRef spec0 w) := rfl

theorem sems : semOf cc0_scoped1 0 = ⟨7, by decide⟩ ∧ semOf cc0_scoped1 1 = ⟨8, by decide⟩ ∧ semOf cc0_scoped3 0 = ⟨9, by decide⟩ ∧ semOf cc0_scoped3 1 = ⟨10, by decide⟩
    ∧ semOf cc0_scoped5 0 = ⟨11, by decide⟩ ∧ semOf cc0_scoped5 1 = ⟨12, by decide⟩ ∧ semOf cc0_scoped7 0 = ⟨13, by decide⟩ ∧ semOf cc0_scoped7 1 = ⟨14, by decide⟩ := by
  refine ⟨?_, ?_, ?_, ?_, ?_, ?_, ?_, ?_⟩ <;> rfl

theorem halves (c : Dev nD) (b : Ref sig .tc) (f : Buf (Elt F) ((c : Thread nD τ).loc b)) :
    (((c : Thread nD τ).loc b ↦{fullShare} f : sProp 𝕄)) ⊣⊢ iprop(owns (c : Thread nD τ) (Memref.whole b) fullShare.left f ∗ owns (c : Thread nD τ) (Memref.whole b) fullShare.right f) := by
  rw [owns_whole, owns_whole]
  exact pointsTo_share (PosShare.mem_left_op_right fullShare)

theorem ex_whole (c : Dev nD) (b : Ref sig .tc) :
    (iprop(∃ f : Buf (Elt F) ((c : Thread nD τ).loc b), (c : Thread nD τ).loc b ↦{fullShare} f) : sProp 𝕄)
      = iprop(∃ X, owns (c : Thread nD τ) (Memref.whole b) fullShare X) := by
  simp only [owns_whole]

theorem routed_eq (c : Dev nD) (W : (b : Ref sig .tc) → Buf (Elt F) ((c.tc : Thread nD τ).loc b)) :
    (Pipeline.routed RB c W : sProp 𝕄) = iprop(((c : Thread nD τ).loc main_v10 ↦{fullShare} W main_v10) ∗ ((c : Thread nD τ).loc main_v14 ↦{fullShare} W main_v14)
      ∗ ((c : Thread nD τ).loc main_v20 ↦{fullShare} W main_v20) ∗ (c : Thread nD τ).loc main_v21 ↦{fullShare} W main_v21) :=
  BI.bigSep_eq_bigSepL_of_eq [main_v10, main_v14, main_v20, main_v21] (by decide) (by decide) _

theorem sems_eq (c : Dev nD) : (Pipeline.ownSems0 osem c : sProp 𝕄)
    = iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0) :=
  Pipeline.ownSems0_eq_of_list c osem [0, 1, 2, 3, 4, 5, 6, 7] (by decide) (by decide)

end Cert.KernelIdeal.Attn

end
-- ==== Proof.Run.lean ====
module

public import proofs.«01_k».proof.Proof.Frame

@[expose] public section

set_option maxRecDepth 65536
set_option pp.maxSteps 400

/-!
  Every run of the whole program ends, with the arguments as given and the result block by block.
-/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UC sig nD τ) ℕ

open Idealize.ShloMosaic.Pipeline (Dat Cfg Window BodyObligation BodyObligationLoose cellOf)
variable (m : (ℓ : Loc nD τ sig) → Buf (Elt F) ℓ) (ρ : Dev nD → PrngReg)

theorem inQ (c : Dev nD) (t : Fin cfg0.N) :
    (iprop((∃ f : Buf (Elt F) ((c : Thread nD τ).loc cc0_scoped0), (c : Thread nD τ).loc cc0_scoped0 ↦{fullShare} f) ∗ semVal ((c : Thread nD τ), osem 0) 0 ∗ semVal ((c : Thread nD τ), osem 1) 0
      ∗ (c : Thread nD τ).loc main_v10 ↦{fullShare} V m c main_v10) : sProp 𝕄)
    ⊢ iprop(Jnk c (dQ (RF t)) (semOf (RF t).v0_r0) (PQ (DA m c) c (RF t)) 0 ∗ Jnk c (dQ (RF t)) (semOf (RF t).v0_r0) (PQ (DA m c) c (RF t)) 1) := by
  rw [ex_whole]
  unfold Jnk Rdy
  rw [show PQ (DA m c) c (RF t) 0 = (owns (c : Thread nD τ) (Memref.whole main_v10) fullShare.left (V m c main_v10) : sProp 𝕄) from rfl,
    show PQ (DA m c) c (RF t) 1 = (owns (c : Thread nD τ) (Memref.whole main_v10) fullShare.right (V m c main_v10) : sProp 𝕄) from rfl]
  iintro ⟨H, Hs0, Hs1, Hm⟩
  ihave H := (ring_split (F := F) (c := c) (q := fullShare) (Memref.whole cc0_scoped0) (fun t => Rect.unit (s := S2x1024x1024) ![t.1, 0, 0] S1x1024x1024.size (inb_slot t.2)) (fun _ _ => rfl) (fun _ => squeezes_S1x1024x1024_S1024x1024) slot_disj slot_cov) $$ H
  icases H with ⟨⟨%X0, H0⟩, ⟨%X1, H1⟩⟩
  ihave Hm := (halves c main_v10 (V m c main_v10)).1 $$ Hm
  icases Hm with ⟨Hm0, Hm1⟩
  isplitl [H0 Hs0 Hm0]
  · iexists X0
    isplitl [H0]; · iexact H0
    isplitl [Hs0]; · iexact Hs0
    iexact Hm0
  · iexists X1
    isplitl [H1]; · iexact H1
    isplitl [Hs1]; · iexact Hs1
    iexact Hm1

theorem outQ (c : Dev nD) (t : Fin cfg0.N) :
    iprop(Jnk c (dQ (RF t)) (semOf (RF t).v0_r0) (PQ (DA m c) c (RF t)) 0 ∗ Jnk c (dQ (RF t)) (semOf (RF t).v0_r0) (PQ (DA m c) c (RF t)) 1)
    ⊢ (iprop((∃ f : Buf (Elt F) ((c : Thread nD τ).loc cc0_scoped0), (c : Thread nD τ).loc cc0_scoped0 ↦{fullShare} f) ∗ semVal ((c : Thread nD τ), osem 0) 0 ∗ semVal ((c : Thread nD τ), osem 1) 0
      ∗ (c : Thread nD τ).loc main_v10 ↦{fullShare} V m c main_v10) : sProp 𝕄) := by
  rw [ex_whole]
  unfold Jnk Rdy
  rw [show PQ (DA m c) c (RF t) 0 = (owns (c : Thread nD τ) (Memref.whole main_v10) fullShare.left (V m c main_v10) : sProp 𝕄) from rfl,
    show PQ (DA m c) c (RF t) 1 = (owns (c : Thread nD τ) (Memref.whole main_v10) fullShare.right (V m c main_v10) : sProp 𝕄) from rfl]
  iintro ⟨⟨%X0, H0, Hs0, Hm0⟩, ⟨%X1, H1, Hs1, Hm1⟩⟩
  isplitl [H0 H1]
  · iapply (ring_join (F := F) (c := c) (q := fullShare) (Memref.whole cc0_scoped0) (fun t => Rect.unit (s := S2x1024x1024) ![t.1, 0, 0] S1x1024x1024.size (inb_slot t.2)) (fun _ _ => rfl) (fun _ => squeezes_S1x1024x1024_S1024x1024) slot_disj slot_cov)
    isplitl [H0]
    · iexists X0; iexact H0
    · iexists X1; iexact H1
  isplitl [Hs0]; · iexact Hs0
  isplitl [Hs1]; · iexact Hs1
  iapply (halves c main_v10 (V m c main_v10)).2
  isplitl [Hm0]; · iexact Hm0
  iexact Hm1

theorem inK (c : Dev nD) (t : Fin cfg0.N) :
    (iprop((∃ f : Buf (Elt F) ((c : Thread nD τ).loc cc0_scoped2), (c : Thread nD τ).loc cc0_scoped2 ↦{fullShare} f) ∗ semVal ((c : Thread nD τ), osem 2) 0 ∗ semVal ((c : Thread nD τ), osem 3) 0
      ∗ (c : Thread nD τ).loc main_v14 ↦{fullShare} V m c main_v14) : sProp 𝕄)
    ⊢ iprop(Jnk c (dK (RF t)) (semOf (RF t).v1_r0) (PK (DA m c) c (RF t)) 0 ∗ Jnk c (dK (RF t)) (semOf (RF t).v1_r0) (PK (DA m c) c (RF t)) 1) := by
  rw [ex_whole]
  unfold Jnk Rdy
  rw [show PK (DA m c) c (RF t) 0 = (owns (c : Thread nD τ) (Memref.whole main_v14) fullShare.left (V m c main_v14) : sProp 𝕄) from rfl,
    show PK (DA m c) c (RF t) 1 = (owns (c : Thread nD τ) (Memref.whole main_v14) fullShare.right (V m c main_v14) : sProp 𝕄) from rfl]
  iintro ⟨H, Hs0, Hs1, Hm⟩
  ihave H := (ring_split (F := F) (c := c) (q := fullShare) (Memref.whole cc0_scoped2) (fun t => Rect.unit (s := S2x1024x1024) ![t.1, 0, 0] S1x1024x1024.size (inb_slot t.2)) (fun _ _ => rfl) (fun _ => squeezes_S1x1024x1024_S1024x1024) slot_disj slot_cov) $$ H
  icases H with ⟨⟨%X0, H0⟩, ⟨%X1, H1⟩⟩
  ihave Hm := (halves c main_v14 (V m c main_v14)).1 $$ Hm
  icases Hm with ⟨Hm0, Hm1⟩
  isplitl [H0 Hs0 Hm0]
  · iexists X0
    isplitl [H0]; · iexact H0
    isplitl [Hs0]; · iexact Hs0
    iexact Hm0
  · iexists X1
    isplitl [H1]; · iexact H1
    isplitl [Hs1]; · iexact Hs1
    iexact Hm1

theorem outK (c : Dev nD) (t : Fin cfg0.N) :
    iprop(Jnk c (dK (RF t)) (semOf (RF t).v1_r0) (PK (DA m c) c (RF t)) 0 ∗ Jnk c (dK (RF t)) (semOf (RF t).v1_r0) (PK (DA m c) c (RF t)) 1)
    ⊢ (iprop((∃ f : Buf (Elt F) ((c : Thread nD τ).loc cc0_scoped2), (c : Thread nD τ).loc cc0_scoped2 ↦{fullShare} f) ∗ semVal ((c : Thread nD τ), osem 2) 0 ∗ semVal ((c : Thread nD τ), osem 3) 0
      ∗ (c : Thread nD τ).loc main_v14 ↦{fullShare} V m c main_v14) : sProp 𝕄) := by
  rw [ex_whole]
  unfold Jnk Rdy
  rw [show PK (DA m c) c (RF t) 0 = (owns (c : Thread nD τ) (Memref.whole main_v14) fullShare.left (V m c main_v14) : sProp 𝕄) from rfl,
    show PK (DA m c) c (RF t) 1 = (owns (c : Thread nD τ) (Memref.whole main_v14) fullShare.right (V m c main_v14) : sProp 𝕄) from rfl]
  iintro ⟨⟨%X0, H0, Hs0, Hm0⟩, ⟨%X1, H1, Hs1, Hm1⟩⟩
  isplitl [H0 H1]
  · iapply (ring_join (F := F) (c := c) (q := fullShare) (Memref.whole cc0_scoped2) (fun t => Rect.unit (s := S2x1024x1024) ![t.1, 0, 0] S1x1024x1024.size (inb_slot t.2)) (fun _ _ => rfl) (fun _ => squeezes_S1x1024x1024_S1024x1024) slot_disj slot_cov)
    isplitl [H0]
    · iexists X0; iexact H0
    · iexists X1; iexact H1
  isplitl [Hs0]; · iexact Hs0
  isplitl [Hs1]; · iexact Hs1
  iapply (halves c main_v14 (V m c main_v14)).2
  isplitl [Hm0]; · iexact Hm0
  iexact Hm1

theorem inV (c : Dev nD) (t : Fin cfg0.N) :
    (iprop((∃ f : Buf (Elt F) ((c : Thread nD τ).loc cc0_scoped4), (c : Thread nD τ).loc cc0_scoped4 ↦{fullShare} f) ∗ semVal ((c : Thread nD τ), osem 4) 0 ∗ semVal ((c : Thread nD τ), osem 5) 0
      ∗ (c : Thread nD τ).loc main_v20 ↦{fullShare} V m c main_v20) : sProp 𝕄)
    ⊢ iprop(Jnk c (dV (RF t)) (semOf (RF t).v2_r0) (PV (DA m c) c (RF t)) 0 ∗ Jnk c (dV (RF t)) (semOf (RF t).v2_r0) (PV (DA m c) c (RF t)) 1) := by
  rw [ex_whole]
  unfold Jnk Rdy
  rw [show PV (DA m c) c (RF t) 0 = (owns (c : Thread nD τ) (Memref.whole main_v20) fullShare.left (V m c main_v20) : sProp 𝕄) from rfl,
    show PV (DA m c) c (RF t) 1 = (owns (c : Thread nD τ) (Memref.whole main_v20) fullShare.right (V m c main_v20) : sProp 𝕄) from rfl]
  iintro ⟨H, Hs0, Hs1, Hm⟩
  ihave H := (ring_split (F := F) (c := c) (q := fullShare) (Memref.whole cc0_scoped4) (fun t => Rect.unit (s := S2x576x1024) ![t.1, 0, 0] S1x576x1024.size (inb_slot t.2)) (fun _ _ => rfl) (fun _ => squeezes_S1x576x1024_S576x1024) slot_disj slot_cov) $$ H
  icases H with ⟨⟨%X0, H0⟩, ⟨%X1, H1⟩⟩
  ihave Hm := (halves c main_v20 (V m c main_v20)).1 $$ Hm
  icases Hm with ⟨Hm0, Hm1⟩
  isplitl [H0 Hs0 Hm0]
  · iexists X0
    isplitl [H0]; · iexact H0
    isplitl [Hs0]; · iexact Hs0
    iexact Hm0
  · iexists X1
    isplitl [H1]; · iexact H1
    isplitl [Hs1]; · iexact Hs1
    iexact Hm1

theorem outV (c : Dev nD) (t : Fin cfg0.N) :
    iprop(Jnk c (dV (RF t)) (semOf (RF t).v2_r0) (PV (DA m c) c (RF t)) 0 ∗ Jnk c (dV (RF t)) (semOf (RF t).v2_r0) (PV (DA m c) c (RF t)) 1)
    ⊢ (iprop((∃ f : Buf (Elt F) ((c : Thread nD τ).loc cc0_scoped4), (c : Thread nD τ).loc cc0_scoped4 ↦{fullShare} f) ∗ semVal ((c : Thread nD τ), osem 4) 0 ∗ semVal ((c : Thread nD τ), osem 5) 0
      ∗ (c : Thread nD τ).loc main_v20 ↦{fullShare} V m c main_v20) : sProp 𝕄) := by
  rw [ex_whole]
  unfold Jnk Rdy
  rw [show PV (DA m c) c (RF t) 0 = (owns (c : Thread nD τ) (Memref.whole main_v20) fullShare.left (V m c main_v20) : sProp 𝕄) from rfl,
    show PV (DA m c) c (RF t) 1 = (owns (c : Thread nD τ) (Memref.whole main_v20) fullShare.right (V m c main_v20) : sProp 𝕄) from rfl]
  iintro ⟨⟨%X0, H0, Hs0, Hm0⟩, ⟨%X1, H1, Hs1, Hm1⟩⟩
  isplitl [H0 H1]
  · iapply (ring_join (F := F) (c := c) (q := fullShare) (Memref.whole cc0_scoped4) (fun t => Rect.unit (s := S2x576x1024) ![t.1, 0, 0] S1x576x1024.size (inb_slot t.2)) (fun _ _ => rfl) (fun _ => squeezes_S1x576x1024_S576x1024) slot_disj slot_cov)
    isplitl [H0]
    · iexists X0; iexact H0
    · iexists X1; iexact H1
  isplitl [Hs0]; · iexact Hs0
  isplitl [Hs1]; · iexact Hs1
  iapply (halves c main_v20 (V m c main_v20)).2
  isplitl [Hm0]; · iexact Hm0
  iexact Hm1

theorem inOo (c : Dev nD) (t : Fin cfg0.N) :
    (iprop((∃ f : Buf (Elt F) ((c : Thread nD τ).loc cc0_scoped6), (c : Thread nD τ).loc cc0_scoped6 ↦{fullShare} f) ∗ semVal ((c : Thread nD τ), osem 6) 0 ∗ semVal ((c : Thread nD τ), osem 7) 0
      ∗ (c : Thread nD τ).loc main_v21 ↦{fullShare} V m c main_v21) : sProp 𝕄)
    ⊢ iprop(obs (DA m c) c (RF t) 0 0 ∗ oJ c (RF t) 0 ∗ oJ c (RF t) 1) := by
  rw [ex_whole]
  unfold oJ
  iintro ⟨H, Hs0, Hs1, Hm⟩
  ihave H := (ring_split (F := F) (c := c) (q := fullShare) (Memref.whole cc0_scoped6) (fun t => Rect.unit (s := S2x1024x512) ![t.1, 0, 0] S1x1024x512.size (inb_slot t.2)) (fun _ _ => rfl) (fun _ => squeezes_S1x1024x512_S1024x512) slot_disj slot_cov) $$ H
  icases H with ⟨⟨%X0, H0⟩, ⟨%X1, H1⟩⟩
  isplitl [Hm]
  · iapply (obs_intro (DA m c) c (RF t) (V m c main_v21))
    rw [show (owns (c : Thread nD τ) (RF t).arg10 fullShare (V m c main_v21) : sProp 𝕄) = _ from owns_whole _ _ _ _]
    iexact Hm
  isplitl [H0 Hs0]
  · iexists X0
    isplitl [H0]; · iexact H0
    iexact Hs0
  · iexists X1
    isplitl [H1]; · iexact H1
    iexact Hs1

theorem outO (c : Dev nD) (t : Fin cfg0.N) :
    iprop(obs (DA m c) c (RF t) 16 16 ∗ oJ c (RF t) 0 ∗ oJ c (RF t) 1)
    ⊢ (iprop((∃ f : Buf (Elt F) ((c : Thread nD τ).loc cc0_scoped6), (c : Thread nD τ).loc cc0_scoped6 ↦{fullShare} f) ∗ semVal ((c : Thread nD τ), osem 6) 0 ∗ semVal ((c : Thread nD τ), osem 7) 0
      ∗ (c : Thread nD τ).loc main_v21 ↦{fullShare} outA (DA m c)) : sProp 𝕄) := by
  rw [ex_whole]
  unfold oJ
  iintro ⟨Hm, ⟨%X0, H0, Hs0⟩, ⟨%X1, H1, Hs1⟩⟩
  isplitl [H0 H1]
  · iapply (ring_join (F := F) (c := c) (q := fullShare) (Memref.whole cc0_scoped6) (fun t => Rect.unit (s := S2x1024x512) ![t.1, 0, 0] S1x1024x512.size (inb_slot t.2)) (fun _ _ => rfl) (fun _ => squeezes_S1x1024x512_S1024x512) slot_disj slot_cov)
    isplitl [H0]
    · iexists X0; iexact H0
    · iexists X1; iexact H1
  isplitl [Hs0]; · iexact Hs0
  isplitl [Hs1]; · iexact Hs1
  ihave Hm := (obs_elim (DA m c) c (RF t)) $$ Hm
  have e : (owns (c : Thread nD τ) (RF t).arg10 fullShare (outA (DA m c)) : sProp 𝕄) ⊢ iprop((c : Thread nD τ).loc main_v21 ↦{fullShare} outA (DA m c)) := by
    rw [show (owns (c : Thread nD τ) (RF t).arg10 fullShare (outA (DA m c)) : sProp 𝕄) = _ from owns_whole _ _ _ _]
  iapply e
  iexact Hm

theorem inS (c : Dev nD) (t : Fin cfg0.N) :
    (iprop((∃ f : Buf (Elt F) ((c : Thread nD τ).loc cc0_scratch0), (c : Thread nD τ).loc cc0_scratch0 ↦{fullShare} f) ∗ (∃ f : Buf (Elt F) ((c : Thread nD τ).loc cc0_scratch1), (c : Thread nD τ).loc cc0_scratch1 ↦{fullShare} f)
      ∗ (∃ f : Buf (Elt F) ((c : Thread nD τ).loc cc0_scratch2), (c : Thread nD τ).loc cc0_scratch2 ↦{fullShare} f) ∗ (∃ f : Buf (Elt F) ((c : Thread nD τ).loc cc0_scratch3), (c : Thread nD τ).loc cc0_scratch3 ↦{fullShare} f)) : sProp 𝕄)
    ⊢ iprop(∃ st : TS F, Scr c (RF t) st) := by
  rw [ex_whole, ex_whole, ex_whole, ex_whole]
  unfold Scr
  iintro ⟨⟨%s, H0⟩, ⟨%x, H1⟩, ⟨%mm, H2⟩, ⟨%a, H3⟩⟩
  iexists (⟨s, x, mm, a⟩ : TS F)
  isplitl [H0]; · iexact H0
  isplitl [H1]; · iexact H1
  isplitl [H2]; · iexact H2
  iexact H3

theorem outS (c : Dev nD) (t : Fin cfg0.N) :
    iprop(∃ st : TS F, Scr c (RF t) st) ⊢
    (iprop((∃ f : Buf (Elt F) ((c : Thread nD τ).loc cc0_scratch0), (c : Thread nD τ).loc cc0_scratch0 ↦{fullShare} f) ∗ (∃ f : Buf (Elt F) ((c : Thread nD τ).loc cc0_scratch1), (c : Thread nD τ).loc cc0_scratch1 ↦{fullShare} f)
      ∗ (∃ f : Buf (Elt F) ((c : Thread nD τ).loc cc0_scratch2), (c : Thread nD τ).loc cc0_scratch2 ↦{fullShare} f) ∗ (∃ f : Buf (Elt F) ((c : Thread nD τ).loc cc0_scratch3), (c : Thread nD τ).loc cc0_scratch3 ↦{fullShare} f)) : sProp 𝕄) := by
  rw [ex_whole, ex_whole, ex_whole, ex_whole]
  unfold Scr
  iintro ⟨%st, H0, H1, H2, H3⟩
  isplitl [H0]; · iexists _; iexact H0
  isplitl [H1]; · iexists _; iexact H1
  isplitl [H2]; · iexists _; iexact H2
  iexists _; iexact H3

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t))

/-- What the pipeline hands the body holds what the call needs; the generator's register stays aside. -/
theorem pre_ini (c : Dev nD) (t : Fin cfg0.N) : bodyPre m c t ⊢ iprop(Ini (DA m c) (RF t) c ∗ ∃ r, prngReg c r) := by
  have ht : t.castSucc.1 = 0 := by rw [fin_N0 t]; rfl
  unfold bodyPre
  rw [show (dats m 0 c).Φ t.castSucc = Pipeline.Ends spec0 osem RB c (V m c) from by
    show Pipeline.Ends spec0 osem RB c (if t.castSucc.1 = 0 then V m c else YF m c) = _
    rw [if_pos ht]]
  unfold Pipeline.Ends
  rw [routed_eq, sems_eq, scopedRest0_eq]
  unfold Dat.owesAt Pipeline.owesWithin
  rw [show (dats m 0 c).owed t.castSucc = 0 from rfl]
  simp only [bf0, bf1, bf2, bf3, bf4, bf5, bf6]
  unfold Ini Tabs Owes
  iintro ⟨⟨⟨Hq, Hk, Hv, Ho⟩, ⟨Hs0, Hs1, Hs2, Hs3, Hs4, Hs5, Hs6, Hs7⟩, ⟨Hc0, Hc1, Hc2, Hc3, Hrq, Hrk, Hrv, Hro⟩, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  isplitr [Hg]; swap; · iexact Hg
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Hrq Hs0 Hs1 Hq]
  · iapply (inQ m c t)
    isplitl [Hrq]; · iexact Hrq
    isplitl [Hs0]; · iexact Hs0
    isplitl [Hs1]; · iexact Hs1
    iexact Hq
  isplitl [Hrk Hs2 Hs3 Hk]
  · iapply (inK m c t)
    isplitl [Hrk]; · iexact Hrk
    isplitl [Hs2]; · iexact Hs2
    isplitl [Hs3]; · iexact Hs3
    iexact Hk
  isplitl [Hrv Hs4 Hs5 Hv]
  · iapply (inV m c t)
    isplitl [Hrv]; · iexact Hrv
    isplitl [Hs4]; · iexact Hs4
    isplitl [Hs5]; · iexact Hs5
    iexact Hv
  isplitl [Hro Hs6 Hs7 Ho]
  · iapply (inOo m c t)
    isplitl [Hro]; · iexact Hro
    isplitl [Hs6]; · iexact Hs6
    isplitl [Hs7]; · iexact Hs7
    iexact Ho
  isplitl [Hc0 Hc1 Hc2 Hc3]
  · iapply (inS c t)
    isplitl [Hc0]; · iexact Hc0
    isplitl [Hc1]; · iexact Hc1
    isplitl [Hc2]; · iexact Hc2
    iexact Hc3
  iexists W; iexact HW

theorem end_post (c : Dev nD) (t : Fin cfg0.N) : iprop(End (DA m c) (RF t) c ∗ ∃ r, prngReg c r) ⊢ bodyPost m c t := by
  have ht : t.succ.1 ≠ 0 := Nat.succ_ne_zero _
  unfold bodyPost
  rw [show (dats m 0 c).Φ t.succ = Pipeline.Ends spec0 osem RB c (YF m c) from by
    show Pipeline.Ends spec0 osem RB c (if t.succ.1 = 0 then V m c else YF m c) = _
    rw [if_neg ht]]
  unfold Pipeline.Ends
  rw [routed_eq, sems_eq, scopedRest0_eq, YF_out, YF_ne m c main_v10 (by decide), YF_ne m c main_v14 (by decide), YF_ne m c main_v20 (by decide)]
  unfold Dat.owesAt Pipeline.owesWithin
  rw [show (dats m 0 c).owed t.succ = 0 from rfl]
  unfold End Tabs Owes
  iintro ⟨⟨⟨H0, H1, H2, H3, H4, H5, H6⟩, HQ, HK, HV, HO, HS, ⟨%W, HW⟩⟩, Hg⟩
  ihave HQ := (outQ m c t) $$ HQ
  icases HQ with ⟨Hrq, Hs0, Hs1, Hq⟩
  ihave HK := (outK m c t) $$ HK
  icases HK with ⟨Hrk, Hs2, Hs3, Hk⟩
  ihave HV := (outV m c t) $$ HV
  icases HV with ⟨Hrv, Hs4, Hs5, Hv⟩
  ihave HO := (outO m c t) $$ HO
  icases HO with ⟨Hro, Hs6, Hs7, Ho⟩
  ihave HS := (outS c t) $$ HS
  icases HS with ⟨Hc0, Hc1, Hc2, Hc3⟩
  isplitr [HW H0 H1 H2 H3 H4 H5 H6]
  · isplitl [Hq Hk Hv Ho]
    · isplitl [Hq]; · iexact Hq
      isplitl [Hk]; · iexact Hk
      isplitl [Hv]; · iexact Hv
      iexact Ho
    isplitl [Hs0 Hs1 Hs2 Hs3 Hs4 Hs5 Hs6 Hs7]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitr [Hg]; swap; · iexact Hg
    isplitl [Hc0]; · iexact Hc0
    isplitl [Hc1]; · iexact Hc1
    isplitl [Hc2]; · iexact Hc2
    isplitl [Hc3]; · iexact Hc3
    isplitl [Hrq]; · iexact Hrq
    isplitl [Hrk]; · iexact Hrk
    isplitl [Hrv]; · iexact Hrv
    iexact Hro
  isplitl [HW]
  · iexists W
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ Sem.wp Idealize.ShloMosaic.frame (wpE (defs₀ (F := F)) Variants.none (c : Thread nD τ) none) Set.univ (bodyAt0 t) (fun _ => bodyPost m c t) := by
  refine (pre_ini m c t).trans ?_
  iintro ⟨HI, Hg⟩
  have h := (run_all (c := c) (DA m c) (RF t)).wp (Q := fun _ => bodyPost m c t)
  unfold WP at h
  iapply h $$ HI
  iintro HE
  iapply (end_post m c t)
  isplitl [HE]; · iexact HE
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the result block by block what the trips leave and every other buffer as the host lines left it. -/
theorem run_main : θ_run defs (onTc (τ := τ) (main (F := F))) (s₀ m ρ) (fun r => Pipeline.RoutedPost cfgs (dats m) 0 RB (V m) (YF m) r ∧ r.2.sem = fun _ => 0) :=
  Pipeline.θ_run_frame_routed (Q' := _) cfgs (dats m) (0 : Fin 1) launch0 osemFacts defs₀ Variants.none m ρ main
    (hbody := fun c => (body_obligation m c).loose) (hshare := fun c => (dats m 0 c).share_full fun _ => rfl)
    (howed := fun _ _ => rfl) (V := V m) (hmain := hmainC m Variants.none) (hA := A_eq m) (R := RB) (hR := RB_sub) (Y := YF m)
    (hin := fun _ => .rfl) (hout := fun _ => .rfl)
    (hQ' := fun _ h => h)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v21) = outA (DA m c))
      ∧ r.2.sem = fun _ => 0) :=
  (θ_run defs _ _).mono (fun _ h => ⟨fun c => ⟨((h.1 c).2.2 main_arg0 (Finset.mem_sdiff.mpr ⟨Pipeline.mem_restRefs_of main_arg0 (by decide) (by decide), by decide⟩)).trans (V_main_arg0 m c),
      ((h.1 c).2.2 main_arg1 (Finset.mem_sdiff.mpr ⟨Pipeline.mem_restRefs_of main_arg1 (by decide) (by decide), by decide⟩)).trans (V_main_arg1 m c),
      ((h.1 c).2.2 main_arg2 (Finset.mem_sdiff.mpr ⟨Pipeline.mem_restRefs_of main_arg2 (by decide) (by decide), by decide⟩)).trans (V_main_arg2 m c),
      ((h.1 c).2.1 main_v21 (by decide)).trans (YF_out m c)⟩, h.2⟩) (run_main m ρ)

end Cert.KernelIdeal.Attn

end
-- ==== Proof.Both.lean ====
module

public import proofs.«01_k».proof.Proof.Run
public import proofs.«01_k».proof.Defs
public import proofs.«01_k».proof.Proof.Gen.Kernel

@[expose] public section

set_option maxRecDepth 65536

noncomputable section

namespace Cert.KernelIdeal.Attn

open Idealize.ShloMosaic Idealize.ShloMosaic.TcCoe Idealize.ShloMosaic.Tactic
open Idealize.SL Idealize.SL.Sem

/-- At the bits a named constant is the bits it names. -/
instance namedBits : Named Bits where
  named _ _ {φ} bits := Scalar.ofBits φ bits

/-- The two programs are one text. -/
theorem same_text [hKernel : Cert.Kernel.Facts] (m : (ℓ : Loc Cert.Kernel.nD Cert.Kernel.τ Cert.Kernel.sig) → Buf (Elt Bits) ℓ) (ρ : Dev Cert.Kernel.nD → PrngReg) (Q) :
    (θ_run (Cert.Kernel.defs (F := Bits)) (onTc (τ := Cert.Kernel.τ) (Cert.Kernel.main (F := Bits))) ⟨m, fun _ => 0, ρ⟩ Q)
    = (θ_run (Cert.KernelIdeal.defs (F := Bits)) (onTc (τ := Cert.KernelIdeal.τ) (Cert.KernelIdeal.main (F := Bits))) ⟨m, fun _ => 0, ρ⟩ Q) := by
  chain_rfl

theorem frame_kernel : Cert.quiescent_Kernel (hKernel := Cert.Kernel.Gen.facts) := fun m ρ _ => by
  rw [same_text]
  exact (θ_run (Cert.KernelIdeal.defs (F := Bits)) _ _).mono (fun _ h => ⟨fun c => ⟨(h.1 c).1, (h.1 c).2.1, (h.1 c).2.2.1⟩, h.2⟩) (frame_all (F := Bits) m ρ)

end Cert.KernelIdeal.Attn

end
-- ==== Proof.Online.lean ====
module

public import Idealize.ShloMosaic.PureOps.Ideal.Laws

@[expose] public section

/-!
  The running softmax over the extended reals: a maximum and a weighted sum of the values kept over a growing range of keys,
  and what their quotient is at the end.
-/

noncomputable section

namespace Cert.Online

open Idealize.ShloMosaic

theorem mul_sum {ι : Type} (A : Finset ι) (c : ℝ) (hc : 0 ≤ c) (f : ι → EReal) :
    (c : EReal) * ∑ i ∈ A, f i = ∑ i ∈ A, (c : EReal) * f i := by
  classical
  induction A using Finset.induction_on with
  | empty => simp
  | insert a A ha ih =>
    rw [Finset.sum_insert ha, Finset.sum_insert ha,
      EReal.left_distrib_of_nonneg_of_ne_top (by exact_mod_cast hc) (EReal.coe_ne_top c), ih]

theorem coe_sum {ι : Type} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- The maximum of a real family over a finite set, as an extended real, is real when the set is not empty. -/
theorem sup_real {ι : Type} (A : Finset ι) (hA : A.Nonempty) (s : ι → ℝ) : ∃ r : ℝ, (A.sup fun i => (s i : EReal)) = r := by
  classical
  induction hA using Finset.Nonempty.cons_induction with
  | singleton a => exact ⟨s a, by simp⟩
  | cons a A ha hA ih =>
    obtain ⟨r, hr⟩ := ih
    refine ⟨max (s a) r, ?_⟩
    rw [Finset.sup_cons, hr]
    exact (EReal.coe_strictMono.monotone.map_max (a := s a) (b := r)).symm

variable (s : ℕ → ℝ) (V : ℕ → EReal)

/-- The maximum of the first `n` scores. -/
def mx (n : ℕ) : EReal := (Finset.range n).sup fun i => (s i : EReal)
/-- The first `n` values weighted by the powers of two of their scores less the maximum. -/
def ac (n : ℕ) : EReal := ∑ i ∈ Finset.range n, V i * Ideal.exp2 ((s i : EReal) - mx s n)

theorem mx_real {n : ℕ} (h : 0 < n) : ∃ r : ℝ, mx s n = r := sup_real _ ⟨0, Finset.mem_range.mpr h⟩ s

theorem range_union {a b : ℕ} (h : a ≤ b) : Finset.range b = Finset.range a ∪ Finset.Ico a b := by
  ext x; simp only [Finset.mem_union, Finset.mem_range, Finset.mem_Ico]; omega

theorem mx_step {a b : ℕ} (h : a ≤ b) : max (mx s a) ((Finset.Ico a b).sup fun i => (s i : EReal)) = mx s b := by
  unfold mx
  rw [range_union h, Finset.sup_union]

theorem exp2_sub (x y : ℝ) : Ideal.exp2 ((x : EReal) - (y : EReal)) = ((2 : ℝ) ^ (x - y) : ℝ) := by
  rw [← EReal.coe_sub, Ideal.exp2_coe]; rfl

theorem ac_step {a b : ℕ} (h0 : 0 < a) (h : a ≤ b) :
    Ideal.exp2 (mx s a - mx s b) * ac s V a + ∑ i ∈ Finset.Ico a b, V i * Ideal.exp2 ((s i : EReal) - mx s b) = ac s V b := by
  obtain ⟨p, hp⟩ := mx_real s h0
  obtain ⟨q, hq⟩ := mx_real s (lt_of_lt_of_le h0 h)
  unfold ac
  rw [hp, hq, exp2_sub, mul_sum _ _ (Real.rpow_nonneg (by norm_num) _), range_union h,
    Finset.sum_union (Finset.disjoint_left.mpr fun x hx hy => by
      simp only [Finset.mem_range, Finset.mem_Ico] at hx hy; omega)]
  refine congrArg (· + _) (Finset.sum_congr rfl fun i _ => ?_)
  rw [exp2_sub, exp2_sub, mul_comm, mul_assoc, ← EReal.coe_mul, ← Real.rpow_add (by norm_num)]
  congr 3; ring

theorem ac_first {b : ℕ} (h : 0 < b) (x : EReal) :
    Ideal.exp2 (⊥ - mx s b) * x + ∑ i ∈ Finset.range b, V i * Ideal.exp2 ((s i : EReal) - mx s b) = ac s V b := by
  obtain ⟨q, hq⟩ := mx_real s h
  unfold ac
  rw [hq, show ((⊥ : EReal) - (q : EReal)) = ⊥ from rfl, Ideal.exp2_bot, zero_mul, zero_add]

/-- The weight of key `i` among the first `n`, from natural scores. -/
def wgt (t : ℕ → ℝ) (n i : ℕ) : ℝ := Real.exp (t i) / ∑ j ∈ Finset.range n, Real.exp (t j)

theorem sum_exp_pos (t : ℕ → ℝ) {n : ℕ} (h : 0 < n) : 0 < ∑ j ∈ Finset.range n, Real.exp (t j) :=
  Finset.sum_pos (fun _ _ => Real.exp_pos _) ⟨0, Finset.mem_range.mpr h⟩

theorem two_rpow (x : ℝ) : (2 : ℝ) ^ (x * (Real.log 2)⁻¹) = Real.exp x := by
  rw [Real.rpow_def_of_pos (by norm_num), mul_comm x, ← mul_assoc, mul_inv_cancel₀ (Real.log_pos (by norm_num)).ne', one_mul]

theorem div_real (x : EReal) {z : ℝ} (hz : 0 < z) : Ideal.div x z = (z⁻¹ : ℝ) * x := by
  unfold Ideal.div
  rw [if_neg (by exact_mod_cast hz.ne'), EReal.coe_inv, mul_comm]

/-- The quotient at the end is the softmax of the natural scores applied to the values. -/
theorem quot (t : ℕ → ℝ) (hs : ∀ i, s i = t i * (Real.log 2)⁻¹) {n : ℕ} (h : 0 < n) :
    Ideal.div (ac s V n) (ac s (fun _ => 1) n) = ∑ i ∈ Finset.range n, V i * (wgt t n i : EReal) := by
  obtain ⟨q, hq⟩ := mx_real s h
  have e : ∀ i, (2 : ℝ) ^ (s i - q) = (2 : ℝ) ^ (-q) * Real.exp (t i) := fun i => by
    rw [← two_rpow, ← hs, ← Real.rpow_add (by norm_num)]; congr 1; ring
  have h2 : (0 : ℝ) < 2 ^ (-q) := Real.rpow_pos_of_pos (by norm_num) _
  have hz := sum_exp_pos t h
  have hd : ac s (fun _ => 1) n = ((2 ^ (-q) * ∑ j ∈ Finset.range n, Real.exp (t j) : ℝ) : EReal) := by
    unfold ac
    rw [Finset.mul_sum, coe_sum]
    refine Finset.sum_congr rfl fun i _ => ?_
    rw [one_mul, hq, exp2_sub, e]
  rw [hd, div_real _ (mul_pos h2 hz)]
  unfold ac
  rw [mul_sum _ _ (inv_nonneg.mpr (mul_pos h2 hz).le)]
  refine Finset.sum_congr rfl fun i _ => ?_
  rw [hq, exp2_sub, e, mul_comm, mul_assoc, ← EReal.coe_mul]
  congr 2
  unfold wgt
  field_simp

/-- The reference's quotient at a key in the range. -/
theorem ref_wgt (t : ℕ → ℝ) {n : ℕ} (h : 0 < n) (q : ℝ) (i : ℕ) :
    Ideal.div (Ideal.exp ((t i : EReal) - (q : EReal))) (∑ j ∈ Finset.range n, Ideal.exp ((t j : EReal) - (q : EReal)))
      = (wgt t n i : EReal) := by
  have e : ∀ j, Ideal.exp ((t j : EReal) - (q : EReal)) = ((Real.exp (-q) * Real.exp (t j) : ℝ) : EReal) := fun j => by
    rw [← EReal.coe_sub, Ideal.exp_coe, ← Real.exp_add]; congr 2; ring
  have hz := sum_exp_pos t h
  have hq := Real.exp_pos (-q)
  simp only [e]
  rw [← coe_sum, ← Finset.mul_sum, div_real _ (mul_pos hq hz), ← EReal.coe_mul]
  congr 1
  unfold wgt
  field_simp

end Cert.Online

end
-- ==== Proof.Pay.lean ====
module

public import proofs.«01_k».proof.Proof.Whole
public import proofs.«01_k».proof.Proof.Online
public import Idealize.ShloMosaic.Lib.ValueLayout
public import Idealize.ShloMosaic.Lib.MatmulPlain
public import Idealize.ShloMosaic.Lib.WordCmp
public import Idealize.ShloMosaic.Lib.ValueIdx

@[expose] public section

/-! The tile's values over the extended reals, read at an element. -/

noncomputable section

namespace Cert.KernelIdeal.Attn

open Idealize.ShloMosaic Idealize.ShloMosaic.ValueIdx
open Cert.KernelIdeal Cert.KernelIdeal.Gen

theorem shapeCast_same {s : Shape} {α : Type} (x : s.Idx → α) (h : s.ShapeCasts s) : shapeCast s x h = x :=
  funext fun j => shapeCast_apply x h j j rfl

theorem mNew_at (m x : Vec Ideal S1x1x256 .f32) (t : Fin 256) :
    mNew m x (ix2 0 t) = (max (m (ix3 0 0 t)) (x (ix3 0 0 t)) : EReal) := by
  unfold mNew
  show max (shapeCast S1x256 m shapeCasts_S1x1x256_S1x256 (ix2 0 t) : EReal) (shapeCast S1x256 x shapeCasts_S1x1x256_S1x256 (ix2 0 t)) = _
  rw [shapeCast_1ab_ab_apply, shapeCast_1ab_ab_apply]

theorem mSt_at (m x : Vec Ideal S1x1x256 .f32) (t : Fin 256) :
    mSt m x (ix3 0 0 t) = (max (m (ix3 0 0 t)) (x (ix3 0 0 t)) : EReal) := by
  unfold mSt
  rw [shapeCast_ab_1ab_apply, mNew_at]

theorem alphaOf_at (m x : Vec Ideal S1x1x256 .f32) (t : Fin 256) :
    alphaOf m x (ix2 0 t) = Ideal.exp2 ((m (ix3 0 0 t) : EReal) - max (m (ix3 0 0 t) : EReal) (x (ix3 0 0 t))) := by
  unfold alphaOf
  show Ideal.exp2 ((shapeCast S1x256 m shapeCasts_S1x1x256_S1x256 (ix2 0 t) : EReal) - (mNew m x (ix2 0 t) : EReal)) = _
  rw [shapeCast_1ab_ab_apply, mNew_at]

theorem pOf_at {R : ℕ} (h : RowF R) (m x : Vec Ideal S1x1x256 .f32) (s : Vec Ideal (sh3 R 256) .f32) (r : Fin R) (t : Fin 256) :
    pOf h m x s (ix2 r t) = Ideal.exp2 ((s (ix3 0 r t) : EReal) - max (m (ix3 0 0 t) : EReal) (x (ix3 0 0 t))) := by
  unfold pOf
  show Ideal.exp2 ((shapeCast (sh2 R 256) s h.cast (ix2 r t) : EReal) - (broadcastTo (sh2 R 256) (mNew m x) h.bc (ix2 r t) : EReal)) = _
  rw [shapeCast_1ab_ab_apply, broadcastTo_1b_ab_apply, mNew_at]

theorem scOf_at {R : ℕ} (h : RowF R) (k : Vec Ideal (sh2 R 256) .bf16) (q : Vec Ideal S256x256 .bf16) (r : Fin R) (t : Fin 256) :
    scOf h k q (ix2 r t) = ∑ e : Fin 256, (k (ix2 r e) : EReal) * (q (ix2 e t) : EReal) := by
  unfold scOf
  rw [shapeCast_same, shapeCast_same]
  refine (Ideal.matmul_plain_apply none k q _ r t).trans ?_
  show Ideal.ofBits .f32 0x00000000#32 + _ = _
  rw [Ideal.ofBits_zero_f32, zero_add]

theorem sSt_at {R : ℕ} (h : RowF R) (x : FVec Ideal (sh2 R 256) .f32) (r : Fin R) (t : Fin 256) : sSt h x (ix3 0 r t) = x (ix2 r t) := by
  unfold sSt; exact shapeCast_ab_1ab_apply _ _ _ _ _

theorem fold_max_sup {ι : Type} (A : Finset ι) (f : ι → EReal) : A.fold max ⊥ f = A.sup f := rfl

theorem neg_inf : Ideal.ofBits .f32 0xFF800000#32 = ⊥ := by simp [Ideal.ofBits, Ideal.ieee]

theorem neutral_bot (h : FKind.Formats .f32) : (FloatOps.ofBits .f32 (FKind.maximumf.neutral .f32 h) : Ideal .f32) = (⊥ : EReal) := neg_inf

theorem mxOf_at {R : ℕ} (h : RowF R) (x : FVec Ideal (sh2 R 256) .f32) (t : Fin 256) :
    mxOf h x (ix2 0 t) = (Finset.univ.sup fun r : Fin R => (x (ix2 r t) : EReal)) := by
  unfold mxOf
  rw [shapeCast_a_1a_apply]
  refine (Ideal.multiReduction_maximumf_single x _ h.red (.inl rfl) rfl (ix1 t)).trans ?_
  rw [neutral_bot]
  refine (fold_max_sup _ _).trans (Finset.sup_congr rfl fun r _ => congrArg x ?_)
  funext a; apply Fin.ext
  match a with
  | ⟨0, _⟩ => rfl
  | ⟨1, _⟩ => rfl

theorem xSt_at (x : FVec Ideal S1x256 .f32) (t : Fin 256) : xSt x (ix3 0 0 t) = x (ix2 0 t) := by
  unfold xSt; exact shapeCast_ab_1ab_apply _ _ _ _ _

theorem mask_bot : (Named.named κ "mask" (φ := .f32) 0xF149F2CA#32 : Ideal .f32) = (⊥ : EReal) := rfl

theorem toInt_small {n : ℕ} (h : n < 65536) : (BitVec.ofNat 32 n).toInt = n := by
  rw [BitVec.toInt_eq_toNat_cond, BitVec.toNat_ofNat, Nat.mod_eq_of_lt (by omega), if_pos (by omega)]

theorem sle_small {a b : ℕ} (ha : a < 65536) (hb : b < 65536) :
    IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [toInt_small ha, toInt_small hb]
  simp only [Int.ofNat_le]

theorem tri_at (r t : Fin 256) : tri (ix2 r t) = BitVec.ofBool (decide (r.val ≤ t.val)) := by
  unfold tri
  show IntOp.cmpi .sle (iota .tc S256x256 32 [0] iota_S256x256_d0_w32 (ix2 r t)) (iota .tc S256x256 32 [1] iota_S256x256_d1_w32 (ix2 r t)) = _
  have e0 : iota .tc S256x256 32 [0] iota_S256x256_d0_w32 (ix2 r t) = BitVec.ofNat 32 r.val := by
    show BitVec.ofNat 32 (0 * 256 + r.val) = _
    rw [Nat.zero_mul, Nat.zero_add]
  have e1 : iota .tc S256x256 32 [1] iota_S256x256_d1_w32 (ix2 r t) = BitVec.ofNat 32 t.val := by
    show BitVec.ofNat 32 (0 * 256 + t.val) = _
    rw [Nat.zero_mul, Nat.zero_add]
  rw [e0, e1]
  exact sle_small (by omega) (by omega)

theorem maskOf_at (x : FVec Ideal S256x256 .f32) (r t : Fin 256) :
    maskOf x (ix2 r t) = (if r.val ≤ t.val then (x (ix2 r t) : EReal) else ⊥) := by
  unfold maskOf
  show Scalar.select (tri (ix2 r t)) (x (ix2 r t)) (Named.named κ "mask" (φ := .f32) 0xF149F2CA#32 : Ideal .f32) = _
  rw [tri_at, mask_bot]
  by_cases h : r.val ≤ t.val
  · rw [if_pos h, decide_eq_true h]; rfl
  · rw [if_neg h, decide_eq_false h]; rfl

theorem accOf_at {R : ℕ} (h : RowF R) (al : FVec Ideal S1x256 .f32) (p : FVec Ideal (sh2 R 256) .bf16) (v : Vec Ideal (sh2 144 R) .bf16)
    (a : Vec Ideal S1x144x256 .f32) (d : Fin 144) (t : Fin 256) :
    accOf h al p v a (ix3 0 d t) = (al (ix2 0 t) : EReal) * (a (ix3 0 d t) : EReal) + ∑ r : Fin R, (v (ix2 d r) : EReal) * (p (ix2 r t) : EReal) := by
  unfold accOf
  rw [shapeCast_ab_1ab_apply, shapeCast_same]
  show ((broadcastTo S144x256 al broadcasts_S1x256_S144x256 (ix2 d t) : EReal) * (shapeCast S144x256 a shapeCasts_S1x144x256_S144x256 (ix2 d t) : EReal))
    + _ = _
  rw [broadcastTo_1b_ab_apply, shapeCast_1ab_ab_apply]
  congr 1
  refine (Ideal.matmul_plain_apply none v p _ d t).trans ?_
  show Ideal.ofBits .f32 0x00000000#32 + _ = _
  rw [Ideal.ofBits_zero_f32, zero_add]

theorem truncf_at {s : Shape} (x : FVec Ideal s .f32) (i : s.Idx) : truncf .bf16 x bitsLt_bf16_f32 i = x i := rfl

theorem oOf_at (a : Vec Ideal S1x144x1024 .f32) (t : Fin 1024) (d : Fin 128) :
    oOf a (ix2 t d) = Ideal.div (a (ix3 0 ⟨d.val, by omega⟩ t)) (a (ix3 0 ⟨128, by decide⟩ t)) := by
  unfold oOf
  rw [truncf_at]
  refine (transpose_ix2_apply (a := 128) (b := 1024) _ transposes_S128x1024_p1_0_S1024x128 t d).trans ?_
  show Ideal.div (extractStridedSlice S128x1024 ![0, 0] (shapeCast S144x1024 a shapeCasts_S1x144x1024_S144x1024) slices_S144x1024_o0_0_S128x1024 (ix2 d t))
    (broadcastTo S128x1024 (extractStridedSlice S1x1024 ![128, 0] (shapeCast S144x1024 a shapeCasts_S1x144x1024_S144x1024) slices_S144x1024_o128_0_S1x1024) broadcasts_S1x1024_S128x1024 (ix2 d t)) = _
  rw [broadcastTo_1b_ab_apply, slice2_axis0_apply 0 _ _ d t ⟨d.val, by omega⟩ (by simp), slice2_axis0_apply 128 _ _ 0 t ⟨128, by decide⟩ rfl,
    shapeCast_1ab_ab_apply, shapeCast_1ab_ab_apply]

end Cert.KernelIdeal.Attn

end
-- ==== Proof.Unit.lean ====
module

public import proofs.«01_k».proof.Proof.Pay

@[expose] public section

/-! What one tile does to the scratch arrays over the extended reals, read at one column of queries of one head. -/

noncomputable section

namespace Cert.KernelIdeal.Attn

open Idealize.ShloMosaic Idealize.ShloMosaic.ValueIdx
open Cert.KernelIdeal Cert.KernelIdeal.Gen

/-! ## A rectangle of a stack of matrices, read and written at an element -/

section
variable {A B C R W : ℕ} {α : Type} (a b c : ℕ)
  (inb : ∀ i, (![a, b, c] : Fin 3 → ℕ) i + (⟨3, ![1, R, W]⟩ : Shape).size i ≤ (⟨3, ![A, B, C]⟩ : Shape).size i)
  (f : (⟨3, ![A, B, C]⟩ : Shape).Idx → α)

theorem idx_at (i : Fin R) (j : Fin W) (a' : Fin A) (b' : Fin B) (c' : Fin C) (ha : a'.val = a) (hb : b'.val = b + i.val) (hc : c'.val = c + j.val) :
    (Rect.unit (s := ⟨3, ![A, B, C]⟩) ![a, b, c] (⟨3, ![1, R, W]⟩ : Shape).size inb).idx (ix3 (0 : Fin 1) i j) = ix3 a' b' c' := by
  funext x; apply Fin.ext
  match x with
  | ⟨0, _⟩ => show a + 1 * 0 = a'.val; omega
  | ⟨1, _⟩ => show b + 1 * i.val = b'.val; omega
  | ⟨2, _⟩ => show c + 1 * j.val = c'.val; omega

theorem ov_in (w : (⟨3, ![1, R, W]⟩ : Shape).Idx → α) (i : Fin R) (j : Fin W) (a' : Fin A) (b' : Fin B) (c' : Fin C)
    (ha : a'.val = a) (hb : b'.val = b + i.val) (hc : c'.val = c + j.val) :
    (Rect.unit (s := ⟨3, ![A, B, C]⟩) ![a, b, c] (⟨3, ![1, R, W]⟩ : Shape).size inb).overlay f w (ix3 a' b' c') = w (ix3 (0 : Fin 1) i j) := by
  rw [← idx_at a b c inb i j a' b' c' ha hb hc]
  exact Rect.overlay_emb (Rect.unit (s := ⟨3, ![A, B, C]⟩) ![a, b, c] (⟨3, ![1, R, W]⟩ : Shape).size inb) f w _

theorem ov_out (w : (⟨3, ![1, R, W]⟩ : Shape).Idx → α) (a' : Fin A) (b' : Fin B) (c' : Fin C)
    (h : a'.val ≠ a ∨ ¬ (b ≤ b'.val ∧ b'.val < b + R) ∨ ¬ (c ≤ c'.val ∧ c'.val < c + W)) :
    (Rect.unit (s := ⟨3, ![A, B, C]⟩) ![a, b, c] (⟨3, ![1, R, W]⟩ : Shape).size inb).overlay f w (ix3 a' b' c') = f (ix3 a' b' c') := by
  refine Rect.overlay_of_not_mem _ _ _ fun hm => ?_
  rw [Rect.mem_set_unit] at hm
  have h0 : a ≤ a'.val ∧ a'.val < a + 1 := hm 0
  have h1 : b ≤ b'.val ∧ b'.val < b + R := hm 1
  have h2 : c ≤ c'.val ∧ c'.val < c + W := hm 2
  rcases h with h | h | h
  · omega
  · exact h h1
  · exact h h2

end

theorem ld3_at {A B C R W : ℕ} {e : EltTy} (a b c : ℕ)
    (inb : ∀ i, (![a, b, c] : Fin 3 → ℕ) i + (⟨3, ![1, R, W]⟩ : Shape).size i ≤ (⟨3, ![A, B, C]⟩ : Shape).size i)
    (f : (⟨3, ![A, B, C]⟩ : Shape).Idx → Elt Ideal e) (i : Fin R) (j : Fin W) (a' : Fin A) (b' : Fin B) (c' : Fin C)
    (ha : a'.val = a) (hb : b'.val = b + i.val) (hc : c'.val = c + j.val) :
    View.ld f (Rect.unit (s := ⟨3, ![A, B, C]⟩) ![a, b, c] (⟨3, ![1, R, W]⟩ : Shape).size inb) (ix3 (0 : Fin 1) i j) = f (ix3 a' b' c') :=
  congrArg f (idx_at a b c inb i j a' b' c' ha hb hc)

theorem ld2_at {A B R W : ℕ} {e : EltTy} (a b : ℕ)
    (inb : ∀ i, (![a, b] : Fin 2 → ℕ) i + (⟨2, ![R, W]⟩ : Shape).size i ≤ (⟨2, ![A, B]⟩ : Shape).size i)
    (f : (⟨2, ![A, B]⟩ : Shape).Idx → Elt Ideal e) (i : Fin R) (j : Fin W) (a' : Fin A) (b' : Fin B)
    (ha : a'.val = a + i.val) (hb : b'.val = b + j.val) :
    View.ld f (Rect.unit (s := ⟨2, ![A, B]⟩) ![a, b] (⟨2, ![R, W]⟩ : Shape).size inb) (ix2 i j) = f (ix2 a' b') := by
  refine congrArg f (funext fun x => Fin.ext ?_)
  match x with
  | ⟨0, _⟩ => show a + 1 * i.val = a'.val; omega
  | ⟨1, _⟩ => show b + 1 * j.val = b'.val; omega

/-! ## A tile's scores -/

/-- Query column `u` of strip `c`. -/
def cl (c : Fin 4) (u : Fin 256) : Fin 1024 := ⟨256 * c.val + u.val, by omega⟩
/-- Lane `e` of head `hd`. -/
def ln (hd : Fin 4) (e : Fin 256) : Fin 1024 := ⟨256 * hd.val + e.val, by omega⟩
/-- Row `d` of head `hd` of the values. -/
def vr (hd : Fin 4) (d : Fin 144) : Fin 576 := ⟨144 * hd.val + d.val, by omega⟩

/-- The score of key row `r` for query column `t`. -/
def sg (b : TB Ideal) (hd : Fin 4) (r t : Fin 1024) : EReal :=
  ∑ e : Fin 256, (b.k (ix2 r (ln hd e)) : EReal) * (b.q (ix2 (ln hd e) t) : EReal)

/-- The score, masked on a diagonal tile. -/
def sm (b : TB Ideal) (t' : Bool) (hd : Fin 4) (r t : Fin 1024) : EReal :=
  if t' = true ∧ t.val < r.val then ⊥ else sg b hd r t

theorem scB_at (b : TB Ideal) (hd c : Fin 4) {R : ℕ} (h : RowF R) (r : Fin R) (u : Fin 256) :
    scB b hd c h (ix2 r u) = sg b hd ⟨r.val, by have := h.le; omega⟩ (cl c u) := by
  unfold scB
  rw [scOf_at]
  unfold sg
  refine Finset.sum_congr rfl fun e _ => ?_
  congr 1
  · exact ld2_at 0 (256 * hd.val) _ b.k r e _ _ (by simp) (by simp [ln])
  · exact ld2_at (256 * hd.val) (256 * c.val) _ b.q e u _ _ (by simp [ln]) (by simp [cl])

theorem rows_le (t' : Bool) (c : Fin 4) : rows t' c ≤ 1024 := (rowF t' c).le

theorem fin4 {P : Fin 4 → Prop} (h0 : P 0) (h1 : P 1) (h2 : P 2) (h3 : P 3) : ∀ c, P c := by
  intro c; fin_cases c <;> assumption

section
variable {F : FTy → Type} [FloatOps F] [Named F] (b : TB F) (hd : Fin 4) (t : Bool)
theorem sS_0 (s : Vec F S4x1024x1024 .f32) : sS b t hd s 0 = bif t then sT0 b hd s else sF b hd 0 s := by rw [sS.eq_1]
theorem xS_0 : xS b t hd 0 = bif t then xT0 b hd else xF b hd 0 := by rw [xS.eq_1]
theorem sS_1 (s : Vec F S4x1024x1024 .f32) : sS b t hd s 1 = bif t then sTc b hd 1 cut256 s else sF b hd 1 s := by rw [sS.eq_2]
theorem xS_1 : xS b t hd 1 = bif t then xTc b hd 1 cut256 else xF b hd 1 := by rw [xS.eq_2]
theorem sS_2 (s : Vec F S4x1024x1024 .f32) : sS b t hd s 2 = bif t then sTc b hd 2 cut512 s else sF b hd 2 s := by rw [sS.eq_3]
theorem xS_2 : xS b t hd 2 = bif t then xTc b hd 2 cut512 else xF b hd 2 := by rw [xS.eq_3]
theorem sS_3 (s : Vec F S4x1024x1024 .f32) : sS b t hd s 3 = bif t then sTc b hd 3 cut768 s else sF b hd 3 s := by rw [sS.eq_4]
theorem xS_3 : xS b t hd 3 = bif t then xTc b hd 3 cut768 else xF b hd 3 := by rw [xS.eq_4]
end

theorem sS_false (b : TB Ideal) (hd : Fin 4) (s : Vec Ideal S4x1024x1024 .f32) : ∀ c : Fin 4, sS b false hd s c = sF b hd c s :=
  fin4 (by rw [sS_0, cond_false]) (by rw [sS_1, cond_false]) (by rw [sS_2, cond_false]) (by rw [sS_3, cond_false])

theorem sTc_at (b : TB Ideal) (hd : Fin 4) (s : Vec Ideal S4x1024x1024 .f32) (r : Fin 1024) (u : Fin 256) {q : ℕ} (c : Fin 4) (hq : CutF q)
    (hqc : q = 256 * c.val) (hr : r.val < q + 256) : sTc b hd c hq s (ix3 hd r (cl c u)) = sm b true hd r (cl c u) := by
  have hq0 : 0 + q ≤ 1024 := by have := hq.rw.le; omega
  have hcl : (cl c u).val = q + u.val := by rw [hqc]; rfl
  unfold sTc sm
  by_cases h2 : r.val < q
  · refine (ov_in hd.val 0 (256 * c.val) (inb_s hd c 0 q hq0) _ _ ⟨r.val, h2⟩ u hd r (cl c u) rfl (by simp) rfl).trans ?_
    rw [sSt_at, if_neg (by rintro ⟨_, h3⟩; omega)]
    unfold firstOf
    rw [slice2_axis0_apply 0 _ _ _ _ ⟨r.val, by omega⟩ (by simp), scB_at]
  · refine (ov_out hd.val 0 (256 * c.val) (inb_s hd c 0 q hq0) _ _ hd r (cl c u) (.inr (.inl (by omega)))).trans ?_
    refine (ov_in hd.val q (256 * c.val) (inb_s hd c q 256 hq.rw'.le) _ _ ⟨r.val - q, by omega⟩ u hd r (cl c u) rfl (by simp; omega) rfl).trans ?_
    rw [sSt_at]
    unfold lastOf
    rw [maskOf_at, slice2_axis0_apply q _ _ _ _ ⟨r.val, by omega⟩ (by simp; omega), scB_at]
    by_cases h3 : r.val - q ≤ u.val
    · rw [if_pos h3, if_neg (by rintro ⟨_, h4⟩; omega)]
    · rw [if_neg h3, if_pos ⟨rfl, by omega⟩]

theorem sT0_at (b : TB Ideal) (hd : Fin 4) (s : Vec Ideal S4x1024x1024 .f32) (r : Fin 1024) (u : Fin 256) (hr : r.val < 256) :
    sT0 b hd s (ix3 hd r (cl 0 u)) = sm b true hd r (cl 0 u) := by
  have hcl : (cl 0 u).val = u.val := by show 256 * 0 + u.val = _; omega
  unfold sT0 sm
  refine (ov_in hd.val 0 0 (inb_s hd 0 0 256 (by decide)) s _ ⟨r.val, hr⟩ u hd r (cl 0 u) rfl (by simp) (by omega)).trans ?_
  rw [sSt_at, maskOf_at, scB_at]
  by_cases h3 : r.val ≤ u.val
  · rw [if_pos h3, if_neg (by rintro ⟨_, h4⟩; omega)]
  · rw [if_neg h3, if_pos ⟨rfl, by omega⟩]

theorem sS_true (b : TB Ideal) (hd : Fin 4) (s : Vec Ideal S4x1024x1024 .f32) (r : Fin 1024) (u : Fin 256) :
    ∀ c : Fin 4, r.val < rows true c → sS b true hd s c (ix3 hd r (cl c u)) = sm b true hd r (cl c u) :=
  fin4 (fun h => by rw [sS_0, cond_true]; exact sT0_at b hd s r u h) (fun h => by rw [sS_1, cond_true]; exact sTc_at b hd s r u 1 cut256 rfl h)
    (fun h => by rw [sS_2, cond_true]; exact sTc_at b hd s r u 2 cut512 rfl h) (fun h => by rw [sS_3, cond_true]; exact sTc_at b hd s r u 3 cut768 rfl h)

/-- What a unit leaves in its rows of the scores. -/
theorem sS_at (b : TB Ideal) (hd : Fin 4) (s : Vec Ideal S4x1024x1024 .f32) (t' : Bool) (c : Fin 4) (r : Fin 1024) (u : Fin 256)
    (h : r.val < rows t' c) : sS b t' hd s c (ix3 hd r (cl c u)) = sm b t' hd r (cl c u) := by
  cases t'
  · rw [sS_false]
    have h0 : r.val = 0 + r.val := (Nat.zero_add _).symm
    unfold sF
    refine (ov_in (A := 4) (B := 1024) (C := 1024) (R := 1024) (W := 256) hd.val 0 (256 * c.val) (inb_s hd c 0 1024 le_rfl) s
      (sSt rowF1024 (scB b hd c rowF1024)) r u hd r (cl c u) rfl h0 rfl).trans ?_
    rw [sSt_at, scB_at]
    unfold sm
    rw [if_neg (by simp)]
  · exact sS_true b hd s r u c h

end Cert.KernelIdeal.Attn

end
-- ==== Proof.Unit2.lean ====
module

public import proofs.«01_k».proof.Proof.Unit

@[expose] public section

/-! The maxima a unit computes, and the whole unit on its own column and off it. -/

noncomputable section

namespace Cert.KernelIdeal.Attn

open Idealize.ShloMosaic Idealize.ShloMosaic.ValueIdx
open Cert.KernelIdeal Cert.KernelIdeal.Gen
open Idealize.ShloMosaic.Tactic

/-- A row of a strip's rows as a row of the tile. -/
def upr (t' : Bool) (c : Fin 4) (r : Fin (rows t' c)) : Fin 1024 := ⟨r.val, lt_of_lt_of_le r.isLt (rows_le t' c)⟩

/-- The maximum over a strip's rows. -/
def xm (b : TB Ideal) (t' : Bool) (hd c : Fin 4) (u : Fin 256) : EReal :=
  Finset.univ.sup fun r : Fin (rows t' c) => sm b t' hd (upr t' c r) (cl c u)

theorem xS_false (b : TB Ideal) (hd : Fin 4) : ∀ c : Fin 4, xS b false hd c = xF b hd c :=
  fin4 (by rw [xS_0, cond_false]) (by rw [xS_1, cond_false]) (by rw [xS_2, cond_false]) (by rw [xS_3, cond_false])

theorem sup_split {q : ℕ} (f : ℕ → EReal) :
    max (Finset.univ.sup fun r : Fin 256 => f (q + r.val)) (Finset.univ.sup fun r : Fin q => f r.val)
      = Finset.univ.sup fun r : Fin (q + 256) => f r.val := by
  refine le_antisymm (max_le (Finset.sup_le fun r _ => ?_) (Finset.sup_le fun r _ => ?_)) (Finset.sup_le fun r _ => ?_)
  · exact Finset.le_sup (f := fun r : Fin (q + 256) => f r.val) (Finset.mem_univ ⟨q + r.val, by omega⟩)
  · exact Finset.le_sup (f := fun r : Fin (q + 256) => f r.val) (Finset.mem_univ ⟨r.val, by omega⟩)
  · by_cases h : r.val < q
    · exact le_max_of_le_right (Finset.le_sup (f := fun r : Fin q => f r.val) (Finset.mem_univ ⟨r.val, h⟩))
    · have e : f r.val = f (q + (r.val - q)) := by congr 1; omega
      rw [e]
      exact le_max_of_le_left (Finset.le_sup (f := fun r : Fin 256 => f (q + r.val)) (Finset.mem_univ ⟨r.val - q, by omega⟩))

theorem xTc_at (b : TB Ideal) (hd : Fin 4) (u : Fin 256) {q : ℕ} (c : Fin 4) (hq : CutF q) (hqc : q = 256 * c.val) :
    xTc b hd c hq (ix2 0 u) = (Finset.univ.sup fun r : Fin (q + 256) => sm b true hd ⟨r.val, lt_of_lt_of_le r.isLt hq.rw'.le⟩ (cl c u)) := by
  have hcl : (cl c u).val = q + u.val := by rw [hqc]; rfl
  have hle := hq.rw'.le
  let f : ℕ → EReal := fun r => if h : r < 1024 then sm b true hd ⟨r, h⟩ (cl c u) else ⊥
  have hf : ∀ r (h : r < 1024), f r = sm b true hd ⟨r, h⟩ (cl c u) := fun r h => dif_pos h
  have e1 : mxOf rowF256 (lastOf hq (scB b hd c hq.rw')) (ix2 0 u) = (Finset.univ.sup fun r : Fin 256 => f (q + r.val)) := by
    rw [mxOf_at]
    refine Finset.sup_congr rfl fun r _ => ?_
    rw [hf _ (by omega)]
    unfold lastOf sm
    rw [maskOf_at, slice2_axis0_apply q _ _ _ _ ⟨q + r.val, by omega⟩ rfl, scB_at]
    by_cases h3 : r.val ≤ u.val
    · rw [if_pos h3, if_neg (by rintro ⟨_, h4⟩; simp only at h4; omega)]
    · rw [if_neg h3, if_pos ⟨rfl, by simp only; omega⟩]
  have e2 : mxOf hq.rw (firstOf hq (scB b hd c hq.rw')) (ix2 0 u) = (Finset.univ.sup fun r : Fin q => f r.val) := by
    rw [mxOf_at]
    refine Finset.sup_congr rfl fun r _ => ?_
    rw [hf _ (by omega)]
    unfold firstOf sm
    rw [slice2_axis0_apply 0 _ _ _ _ ⟨r.val, by omega⟩ (by simp), scB_at, if_neg (by rintro ⟨_, h4⟩; simp only at h4; omega)]
  have e3 : (Finset.univ.sup fun r : Fin (q + 256) => sm b true hd ⟨r.val, lt_of_lt_of_le r.isLt hq.rw'.le⟩ (cl c u))
      = Finset.univ.sup fun r : Fin (q + 256) => f r.val := Finset.sup_congr rfl fun r _ => (hf _ _).symm
  unfold xTc
  show (max (mxOf rowF256 (lastOf hq (scB b hd c hq.rw')) (ix2 0 u)) (mxOf hq.rw (firstOf hq (scB b hd c hq.rw')) (ix2 0 u)) : EReal) = _
  rw [e1, e2, e3]
  exact sup_split f

theorem xT0_at (b : TB Ideal) (hd : Fin 4) (u : Fin 256) :
    xT0 b hd (ix2 0 u) = (Finset.univ.sup fun r : Fin 256 => sm b true hd ⟨r.val, by omega⟩ (cl 0 u)) := by
  have hcl : (cl 0 u).val = u.val := by show 256 * 0 + u.val = _; omega
  unfold xT0
  rw [mxOf_at]
  refine Finset.sup_congr rfl fun r _ => ?_
  rw [maskOf_at, scB_at]
  unfold sm
  by_cases h3 : r.val ≤ u.val
  · rw [if_pos h3, if_neg (by rintro ⟨_, h4⟩; simp only at h4; omega)]
  · rw [if_neg h3, if_pos ⟨rfl, by simp only; omega⟩]

theorem xS_true (b : TB Ideal) (hd : Fin 4) (u : Fin 256) : ∀ c : Fin 4, xS b true hd c (ix2 0 u) = xm b true hd c u :=
  fin4 (by rw [xS_0, cond_true]; exact xT0_at b hd u) (by rw [xS_1, cond_true]; exact xTc_at b hd u 1 cut256 rfl)
    (by rw [xS_2, cond_true]; exact xTc_at b hd u 2 cut512 rfl) (by rw [xS_3, cond_true]; exact xTc_at b hd u 3 cut768 rfl)

theorem xS_at (b : TB Ideal) (t' : Bool) (hd c : Fin 4) (u : Fin 256) : xS b t' hd c (ix2 0 u) = xm b t' hd c u := by
  cases t'
  · rw [xS_false]
    unfold xF
    rw [mxOf_at]
    refine Finset.sup_congr rfl fun r _ => ?_
    rw [scB_at]
    unfold sm
    rw [if_neg (by simp)]
    rfl
  · exact xS_true b hd u c

/-! ## The unit -/

/-- Two states that agree on a strip's column. -/
structure Same (hd c : Fin 4) (st st' : TS Ideal) : Prop where
  m : ∀ u, st'.m (ix3 hd 0 (cl c u)) = st.m (ix3 hd 0 (cl c u))
  x : ∀ u, st'.x (ix3 hd 0 (cl c u)) = st.x (ix3 hd 0 (cl c u))
  s : ∀ r u, st'.s (ix3 hd r (cl c u)) = st.s (ix3 hd r (cl c u))
  a : ∀ d u, st'.a (ix3 hd d (cl c u)) = st.a (ix3 hd d (cl c u))

theorem Same.trans {hd c : Fin 4} {st st' st'' : TS Ideal} (h : Same hd c st st') (h' : Same hd c st' st'') : Same hd c st st'' :=
  ⟨fun u => (h'.m u).trans (h.m u), fun u => (h'.x u).trans (h.x u), fun r u => (h'.s r u).trans (h.s r u), fun d u => (h'.a d u).trans (h.a d u)⟩

/-- The new maximum of a column. -/
def nm (st : TS Ideal) (hd c : Fin 4) (u : Fin 256) : EReal := max (st.m (ix3 hd 0 (cl c u)) : EReal) (st.x (ix3 hd 0 (cl c u)))

/-- A state after a unit, from the state before it, on the unit's column. -/
structure Stp (b : TB Ideal) (t t' : Bool) (hd c : Fin 4) (st st' : TS Ideal) : Prop where
  m : ∀ u, st'.m (ix3 hd 0 (cl c u)) = nm st hd c u
  x : ∀ u, st'.x (ix3 hd 0 (cl c u)) = xm b t' hd c u
  s : ∀ (r : Fin 1024) u, r.val < rows t' c → st'.s (ix3 hd r (cl c u)) = sm b t' hd r (cl c u)
  a : ∀ d u, st'.a (ix3 hd d (cl c u))
    = Ideal.exp2 ((st.m (ix3 hd 0 (cl c u)) : EReal) - nm st hd c u) * (st.a (ix3 hd d (cl c u)) : EReal)
      + ∑ r : Fin (rows t c), (b.v (ix2 (vr hd d) (upr t c r)) : EReal) * Ideal.exp2 ((st.s (ix3 hd (upr t c r) (cl c u)) : EReal) - nm st hd c u)

theorem Same.nm {hd c : Fin 4} {st st' : TS Ideal} (h : Same hd c st st') (u : Fin 256) : nm st' hd c u = nm st hd c u := by
  unfold Attn.nm; rw [h.m, h.x]

theorem Stp.of_same {b : TB Ideal} {t t' : Bool} {hd c : Fin 4} {s0 s1 s2 s3 : TS Ideal} (h0 : Same hd c s0 s1) (h : Stp b t t' hd c s1 s2)
    (h3 : Same hd c s2 s3) : Stp b t t' hd c s0 s3 where
  m u := by rw [h3.m, h.m, h0.nm]
  x u := by rw [h3.x, h.x]
  s r u hr := by rw [h3.s, h.s r u hr]
  a d u := by
    rw [h3.a, h.a, h0.nm, h0.m, h0.a]
    refine congrArg (_ + ·) (Finset.sum_congr rfl fun r _ => ?_)
    rw [h0.s]

theorem sS_off (b : TB Ideal) (t' : Bool) (hd hd' c c' : Fin 4) (s : Vec Ideal S4x1024x1024 .f32) (h : hd' ≠ hd ∨ c' ≠ c) (r : Fin 1024) (u : Fin 256) :
    sS b t' hd s c (ix3 hd' r (cl c' u)) = s (ix3 hd' r (cl c' u)) := by
  have hh : hd'.val ≠ hd.val ∨ c'.val ≠ c.val := h.imp (fun h e => h (Fin.ext e)) (fun h e => h (Fin.ext e))
  have hcl : (cl c' u).val = 256 * c'.val + u.val := rfl
  have gen : ∀ (cc : Fin 4) (q R : ℕ) (inb) (f w), cc.val = c.val →
      (Rect.unit (s := ⟨3, ![4, 1024, 1024]⟩) ![hd.val, q, 256 * cc.val] (⟨3, ![1, R, 256]⟩ : Shape).size inb).overlay f w (ix3 hd' r (cl c' u))
        = (f : (⟨3, ![4, 1024, 1024]⟩ : Shape).Idx → EReal) (ix3 hd' r (cl c' u)) := by
    intro cc q R inb f w hc
    refine ov_out _ _ _ inb f w _ _ _ ?_
    rcases hh with h1 | h1
    · exact .inl h1
    · exact .inr (.inr (by omega))
  cases t'
  · rw [sS_false]
    exact gen c 0 1024 _ s _ rfl
  · revert gen
    revert c
    refine fin4 ?_ ?_ ?_ ?_
    · intro h hh gen
      rw [sS_0, cond_true]
      exact gen 0 0 256 _ s _ rfl
    · intro h hh gen
      rw [sS_1, cond_true]
      exact (gen 1 0 256 _ _ _ rfl).trans (gen 1 256 256 _ s _ rfl)
    · intro h hh gen
      rw [sS_2, cond_true]
      exact (gen 2 0 512 _ _ _ rfl).trans (gen 2 512 256 _ s _ rfl)
    · intro h hh gen
      rw [sS_3, cond_true]
      exact (gen 3 0 768 _ _ _ rfl).trans (gen 3 768 256 _ s _ rfl)

theorem off_col {hd hd' c c' : Fin 4} (h : hd' ≠ hd ∨ c' ≠ c) (u : Fin 256) (B R b : ℕ) (P : Prop) :
    hd'.val ≠ hd.val ∨ P ∨ ¬ (256 * c.val ≤ (cl c' u).val ∧ (cl c' u).val < 256 * c.val + 256) := by
  have hh : hd'.val ≠ hd.val ∨ c'.val ≠ c.val := h.imp (fun h e => h (Fin.ext e)) (fun h e => h (Fin.ext e))
  have hcl : (cl c' u).val = 256 * c'.val + u.val := rfl
  rcases hh with h1 | h1
  · exact .inl h1
  · exact .inr (.inr (by omega))

section
variable {F : FTy → Type} [FloatOps F] [Named F] (b : TB F) (t t' : Bool) (hd c : Fin 4) (st : TS F)
theorem U_m : (stU b t t' hd c st).m = (rM hd c).overlay st.m (mSt (View.ld st.m (rM hd c)) (View.ld st.x (rM hd c))) := by unfold stU stB stS stA; rfl
theorem U_x : (stU b t t' hd c st).x = (rM hd c).overlay st.x (xSt (xS b t' hd c)) := by unfold stU stB stS stA; rfl
theorem U_s : (stU b t t' hd c st).s = sS b t' hd st.s c := by unfold stU stB stS stA; rfl
theorem U_a : (stU b t t' hd c st).a = (rA hd c).overlay st.a
    (accOf (rowF t c) (alA hd c st) (pA t hd c st) (View.ld b.v (rV hd _ (rowF t c).le)) (View.ld st.a (rA hd c))) := by unfold stU stB stS stA; chain_rfl
end

theorem U_off (b : TB Ideal) (t t' : Bool) (hd hd' c c' : Fin 4) (st : TS Ideal) (h : hd' ≠ hd ∨ c' ≠ c) :
    Same hd' c' st (stU b t t' hd c st) where
  m u := by rw [U_m]; exact ov_out (A := 4) (B := 1) (C := 1024) (R := 1) (W := 256) hd.val 0 (256 * c.val) (inb_m hd c) st.m _ hd' 0 (cl c' u) (off_col h u 0 0 0 _)
  x u := by rw [U_x]; exact ov_out (A := 4) (B := 1) (C := 1024) (R := 1) (W := 256) hd.val 0 (256 * c.val) (inb_m hd c) st.x _ hd' 0 (cl c' u) (off_col h u 0 0 0 _)
  s r u := by rw [U_s]; exact sS_off b t' hd hd' c c' st.s h r u
  a d u := by rw [U_a]; exact ov_out (A := 4) (B := 144) (C := 1024) (R := 144) (W := 256) hd.val 0 (256 * c.val) (inb_a hd c) st.a _ hd' d (cl c' u) (off_col h u 0 0 0 _)

theorem ldM_at (hd c : Fin 4) (f : Vec Ideal S4x1x1024 .f32) (u : Fin 256) : View.ld f (rM hd c) (ix3 0 0 u) = f (ix3 hd 0 (cl c u)) :=
  ld3_at (A := 4) (B := 1) (C := 1024) (R := 1) (W := 256) hd.val 0 (256 * c.val) (inb_m hd c) f 0 u hd 0 (cl c u) rfl rfl rfl

theorem U_on (b : TB Ideal) (t t' : Bool) (hd c : Fin 4) (st : TS Ideal) : Stp b t t' hd c st (stU b t t' hd c st) where
  m u := by
    rw [U_m]
    refine (ov_in (A := 4) (B := 1) (C := 1024) (R := 1) (W := 256) hd.val 0 (256 * c.val) (inb_m hd c) st.m
      (mSt (View.ld st.m (rM hd c)) (View.ld st.x (rM hd c))) 0 u hd 0 (cl c u) rfl rfl rfl).trans ?_
    rw [mSt_at, ldM_at, ldM_at]; rfl
  x u := by
    rw [U_x]
    refine (ov_in (A := 4) (B := 1) (C := 1024) (R := 1) (W := 256) hd.val 0 (256 * c.val) (inb_m hd c) st.x
      (xSt (xS b t' hd c)) 0 u hd 0 (cl c u) rfl rfl rfl).trans ?_
    rw [xSt_at, xS_at]
  s r u hr := by rw [U_s]; exact sS_at b hd st.s t' c r u hr
  a d u := by
    rw [U_a]
    refine (ov_in (A := 4) (B := 144) (C := 1024) (R := 144) (W := 256) hd.val 0 (256 * c.val) (inb_a hd c) st.a
      (accOf (rowF t c) (alA hd c st) (pA t hd c st) (View.ld b.v (rV hd _ (rowF t c).le)) (View.ld st.a (rA hd c))) d u hd d (cl c u)
      rfl (Nat.zero_add _).symm rfl).trans ?_
    rw [accOf_at]
    unfold alA pA
    rw [alphaOf_at, ldM_at, ldM_at]
    have ea : View.ld st.a (rA hd c) (ix3 0 d u) = st.a (ix3 hd d (cl c u)) :=
      ld3_at (A := 4) (B := 144) (C := 1024) (R := 144) (W := 256) hd.val 0 (256 * c.val) (inb_a hd c) st.a d u hd d (cl c u) rfl (Nat.zero_add _).symm rfl
    rw [ea]
    refine congrArg (_ + ·) (Finset.sum_congr rfl fun r _ => ?_)
    rw [pOf_at, ldM_at, ldM_at]
    have ev : View.ld b.v (rV hd _ (rowF t c).le) (ix2 d r) = b.v (ix2 (vr hd d) (upr t c r)) :=
      ld2_at (144 * hd.val) 0 _ b.v d r (vr hd d) (upr t c r) rfl (Nat.zero_add _).symm
    have es : View.ld st.s (rS hd c 0 (rows t c) (by have := (rowF t c).le; omega)) (ix3 0 r u) = st.s (ix3 hd (upr t c r) (cl c u)) :=
      ld3_at (A := 4) (B := 1024) (C := 1024) (R := rows t c) (W := 256) hd.val 0 (256 * c.val) _ st.s r u hd (upr t c r) (cl c u) rfl (Nat.zero_add _).symm rfl
    rw [ev, es]
    rfl

theorem Same.refl (hd c : Fin 4) (st : TS Ideal) : Same hd c st st := ⟨fun _ => rfl, fun _ => rfl, fun _ _ => rfl, fun _ _ => rfl⟩

theorem H_off (b : TB Ideal) (t t' : Bool) (hd hd' c : Fin 4) (st : TS Ideal) (h : hd' ≠ hd) : Same hd' c st (stH b t t' hd st) :=
  (U_off b t t' hd hd' 0 c _ (.inl h)).trans <| (U_off b t t' hd hd' 1 c _ (.inl h)).trans <|
    (U_off b t t' hd hd' 2 c _ (.inl h)).trans (U_off b t t' hd hd' 3 c _ (.inl h))

theorem H_on (b : TB Ideal) (t t' : Bool) (hd : Fin 4) (st : TS Ideal) : ∀ c, Stp b t t' hd c st (stH b t t' hd st) :=
  fin4
    (.of_same (.refl hd 0 st) (U_on b t t' hd 0 st) ((U_off b t t' hd hd 1 0 _ (.inr (by decide))).trans <|
      (U_off b t t' hd hd 2 0 _ (.inr (by decide))).trans (U_off b t t' hd hd 3 0 _ (.inr (by decide)))))
    (.of_same (U_off b t t' hd hd 0 1 st (.inr (by decide))) (U_on b t t' hd 1 _) ((U_off b t t' hd hd 2 1 _ (.inr (by decide))).trans
      (U_off b t t' hd hd 3 1 _ (.inr (by decide)))))
    (.of_same ((U_off b t t' hd hd 0 2 st (.inr (by decide))).trans (U_off b t t' hd hd 1 2 _ (.inr (by decide)))) (U_on b t t' hd 2 _)
      (U_off b t t' hd hd 3 2 _ (.inr (by decide))))
    (.of_same ((U_off b t t' hd hd 0 3 st (.inr (by decide))).trans <| (U_off b t t' hd hd 1 3 _ (.inr (by decide))).trans
      (U_off b t t' hd hd 2 3 _ (.inr (by decide)))) (U_on b t t' hd 3 _) (.refl hd 3 _))

/-- The state when head `hd` of a tile has been done. -/
def stU4 (b : TB Ideal) (t t' : Bool) (st : TS Ideal) : Fin 4 → TS Ideal
  | 0 => stH b t t' 0 st
  | 1 => stH b t t' 1 (stH b t t' 0 st)
  | 2 => stH b t t' 2 (stH b t t' 1 (stH b t t' 0 st))
  | 3 => stH b t t' 3 (stH b t t' 2 (stH b t t' 1 (stH b t t' 0 st)))

theorem U4_on (b : TB Ideal) (t t' : Bool) (st : TS Ideal) (c : Fin 4) : ∀ hd, Stp b t t' hd c st (stU4 b t t' st hd) :=
  fin4 (H_on b t t' 0 st c)
    (.of_same (H_off b t t' 0 1 c st (by decide)) (H_on b t t' 1 _ c) (.refl 1 c _))
    (.of_same ((H_off b t t' 0 2 c st (by decide)).trans (H_off b t t' 1 2 c _ (by decide))) (H_on b t t' 2 _ c) (.refl 2 c _))
    (.of_same ((H_off b t t' 0 3 c st (by decide)).trans <| (H_off b t t' 1 3 c _ (by decide)).trans (H_off b t t' 2 3 c _ (by decide)))
      (H_on b t t' 3 _ c) (.refl 3 c _))

theorem T_on (b : TB Ideal) (t t' : Bool) (st : TS Ideal) (c : Fin 4) : ∀ hd, Stp b t t' hd c st (stT b t t' st) :=
  fin4
    (.of_same (.refl 0 c st) (H_on b t t' 0 st c) ((H_off b t t' 1 0 c _ (by decide)).trans <| (H_off b t t' 2 0 c _ (by decide)).trans
      (H_off b t t' 3 0 c _ (by decide))))
    (.of_same (H_off b t t' 0 1 c st (by decide)) (H_on b t t' 1 _ c) ((H_off b t t' 2 1 c _ (by decide)).trans
      (H_off b t t' 3 1 c _ (by decide))))
    (.of_same ((H_off b t t' 0 2 c st (by decide)).trans (H_off b t t' 1 2 c _ (by decide))) (H_on b t t' 2 _ c)
      (H_off b t t' 3 2 c _ (by decide)))
    (U4_on b t t' st c 3)

end Cert.KernelIdeal.Attn

end
-- ==== Proof.Blk.lean ====
module

public import proofs.«01_k».proof.Proof.Unit2

@[expose] public section

/-! The block of the result of one block of queries: the running softmax over the blocks of keys up to the diagonal. -/

noncomputable section

namespace Cert.KernelIdeal.Attn

open Idealize.ShloMosaic Idealize.ShloMosaic.ValueIdx
open Cert.KernelIdeal Cert.KernelIdeal.Gen Cert.Online

/-! ## The schedule in numbers -/

/-- The block of queries, and the block of keys, of a trip. -/
def qi (k : Fin 73) : ℕ := (lit0 k).toNat
def ki (k : Fin 73) : ℕ := (lit1 k).toNat

theorem col_qi : ∀ k : Fin 73, col (lit0 k) = 1024 * qi k := by decide +kernel
theorem col_ki : ∀ k : Fin 73, col (lit1 k) = 1024 * ki k := by decide +kernel
theorem col_vi : ∀ k : Fin 73, k.val ≠ 0 → col (lit2 k) = 1024 * ki (pv k) := by decide +kernel
theorem ls_dg : ∀ k : Fin 73, k.val ≠ 0 → ls k = dg (pv k) := by decide +kernel
theorem fs_true : ∀ k : Fin 73, k.val ≠ 0 → fs k = true → ki (pv k) = 8 * (qi (pv k) / 8) := by decide +kernel
theorem fs_false : ∀ k : Fin 73, k.val ≠ 0 → fs k = false →
    (pv k).val ≠ 0 ∧ qi (pv (pv k)) = qi (pv k) ∧ ki (pv (pv k)) + 1 = ki (pv k) ∧ dg (pv (pv k)) = false := by decide +kernel
theorem dg_true : ∀ k : Fin 73, dg k = true → ki k = qi k := by decide +kernel
theorem dg_false : ∀ k : Fin 73, dg k = false → ki k < qi k := by decide +kernel
theorem ki_ge : ∀ k : Fin 73, 8 * (qi k / 8) ≤ ki k ∧ qi k < 16 := by decide +kernel
theorem pv_val : ∀ k : Fin 73, k.val ≠ 0 → (pv k).val + 1 = k.val := by decide +kernel
theorem lt_facts : ∀ m : Fin 16, (lt m.val).val ≠ 0 ∧ ls (lt m.val) = true ∧ qi (pv (lt m.val)) = m.val := by decide +kernel

/-! ## Sums and maxima over a strip's rows -/

theorem sum_rows {R a n : ℕ} (ha : a ≤ n) (hR : n ≤ a + R) (f : Fin R → EReal) (g : ℕ → EReal) (h1 : ∀ r : Fin R, a + r.val < n → f r = g (a + r.val))
    (h0 : ∀ r : Fin R, ¬ a + r.val < n → f r = 0) : ∑ r, f r = ∑ x ∈ Finset.Ico a n, g x := by
  have e : ∀ r : Fin R, f r = (fun x : ℕ => if a + x < n then g (a + x) else 0) r.val := fun r => by
    by_cases h : a + r.val < n
    · simp only [if_pos h]; exact h1 r h
    · simp only [if_neg h]; exact h0 r h
  rw [Finset.sum_congr rfl fun r _ => e r, Fin.sum_univ_eq_sum_range (fun x : ℕ => if a + x < n then g (a + x) else 0) R, Finset.sum_Ico_eq_sum_range,
    ← Finset.sum_subset (s₁ := Finset.range (n - a)) (s₂ := Finset.range R)]
  · refine Finset.sum_congr rfl fun x hx => ?_
    rw [Finset.mem_range] at hx
    rw [if_pos (by omega)]
  · intro x hx; rw [Finset.mem_range] at hx ⊢; omega
  · intro x _ hx
    rw [Finset.mem_range] at hx
    rw [if_neg (by omega)]

theorem sup_rows {R a n : ℕ} (hR : n ≤ a + R) (f : Fin R → EReal) (g : ℕ → EReal) (h1 : ∀ r : Fin R, a + r.val < n → f r = g (a + r.val))
    (h0 : ∀ r : Fin R, ¬ a + r.val < n → f r = ⊥) : Finset.univ.sup f = (Finset.Ico a n).sup g := by
  refine le_antisymm (Finset.sup_le fun r _ => ?_) (Finset.sup_le fun x hx => ?_)
  · by_cases h : a + r.val < n
    · rw [h1 r h]; exact Finset.le_sup (f := g) (Finset.mem_Ico.mpr ⟨by omega, h⟩)
    · rw [h0 r h]; exact bot_le
  · rw [Finset.mem_Ico] at hx
    have hr := h1 ⟨x - a, by omega⟩ (by simp only; omega)
    rw [show a + (⟨x - a, by omega⟩ : Fin R).val = x from by simp only; omega] at hr
    rw [← hr]
    exact Finset.le_sup (f := f) (Finset.mem_univ _)

/-! ## One query -/

variable (D : Arr Ideal)

/-- The data of one query of one head: its real scores and its values by key, keys counted from the start of its sequence. -/
structure Qry (i : ℕ) (hd : Fin 4) (t : Fin 1024) (s : ℕ → ℝ) (V : Fin 144 → ℕ → EReal) : Prop where
  s : ∀ (x : ℕ) (h : 8192 * (i / 8) + x < 16384) (h' : 1024 * i + t.val < 16384), x < 8192 →
    ∑ e : Fin 256, (D.kt (ix2 ⟨8192 * (i / 8) + x, h⟩ (ln hd e)) : EReal) * (D.qt (ix2 (ln hd e) ⟨1024 * i + t.val, h'⟩) : EReal) = (s x : EReal)
  v : ∀ (d : Fin 144) (x : ℕ) (h : 8192 * (i / 8) + x < 16384), x < 8192 → (D.vt (ix2 (vr hd d) ⟨8192 * (i / 8) + x, h⟩) : EReal) = V d x

/-- The tile's key block counted from the start of the sequence, and where the keys it has brought end. -/
def jl (k : Fin 73) : ℕ := ki k - 8 * (qi k / 8)
def en (k : Fin 73) (t : ℕ) : ℕ := if dg k = true then 1024 * (qi k % 8) + t + 1 else 1024 * (jl k + 1)

theorem jl_lt (k : Fin 73) : jl k < 8 ∧ 1024 * ki k = 8192 * (qi k / 8) + 1024 * jl k := by
  have h := ki_ge k
  unfold jl
  have h2 : ki k ≤ qi k := by
    cases e : dg k
    · exact (dg_false k e).le
    · exact (dg_true k e).le
  omega

variable {D} {hd : Fin 4} {s : ℕ → ℝ} {V : Fin 144 → ℕ → EReal}

theorem sg_at (k : Fin 73) {t : Fin 1024} (h : Qry D (qi k) hd t s V) (r : Fin 1024) : sg (tb D k) hd r t = (s (1024 * jl k + r.val) : EReal) := by
  have hj := jl_lt k
  have hk := ki_ge k
  rw [← h.s (1024 * jl k + r.val) (by omega) (by omega) (by omega)]
  unfold sg
  refine Finset.sum_congr rfl fun e _ => ?_
  have e1 : (tb D k).k (ix2 r (ln hd e)) = D.kt (ix2 ⟨8192 * (qi k / 8) + (1024 * jl k + r.val), by omega⟩ (ln hd e)) :=
    ld2_at (A := 16384) (B := 1024) (R := 1024) (W := 1024) (col (lit1 k)) 0 (inbK k) D.kt r (ln hd e) _ _ (by rw [col_ki]; simp only; omega) (Nat.zero_add _).symm
  have e2 : (tb D k).q (ix2 (ln hd e) t) = D.qt (ix2 (ln hd e) ⟨1024 * qi k + t.val, by omega⟩) :=
    ld2_at (A := 1024) (B := 16384) (R := 1024) (W := 1024) 0 (col (lit0 k)) (inbQ k) D.qt (ln hd e) t _ _ (Nat.zero_add _).symm (by rw [col_qi])
  rw [e1, e2]

theorem vv_at (k : Fin 73) (hk0 : k.val ≠ 0) {t : Fin 1024} (h : Qry D (qi (pv k)) hd t s V) (d : Fin 144) (r : Fin 1024) :
    ((tb D k).v (ix2 (vr hd d) r) : EReal) = V d (1024 * jl (pv k) + r.val) := by
  have hj := jl_lt (pv k)
  have hk := ki_ge (pv k)
  rw [← h.v d (1024 * jl (pv k) + r.val) (by omega) (by omega)]
  exact ld2_at (A := 576) (B := 16384) (R := 576) (W := 1024) 0 (col (lit2 k)) (inbV k) D.vt (vr hd d) r _ _ (Nat.zero_add _).symm
    (by rw [col_vi k hk0]; simp only; omega)

theorem en_le (k : Fin 73) (c : Fin 4) (u : Fin 256) :
    1024 * jl k < en k (cl c u).val ∧ en k (cl c u).val ≤ 1024 * jl k + rows (dg k) c := by
  have hcl : (cl c u).val = 256 * c.val + u.val := rfl
  unfold en jl
  cases e : dg k
  · rw [if_neg (by decide)]
    show _ ∧ _ ≤ _ + 1024
    omega
  · have h := dg_true k e
    rw [if_pos rfl]
    show _ ∧ _ ≤ _ + 256 * (c.val + 1)
    omega

theorem sm_at (k : Fin 73) (c : Fin 4) (u : Fin 256) (h : Qry D (qi k) hd (cl c u) s V) (r : Fin 1024) (hr : r.val < rows (dg k) c) :
    sm (tb D k) (dg k) hd r (cl c u) = if 1024 * jl k + r.val < en k (cl c u).val then (s (1024 * jl k + r.val) : EReal) else ⊥ := by
  unfold sm
  rw [sg_at k h]
  cases e : dg k
  · rw [if_neg (by simp), if_pos]
    unfold en
    rw [if_neg (by rw [e]; decide)]
    omega
  · have hd' := dg_true k e
    have hj : jl k = qi k % 8 := by unfold jl; omega
    unfold en
    rw [if_pos e, hj]
    by_cases h3 : (cl c u).val < r.val
    · rw [if_pos ⟨rfl, h3⟩, if_neg (by omega)]
    · rw [if_neg (by rintro ⟨_, h4⟩; exact h3 h4), if_pos (by omega)]

theorem xm_at (k : Fin 73) (c : Fin 4) (u : Fin 256) (h : Qry D (qi k) hd (cl c u) s V) :
    xm (tb D k) (dg k) hd c u = (Finset.Ico (1024 * jl k) (en k (cl c u).val)).sup fun x => (s x : EReal) := by
  have hl := en_le k c u
  refine sup_rows hl.2 _ (fun x => (s x : EReal)) (fun r hr => ?_) (fun r hr => ?_)
  · exact (sm_at k c u h (upr (dg k) c r) r.isLt).trans (if_pos hr)
  · exact (sm_at k c u h (upr (dg k) c r) r.isLt).trans (if_neg hr)

theorem stAt_pv (D : Arr Ideal) (k : Fin 73) (hk0 : k.val ≠ 0) :
    stAt D k.val = stT (tb D (pv k)) (ls (pv k)) (dg (pv k)) (pre (pv k) (stAt D (pv k).val)) := by
  have h := pv_val k hk0
  rw [← h, stAt, dif_pos (pv k).isLt]

theorem pre_s (k : Fin 73) (hk0 : k.val ≠ 0) (st : TS Ideal) : (pre k st).s = st.s ∧ (pre k st).x = st.x ∧ (pre k st).a = st.a := by
  unfold pre rst clr
  rw [if_neg hk0]
  cases fs k
  · exact ⟨rfl, rfl, rfl⟩
  · exact ⟨rfl, rfl, rfl⟩

theorem pre_m_false (k : Fin 73) (hk0 : k.val ≠ 0) (st : TS Ideal) (h : fs k = false) : (pre k st).m = st.m := by
  unfold pre rst clr
  rw [if_neg hk0, h]; rfl

theorem zM_at (i : S4x1x1024.Idx) : (zM (F := Ideal) i : EReal) = ⊥ := by
  unfold zM k0_pay690
  rw [shapeCast_same]
  rfl

theorem pre_m_true (k : Fin 73) (st : TS Ideal) (h : fs k = true) (i : S4x1x1024.Idx) : ((pre k st).m i : EReal) = ⊥ := by
  unfold pre rst
  rw [if_pos h]
  exact zM_at i

/-- What the scratch arrays hold of a query once trip `k` has added the tile of the trip before it. -/
def Done (k : Fin 73) (c : Fin 4) (u : Fin 256) (hd : Fin 4) (s : ℕ → ℝ) (V : Fin 144 → ℕ → EReal) (st : TS Ideal) : Prop :=
  (st.m (ix3 hd 0 (cl c u)) : EReal) = mx s (en (pv k) (cl c u).val)
  ∧ ∀ d, (st.a (ix3 hd d (cl c u)) : EReal) = ac s (V d) (en (pv k) (cl c u).val)

theorem done_of (k : Fin 73) (hk0 : k.val ≠ 0) (c : Fin 4) (u : Fin 256) (h : Qry D (qi (pv k)) hd (cl c u) s V) (st' : TS Ideal) (t' : Bool)
    (hst : Stp (tb D k) (ls k) t' hd c (pre k (stAt D k.val)) st')
    (hp : fs k = false → (stAt D k.val).m (ix3 hd 0 (cl c u)) = (mx s (1024 * jl (pv k)) : EReal)
      ∧ (∀ d, (stAt D k.val).a (ix3 hd d (cl c u)) = (ac s (V d) (1024 * jl (pv k)) : EReal)) ∧ 0 < jl (pv k)) :
    Done k c u hd s V st' := by
  have hl := en_le (pv k) c u
  have hT := T_on (tb D (pv k)) (ls (pv k)) (dg (pv k)) (pre (pv k) (stAt D (pv k).val)) c hd
  rw [← stAt_pv D k hk0] at hT
  obtain ⟨es, ex, ea⟩ := pre_s k hk0 (stAt D k.val)
  have hx : ((pre k (stAt D k.val)).x (ix3 hd 0 (cl c u)) : EReal)
      = (Finset.Ico (1024 * jl (pv k)) (en (pv k) (cl c u).val)).sup fun x => (s x : EReal) := by
    rw [ex, hT.x, xm_at (pv k) c u h]
  have hm : ((pre k (stAt D k.val)).m (ix3 hd 0 (cl c u)) : EReal) = ⊥ ∧ jl (pv k) = 0
      ∨ ((pre k (stAt D k.val)).m (ix3 hd 0 (cl c u)) : EReal) = mx s (1024 * jl (pv k)) ∧ fs k = false := by
    cases e : fs k
    · exact .inr ⟨by rw [pre_m_false k hk0 _ e, (hp e).1], rfl⟩
    · exact .inl ⟨pre_m_true k _ e _, by have := fs_true k hk0 e; unfold jl; omega⟩
  have hnm : nm (pre k (stAt D k.val)) hd c u = mx s (en (pv k) (cl c u).val) := by
    unfold nm
    rw [hx]
    rcases hm with ⟨hm, hj⟩ | ⟨hm, _⟩
    · rw [hm, hj]
      have := mx_step s (Nat.zero_le (en (pv k) (cl c u).val))
      rw [← this]
      rfl
    · rw [hm, mx_step s hl.1.le]
  have hen : 0 < en (pv k) (cl c u).val := by omega
  obtain ⟨q, hq⟩ := mx_real s hen
  have hsum : ∀ d, ∑ r : Fin (rows (ls k) c), ((tb D k).v (ix2 (vr hd d) (upr (ls k) c r)) : EReal)
        * Ideal.exp2 (((pre k (stAt D k.val)).s (ix3 hd (upr (ls k) c r) (cl c u)) : EReal) - mx s (en (pv k) (cl c u).val))
      = ∑ x ∈ Finset.Ico (1024 * jl (pv k)) (en (pv k) (cl c u).val), V d x * Ideal.exp2 ((s x : EReal) - mx s (en (pv k) (cl c u).val)) := by
    intro d
    rw [es]
    have hls := ls_dg k hk0
    have hr : ∀ r : Fin (rows (ls k) c), r.val < rows (dg (pv k)) c := fun r => by rw [← hls]; exact r.isLt
    have hss : ∀ r : Fin (rows (ls k) c), ((stAt D k.val).s (ix3 hd (upr (ls k) c r) (cl c u)) : EReal)
        = if 1024 * jl (pv k) + r.val < en (pv k) (cl c u).val then (s (1024 * jl (pv k) + r.val) : EReal) else ⊥ := fun r => by
      rw [hT.s _ u (hr r), sm_at (pv k) c u h _ (hr r)]; rfl
    refine sum_rows hl.1.le (by rw [hls]; exact hl.2) _ (fun x => V d x * Ideal.exp2 ((s x : EReal) - mx s (en (pv k) (cl c u).val)))
      (fun r hlt => ?_) (fun r hlt => ?_)
    · rw [hss, if_pos hlt, vv_at k hk0 h]; rfl
    · rw [hss, if_neg hlt, hq, show ((⊥ : EReal) - (q : EReal)) = ⊥ from rfl, Ideal.exp2_bot, mul_zero]
  refine ⟨by rw [hst.m, hnm], fun d => ?_⟩
  rw [hst.a, hnm, hsum, ea]
  rcases hm with ⟨hm, hj⟩ | ⟨hm, hf⟩
  · rw [hm, hj, Nat.mul_zero, ← Finset.range_eq_Ico]
    exact ac_first s (V d) hen _
  · obtain ⟨_, ha, hj⟩ := hp hf
    rw [hm, ha]
    exact ac_step s (V d) (by omega) hl.1.le

theorem en_false (k : Fin 73) (t : ℕ) (h : dg k = false) : en k t = 1024 * (jl k + 1) := by
  unfold en; rw [if_neg (by rw [h]; decide)]

/-- Before a trip that does not begin a block, the tiles so far are in. -/
theorem before (n : ℕ) : ∀ (k : Fin 73), k.val = n → k.val ≠ 0 → ∀ (c : Fin 4) (u : Fin 256), Qry D (qi (pv k)) hd (cl c u) s V → fs k = false →
    (stAt D k.val).m (ix3 hd 0 (cl c u)) = (mx s (1024 * jl (pv k)) : EReal)
      ∧ (∀ d, (stAt D k.val).a (ix3 hd d (cl c u)) = (ac s (V d) (1024 * jl (pv k)) : EReal)) ∧ 0 < jl (pv k) := by
  induction n with
  | zero => intro k h h0; exact absurd h h0
  | succ n ih =>
    intro k hkn hk0 c u h hf
    obtain ⟨hp0, hq, hkk, hdg⟩ := fs_false k hk0 hf
    have hv := pv_val k hk0
    have h' : Qry D (qi (pv (pv k))) hd (cl c u) s V := by rw [hq]; exact h
    have hT := T_on (tb D (pv k)) (ls (pv k)) (dg (pv k)) (pre (pv k) (stAt D (pv k).val)) c hd
    rw [← stAt_pv D k hk0] at hT
    have hd := done_of (pv k) hp0 c u h' _ _ hT (ih (pv k) (by omega) hp0 c u h')
    have hj : jl (pv k) = jl (pv (pv k)) + 1 := by
      have := ki_ge (pv (pv k))
      unfold jl; rw [← hq, ← hkk]; omega
    unfold Done at hd
    rw [en_false _ _ hdg, ← hj] at hd
    exact ⟨hd.1, hd.2, by omega⟩

/-- A block's last tile leaves each of its queries the maximum and the weighted sums of all the keys up to it. -/
theorem last_done (i : Fin 16) (c : Fin 4) (u : Fin 256) (h : Qry D i.val hd (cl c u) s V) (st' : TS Ideal) (t' : Bool)
    (hst : Stp (tb D (lt i.val)) true t' hd c (pre (lt i.val) (stAt D (lt i.val).val)) st') (d : Fin 144) :
    (st'.a (ix3 hd d (cl c u)) : EReal) = ac s (V d) (1024 * (i.val % 8) + (cl c u).val + 1) := by
  obtain ⟨h0, hl, hq⟩ := lt_facts i
  have h' : Qry D (qi (pv (lt i.val))) hd (cl c u) s V := by rw [hq]; exact h
  rw [← hl] at hst
  have hd := done_of (lt i.val) h0 c u h' st' t' hst (before _ (lt i.val) rfl h0 c u h')
  have hdg : dg (pv (lt i.val)) = true := by rw [← ls_dg _ h0]; exact hl
  have e : en (pv (lt i.val)) (cl c u).val = 1024 * (i.val % 8) + (cl c u).val + 1 := by
    unfold en; rw [if_pos hdg, hq]
  rw [hd.2 d, e]

end Cert.KernelIdeal.Attn

end
-- ==== Proof.Val.lean ====
module

public import proofs.«01_k».proof.Proof.Blk
public import proofs.«01_k».proof.Proof.Ring

@[expose] public section

/-! An element of the result the kernel leaves: a quotient of two weighted sums over the keys up to its query. -/

noncomputable section

namespace Cert.KernelIdeal.Attn

open Idealize.ShloMosaic Idealize.ShloMosaic.ValueIdx
open Cert.KernelIdeal Cert.KernelIdeal.Gen Cert.Online

theorem oO_in (hd : Fin 4) (st : TS Ideal) (o : Vec Ideal S1024x512 .bf16) (t : Fin 1024) (d : Fin 128) (j : Fin 512) (hj : j.val = 128 * hd.val + d.val) :
    (oO hd st o (ix2 t j) : EReal) = Ideal.div (st.a (ix3 hd ⟨d.val, by omega⟩ t)) (st.a (ix3 hd ⟨128, by decide⟩ t)) := by
  unfold oO
  have e : ix2 t j = (rO hd).emb (ix2 t d) := by
    refine (funext fun x => Fin.ext ?_)
    match x with
    | ⟨0, _⟩ => show t.val = 0 + 1 * t.val; omega
    | ⟨1, _⟩ => show j.val = 128 * hd.val + 1 * d.val; omega
  rw [e, Rect.overlay_emb, oOf_at]
  congr 1
  · exact ld3_at (A := 4) (B := 144) (C := 1024) (R := 144) (W := 1024) hd.val 0 0 _ st.a _ t hd _ t rfl (Nat.zero_add _).symm (Nat.zero_add _).symm
  · exact ld3_at (A := 4) (B := 144) (C := 1024) (R := 144) (W := 1024) hd.val 0 0 _ st.a _ t hd _ t rfl (Nat.zero_add _).symm (Nat.zero_add _).symm

theorem oO_out (hd : Fin 4) (st : TS Ideal) (o : Vec Ideal S1024x512 .bf16) (t : Fin 1024) (j : Fin 512)
    (hj : ¬ (128 * hd.val ≤ j.val ∧ j.val < 128 * hd.val + 128)) : oO hd st o (ix2 t j) = o (ix2 t j) := by
  unfold oO
  refine Rect.overlay_of_not_mem _ _ _ fun hm => ?_
  rw [rO, Rect.mem_set_unit] at hm
  exact hj (hm 1)

theorem oT_at (b : TB Ideal) (t' : Bool) (st : TS Ideal) (o : Vec Ideal S1024x512 .bf16) (t : Fin 1024) (d : Fin 128) :
    ∀ (hd : Fin 4) (j : Fin 512), j.val = 128 * hd.val + d.val →
    (oT b t' st o (ix2 t j) : EReal)
      = Ideal.div ((stU4 b true t' st hd).a (ix3 hd ⟨d.val, by omega⟩ t)) ((stU4 b true t' st hd).a (ix3 hd ⟨128, by decide⟩ t)) := by
  refine fin4 ?_ ?_ ?_ ?_
  · intro j hj
    have : j.val = 128 * 0 + d.val := hj
    unfold oT
    rw [oO_out 3 _ _ t j (by show ¬ (128 * 3 ≤ _ ∧ _); omega), oO_out 2 _ _ t j (by show ¬ (128 * 2 ≤ _ ∧ _); omega),
      oO_out 1 _ _ t j (by show ¬ (128 * 1 ≤ _ ∧ _); omega)]
    exact oO_in 0 _ _ t d j hj
  · intro j hj
    have : j.val = 128 * 1 + d.val := hj
    unfold oT
    rw [oO_out 3 _ _ t j (by show ¬ (128 * 3 ≤ _ ∧ _); omega), oO_out 2 _ _ t j (by show ¬ (128 * 2 ≤ _ ∧ _); omega)]
    exact oO_in 1 _ _ t d j hj
  · intro j hj
    have : j.val = 128 * 2 + d.val := hj
    unfold oT
    rw [oO_out 3 _ _ t j (by show ¬ (128 * 3 ≤ _ ∧ _); omega)]
    exact oO_in 2 _ _ t d j hj
  · intro j hj
    unfold oT
    exact oO_in 3 _ _ t d j hj

theorem outB_at (D : Arr Ideal) (i : Fin 16) (hd : Fin 4) (c : Fin 4) (u : Fin 256) {s : ℕ → ℝ} {V : Fin 144 → ℕ → EReal}
    (h : Qry D i.val hd (cl c u) s V) (d : Fin 128) (j : Fin 512) (hj : j.val = 128 * hd.val + d.val) :
    (outB D i.val (ix2 (cl c u) j) : EReal)
      = Ideal.div (ac s (V ⟨d.val, by omega⟩) (1024 * (i.val % 8) + (cl c u).val + 1)) (ac s (V ⟨128, by decide⟩) (1024 * (i.val % 8) + (cl c u).val + 1)) := by
  unfold outB
  rw [oT_at _ _ _ _ (cl c u) d hd j hj]
  have hU := U4_on (tb D (lt i.val)) true (dg (lt i.val)) (pre (lt i.val) (stAt D (lt i.val).val)) c hd
  rw [last_done i c u h _ _ hU, last_done i c u h _ _ hU]

/-- An element of the result, at a query and a column of a head. -/
theorem outA_at (D : Arr Ideal) (Q : Fin 16384) (hd : Fin 4) {s : ℕ → ℝ} {V : Fin 144 → ℕ → EReal}
    (h : Qry D (Q.val / 1024) hd ⟨Q.val % 1024, Nat.mod_lt _ (by decide)⟩ s V) (d : Fin 128) (j : Fin 512) (hj : j.val = 128 * hd.val + d.val) :
    (outA D (ix2 Q j) : EReal)
      = Ideal.div (ac s (V ⟨d.val, by omega⟩) (Q.val % 8192 + 1)) (ac s (V ⟨128, by decide⟩) (Q.val % 8192 + 1)) := by
  have hc : (⟨Q.val % 1024, Nat.mod_lt _ (by decide)⟩ : Fin 1024) = cl ⟨Q.val % 1024 / 256, by omega⟩ ⟨Q.val % 256, Nat.mod_lt _ (by decide)⟩ :=
    Fin.ext (show Q.val % 1024 = 256 * (Q.val % 1024 / 256) + Q.val % 256 by omega)
  rw [hc] at h
  have hB := outB_at D ⟨Q.val / 1024, by omega⟩ hd _ _ h d j hj
  have hn : 1024 * (Q.val / 1024 % 8) + (cl ⟨Q.val % 1024 / 256, by omega⟩ ⟨Q.val % 256, Nat.mod_lt _ (by decide)⟩).val + 1 = Q.val % 8192 + 1 := by
    show 1024 * (Q.val / 1024 % 8) + (256 * (Q.val % 1024 / 256) + Q.val % 256) + 1 = _
    omega
  rw [hn] at hB
  refine Eq.trans ?_ hB
  rw [← hc]
  refine congrArg (outB D (Q.val / 1024)) (funext fun x => ?_)
  match x with
  | ⟨0, _⟩ => rfl
  | ⟨1, _⟩ => rfl

end Cert.KernelIdeal.Attn

end
-- ==== Proof.HostVal.lean ====
module

public import proofs.«01_k».proof.Proof.Frame
public import proofs.«01_k».proof.Proof.Pay
public import Idealize.ShloMosaic.Lib.KernelVsHost
public import Idealize.ShloMosaic.Lib.IdealHost

@[expose] public section

/-! The arrays the kernel reads, from the layer's queries, keys and values. -/

noncomputable section

namespace Cert.KernelIdeal.Attn

open Idealize.ShloMosaic Idealize.ShloMosaic.Tactic Idealize.ShloMosaic.TcCoe Idealize.ShloMosaic.ValueIdx
open Cert.KernelIdeal Cert.KernelIdeal.Gen

section
variable {F : FTy → Type} [FloatOps F] [Named F]

/-- A head's columns padded with zeros, the heads side by side. -/
def padOf (x : Vec F S16384x4x192 .f32) : Vec F S16384x1024 .bf16 :=
  truncf .bf16 (shapeCast S16384x1024
    (pad S16384x4x256 ![0, 0, 0] ![0, 0, 64] ![0, 0, 0] x (sitofp .f32 (constantI S_ 32 0#32)) pads_S16384x4x192_S16384x4x256_000_000_0640 h_S_)
    shapeCasts_S16384x4x256_S16384x1024) bitsLt_bf16_f32
def sclOf : FVec F S_ .f32 :=
  Host.divf (constant S_ .f32 0x3F800000#32) (mulf (Host.log (constant S_ .f32 0x40000000#32)) (Host.sqrt (constant S_ .f32 0x43400000#32)))
def qtOf (q : Vec F S2x8192x4x192 .f32) : Vec F S1024x16384 .bf16 :=
  transpose S1024x16384 [1, 0] (padOf (mulf (shapeCast S16384x4x192 q shapeCasts_S2x8192x4x192_S16384x4x192)
    (broadcastInDim S16384x4x192 ![] bcast_S_S16384x4x192 sclOf))) transposes_S16384x1024_S1024x16384_1_0
def ktOf (k : Vec F S2x8192x4x192 .f32) : Vec F S16384x1024 .bf16 := padOf (shapeCast S16384x4x192 k shapeCasts_S2x8192x4x192_S16384x4x192)
def vtOf (v : Vec F S2x8192x4x128 .f32) : Vec F S576x16384 .bf16 :=
  transpose S576x16384 [1, 0] (truncf .bf16 (shapeCast S16384x576
    (concatenate S16384x4x144 2 [⟨S16384x4x128, shapeCast S16384x4x128 v shapeCasts_S2x8192x4x128_S16384x4x128⟩,
      ⟨S16384x4x16, broadcastInDim S16384x4x16 ![] bcast_S_S16384x4x16 (constant S_ .f32 0x3F800000#32)⟩] concatenates_S16384x4x128_S16384x4x16_S16384x4x144_d2)
    shapeCasts_S16384x4x144_S16384x576) bitsLt_bf16_f32) transposes_S16384x576_S576x16384_1_0

variable (m : (ℓ : Loc nD τ sig) → Buf (Elt F) ℓ)

theorem V_q (c : Dev nD) : V m c main_v10 = qtOf (m ((c.tc : Thread nD τ).loc main_arg0)) := by
  unfold_abbrev_sides
  simp only [hostOps0, hostOps0_1, hostOps0_2, hostOps0_3, hostOps0_4, List.flatten_cons, List.flatten_nil, List.append_nil, List.cons_append, List.nil_append]
  after_results
  chain_rfl

theorem V_k (c : Dev nD) : V m c main_v14 = ktOf (m ((c.tc : Thread nD τ).loc main_arg1)) := by
  unfold_abbrev_sides
  simp only [hostOps0, hostOps0_1, hostOps0_2, hostOps0_3, hostOps0_4, List.flatten_cons, List.flatten_nil, List.append_nil, List.cons_append, List.nil_append]
  after_results
  chain_rfl

theorem V_v (c : Dev nD) : V m c main_v20 = vtOf (m ((c.tc : Thread nD τ).loc main_arg2)) := by
  unfold_abbrev_sides
  simp only [hostOps0, hostOps0_1, hostOps0_2, hostOps0_3, hostOps0_4, List.flatten_cons, List.flatten_nil, List.append_nil, List.cons_append, List.nil_append]
  after_results
  chain_rfl
end

/-! ## At an index -/

theorem two_bits : Ideal.ofBits .f32 0x40000000#32 = ((2 : ℝ) : EReal) := by
  simp [Ideal.ofBits, Ideal.ieee, -EReal.coe_mul]; norm_num
theorem qk_bits : Ideal.ofBits .f32 0x43400000#32 = ((192 : ℝ) : EReal) := by
  simp [Ideal.ofBits, Ideal.ieee, -EReal.coe_mul]; norm_num

theorem scl_at (i : S_.Idx) : (sclOf (F := Ideal) i : EReal) = (((Real.log 2 * Real.sqrt 192)⁻¹ : ℝ) : EReal) := by
  show Ideal.div (Ideal.ofBits .f32 0x3F800000#32) (Ideal.log (Ideal.ofBits .f32 0x40000000#32) * Ideal.sqrt (Ideal.ofBits .f32 0x43400000#32)) = _
  rw [Ideal.ofBits_one_f32, two_bits, qk_bits, Ideal.log_coe, Ideal.sqrt_coe, if_neg (by norm_num), if_neg (by norm_num), ← EReal.coe_mul,
    Online.div_real _ (mul_pos (Real.log_pos (by norm_num)) (Real.sqrt_pos.mpr (by norm_num))), mul_one]

/-- A head's padded column. -/
theorem pad_in (x : Vec Ideal S16384x4x192 .f32) (Q : Fin 16384) (hd : Fin 4) (e : Fin 192) (j : Fin 1024) (hj : j.val = 256 * hd.val + e.val) :
    (padOf x (ix2 Q j) : EReal) = x (ix3 Q hd e) := by
  unfold padOf
  rw [truncf_at, shapeCast_apply _ shapeCasts_S16384x4x256_S16384x1024 (ix2 Q j) (ix3 Q hd ⟨e.val, by omega⟩) (by
    rw [Shape.rowMajor_val_two, Shape.rowMajor_val_three]
    show (Q.val * 4 + hd.val) * 256 + e.val = Q.val * 1024 + j.val
    omega)]
  refine pad_apply_of_inside _ _ _ _ _ _ _ _ _ fun a => ?_
  match a with
  | ⟨0, _⟩ => show Q.val = 0 + Q.val * (0 + 1); omega
  | ⟨1, _⟩ => show hd.val = 0 + hd.val * (0 + 1); omega
  | ⟨2, _⟩ => show e.val = 0 + e.val * (0 + 1); omega

theorem pad_out (x : Vec Ideal S16384x4x192 .f32) (Q : Fin 16384) (hd : Fin 4) (e : Fin 64) (j : Fin 1024) (hj : j.val = 256 * hd.val + (192 + e.val)) :
    (padOf x (ix2 Q j) : EReal) = 0 := by
  unfold padOf
  rw [truncf_at, shapeCast_apply _ shapeCasts_S16384x4x256_S16384x1024 (ix2 Q j) (ix3 Q hd ⟨192 + e.val, by omega⟩) (by
    rw [Shape.rowMajor_val_two, Shape.rowMajor_val_three]
    show (Q.val * 4 + hd.val) * 256 + (192 + e.val) = Q.val * 1024 + j.val
    omega), pad_apply_of_not_inside _ _ _ _ _ _ _ _ ⟨2, by decide⟩ (by
    intro h
    have h2 : (192 + e.val - 0) / (0 + 1) < 192 := h.2.2
    omega)]
  show ((((0#32 : BitVec 32).toInt : ℝ)) : EReal) = 0
  simp

theorem row_cast (x : Vec Ideal S2x8192x4x192 .f32) (Q : Fin 16384) (hd : Fin 4) (e : Fin 192) :
    shapeCast S16384x4x192 x shapeCasts_S2x8192x4x192_S16384x4x192 (ix3 Q hd e) = x (ix4 ⟨Q.val / 8192, by omega⟩ ⟨Q.val % 8192, by omega⟩ hd e) :=
  shapeCast_apply _ _ _ _ (by
    rw [Shape.rowMajor_val_three, Shape.rowMajor_val_four]
    show ((Q.val / 8192 * 8192 + Q.val % 8192) * 4 + hd.val) * 192 + e.val = (Q.val * 4 + hd.val) * 192 + e.val
    omega)

theorem kt_in (k : Vec Ideal S2x8192x4x192 .f32) (Q : Fin 16384) (hd : Fin 4) (e : Fin 192) (j : Fin 1024) (hj : j.val = 256 * hd.val + e.val) :
    (ktOf k (ix2 Q j) : EReal) = k (ix4 ⟨Q.val / 8192, by omega⟩ ⟨Q.val % 8192, by omega⟩ hd e) := by
  unfold ktOf
  rw [pad_in _ Q hd e j hj, row_cast]

theorem kt_out (k : Vec Ideal S2x8192x4x192 .f32) (Q : Fin 16384) (hd : Fin 4) (e : Fin 64) (j : Fin 1024) (hj : j.val = 256 * hd.val + (192 + e.val)) :
    (ktOf k (ix2 Q j) : EReal) = 0 := by
  unfold ktOf
  exact pad_out _ Q hd e j hj

theorem qt_in (q : Vec Ideal S2x8192x4x192 .f32) (Q : Fin 16384) (hd : Fin 4) (e : Fin 192) (j : Fin 1024) (hj : j.val = 256 * hd.val + e.val) :
    (qtOf q (ix2 j Q) : EReal)
      = (q (ix4 ⟨Q.val / 8192, by omega⟩ ⟨Q.val % 8192, by omega⟩ hd e) : EReal) * (((Real.log 2 * Real.sqrt 192)⁻¹ : ℝ) : EReal) := by
  unfold qtOf
  refine (transpose_ix2_apply (a := 16384) (b := 1024) _ transposes_S16384x1024_S1024x16384_1_0 j Q).trans ?_
  rw [pad_in _ Q hd e j hj]
  show (shapeCast S16384x4x192 q shapeCasts_S2x8192x4x192_S16384x4x192 (ix3 Q hd e) : EReal)
    * (broadcastInDim S16384x4x192 ![] bcast_S_S16384x4x192 (sclOf (F := Ideal)) (ix3 Q hd e) : EReal) = _
  rw [row_cast, broadcastInDim_scalar_apply, scl_at]

theorem vt_in (v : Vec Ideal S2x8192x4x128 .f32) (Q : Fin 16384) (hd : Fin 4) (d : Fin 128) (j : Fin 576) (hj : j.val = 144 * hd.val + d.val) :
    (vtOf v (ix2 j Q) : EReal) = v (ix4 ⟨Q.val / 8192, by omega⟩ ⟨Q.val % 8192, by omega⟩ hd d) := by
  unfold vtOf
  refine (transpose_ix2_apply (a := 16384) (b := 576) _ transposes_S16384x576_S576x16384_1_0 j Q).trans ?_
  rw [truncf_at, shapeCast_apply _ shapeCasts_S16384x4x144_S16384x576 (ix2 Q j) (ix3 Q hd ⟨d.val, by omega⟩) (by
    rw [Shape.rowMajor_val_two, Shape.rowMajor_val_three]
    show (Q.val * 4 + hd.val) * 144 + d.val = Q.val * 576 + j.val
    omega)]
  refine (concatenate_pair_apply_left (s₁ := S16384x4x128) (s₂ := S16384x4x16) (t := S16384x4x144) 2 _ _
    concatenates_S16384x4x128_S16384x4x16_S16384x4x144_d2 _ rfl (ix3 Q hd d) (fun a => ?_)).trans ?_
  · match a with
    | ⟨0, _⟩ => rfl
    | ⟨1, _⟩ => rfl
    | ⟨2, _⟩ => rfl
  · exact shapeCast_apply _ _ _ _ (by
      rw [Shape.rowMajor_val_three, Shape.rowMajor_val_four]
      show ((Q.val / 8192 * 8192 + Q.val % 8192) * 4 + hd.val) * 128 + d.val = (Q.val * 4 + hd.val) * 128 + d.val
      omega)

theorem vt_one (v : Vec Ideal S2x8192x4x128 .f32) (Q : Fin 16384) (hd : Fin 4) (j : Fin 576) (hj : j.val = 144 * hd.val + 128) :
    (vtOf v (ix2 j Q) : EReal) = 1 := by
  unfold vtOf
  refine (transpose_ix2_apply (a := 16384) (b := 576) _ transposes_S16384x576_S576x16384_1_0 j Q).trans ?_
  rw [truncf_at, shapeCast_apply _ shapeCasts_S16384x4x144_S16384x576 (ix2 Q j) (ix3 Q hd ⟨128, by decide⟩) (by
    rw [Shape.rowMajor_val_two, Shape.rowMajor_val_three]
    show (Q.val * 4 + hd.val) * 144 + 128 = Q.val * 576 + j.val
    omega)]
  refine (concatenate_pair_apply_right (s₁ := S16384x4x128) (s₂ := S16384x4x16) (t := S16384x4x144) 2 _ _
    concatenates_S16384x4x128_S16384x4x16_S16384x4x144_d2 _ rfl rfl (ix3 Q hd 0) (fun a ha => ?_) rfl).trans ?_
  · match a with
    | ⟨0, _⟩ => rfl
    | ⟨1, _⟩ => rfl
    | ⟨2, _⟩ => exact absurd rfl ha
  · rw [broadcastInDim_scalar_apply]
    exact Ideal.ofBits_one_f32

/-- The real score of a query and a key of a head: the scaled product of their columns. -/
def scr (q k : Vec Ideal S2x8192x4x192 .f32) (b : Fin 2) (n : Fin 8192) (hd : Fin 4) (x : ℕ) : ℝ :=
  if h : x < 8192 then (∑ e : Fin 192, (k (ix4 b ⟨x, h⟩ hd e) : EReal).toReal * (q (ix4 b n hd e) : EReal).toReal) * (Real.sqrt 192)⁻¹ else 0

/-- A finite array's elements are reals. -/
def IsReal (q : Vec Ideal S2x8192x4x192 .f32) : Prop := ∀ i, (((q i : EReal).toReal : ℝ) : EReal) = q i

theorem score_at (q k : Vec Ideal S2x8192x4x192 .f32) (hq : IsReal q) (hk : IsReal k) (Q : Fin 16384) (hd : Fin 4) (x : ℕ) (hx : x < 8192) (K : Fin 16384)
    (hK : K.val = 8192 * (Q.val / 8192) + x) :
    ∑ e : Fin 256, (ktOf k (ix2 K ⟨256 * hd.val + e.val, by omega⟩) : EReal) * (qtOf q (ix2 ⟨256 * hd.val + e.val, by omega⟩ Q) : EReal)
      = ((scr q k ⟨Q.val / 8192, by omega⟩ ⟨Q.val % 8192, by omega⟩ hd x * (Real.log 2)⁻¹ : ℝ) : EReal) := by
  rw [Fin.sum_univ_add (a := 192) (b := 64) (fun e : Fin 256 => (ktOf k (ix2 K ⟨256 * hd.val + e.val, by omega⟩) : EReal)
    * (qtOf q (ix2 ⟨256 * hd.val + e.val, by omega⟩ Q) : EReal)), Finset.sum_eq_zero (s := (Finset.univ : Finset (Fin 64))) (fun e _ => by
      rw [kt_out k K hd e _ rfl, zero_mul]), add_zero]
  have e1 : ∀ e : Fin 192, (ktOf k (ix2 K ⟨256 * hd.val + (Fin.castAdd 64 e).val, by omega⟩) : EReal)
      * (qtOf q (ix2 ⟨256 * hd.val + (Fin.castAdd 64 e).val, by omega⟩ Q) : EReal)
      = (((k (ix4 ⟨Q.val / 8192, by omega⟩ ⟨x, hx⟩ hd e) : EReal).toReal * (q (ix4 ⟨Q.val / 8192, by omega⟩ ⟨Q.val % 8192, by omega⟩ hd e) : EReal).toReal
        * (Real.log 2 * Real.sqrt 192)⁻¹ : ℝ) : EReal) := fun e => by
    rw [kt_in k K hd e _ rfl, qt_in q Q hd e _ rfl]
    have i1 : (ix4 (⟨K.val / 8192, by omega⟩ : Fin 2) (⟨K.val % 8192, by omega⟩ : Fin 8192) hd e : S2x8192x4x192.Idx) = ix4 ⟨Q.val / 8192, by omega⟩ ⟨x, hx⟩ hd e := by
      have a1 : (⟨K.val / 8192, by omega⟩ : Fin 2) = ⟨Q.val / 8192, by omega⟩ := Fin.ext (by simp only; omega)
      have a2 : (⟨K.val % 8192, by omega⟩ : Fin 8192) = ⟨x, hx⟩ := Fin.ext (by simp only; omega)
      rw [a1, a2]
    rw [i1, ← hk, ← hq, ← EReal.coe_mul, ← EReal.coe_mul, EReal.toReal_coe, EReal.toReal_coe]
    rw [mul_assoc]
  rw [Finset.sum_congr rfl fun e _ => e1 e, ← Online.coe_sum, ← Finset.sum_mul]
  unfold scr
  rw [dif_pos hx, mul_inv, mul_comm (Real.log 2)⁻¹, mul_assoc]

end Cert.KernelIdeal.Attn

end
-- ==== Proof.RefVal.lean ====
module

public import proofs.«01_k».proof.Proof.HostVal
public import proofs.«01_k».proof.Proof.Blk
public import proofs.«01_k».proof.Proof.Gen.ReferenceIdeal.Run

@[expose] public section

/-! The plain softmax attention at an index: the values up to the query, weighted. -/

noncomputable section

namespace Cert.ReferenceIdeal.Attn

open Idealize.ShloMosaic Idealize.ShloMosaic.TcCoe Idealize.ShloMosaic.ValueIdx
open Cert.ReferenceIdeal Cert.ReferenceIdeal.Gen Cert.Online
open Cert.KernelIdeal.Attn (scr IsReal neg_inf qk_bits truncf_at sle_small fold_max_sup sum_rows sup_rows)

/-! ## The stages -/

section
variable {F : FTy → Type} [FloatOps F]

def keep : IVec S2x4x8192x8192 1 :=
  broadcastInDim S2x4x8192x8192 ![0, 1, 2, 3] bcast_S1x1x8192x8192_S2x4x8192x8192_0_1_2_3 (broadcastInDim S1x1x8192x8192 ![2, 3] bcast_S8192x8192_S1x1x8192x8192_2_3
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))
def scaled (q k : FVec F S2x8192x4x192 .f32) : FVec F S2x4x8192x8192 .f32 :=
  mulf (Host.dotGeneral dot_S2x8192x4x192_S2x8192x4x192_S2x4x8192x8192_3_3_1_1_02_02 none q k)
    (broadcastInDim S2x4x8192x8192 ![] bcast_S_S2x4x8192x8192 (Host.divf (constant S_ .f32 0x3F800000#32) (Host.sqrt (constant S_ .f32 0x43400000#32))))
def score (q k : FVec F S2x8192x4x192 .f32) : FVec F S2x4x8192x8192 .f32 :=
  select keep (scaled q k) (broadcastInDim S2x4x8192x8192 ![] bcast_S_S2x4x8192x8192 (id (constant S_ .f32 0xFF800000#32)))
def big (x : FVec F S2x4x8192x8192 .f32) : FVec F S2x4x8192 .f32 :=
  maximumf (broadcastInDim S2x4x8192 ![] bcast_S_S2x4x8192 (constant S_ .f32 0xFF800000#32))
    (Host.reduce FloatOps.maximumf x (constant S_ .f32 0xFF800000#32) reducesTo_S2x4x8192x8192_S2x4x8192_d3 h_S_)
def spread (x : FVec F S2x4x8192 .f32) : FVec F S2x4x8192x8192 .f32 :=
  broadcastInDim S2x4x8192x8192 ![0, 1, 2, 3] bcast_S2x4x8192x1_S2x4x8192x8192_0_1_2_3 (broadcastInDim S2x4x8192x1 ![0, 1, 2] bcast_S2x4x8192_S2x4x8192x1_0_1_2 x)
def expo (x : FVec F S2x4x8192x8192 .f32) : FVec F S2x4x8192x8192 .f32 := Host.exp (subf x (spread (big x)))
def tot (x : FVec F S2x4x8192x8192 .f32) : FVec F S2x4x8192 .f32 :=
  Host.reduceAdd x (constant S_ .f32 0x00000000#32) reducesTo_S2x4x8192x8192_S2x4x8192_d3 h_S_
def prob (x : FVec F S2x4x8192x8192 .f32) : FVec F S2x4x8192x8192 .f32 := Host.divf (expo x) (spread (tot (expo x)))
def refOf (q k : FVec F S2x8192x4x192 .f32) (v : FVec F S2x8192x4x128 .f32) : FVec F S16384x512 .bf16 :=
  truncf .bf16 (shapeCast _ (transpose S2x8192x4x128 [0, 3, 1, 2]
    (Host.dotGeneral dot_S2x8192x4x128_S2x4x8192x8192_S2x4x128x8192_1_3_3_2_02_01 none v (prob (score q k)))
    transposes_S2x4x128x8192_S2x8192x4x128_0_3_1_2) shapeCasts_S2x8192x4x128_S16384x512) bitsLt_bf16_f32

theorem res_eq (m : (ℓ : Loc nD τ sig) → Buf (Elt F) ℓ) (c : Dev nD) :
    Value.res_main_v27 m c = refOf (m ((c.tc : Thread nD τ).loc main_arg0)) (m ((c.tc : Thread nD τ).loc main_arg1)) (m ((c.tc : Thread nD τ).loc main_arg2)) := by
  unfold Value.res_main_v27
  chain_rfl
end

/-! ## At an index -/

variable (b : Fin 2) (hd : Fin 4) (n x : Fin 8192)

theorem keep_at : keep (ix4 b hd n x) = BitVec.ofBool (decide (x.val ≤ n.val)) := by
  unfold keep
  rw [broadcastInDim_apply ![0, 1, 2, 3] bcast_S1x1x8192x8192_S2x4x8192x8192_0_1_2_3 _ (ix4 b hd n x) (ix4 0 0 n x) (fun a => by
      match a with
      | ⟨0, _⟩ => rfl
      | ⟨1, _⟩ => rfl
      | ⟨2, _⟩ => rfl
      | ⟨3, _⟩ => rfl),
    broadcastInDim_apply ![2, 3] bcast_S8192x8192_S1x1x8192x8192_2_3 _ (ix4 0 0 n x) (ix2 n x) (fun a => by
      match a with
      | ⟨0, _⟩ => rfl
      | ⟨1, _⟩ => rfl)]
  show IntOp.cmpi .sle (broadcastInDim S8192x8192 ![0, 1] bcast_S1x8192_S8192x8192_0_1 (broadcastInDim S1x8192 ![1] bcast_S8192_S1x8192_1 (iotaInDim S8192 32 0)) (ix2 n x))
    (broadcastInDim S8192x8192 ![0, 1] bcast_S8192x1_S8192x8192_0_1 (broadcastInDim S8192x1 ![0] bcast_S8192_S8192x1_0 (iotaInDim S8192 32 0)) (ix2 n x)) = _
  rw [broadcastInDim_apply ![0, 1] bcast_S1x8192_S8192x8192_0_1 _ (ix2 n x) (ix2 0 x) (fun a => by
      match a with
      | ⟨0, _⟩ => rfl
      | ⟨1, _⟩ => rfl),
    broadcastInDim_apply ![1] bcast_S8192_S1x8192_1 _ (ix2 0 x) (ix1 x) (fun a => by
      match a with
      | ⟨0, _⟩ => rfl),
    broadcastInDim_apply ![0, 1] bcast_S8192x1_S8192x8192_0_1 _ (ix2 n x) (ix2 n 0) (fun a => by
      match a with
      | ⟨0, _⟩ => rfl
      | ⟨1, _⟩ => rfl),
    broadcastInDim_apply ![0] bcast_S8192_S8192x1_0 _ (ix2 n 0) (ix1 n) (fun a => by
      match a with
      | ⟨0, _⟩ => rfl), iotaInDim_apply, iotaInDim_apply]
  exact sle_small (by have := x.isLt; show x.val < _; omega) (by have := n.isLt; show n.val < _; omega)

theorem qk_at (q k : FVec Ideal S2x8192x4x192 .f32) :
    (Host.dotGeneral dot_S2x8192x4x192_S2x8192x4x192_S2x4x8192x8192_3_3_1_1_02_02 none q k (ix4 b hd n x) : EReal)
      = ∑ e : Fin 192, (q (ix4 b n hd e) : EReal) * (k (ix4 b x hd e) : EReal) := by
  have hr : dot_S2x8192x4x192_S2x8192x4x192_S2x4x8192x8192_3_3_1_1_02_02.contr.rank = 1 := rfl
  have hs : dot_S2x8192x4x192_S2x8192x4x192_S2x4x8192x8192_3_3_1_1_02_02.contr.size ⟨0, by omega⟩ = 192 := rfl
  simp only [Host.dotGeneral]
  rw [Ideal.dotGeneral_apply, ← Equiv.sum_comp (contrEquiv1 _ 192 hr hs).symm]
  refine Finset.sum_congr rfl fun e _ => ?_
  have hk := contrEquiv1_symm_val _ 192 hr hs e
  congr 1
  · refine congrArg q (funext fun a => Fin.ext ?_)
    match a with
    | ⟨0, _⟩ => rfl
    | ⟨1, _⟩ => rfl
    | ⟨2, _⟩ => rfl
    | ⟨3, _⟩ => exact hk
  · refine congrArg k (funext fun a => Fin.ext ?_)
    match a with
    | ⟨0, _⟩ => rfl
    | ⟨1, _⟩ => rfl
    | ⟨2, _⟩ => rfl
    | ⟨3, _⟩ => exact hk

theorem pv_at (v : FVec Ideal S2x8192x4x128 .f32) (p : FVec Ideal S2x4x8192x8192 .f32) (d : Fin 128) :
    (Host.dotGeneral dot_S2x8192x4x128_S2x4x8192x8192_S2x4x128x8192_1_3_3_2_02_01 none v p (ix4 b hd d n) : EReal)
      = ∑ x : Fin 8192, (v (ix4 b x hd d) : EReal) * (p (ix4 b hd n x) : EReal) := by
  have hr : dot_S2x8192x4x128_S2x4x8192x8192_S2x4x128x8192_1_3_3_2_02_01.contr.rank = 1 := rfl
  have hs : dot_S2x8192x4x128_S2x4x8192x8192_S2x4x128x8192_1_3_3_2_02_01.contr.size ⟨0, by omega⟩ = 8192 := rfl
  simp only [Host.dotGeneral]
  rw [Ideal.dotGeneral_apply, ← Equiv.sum_comp (contrEquiv1 _ 8192 hr hs).symm]
  refine Finset.sum_congr rfl fun e _ => ?_
  have hk := contrEquiv1_symm_val _ 8192 hr hs e
  congr 1
  · refine congrArg v (funext fun a => Fin.ext ?_)
    match a with
    | ⟨0, _⟩ => rfl
    | ⟨1, _⟩ => exact hk
    | ⟨2, _⟩ => rfl
    | ⟨3, _⟩ => rfl
  · refine congrArg p (funext fun a => Fin.ext ?_)
    match a with
    | ⟨0, _⟩ => rfl
    | ⟨1, _⟩ => rfl
    | ⟨2, _⟩ => rfl
    | ⟨3, _⟩ => exact hk

theorem scaled_at (q k : FVec Ideal S2x8192x4x192 .f32) (hq : IsReal q) (hk : IsReal k) :
    (scaled q k (ix4 b hd n x) : EReal) = ((scr q k b n hd x.val : ℝ) : EReal) := by
  unfold scaled
  show (Host.dotGeneral dot_S2x8192x4x192_S2x8192x4x192_S2x4x8192x8192_3_3_1_1_02_02 none q k (ix4 b hd n x) : EReal)
    * (broadcastInDim S2x4x8192x8192 ![] bcast_S_S2x4x8192x8192 (Host.divf (F := Ideal) (constant S_ .f32 0x3F800000#32) (Host.sqrt (constant S_ .f32 0x43400000#32))) (ix4 b hd n x) : EReal) = _
  rw [broadcastInDim_scalar_apply, qk_at]
  have e : (Host.divf (F := Ideal) (constant S_ .f32 0x3F800000#32) (Host.sqrt (constant S_ .f32 0x43400000#32)) ix0 : EReal) = (((Real.sqrt 192)⁻¹ : ℝ) : EReal) := by
    show Ideal.div (Ideal.ofBits .f32 0x3F800000#32) (Ideal.sqrt (Ideal.ofBits .f32 0x43400000#32)) = _
    rw [Ideal.ofBits_one_f32, qk_bits, Ideal.sqrt_coe, if_neg (by norm_num), div_real _ (Real.sqrt_pos.mpr (by norm_num)), mul_one]
  rw [e]
  unfold scr
  rw [dif_pos x.isLt, EReal.coe_mul, coe_sum]
  refine congrArg (· * _) (Finset.sum_congr rfl fun i _ => ?_)
  rw [EReal.coe_mul, hk, hq, mul_comm]

theorem score_at (q k : FVec Ideal S2x8192x4x192 .f32) (hq : IsReal q) (hk : IsReal k) :
    (score q k (ix4 b hd n x) : EReal) = if 0 + x.val < n.val + 1 then ((scr q k b n hd (0 + x.val) : ℝ) : EReal) else ⊥ := by
  unfold score
  show Scalar.select (keep (ix4 b hd n x)) (scaled q k (ix4 b hd n x))
    (broadcastInDim S2x4x8192x8192 ![] bcast_S_S2x4x8192x8192 (id (constant (F := Ideal) S_ .f32 0xFF800000#32)) (ix4 b hd n x) : EReal) = _
  rw [keep_at, scaled_at b hd n x q k hq hk, broadcastInDim_scalar_apply, Nat.zero_add]
  by_cases h : x.val ≤ n.val
  · rw [if_pos (by omega), decide_eq_true h]; rfl
  · rw [if_neg (by omega), decide_eq_false h]; exact neg_inf

theorem red3 : S2x4x8192x8192.Reduces [3] S2x4x8192 := by decide

variable {b hd n} {z : FVec Ideal S2x4x8192x8192 .f32} {t : ℕ → ℝ}
  (hz : ∀ x : Fin 8192, (z (ix4 b hd n x) : EReal) = if 0 + x.val < n.val + 1 then ((t (0 + x.val) : ℝ) : EReal) else ⊥)
include hz

omit hz in
theorem lift3 (x : Fin 8192) : red3.lift (ix3 b hd n) x = ix4 b hd n x := by
  funext a; apply Fin.ext
  match a with
  | ⟨0, _⟩ => rfl
  | ⟨1, _⟩ => rfl
  | ⟨2, _⟩ => rfl
  | ⟨3, _⟩ => rfl

omit hz in
theorem spread_at (y : FVec Ideal S2x4x8192 .f32) (x : Fin 8192) : spread y (ix4 b hd n x) = y (ix3 b hd n) := by
  unfold spread
  rw [broadcastInDim_apply ![0, 1, 2, 3] bcast_S2x4x8192x1_S2x4x8192x8192_0_1_2_3 _ (ix4 b hd n x) (ix4 b hd n 0) (fun a => by
      match a with
      | ⟨0, _⟩ => rfl
      | ⟨1, _⟩ => rfl
      | ⟨2, _⟩ => rfl
      | ⟨3, _⟩ => rfl),
    broadcastInDim_apply ![0, 1, 2] bcast_S2x4x8192_S2x4x8192x1_0_1_2 _ (ix4 b hd n 0) (ix3 b hd n) (fun a => by
      match a with
      | ⟨0, _⟩ => rfl
      | ⟨1, _⟩ => rfl
      | ⟨2, _⟩ => rfl)]

omit hz in
theorem max_apply {s : Shape} (x y : FVec Ideal s .f32) (i : s.Idx) : (maximumf x y i : EReal) = max (x i : EReal) (y i : EReal) := rfl

theorem big_at : (big z (ix3 b hd n) : EReal) = mx t (n.val + 1) := by
  unfold big
  rw [max_apply, broadcastInDim_scalar_apply, show (constant (F := Ideal) S_ .f32 0xFF800000#32 ix0 : EReal) = ⊥ from neg_inf]
  refine (max_eq_right bot_le).trans ?_
  refine (congrFun (hostReduce_maximumf_eq_multiReduction z 0xFF800000#32 reducesTo_S2x4x8192x8192_S2x4x8192_d3 h_S_ red3 (.inl rfl) rfl) (ix3 b hd n)).trans ?_
  refine (Ideal.multiReduction_maximumf_single z _ red3 (.inl rfl) rfl (ix3 b hd n)).trans ?_
  rw [Cert.KernelIdeal.Attn.neutral_bot]
  refine (fold_max_sup _ _).trans ?_
  unfold mx
  rw [Finset.range_eq_Ico]
  refine sup_rows (R := 8192) (by have := n.isLt; omega) _ (fun i => ((t i : ℝ) : EReal)) (fun x hx => ?_) (fun x hx => ?_)
  · exact (congrArg z (lift3 x)).trans ((hz x).trans (if_pos hx))
  · exact (congrArg z (lift3 x)).trans ((hz x).trans (if_neg hx))

theorem expo_at {r : ℝ} (hr : mx t (n.val + 1) = (r : EReal)) (x : Fin 8192) :
    (expo z (ix4 b hd n x) : EReal) = if 0 + x.val < n.val + 1 then Ideal.exp (((t (0 + x.val) : ℝ) : EReal) - (r : EReal)) else 0 := by
  unfold expo
  show Ideal.exp ((z (ix4 b hd n x) : EReal) - (spread (big z) (ix4 b hd n x) : EReal)) = _
  rw [spread_at, big_at hz, hr, hz]
  by_cases h : 0 + x.val < n.val + 1
  · rw [if_pos h, if_pos h]
  · rw [if_neg h, if_neg h]; rfl

theorem tot_at {r : ℝ} (hr : mx t (n.val + 1) = (r : EReal)) :
    (tot (expo z) (ix3 b hd n) : EReal) = ∑ i ∈ Finset.range (n.val + 1), Ideal.exp (((t i : ℝ) : EReal) - (r : EReal)) := by
  unfold tot
  rw [hostReduceAdd_apply, Ideal.hostReduceAdd_single _ red3]
  rw [show (constant (F := Ideal) S_ .f32 0x00000000#32 (Shape.Idx.first h_S_) : EReal) = 0 from Ideal.ofBits_zero_f32, zero_add, Finset.range_eq_Ico]
  refine sum_rows (R := 8192) (Nat.zero_le _) (by have := n.isLt; omega) _ (fun i => Ideal.exp (((t i : ℝ) : EReal) - (r : EReal))) (fun x hx => ?_) (fun x hx => ?_)
  · exact (congrArg (expo z) (lift3 x)).trans ((expo_at hz hr x).trans (if_pos hx))
  · exact (congrArg (expo z) (lift3 x)).trans ((expo_at hz hr x).trans (if_neg hx))

theorem prob_at (x : Fin 8192) :
    (prob z (ix4 b hd n x) : EReal) = if 0 + x.val < n.val + 1 then ((wgt t (n.val + 1) (0 + x.val) : ℝ) : EReal) else 0 := by
  obtain ⟨r, hr⟩ := mx_real t (Nat.succ_pos n.val)
  unfold prob
  rw [hostDivf_apply, spread_at, tot_at hz hr, expo_at hz hr]
  by_cases h : 0 + x.val < n.val + 1
  · rw [if_pos h, if_pos h, ref_wgt t (Nat.succ_pos n.val)]
  · rw [if_neg h, if_neg h]
    have e : ∑ i ∈ Finset.range (n.val + 1), Ideal.exp (((t i : ℝ) : EReal) - (r : EReal)) = ((∑ i ∈ Finset.range (n.val + 1), Real.exp (t i - r) : ℝ) : EReal) := by
      rw [coe_sum]; exact Finset.sum_congr rfl fun i _ => by rw [← EReal.coe_sub, Ideal.exp_coe]
    rw [e, div_real _ (sum_exp_pos (fun i => t i - r) (Nat.succ_pos n.val)), mul_zero]

omit hz in
/-- The reference's result at a query and a column of a head. -/
theorem ref_at (q k : FVec Ideal S2x8192x4x192 .f32) (v : FVec Ideal S2x8192x4x128 .f32) (hq : IsReal q) (hk : IsReal k) (Q : Fin 16384) (hd : Fin 4)
    (d : Fin 128) (j : Fin 512) (hj : j.val = 128 * hd.val + d.val) (V : ℕ → EReal)
    (hV : ∀ x : Fin 8192, (v (ix4 ⟨Q.val / 8192, by omega⟩ x hd d) : EReal) = V x.val) :
    (refOf q k v (ix2 Q j) : EReal) = ∑ i ∈ Finset.range (Q.val % 8192 + 1),
      V i * ((wgt (scr q k ⟨Q.val / 8192, by omega⟩ ⟨Q.val % 8192, by omega⟩ hd) (Q.val % 8192 + 1) i : ℝ) : EReal) := by
  unfold refOf
  rw [truncf_at, shapeCast_apply _ shapeCasts_S2x8192x4x128_S16384x512 (ix2 Q j) (ix4 ⟨Q.val / 8192, by omega⟩ ⟨Q.val % 8192, by omega⟩ hd d) (by
      rw [Shape.rowMajor_val_two, Shape.rowMajor_val_four]
      show ((Q.val / 8192 * 8192 + Q.val % 8192) * 4 + hd.val) * 128 + d.val = Q.val * 512 + j.val
      omega),
    transpose_apply [0, 3, 1, 2] _ transposes_S2x4x128x8192_S2x8192x4x128_0_3_1_2 _ (ix4 ⟨Q.val / 8192, by omega⟩ hd d ⟨Q.val % 8192, by omega⟩) (fun a => by
      match a with
      | ⟨0, _⟩ => rfl
      | ⟨1, _⟩ => rfl
      | ⟨2, _⟩ => rfl
      | ⟨3, _⟩ => rfl), pv_at, Finset.range_eq_Ico]
  have hp := fun x => prob_at (b := ⟨Q.val / 8192, by omega⟩) (hd := hd) (n := ⟨Q.val % 8192, by omega⟩) (fun x => score_at _ _ _ x q k hq hk) x
  refine sum_rows (R := 8192) (Nat.zero_le _) (by omega) _
    (fun i => V i * ((wgt (scr q k ⟨Q.val / 8192, by omega⟩ ⟨Q.val % 8192, by omega⟩ hd) (Q.val % 8192 + 1) i : ℝ) : EReal)) (fun x hx => ?_) (fun x hx => ?_)
  · rw [hp x, if_pos hx, hV x, Nat.zero_add]
  · rw [hp x, if_neg hx, mul_zero]

end Cert.ReferenceIdeal.Attn

end
-- ==== Proof.Alg.lean ====
module

public import proofs.«01_k».proof.Defs
public import proofs.«01_k».proof.Proof.Val
public import proofs.«01_k».proof.Proof.RefVal
public import proofs.«01_k».proof.Proof.Run

@[expose] public section

/-! The kernel's result is the plain attention's, of finite queries and keys. -/

noncomputable section

namespace Cert.KernelIdeal.Attn

open Idealize.ShloMosaic Idealize.ShloMosaic.TcCoe Idealize.ShloMosaic.ValueIdx
open Cert.KernelIdeal Cert.KernelIdeal.Gen Cert.Online
open Cert.ReferenceIdeal.Attn (refOf ref_at)

/-! ## Finite arrays -/

theorem inf_bits : Ideal.ofBits .f32 0x7F800000#32 = (⊤ : EReal) := by simp [Ideal.ofBits, Ideal.ieee]

theorem real_of_abs {x : EReal} (h : Ideal.cmp .olt (max x (-x)) (Ideal.ofBits .f32 0x7F800000#32) = 1#1) : ((x.toReal : ℝ) : EReal) = x := by
  rw [inf_bits] at h
  have hl : max x (-x) < ⊤ := by
    by_contra hn
    have h0 : Ideal.cmp .olt (max x (-x)) ⊤ = BitVec.ofBool (decide (max x (-x) < ⊤)) := rfl
    rw [h0, decide_eq_false hn] at h
    exact absurd h (by decide)
  refine EReal.coe_toReal (fun ht => ?_) (fun hb => ?_)
  · rw [ht] at hl; exact absurd (lt_of_le_of_lt (le_max_left _ _) hl) (lt_irrefl _)
  · rw [hb] at hl; exact absurd (lt_of_le_of_lt (le_max_right _ _) hl) (by rw [EReal.neg_bot]; exact lt_irrefl _)

theorem facts_pre : Cert.Pre_finite_qk.Facts := ⟨by decide⟩

theorem finite_q [Cert.Pre_finite_qk.Facts] (q k : FVec Ideal S2x8192x4x192 .f32) (v : FVec Ideal S2x8192x4x128 .f32)
    (h : (Cert.Pre_finite_qk.fn (F := Ideal) q k v).1 = fun _ => 1#1) : IsReal q :=
  fun i => real_of_abs (congrFun h i)

theorem finite_k [Cert.Pre_finite_qk.Facts] (q k : FVec Ideal S2x8192x4x192 .f32) (v : FVec Ideal S2x8192x4x128 .f32)
    (h : (Cert.Pre_finite_qk.fn (F := Ideal) q k v).2 = fun _ => 1#1) : IsReal k :=
  fun i => real_of_abs (congrFun h i)

/-! ## An element -/

/-- The values of a head by key, with the row of ones. -/
def vals (v : Vec Ideal S2x8192x4x128 .f32) (Q : Fin 16384) (hd : Fin 4) (d : Fin 144) (x : ℕ) : EReal :=
  if d.val = 128 then 1 else if h : 8192 * (Q.val / 8192) + x < 16384 then vtOf v (ix2 (vr hd d) ⟨8192 * (Q.val / 8192) + x, h⟩) else 0

theorem vals_at (v : Vec Ideal S2x8192x4x128 .f32) (Q : Fin 16384) (hd : Fin 4) (d : Fin 128) (x : Fin 8192) :
    (v (ix4 ⟨Q.val / 8192, by omega⟩ x hd d) : EReal) = vals v Q hd ⟨d.val, by omega⟩ x.val := by
  have h : 8192 * (Q.val / 8192) + x.val < 16384 := by omega
  unfold vals
  rw [if_neg (show ¬ d.val = 128 by omega), dif_pos h, vt_in v ⟨8192 * (Q.val / 8192) + x.val, h⟩ hd d (vr hd ⟨d.val, by omega⟩) rfl]
  refine congrArg v (congrArg₂ (fun a b => ix4 a b hd d) (Fin.ext ?_) (Fin.ext ?_))
  · show Q.val / 8192 = (8192 * (Q.val / 8192) + x.val) / 8192; omega
  · show x.val = (8192 * (Q.val / 8192) + x.val) % 8192; omega

theorem vals_ones (v : Vec Ideal S2x8192x4x128 .f32) (Q : Fin 16384) (hd : Fin 4) : vals v Q hd ⟨128, by decide⟩ = fun _ => 1 :=
  funext fun _ => if_pos rfl

variable (D : Arr Ideal) (q k : Vec Ideal S2x8192x4x192 .f32) (v : Vec Ideal S2x8192x4x128 .f32)

theorem qry (eq : D.qt = qtOf q) (ek : D.kt = ktOf k) (ev : D.vt = vtOf v) (hq : IsReal q) (hk : IsReal k) (Q : Fin 16384) (hd : Fin 4) :
    Qry D (Q.val / 1024) hd ⟨Q.val % 1024, Nat.mod_lt _ (by decide)⟩
      (fun x => scr q k ⟨Q.val / 8192, by omega⟩ ⟨Q.val % 8192, by omega⟩ hd x * (Real.log 2)⁻¹) (vals v Q hd) where
  s := fun x h h' hx => by
    rw [ek, eq]
    have e : (⟨1024 * (Q.val / 1024) + Q.val % 1024, h'⟩ : Fin 16384) = Q := Fin.ext (show 1024 * (Q.val / 1024) + Q.val % 1024 = Q.val by omega)
    have hs := score_at q k hq hk Q hd x hx ⟨8192 * (Q.val / 1024 / 8) + x, h⟩
      (show 8192 * (Q.val / 1024 / 8) + x = 8192 * (Q.val / 8192) + x by omega)
    refine Eq.trans (Finset.sum_congr rfl fun e' _ => ?_) hs
    show ktOf k (ix2 _ (ln hd e')) * qtOf q (ix2 (ln hd e') ⟨1024 * (Q.val / 1024) + Q.val % 1024, h'⟩) = _
    rw [e]; rfl
  v := fun d x h hx => by
    rw [ev]
    have e : 8192 * (Q.val / 1024 / 8) + x = 8192 * (Q.val / 8192) + x := by omega
    unfold vals
    by_cases h1 : d.val = 128
    · rw [if_pos h1]
      exact vt_one v _ hd _ (by show 144 * hd.val + d.val = _; rw [h1])
    · rw [if_neg h1, dif_pos (e ▸ h)]
      congr 2
      exact Fin.ext e

theorem out_at (eq : D.qt = qtOf q) (ek : D.kt = ktOf k) (ev : D.vt = vtOf v) (hq : IsReal q) (hk : IsReal k) (Q : Fin 16384) (j : Fin 512) :
    (outA D (ix2 Q j) : EReal) = (refOf (F := Ideal) q k v (ix2 Q j) : EReal) := by
  have hd : j.val / 128 < 4 := by omega
  have dd : j.val % 128 < 128 := Nat.mod_lt _ (by decide)
  have hj : j.val = 128 * (⟨j.val / 128, hd⟩ : Fin 4).val + (⟨j.val % 128, dd⟩ : Fin 128).val := by
    show j.val = 128 * (j.val / 128) + j.val % 128; omega
  rw [outA_at D Q _ (qry D q k v eq ek ev hq hk Q _) _ j hj, vals_ones, quot _ _ _ (fun _ => rfl) (Nat.succ_pos _)]
  exact (ref_at q k v hq hk Q _ _ j hj _ (vals_at v Q _ _)).symm

theorem out_eq (eq : D.qt = qtOf q) (ek : D.kt = ktOf k) (ev : D.vt = vtOf v) (hq : IsReal q) (hk : IsReal k) : outA D = refOf (F := Ideal) q k v :=
  funext fun i => by
    rw [eq_ix2 i]
    exact out_at D q k v eq ek ev hq hk _ _

end Cert.KernelIdeal.Attn

namespace Cert.Proof

open Idealize.ShloMosaic Idealize.ShloMosaic.TcCoe
open Idealize.SL Idealize.SL.Sem
open Cert.KernelIdeal.Attn

theorem algebraic : Cert.algebraic_KernelIdeal_ReferenceIdeal_pre_finite_qk (hKernelIdeal := Cert.KernelIdeal.Gen.facts)
    (hReferenceIdeal := Cert.ReferenceIdeal.Gen.facts) (hPre_finite_qk := facts_pre) := fun m g m' g' hp ha =>
  ⟨fun c => outA (DA (F := Ideal) m c),
    (θ_run (Cert.KernelIdeal.defs (F := Ideal)) _ _).mono (fun _ h c => ⟨(h.1 c).2.2.2, (h.1 c).1, (h.1 c).2.1, (h.1 c).2.2.1⟩)
      (frame_all (F := Ideal) m g),
    (θ_run (Cert.ReferenceIdeal.defs (F := Ideal)) _ _).mono (fun _ h c => ⟨by
        refine (h c).1.trans ((Cert.ReferenceIdeal.Attn.res_eq (F := Ideal) m' c).trans ?_)
        rw [(ha c).1, (ha c).2.1, (ha c).2.2]
        exact (out_eq (DA (F := Ideal) m c) _ _ _ (V_q m c) (V_k m c) (V_v m c) (@finite_q facts_pre _ _ _ (hp c).1) (@finite_k facts_pre _ _ _ (hp c).2)).symm, (h c).2⟩)
      (Cert.ReferenceIdeal.Value.run (F := Ideal) m' g')⟩

end Cert.Proof

end
-- ==== Proof.Row.lean ====
module

public import proofs.«01_k».proof.Proof.Pay
public import Idealize.ShloMosaic.Lib.IdealHost

@[expose] public section

/-! A token's row through the output layer, over the extended reals. -/

noncomputable section

namespace Cert.Row

open Idealize.ShloMosaic

/-- A token's row: the gated attention output, the convolution's output, the residual and the side input. -/
structure Tok where
  y : Fin 512 → EReal
  yc : Fin 512 → EReal
  x : Fin 1024 → EReal
  p : Fin 256 → EReal

/-- The layer's weights. -/
structure Wts where
  g : Fin 512 → EReal
  wo : Fin 1024 → Fin 1024 → EReal
  gp : Fin 1024 → EReal
  wg : Fin 1024 → Fin 1024 → EReal
  wp : Fin 256 → Fin 1024 → EReal

/-- The small constant under the square root. -/
def eps : EReal := Ideal.ofBits .f32 0x358637BD#32

/-- The reciprocal root of the mean square, the mean taken by the factor `w`. -/
def scale {n : ℕ} (w : EReal) (z : Fin n → EReal) : EReal := Ideal.rsqrt ((∑ e, z e * z e) * w + eps)

def w512 : EReal := Ideal.ofBits .f32 0x3B000000#32
def w1024 : EReal := Ideal.ofBits .f32 0x3A800000#32

/-- The normed attention output beside the convolution's output. -/
def cat (T : Tok) (W : Wts) (e : Fin 1024) : EReal :=
  if h : e.val < 512 then T.y ⟨e.val, h⟩ * scale w512 T.y * W.g ⟨e.val, h⟩ else T.yc ⟨e.val - 512, by omega⟩

/-- The row after the output projection. -/
def mid (T : Tok) (W : Wts) (j : Fin 1024) : EReal := T.x j + ∑ e, cat T W e * W.wo e j

def nrm (T : Tok) (W : Wts) (e : Fin 1024) : EReal := mid T W e * scale w1024 (mid T W) * W.gp e

/-- The row after the gated side input. -/
def out (T : Tok) (W : Wts) (j : Fin 1024) : EReal :=
  mid T W j + Ideal.div 1 (1 + Ideal.exp (-(∑ e, nrm T W e * W.wg e j))) * ∑ e, T.p e * W.wp e j

/-! ## The means' factors -/

theorem w512_eq : w512 = (((512 : ℝ)⁻¹ : ℝ) : EReal) := by
  unfold w512
  simp [Ideal.ofBits, Ideal.ieee, -EReal.coe_mul]; norm_num
theorem w1024_eq : w1024 = (((1024 : ℝ)⁻¹ : ℝ) : EReal) := by
  unfold w1024
  simp [Ideal.ofBits, Ideal.ieee, -EReal.coe_mul]; norm_num
theorem b512 : Ideal.ofBits .f32 0x44000000#32 = ((512 : ℝ) : EReal) := by
  simp [Ideal.ofBits, Ideal.ieee, -EReal.coe_mul]; norm_num
theorem b1024 : Ideal.ofBits .f32 0x44800000#32 = ((1024 : ℝ) : EReal) := by
  simp [Ideal.ofBits, Ideal.ieee, -EReal.coe_mul]; norm_num

theorem div512 (x : EReal) : Ideal.div x (Ideal.ofBits .f32 0x44000000#32) = x * w512 := by
  rw [b512, w512_eq, Online.div_real _ (by norm_num), mul_comm]
theorem div1024 (x : EReal) : Ideal.div x (Ideal.ofBits .f32 0x44800000#32) = x * w1024 := by
  rw [b1024, w1024_eq, Online.div_real _ (by norm_num), mul_comm]

end Cert.Row

end
-- ==== Proof.OutPay.lean ====
module

public import proofs.«01_k».proof.Proof.Row
public import proofs.«01_k».proof.Proof.Unit
public import proofs.«01_k».proof.Proof.Gen.Kernel2Ideal.Value
public import Idealize.ShloMosaic.Lib.ValueLayoutCasts

@[expose] public section

/-! The output call's chunk of 256 rows, read at an element. -/

noncomputable section

namespace Cert.Kernel2Ideal.Out

open Idealize.ShloMosaic Idealize.ShloMosaic.ValueIdx
open Cert.Kernel2Ideal Cert.Kernel2Ideal.Gen
open Cert.KernelIdeal.Attn (shapeCast_same truncf_at)

section
variable {F : FTy → Type} [FloatOps F]
variable (o g : Vec F S256x512 .bf16) (ga : Vec F S1x512 .f32) (yc : Vec F S256x512 .bf16) (x : Vec F S256x1024 .f32) (wo : Vec F S1024x1024 .bf16)
  (gp : Vec F S1x1024 .f32) (wg : Vec F S1024x1024 .bf16) (p : Vec F S256x256 .f32) (wp : Vec F S256x1024 .bf16)

/-- The chunk after the output projection. -/
def c1 : FVec F S256x1024 .f32 := k0_pay2 o g ga yc x wo
/-- Its normed rows. -/
def cn : FVec F S256x1024 .bf16 := k0_pay6 (c1 o g ga yc x wo) gp
/-- The chunk of the result. -/
def c2 : FVec F S256x1024 .f32 := k0_pay7 (cn o g ga yc x wo gp) wg p wp (c1 o g ga yc x wo)

theorem pay5_eq : k0_pay5 o g ga yc x wo = c1 o g ga yc x wo := rfl
theorem pay8_eq : k0_pay8 o g ga yc x wo = c1 o g ga yc x wo := rfl
theorem pay15_eq : k0_pay15 (k0_pay13 o g) (k0_pay14 o g) ga yc x wo = c1 o g ga yc x wo := rfl
theorem pay4_eq (e : F .f32) (he : e = FloatOps.ofBits .f32 0x358637BD#32) : k0_pay4 (c1 o g ga yc x wo) (k0_pay3 o g ga yc x wo) e gp = cn o g ga yc x wo gp := by subst he; rfl
theorem pay11_eq : k0_pay11 (c1 o g ga yc x wo) (k0_pay9 o g ga yc x wo) k0_pay10 gp = cn o g ga yc x wo gp := rfl
theorem pay16_eq : k0_pay16 (k0_pay13 o g) (k0_pay14 o g) ga yc x wo gp = cn o g ga yc x wo gp := rfl
theorem pay12_eq (h : FVec F S256x1024 .bf16) (z : FVec F S256x1024 .f32) : k0_pay12 h wg p wp z = k0_pay7 h wg p wp z := rfl
theorem pay17_eq (h : FVec F S256x1024 .bf16) (z : FVec F S256x1024 .f32) : k0_pay17 h wg p wp z = k0_pay7 h wg p wp z := rfl
theorem pay1_eq (h : FVec F S256x1024 .bf16) (z : FVec F S256x1024 .f32) : k0_pay1 (k0_pay18 h wg) (k0_pay19 p) wp z = k0_pay7 h wg p wp z := rfl
end

/-! ## At an element -/

theorem bc_col {a b : ℕ} {α : Type} (v : (⟨2, ![a, 1]⟩ : Shape).Idx → α) (h : (⟨2, ![a, 1]⟩ : Shape).Broadcasts ⟨2, ![a, b]⟩) (r : Fin a) (j : Fin b)
    (ha : 1 < a) : broadcastTo ⟨2, ![a, b]⟩ v h (ix2 r j) = v (ix2 r 0) :=
  broadcastTo_apply v h _ _ (fun i => by
    match i with
    | ⟨0, _⟩ => exact (if_neg (by show ¬ a = 1; omega)).symm
    | ⟨1, _⟩ => rfl)

theorem sq512 (z : FVec Ideal S256x512 .f32) (r : Fin 256) :
    (rsqrt (addf (mulf (shapeCast S256x1 (multiReduction .add [1] S256 (mulf z z) 0x00000000#32 reduces_S256x512_S256 (.inl rfl) rfl) shapeCasts_S256_S256x1)
      (broadcast S256x1 (Scalar.ofBits .f32 0x3B000000#32))) (broadcast S256x1 (Scalar.ofBits .f32 0x358637BD#32))) (ix2 r 0) : EReal)
      = Row.scale Row.w512 (fun e => (z (ix2 r e) : EReal)) := by
  show Ideal.rsqrt ((shapeCast S256x1 (multiReduction .add [1] S256 (mulf z z) 0x00000000#32 reduces_S256x512_S256 (.inl rfl) rfl) shapeCasts_S256_S256x1 (ix2 r 0) : EReal)
    * Row.w512 + Row.eps) = _
  rw [shapeCast_a_a1_apply]
  unfold Row.scale
  refine congrArg (fun s => Ideal.rsqrt (s * Row.w512 + Row.eps)) ((Ideal.multiReduction_add_single (mulf z z) _ reduces_S256x512_S256 (.inl rfl) rfl (ix1 r)).trans
    (Finset.sum_congr rfl fun e _ => ?_))
  have hl : reduces_S256x512_S256.lift (ix1 r) e = ix2 r e := funext fun a => Fin.ext (by
    match a with
    | ⟨0, _⟩ => rfl
    | ⟨1, _⟩ => rfl)
  rw [hl]; rfl

theorem sq1024 (z : FVec Ideal S256x1024 .f32) (r : Fin 256) :
    (rsqrt (addf (mulf (shapeCast S256x1 (multiReduction .add [1] S256 (mulf z z) 0x00000000#32 reduces_S256x1024_S256 (.inl rfl) rfl) shapeCasts_S256_S256x1)
      (broadcast S256x1 (Scalar.ofBits .f32 0x3A800000#32))) (broadcast S256x1 (Scalar.ofBits .f32 0x358637BD#32))) (ix2 r 0) : EReal)
      = Row.scale Row.w1024 (fun e => (z (ix2 r e) : EReal)) := by
  show Ideal.rsqrt ((shapeCast S256x1 (multiReduction .add [1] S256 (mulf z z) 0x00000000#32 reduces_S256x1024_S256 (.inl rfl) rfl) shapeCasts_S256_S256x1 (ix2 r 0) : EReal)
    * Row.w1024 + Row.eps) = _
  rw [shapeCast_a_a1_apply]
  unfold Row.scale
  refine congrArg (fun s => Ideal.rsqrt (s * Row.w1024 + Row.eps)) ((Ideal.multiReduction_add_single (mulf z z) _ reduces_S256x1024_S256 (.inl rfl) rfl (ix1 r)).trans
    (Finset.sum_congr rfl fun e _ => ?_))
  have hl : reduces_S256x1024_S256.lift (ix1 r) e = ix2 r e := funext fun a => Fin.ext (by
    match a with
    | ⟨0, _⟩ => rfl
    | ⟨1, _⟩ => rfl)
  rw [hl]; rfl

theorem mm1024 (a : FVec Ideal S256x1024 .bf16) (b : FVec Ideal S1024x1024 .bf16) (r : Fin 256) (j : Fin 1024) :
    (matmul (F := Ideal) dot_S256x1024_S1024x1024_S256x1024_1_0_0_1_n_n none a b (constant S256x1024 .f32 0x00000000#32) (ix2 r j) : EReal)
      = ∑ e : Fin 1024, (a (ix2 r e) : EReal) * (b (ix2 e j) : EReal) := by
  refine (Ideal.matmul_plain_apply none a b _ r j).trans ?_
  show Ideal.ofBits .f32 0x00000000#32 + _ = _
  rw [Ideal.ofBits_zero_f32, zero_add]

theorem mm256 (a : FVec Ideal S256x256 .bf16) (b : FVec Ideal S256x1024 .bf16) (r : Fin 256) (j : Fin 1024) :
    (matmul (F := Ideal) dot_S256x256_S256x1024_S256x1024_1_0_0_1_n_n none a b (constant S256x1024 .f32 0x00000000#32) (ix2 r j) : EReal)
      = ∑ e : Fin 256, (a (ix2 r e) : EReal) * (b (ix2 e j) : EReal) := by
  refine (Ideal.matmul_plain_apply none a b _ r j).trans ?_
  show Ideal.ofBits .f32 0x00000000#32 + _ = _
  rw [Ideal.ofBits_zero_f32, zero_add]

variable (o g : Vec Ideal S256x512 .bf16) (ga : Vec Ideal S1x512 .f32) (yc : Vec Ideal S256x512 .bf16) (x : Vec Ideal S256x1024 .f32) (wo : Vec Ideal S1024x1024 .bf16)
  (gp : Vec Ideal S1x1024 .f32) (wg : Vec Ideal S1024x1024 .bf16) (p : Vec Ideal S256x256 .f32) (wp : Vec Ideal S256x1024 .bf16)

/-- A row of the chunk. -/
def tok (r : Fin 256) : Row.Tok where
  y := fun e => (o (ix2 r e) : EReal) * (g (ix2 r e) : EReal)
  yc := fun e => yc (ix2 r e)
  x := fun e => x (ix2 r e)
  p := fun e => p (ix2 r e)

def wts : Row.Wts where
  g := fun e => ga (ix2 0 e)
  wo := fun e j => wo (ix2 e j)
  gp := fun e => gp (ix2 0 e)
  wg := fun e j => wg (ix2 e j)
  wp := fun e j => wp (ix2 e j)

/-- The gated attention output of the chunk, and its norm beside the convolution's output. -/
def og : FVec Ideal S256x512 .f32 := mulf (extf .f32 (shapeCast S256x512 o shapeCasts_S256x512_S256x512) bitsLt_bf16_f32)
  (extf .f32 (shapeCast S256x512 g shapeCasts_S256x512_S256x512) bitsLt_bf16_f32)

def nn : FVec Ideal S256x512 .bf16 :=
  truncf .bf16 (mulf (mulf (og o g) (broadcastTo S256x512
    (rsqrt (addf (mulf (shapeCast S256x1 (multiReduction .add [1] S256 (mulf (og o g) (og o g)) 0x00000000#32 reduces_S256x512_S256 (.inl rfl) rfl) shapeCasts_S256_S256x1)
      (broadcast S256x1 (Scalar.ofBits .f32 0x3B000000#32))) (broadcast S256x1 (Scalar.ofBits .f32 0x358637BD#32)))) broadcasts_S256x1_S256x512))
    (broadcastTo S256x512 (shapeCast S1x512 ga shapeCasts_S1x512_S1x512) broadcasts_S1x512_S256x512)) bitsLt_bf16_f32

theorem og_at (r : Fin 256) (e : Fin 512) : (og o g (ix2 r e) : EReal) = (tok o g yc x p r).y e := by
  unfold og
  rw [shapeCast_same, shapeCast_same]; rfl

theorem nn_at (r : Fin 256) (e : Fin 512) :
    (nn o g ga (ix2 r e) : EReal) = (tok o g yc x p r).y e * Row.scale Row.w512 (tok o g yc x p r).y * (ga (ix2 0 e) : EReal) := by
  unfold nn
  rw [truncf_at]
  show (og o g (ix2 r e) : EReal) * (broadcastTo S256x512 _ broadcasts_S256x1_S256x512 (ix2 r e) : EReal)
    * (broadcastTo S256x512 (shapeCast S1x512 ga shapeCasts_S1x512_S1x512) broadcasts_S1x512_S256x512 (ix2 r e) : EReal) = _
  rw [bc_col _ _ r e (by decide), sq512, broadcastTo_1b_ab_apply, shapeCast_same, og_at o g yc x p]
  simp only [og_at o g yc x p]

def cc : FVec Ideal S256x1024 .bf16 :=
  concatenate S256x1024 1 [⟨S256x512, nn o g ga⟩, ⟨S256x512, shapeCast S256x512 yc shapeCasts_S256x512_S256x512⟩] concatenates_S256x512_S256x512_S256x1024_d1

theorem cc_at (r : Fin 256) (e : Fin 1024) : (cc o g ga yc (ix2 r e) : EReal) = Row.cat (tok o g yc x p r) (wts ga wo gp wg wp) e := by
  unfold cc Row.cat
  by_cases h : e.val < 512
  · rw [dif_pos h]
    refine (concatenate_pair_apply_left (s₁ := S256x512) (s₂ := S256x512) (t := S256x1024) 1 _ _
      concatenates_S256x512_S256x512_S256x1024_d1 _ rfl (ix2 r ⟨e.val, h⟩) (fun a => ?_)).trans (nn_at o g ga yc x p r ⟨e.val, h⟩)
    match a with
    | ⟨0, _⟩ => rfl
    | ⟨1, _⟩ => rfl
  · rw [dif_neg h]
    refine (concatenate_pair_apply_right (s₁ := S256x512) (s₂ := S256x512) (t := S256x1024) 1 _ _
      concatenates_S256x512_S256x512_S256x1024_d1 _ rfl rfl (ix2 r ⟨e.val - 512, by omega⟩) (fun a ha => ?_) ?_).trans ?_
    · match a with
      | ⟨0, _⟩ => rfl
      | ⟨1, _⟩ => exact absurd rfl ha
    · show e.val - 512 + 512 = e.val; omega
    · rw [shapeCast_same]; rfl

theorem c1_at (r : Fin 256) (j : Fin 1024) : (c1 o g ga yc x wo (ix2 r j) : EReal) = Row.mid (tok o g yc x p r) (wts ga wo gp wg wp) j := by
  unfold c1
  show (shapeCast S256x1024 x shapeCasts_S256x1024_S256x1024 (ix2 r j) : EReal)
    + (matmul (F := Ideal) dot_S256x1024_S1024x1024_S256x1024_1_0_0_1_n_n none (cc o g ga yc) (shapeCast S1024x1024 wo shapeCasts_S1024x1024_S1024x1024)
      (constant S256x1024 .f32 0x00000000#32) (ix2 r j) : EReal) = _
  rw [shapeCast_same, shapeCast_same, mm1024]
  unfold Row.mid
  refine congrArg ((x (ix2 r j) : EReal) + ·) (Finset.sum_congr rfl fun e _ => ?_)
  rw [cc_at o g ga yc x wo gp wg p wp]; rfl

theorem cn_at (r : Fin 256) (e : Fin 1024) : (cn o g ga yc x wo gp (ix2 r e) : EReal) = Row.nrm (tok o g yc x p r) (wts ga wo gp wg wp) e := by
  unfold cn k0_pay6
  rw [truncf_at]
  show (c1 o g ga yc x wo (ix2 r e) : EReal) * (broadcastTo S256x1024 _ broadcasts_S256x1_S256x1024 (ix2 r e) : EReal)
    * (broadcastTo S256x1024 (shapeCast S1x1024 gp shapeCasts_S1x1024_S1x1024) broadcasts_S1x1024_S256x1024 (ix2 r e) : EReal) = _
  rw [bc_col _ _ r e (by decide), sq1024, broadcastTo_1b_ab_apply, shapeCast_same]
  simp only [c1_at o g ga yc x wo gp wg p wp]
  rfl

theorem c2_at (r : Fin 256) (j : Fin 1024) : (c2 o g ga yc x wo gp wg p wp (ix2 r j) : EReal) = Row.out (tok o g yc x p r) (wts ga wo gp wg wp) j := by
  unfold c2
  show (shapeCast S256x1024 (c1 o g ga yc x wo) shapeCasts_S256x1024_S256x1024 (ix2 r j) : EReal)
    + Ideal.div (Ideal.ofBits .f32 0x3F800000#32) (Ideal.ofBits .f32 0x3F800000#32 + Ideal.exp (Ideal.ofBits .f32 0x00000000#32
      - (matmul (F := Ideal) dot_S256x1024_S1024x1024_S256x1024_1_0_0_1_n_n none (cn o g ga yc x wo gp) (shapeCast S1024x1024 wg shapeCasts_S1024x1024_S1024x1024)
      (constant S256x1024 .f32 0x00000000#32) (ix2 r j) : EReal)))
    * (matmul (F := Ideal) dot_S256x256_S256x1024_S256x1024_1_0_0_1_n_n none (truncf .bf16 (shapeCast S256x256 p shapeCasts_S256x256_S256x256) bitsLt_bf16_f32)
      (shapeCast S256x1024 wp shapeCasts_S256x1024_S256x1024) (constant S256x1024 .f32 0x00000000#32) (ix2 r j) : EReal) = _
  rw [shapeCast_same, shapeCast_same, shapeCast_same, shapeCast_same, mm1024, mm256, Ideal.ofBits_one_f32, Ideal.ofBits_zero_f32, zero_sub,
    c1_at o g ga yc x wo gp wg p wp]
  simp only [cn_at o g ga yc x wo gp wg p wp]
  rfl

end Cert.Kernel2Ideal.Out

end
-- ==== Proof.OutBlk.lean ====
module

public import proofs.«01_k».proof.Proof.OutPay
public import Idealize.ShloMosaic.Lib.Pipeline.ReadBack

@[expose] public section

/-! The output call's block of 1024 rows, read at an element. -/

noncomputable section

namespace Cert.Kernel2Ideal.Out

open Idealize.ShloMosaic Idealize.ShloMosaic.ValueIdx
open Cert.Kernel2Ideal Cert.Kernel2Ideal.Gen

theorem hz : (![0, 0] : Fin 2 → Nat) = fun _ => 0 := funext fun a => by fin_cases a <;> rfl

/-- A piece of 256 rows from row `k`: inside it, its value; outside, what was there. -/
theorem canon_in (k : ℕ) (inb : ∀ a, (![k, 0] : Fin 2 → ℕ) a + (![256, 1024] : Fin 2 → ℕ) a ≤ S1024x1024.size a)
    (w : Vec Ideal S256x1024 .f32) (L : List (View.Piece (Elt Ideal) S1024x1024 .f32)) (R : Fin 1024) (r : Fin 256) (j : Fin 1024) (h : R.val = k + r.val) :
    View.canon ((⟨Rect.unit ![k, 0] ![256, 1024] inb, w⟩ : View.Piece (Elt Ideal) S1024x1024 .f32) :: L) (ix2 R j) = w (ix2 r j) := by
  have e : (Rect.unit (s := S1024x1024) ![k, 0] ![256, 1024] inb).emb (ix2 r j) = ix2 R j := funext fun a => Fin.ext (by
    match a with
    | ⟨0, _⟩ => show k + 1 * r.val = R.val; omega
    | ⟨1, _⟩ => show 0 + 1 * j.val = j.val; omega)
  rw [← e]
  exact View.canon_cons_emb (Val := Elt Ideal) (Rect.unit (s := S1024x1024) ![k, 0] ![256, 1024] inb) w L (ix2 r j)

theorem canon_out (k : ℕ) (inb : ∀ a, (![k, 0] : Fin 2 → ℕ) a + (![256, 1024] : Fin 2 → ℕ) a ≤ S1024x1024.size a)
    (w : Vec Ideal S256x1024 .f32) (L : List (View.Piece (Elt Ideal) S1024x1024 .f32)) (R : Fin 1024) (j : Fin 1024) (h : R.val < k ∨ k + 256 ≤ R.val) :
    View.canon ((⟨Rect.unit ![k, 0] ![256, 1024] inb, w⟩ : View.Piece (Elt Ideal) S1024x1024 .f32) :: L) (ix2 R j) = View.canon L (ix2 R j) := by
  refine View.canon_cons_of_not_mem (Val := Elt Ideal) _ L fun hm => ?_
  rw [Rect.mem_set_unit] at hm
  have h0 : k ≤ R.val ∧ R.val < k + 256 := hm 0
  omega

variable (x0 x1 x2 : Vec Ideal S1024x512 .bf16) (x3 : Vec Ideal S1024x1024 .f32) (x4 : Vec Ideal S1024x256 .f32) (x5 : Vec Ideal S1x512 .f32)
  (x6 : Vec Ideal S1024x1024 .bf16) (x7 : Vec Ideal S1x1024 .f32) (x8 : Vec Ideal S1024x1024 .bf16) (x9 : Vec Ideal S256x1024 .bf16)

/-- A row of the block. -/
def btok (R : Fin 1024) : Row.Tok where
  y := fun e => (x0 (ix2 R e) : EReal) * (x1 (ix2 R e) : EReal)
  yc := fun e => x2 (ix2 R e)
  x := fun e => x3 (ix2 R e)
  p := fun e => x4 (ix2 R e)

/-- The chunk of 256 rows from row `k`. -/
def chunk (k : ℕ) (h5 : ∀ a, (![k, 0] : Fin 2 → ℕ) a + (![256, 512] : Fin 2 → ℕ) a ≤ S1024x512.size a)
    (h10 : ∀ a, (![k, 0] : Fin 2 → ℕ) a + (![256, 1024] : Fin 2 → ℕ) a ≤ S1024x1024.size a)
    (h2 : ∀ a, (![k, 0] : Fin 2 → ℕ) a + (![256, 256] : Fin 2 → ℕ) a ≤ S1024x256.size a) : Vec Ideal S256x1024 .f32 :=
  c2 (View.ld x0 (Rect.unit ![k, 0] ![256, 512] h5)) (View.ld x1 (Rect.unit ![k, 0] ![256, 512] h5)) x5 (View.ld x2 (Rect.unit ![k, 0] ![256, 512] h5))
    (View.ld x3 (Rect.unit ![k, 0] ![256, 1024] h10)) x6 x7 x8 (View.ld x4 (Rect.unit ![k, 0] ![256, 256] h2)) x9

theorem chunk_at (k : ℕ) (h5 h10 h2) (R : Fin 1024) (r : Fin 256) (j : Fin 1024) (h : R.val = k + r.val) :
    (chunk x0 x1 x2 x3 x4 x5 x6 x7 x8 x9 k h5 h10 h2 (ix2 r j) : EReal) = Row.out (btok x0 x1 x2 x3 x4 R) (wts x5 x6 x7 x8 x9) j := by
  unfold chunk
  rw [c2_at]
  refine congrArg (fun T => Row.out T (wts x5 x6 x7 x8 x9) j) ?_
  unfold tok btok
  congr 1
  · funext e
    exact congrArg₂ (fun a b : EReal => a * b) (KernelIdeal.Attn.ld2_at (A := 1024) (B := 512) (R := 256) (W := 512) k 0 h5 x0 r e R e h (Nat.zero_add _).symm)
      (KernelIdeal.Attn.ld2_at (A := 1024) (B := 512) (R := 256) (W := 512) k 0 h5 x1 r e R e h (Nat.zero_add _).symm)
  · funext e
    exact KernelIdeal.Attn.ld2_at (A := 1024) (B := 512) (R := 256) (W := 512) k 0 h5 x2 r e R e h (Nat.zero_add _).symm
  · funext e
    exact KernelIdeal.Attn.ld2_at (A := 1024) (B := 1024) (R := 256) (W := 1024) k 0 h10 x3 r e R e h (Nat.zero_add _).symm
  · funext e
    exact KernelIdeal.Attn.ld2_at (A := 1024) (B := 256) (R := 256) (W := 256) k 0 h2 x4 r e R e h (Nat.zero_add _).symm

variable (c : Dev nD) (i : grid0.Coords) (arg1 : Memref sig .tc .vmem S1024x512 .bf16) (harg1 : arg1.IsWhole) (arg2 : Memref sig .tc .vmem S1024x512 .bf16) (harg2 : arg2.IsWhole)
  (arg3 : Memref sig .tc .vmem S1024x512 .bf16) (harg3 : arg3.IsWhole) (arg4 : Memref sig .tc .vmem S1024x1024 .f32) (harg4 : arg4.IsWhole)
  (arg5 : Memref sig .tc .vmem S1024x256 .f32) (harg5 : arg5.IsWhole) (arg6 : Memref sig .tc .vmem S1x512 .f32) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1024x1024 .bf16) (harg9 : arg9.IsWhole) (arg10 : Memref sig .tc .vmem S256x1024 .bf16) (harg10 : arg10.IsWhole)
  (arg11 : Memref sig .tc .vmem S1024x1024 .f32) (harg11 : arg11.IsWhole)

theorem pieces : ∃ w1 w2 w3 w4 : Vec Ideal S256x1024 .f32,
    (kernelRun0_A (F := Ideal) c i arg1 harg1 arg2 harg2 arg3 harg3 arg4 harg4 arg5 harg5 arg6 harg6 arg7 harg7 arg8 harg8 arg9 harg9 arg10 harg10 arg11 harg11
      x0 x1 x2 x3 x4 x5 x6 x7 x8 x9).1 =
    [⟨Rect.unit ![768, 0] ![256, 1024] inb_S1024x1024_S256x1024_768_0, chunk x0 x1 x2 x3 x4 x5 x6 x7 x8 x9 768 inb_S1024x512_S256x512_768_0 inb_S1024x1024_S256x1024_768_0 inb_S1024x256_S256x256_768_0⟩,
     ⟨Rect.unit ![512, 0] ![256, 1024] inb_S1024x1024_S256x1024_512_0, chunk x0 x1 x2 x3 x4 x5 x6 x7 x8 x9 512 inb_S1024x512_S256x512_512_0 inb_S1024x1024_S256x1024_512_0 inb_S1024x256_S256x256_512_0⟩,
     ⟨Rect.unit ![768, 0] ![256, 1024] inb_S1024x1024_S256x1024_768_0, w1⟩,
     ⟨Rect.unit ![256, 0] ![256, 1024] inb_S1024x1024_S256x1024_256_0, chunk x0 x1 x2 x3 x4 x5 x6 x7 x8 x9 256 inb_S1024x512_S256x512_256_0 inb_S1024x1024_S256x1024_256_0 inb_S1024x256_S256x256_256_0⟩,
     ⟨Rect.unit ![512, 0] ![256, 1024] inb_S1024x1024_S256x1024_512_0, w2⟩,
     ⟨Rect.unit ![0, 0] ![256, 1024] inb_S1024x1024_S256x1024_0_0, chunk x0 x1 x2 x3 x4 x5 x6 x7 x8 x9 0 inb_S1024x512_S256x512_0_0 inb_S1024x1024_S256x1024_0_0 inb_S1024x256_S256x256_0_0⟩,
     ⟨Rect.unit ![256, 0] ![256, 1024] inb_S1024x1024_S256x1024_256_0, w3⟩,
     ⟨Rect.unit ![0, 0] ![256, 1024] inb_S1024x1024_S256x1024_0_0, w4⟩] := by
  unfold kernelRun0_A
  dsimp only
  sl_unfold_words
  simp only [View.readAt_eq_ld, harg1.read_unread, harg2.read_unread, harg3.read_unread, harg4.read_unread, harg5.read_unread, harg6.read_unread, harg7.read_unread,
    harg8.read_unread, harg9.read_unread, harg10.read_unread, View.ld_unit_zero (S := S1x512) hz, View.ld_unit_zero (S := S1024x1024) hz,
    View.ld_unit_zero (S := S1x1024) hz, View.ld_unit_zero (S := S256x1024) hz]
  simp (decide := true) only [↓View.readCov_skip, ↓View.readCov_cons_toLoadRect]
  simp only [pay5_eq, pay8_eq, pay15_eq, pay11_eq, pay16_eq, pay12_eq, pay17_eq, pay1_eq]
  exact ⟨_, _, _, _, rfl⟩

/-- The block the call leaves, at a row and a column. -/
theorem blk_at (R j : Fin 1024) :
    (out0_A_10 (F := Ideal) c i arg1 harg1 arg2 harg2 arg3 harg3 arg4 harg4 arg5 harg5 arg6 harg6 arg7 harg7 arg8 harg8 arg9 harg9 arg10 harg10 arg11 harg11
      x0 x1 x2 x3 x4 x5 x6 x7 x8 x9 (ix2 R j) : EReal) = Row.out (btok x0 x1 x2 x3 x4 R) (wts x5 x6 x7 x8 x9) j := by
  unfold out0_A_10
  obtain ⟨w1, w2, w3, w4, hL⟩ := pieces x0 x1 x2 x3 x4 x5 x6 x7 x8 x9 c i arg1 harg1 arg2 harg2 arg3 harg3 arg4 harg4 arg5 harg5 arg6 harg6 arg7 harg7 arg8 harg8
    arg9 harg9 arg10 harg10 arg11 harg11
  rw [hL, View.read_writes_junk_eq_canon]
  by_cases h3 : 768 ≤ R.val
  · rw [canon_in 768 _ _ _ R ⟨R.val - 768, by omega⟩ j (by show R.val = 768 + (R.val - 768); omega)]
    exact chunk_at x0 x1 x2 x3 x4 x5 x6 x7 x8 x9 768 _ _ _ R _ j (by show R.val = 768 + (R.val - 768); omega)
  rw [canon_out 768 _ _ _ R j (by omega)]
  by_cases h2 : 512 ≤ R.val
  · rw [canon_in 512 _ _ _ R ⟨R.val - 512, by omega⟩ j (by show R.val = 512 + (R.val - 512); omega)]
    exact chunk_at x0 x1 x2 x3 x4 x5 x6 x7 x8 x9 512 _ _ _ R _ j (by show R.val = 512 + (R.val - 512); omega)
  rw [canon_out 512 _ _ _ R j (by omega), canon_out 768 _ _ _ R j (by omega)]
  by_cases h1 : 256 ≤ R.val
  · rw [canon_in 256 _ _ _ R ⟨R.val - 256, by omega⟩ j (by show R.val = 256 + (R.val - 256); omega)]
    exact chunk_at x0 x1 x2 x3 x4 x5 x6 x7 x8 x9 256 _ _ _ R _ j (by show R.val = 256 + (R.val - 256); omega)
  rw [canon_out 256 _ _ _ R j (by omega), canon_out 512 _ _ _ R j (by omega), canon_in 0 _ _ _ R ⟨R.val, by omega⟩ j (by show R.val = 0 + R.val; omega)]
  exact chunk_at x0 x1 x2 x3 x4 x5 x6 x7 x8 x9 0 _ _ _ R _ j (by show R.val = 0 + R.val; omega)

end Cert.Kernel2Ideal.Out

end
-- ==== Proof.OutVal.lean ====
module

public import proofs.«01_k».proof.Proof.OutBlk
public import proofs.«01_k».proof.Proof.HostVal
public import proofs.«01_k».proof.Proof.Gen.Kernel2Ideal.Value

@[expose] public section

/-! The output call's result at an element, from the program's arguments. -/

noncomputable section

namespace Cert.Kernel2Ideal.Out

open Idealize.ShloMosaic Idealize.ShloMosaic.Tactic Idealize.ShloMosaic.TcCoe Idealize.ShloMosaic.ValueIdx
open Cert.Kernel2Ideal Cert.Kernel2Ideal.Gen
open Cert.KernelIdeal.Attn (truncf_at)

section
variable {F : FTy → Type} [FloatOps F]

/-- The gate. -/
def silu (z : Vec F S2x8192x512 .f32) : Vec F S2x8192x512 .f32 :=
  mulf z (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf z))))
def rows512 (x : Vec F S2x8192x512 .f32) : Vec F S16384x512 .bf16 := truncf .bf16 (shapeCast S16384x512 x shapeCasts_S2x8192x512_S16384x512) bitsLt_bf16_f32

variable (m : (ℓ : Loc nD τ sig) → Buf (Elt F) ℓ) (c : Dev nD)

theorem V_o : V m c main_v1 = rows512 (m ((c.tc : Thread nD τ).loc main_arg0)) := by
  unfold_abbrev_sides
  simp only [hostOps0, hostOps0_1, hostOps0_2, List.flatten_cons, List.flatten_nil, List.append_nil, List.cons_append, List.nil_append]
  after_results
  chain_rfl
theorem V_g : V m c main_v4 = rows512 (silu (m ((c.tc : Thread nD τ).loc main_arg1))) := by
  unfold_abbrev_sides
  simp only [hostOps0, hostOps0_1, hostOps0_2, List.flatten_cons, List.flatten_nil, List.append_nil, List.cons_append, List.nil_append]
  after_results
  chain_rfl
theorem V_yc : V m c main_v6 = rows512 (m ((c.tc : Thread nD τ).loc main_arg2)) := by
  unfold_abbrev_sides
  simp only [hostOps0, hostOps0_1, hostOps0_2, List.flatten_cons, List.flatten_nil, List.append_nil, List.cons_append, List.nil_append]
  after_results
  chain_rfl
theorem V_x : V m c main_v7 = shapeCast S16384x1024 (m ((c.tc : Thread nD τ).loc main_arg3)) shapeCasts_S2x8192x1024_S16384x1024 := by
  unfold_abbrev_sides
  simp only [hostOps0, hostOps0_1, hostOps0_2, List.flatten_cons, List.flatten_nil, List.append_nil, List.cons_append, List.nil_append]
  after_results
  chain_rfl
theorem V_p : V m c main_v8 = shapeCast S16384x256 (m ((c.tc : Thread nD τ).loc main_arg4)) shapeCasts_S2x8192x256_S16384x256 := by
  unfold_abbrev_sides
  simp only [hostOps0, hostOps0_1, hostOps0_2, List.flatten_cons, List.flatten_nil, List.append_nil, List.cons_append, List.nil_append]
  after_results
  chain_rfl
theorem V_ga : V m c main_v9 = shapeCast S1x512 (m ((c.tc : Thread nD τ).loc main_arg5)) shapeCasts_S512_S1x512 := by
  unfold_abbrev_sides
  simp only [hostOps0, hostOps0_1, hostOps0_2, List.flatten_cons, List.flatten_nil, List.append_nil, List.cons_append, List.nil_append]
  after_results
  chain_rfl
theorem V_wo : V m c main_v10 = truncf .bf16 (m ((c.tc : Thread nD τ).loc main_arg6)) bitsLt_bf16_f32 := by
  unfold_abbrev_sides
  simp only [hostOps0, hostOps0_1, hostOps0_2, List.flatten_cons, List.flatten_nil, List.append_nil, List.cons_append, List.nil_append]
  after_results
theorem V_gp : V m c main_v11 = shapeCast S1x1024 (m ((c.tc : Thread nD τ).loc main_arg7)) shapeCasts_S1024_S1x1024 := by
  unfold_abbrev_sides
  simp only [hostOps0, hostOps0_1, hostOps0_2, List.flatten_cons, List.flatten_nil, List.append_nil, List.cons_append, List.nil_append]
  after_results
  chain_rfl
theorem V_wg : V m c main_v12 = truncf .bf16 (m ((c.tc : Thread nD τ).loc main_arg8)) bitsLt_bf16_f32 := by
  unfold_abbrev_sides
  simp only [hostOps0, hostOps0_1, hostOps0_2, List.flatten_cons, List.flatten_nil, List.append_nil, List.cons_append, List.nil_append]
  after_results
theorem V_wp : V m c main_v13 = truncf .bf16 (m ((c.tc : Thread nD τ).loc main_arg9)) bitsLt_bf16_f32 := by
  unfold_abbrev_sides
  simp only [hostOps0, hostOps0_1, hostOps0_2, List.flatten_cons, List.flatten_nil, List.append_nil, List.cons_append, List.nil_append]
  after_results

/-! ## Blocks of rows -/

theorem tN (t : Fin cfg0.N) : t.val < 16 := t.isLt

/-- The row of the whole arrays that a block's row is. -/
def grow (t : Fin cfg0.N) (R : Fin 1024) : Fin 16384 := ⟨1024 * t.val + R.val, by have := tN t; omega⟩

theorem in0 (t : Fin cfg0.N) (R : Fin 1024) (e : Fin 512) : iblk m c 0 t (ix2 R e) = V m c main_v1 (ix2 (grow t R) e) := by
  show V m c main_v1 (((cfg0.win 0).rect t).emb (ix2 R e)) = _
  refine congrArg (V m c main_v1) (funext fun a => Fin.ext ?_)
  rw [Pipeline.Window.rect_emb_val (cfg0.win 0) t (ix2 R e) a]
  have i0 : ∀ t : Fin grid0.N, cc0_transform_0 (grid0.coords t) 0 = t.val ∧ cc0_transform_0 (grid0.coords t) 1 = 0 := by decide +kernel
  match a with
  | ⟨0, _⟩ => show cc0_transform_0 (grid0.coords t) 0 * 1024 + R.val = 1024 * t.val + R.val; rw [(i0 t).1]; omega
  | ⟨1, _⟩ => show cc0_transform_0 (grid0.coords t) 1 * 512 + e.val = e.val; rw [(i0 t).2]; omega
theorem in1 (t : Fin cfg0.N) (R : Fin 1024) (e : Fin 512) : iblk m c 1 t (ix2 R e) = V m c main_v4 (ix2 (grow t R) e) := by
  show V m c main_v4 (((cfg0.win 1).rect t).emb (ix2 R e)) = _
  refine congrArg (V m c main_v4) (funext fun a => Fin.ext ?_)
  rw [Pipeline.Window.rect_emb_val (cfg0.win 1) t (ix2 R e) a]
  have i0 : ∀ t : Fin grid0.N, cc0_transform_1 (grid0.coords t) 0 = t.val ∧ cc0_transform_1 (grid0.coords t) 1 = 0 := by decide +kernel
  match a with
  | ⟨0, _⟩ => show cc0_transform_1 (grid0.coords t) 0 * 1024 + R.val = 1024 * t.val + R.val; rw [(i0 t).1]; omega
  | ⟨1, _⟩ => show cc0_transform_1 (grid0.coords t) 1 * 512 + e.val = e.val; rw [(i0 t).2]; omega
theorem in2 (t : Fin cfg0.N) (R : Fin 1024) (e : Fin 512) : iblk m c 2 t (ix2 R e) = V m c main_v6 (ix2 (grow t R) e) := by
  show V m c main_v6 (((cfg0.win 2).rect t).emb (ix2 R e)) = _
  refine congrArg (V m c main_v6) (funext fun a => Fin.ext ?_)
  rw [Pipeline.Window.rect_emb_val (cfg0.win 2) t (ix2 R e) a]
  have i0 : ∀ t : Fin grid0.N, cc0_transform_2 (grid0.coords t) 0 = t.val ∧ cc0_transform_2 (grid0.coords t) 1 = 0 := by decide +kernel
  match a with
  | ⟨0, _⟩ => show cc0_transform_2 (grid0.coords t) 0 * 1024 + R.val = 1024 * t.val + R.val; rw [(i0 t).1]; omega
  | ⟨1, _⟩ => show cc0_transform_2 (grid0.coords t) 1 * 512 + e.val = e.val; rw [(i0 t).2]; omega
theorem in3 (t : Fin cfg0.N) (R : Fin 1024) (e : Fin 1024) : iblk m c 3 t (ix2 R e) = V m c main_v7 (ix2 (grow t R) e) := by
  show V m c main_v7 (((cfg0.win 3).rect t).emb (ix2 R e)) = _
  refine congrArg (V m c main_v7) (funext fun a => Fin.ext ?_)
  rw [Pipeline.Window.rect_emb_val (cfg0.win 3) t (ix2 R e) a]
  have i0 : ∀ t : Fin grid0.N, cc0_transform_3 (grid0.coords t) 0 = t.val ∧ cc0_transform_3 (grid0.coords t) 1 = 0 := by decide +kernel
  match a with
  | ⟨0, _⟩ => show cc0_transform_3 (grid0.coords t) 0 * 1024 + R.val = 1024 * t.val + R.val; rw [(i0 t).1]; omega
  | ⟨1, _⟩ => show cc0_transform_3 (grid0.coords t) 1 * 1024 + e.val = e.val; rw [(i0 t).2]; omega
theorem in4 (t : Fin cfg0.N) (R : Fin 1024) (e : Fin 256) : iblk m c 4 t (ix2 R e) = V m c main_v8 (ix2 (grow t R) e) := by
  show V m c main_v8 (((cfg0.win 4).rect t).emb (ix2 R e)) = _
  refine congrArg (V m c main_v8) (funext fun a => Fin.ext ?_)
  rw [Pipeline.Window.rect_emb_val (cfg0.win 4) t (ix2 R e) a]
  have i0 : ∀ t : Fin grid0.N, cc0_transform_4 (grid0.coords t) 0 = t.val ∧ cc0_transform_4 (grid0.coords t) 1 = 0 := by decide +kernel
  match a with
  | ⟨0, _⟩ => show cc0_transform_4 (grid0.coords t) 0 * 1024 + R.val = 1024 * t.val + R.val; rw [(i0 t).1]; omega
  | ⟨1, _⟩ => show cc0_transform_4 (grid0.coords t) 1 * 256 + e.val = e.val; rw [(i0 t).2]; omega
theorem in5 (t : Fin cfg0.N) : iblk m c 5 t = V m c main_v9 := by
  have i0 : ∀ t : Fin grid0.N, cc0_transform_5 (grid0.coords t) 0 = 0 ∧ cc0_transform_5 (grid0.coords t) 1 = 0 := by decide +kernel
  funext q
  show V m c main_v9 (((cfg0.win 5).rect t).emb q) = _
  refine congrArg (V m c main_v9) (funext fun a => Fin.ext ?_)
  exact Pipeline.Window.rect_emb_val_of_index_zero (cfg0.win 5) t a (match a with | ⟨0, _⟩ => (i0 t).1 | ⟨1, _⟩ => (i0 t).2) q
theorem in6 (t : Fin cfg0.N) : iblk m c 6 t = V m c main_v10 := by
  have i0 : ∀ t : Fin grid0.N, cc0_transform_6 (grid0.coords t) 0 = 0 ∧ cc0_transform_6 (grid0.coords t) 1 = 0 := by decide +kernel
  funext q
  show V m c main_v10 (((cfg0.win 6).rect t).emb q) = _
  refine congrArg (V m c main_v10) (funext fun a => Fin.ext ?_)
  exact Pipeline.Window.rect_emb_val_of_index_zero (cfg0.win 6) t a (match a with | ⟨0, _⟩ => (i0 t).1 | ⟨1, _⟩ => (i0 t).2) q
theorem in7 (t : Fin cfg0.N) : iblk m c 7 t = V m c main_v11 := by
  have i0 : ∀ t : Fin grid0.N, cc0_transform_7 (grid0.coords t) 0 = 0 ∧ cc0_transform_7 (grid0.coords t) 1 = 0 := by decide +kernel
  funext q
  show V m c main_v11 (((cfg0.win 7).rect t).emb q) = _
  refine congrArg (V m c main_v11) (funext fun a => Fin.ext ?_)
  exact Pipeline.Window.rect_emb_val_of_index_zero (cfg0.win 7) t a (match a with | ⟨0, _⟩ => (i0 t).1 | ⟨1, _⟩ => (i0 t).2) q
theorem in8 (t : Fin cfg0.N) : iblk m c 8 t = V m c main_v12 := by
  have i0 : ∀ t : Fin grid0.N, cc0_transform_8 (grid0.coords t) 0 = 0 ∧ cc0_transform_8 (grid0.coords t) 1 = 0 := by decide +kernel
  funext q
  show V m c main_v12 (((cfg0.win 8).rect t).emb q) = _
  refine congrArg (V m c main_v12) (funext fun a => Fin.ext ?_)
  exact Pipeline.Window.rect_emb_val_of_index_zero (cfg0.win 8) t a (match a with | ⟨0, _⟩ => (i0 t).1 | ⟨1, _⟩ => (i0 t).2) q
theorem in9 (t : Fin cfg0.N) : iblk m c 9 t = V m c main_v13 := by
  have i0 : ∀ t : Fin grid0.N, cc0_transform_9 (grid0.coords t) 0 = 0 ∧ cc0_transform_9 (grid0.coords t) 1 = 0 := by decide +kernel
  funext q
  show V m c main_v13 (((cfg0.win 9).rect t).emb q) = _
  refine congrArg (V m c main_v13) (funext fun a => Fin.ext ?_)
  exact Pipeline.Window.rect_emb_val_of_index_zero (cfg0.win 9) t a (match a with | ⟨0, _⟩ => (i0 t).1 | ⟨1, _⟩ => (i0 t).2) q
end

/-! ## The rows of the arguments -/

/-- The batch and the position of a row. -/
def bat (Q : Fin 16384) : Fin 2 := ⟨Q.val / 8192, by omega⟩
def pos (Q : Fin 16384) : Fin 8192 := ⟨Q.val % 8192, by omega⟩

theorem flat {α : Type} (n : ℕ) (s t : Shape) (hs : s = ⟨3, ![2, 8192, n]⟩) (ht : t = ⟨2, ![16384, n]⟩) (x : s.Idx → α) (h : s.ShapeCasts t) (Q : Fin 16384) (e : Fin n) :
    shapeCast t x h (ht ▸ ix2 Q e) = x (hs ▸ ix3 (bat Q) (pos Q) e) := by
  subst hs; subst ht
  refine shapeCast_apply x h (ix2 Q e) (ix3 (bat Q) (pos Q) e) ?_
  rw [Shape.rowMajor_val_two, Shape.rowMajor_val_three]
  show (Q.val / 8192 * 8192 + Q.val % 8192) * n + e.val = Q.val * n + e.val
  rw [Nat.div_add_mod' Q.val 8192]

theorem flat512 (x : Vec Ideal S2x8192x512 .f32) (Q : Fin 16384) (e : Fin 512) :
    (shapeCast S16384x512 x shapeCasts_S2x8192x512_S16384x512 (ix2 Q e) : EReal) = x (ix3 (bat Q) (pos Q) e) := flat 512 _ _ rfl rfl x _ Q e
theorem flat1024 (x : Vec Ideal S2x8192x1024 .f32) (Q : Fin 16384) (e : Fin 1024) :
    (shapeCast S16384x1024 x shapeCasts_S2x8192x1024_S16384x1024 (ix2 Q e) : EReal) = x (ix3 (bat Q) (pos Q) e) := flat 1024 _ _ rfl rfl x _ Q e
theorem flat256 (x : Vec Ideal S2x8192x256 .f32) (Q : Fin 16384) (e : Fin 256) :
    (shapeCast S16384x256 x shapeCasts_S2x8192x256_S16384x256 (ix2 Q e) : EReal) = x (ix3 (bat Q) (pos Q) e) := flat 256 _ _ rfl rfl x _ Q e
theorem row512 (x : Vec Ideal S512 .f32) (e : Fin 512) : (shapeCast S1x512 x shapeCasts_S512_S1x512 (ix2 0 e) : EReal) = x (ix1 e) :=
  shapeCast_apply x _ _ _ (by
    rw [Shape.rowMajor_val_two, Shape.rowMajor_val_one]
    show e.val = 0 * 512 + e.val; omega)
theorem row1024 (x : Vec Ideal S1024 .f32) (e : Fin 1024) : (shapeCast S1x1024 x shapeCasts_S1024_S1x1024 (ix2 0 e) : EReal) = x (ix1 e) :=
  shapeCast_apply x _ _ _ (by
    rw [Shape.rowMajor_val_two, Shape.rowMajor_val_one]
    show e.val = 0 * 1024 + e.val; omega)

/-- The gate of a number. -/
def sil (z : EReal) : EReal := z * Ideal.div (Ideal.ofBits .f32 0x3F800000#32) (Ideal.ofBits .f32 0x3F800000#32 + Ideal.exp (-z))

theorem silu_at (z : Vec Ideal S2x8192x512 .f32) (i : S2x8192x512.Idx) : (silu (F := Ideal) z i : EReal) = sil (z i) := rfl

section
variable (o z yc : Vec Ideal S2x8192x512 .f32) (x : Vec Ideal S2x8192x1024 .f32) (p : Vec Ideal S2x8192x256 .f32)
variable (ga : Vec Ideal S512 .f32) (wo : Vec Ideal S1024x1024 .f32) (gp : Vec Ideal S1024 .f32) (wg : Vec Ideal S1024x1024 .f32) (wp : Vec Ideal S256x1024 .f32)

/-- A token's row of the arguments. -/
def gtok (b : Fin 2) (n : Fin 8192) : Row.Tok where
  y := fun e => (o (ix3 b n e) : EReal) * sil (z (ix3 b n e))
  yc := fun e => yc (ix3 b n e)
  x := fun e => x (ix3 b n e)
  p := fun e => p (ix3 b n e)

def gwts : Row.Wts where
  g := fun e => ga (ix1 e)
  wo := fun e j => wo (ix2 e j)
  gp := fun e => gp (ix1 e)
  wg := fun e j => wg (ix2 e j)
  wp := fun e j => wp (ix2 e j)
end

variable (m : (ℓ : Loc nD τ sig) → Buf (Elt Ideal) ℓ) (c : Dev nD)

theorem tok_at (t : Fin cfg0.N) (R : Fin 1024) :
    btok (iblk m c 0 t) (iblk m c 1 t) (iblk m c 2 t) (iblk m c 3 t) (iblk m c 4 t) R
      = gtok (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (bat (grow t R)) (pos (grow t R)) := by
  unfold btok gtok
  congr 1
  · funext e
    rw [in0, in1, V_o, V_g]
    unfold rows512
    rw [truncf_at, truncf_at, flat512, flat512, silu_at]
  · funext e
    rw [in2, V_yc]
    unfold rows512
    rw [truncf_at, flat512]
  · funext e
    rw [in3, V_x, flat1024]
  · funext e
    rw [in4, V_p, flat256]

theorem wts_at (t : Fin cfg0.N) :
    wts (iblk m c 5 t) (iblk m c 6 t) (iblk m c 7 t) (iblk m c 8 t) (iblk m c 9 t)
      = gwts (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  rw [in5, in6, in7, in8, in9, V_ga, V_wo, V_gp, V_wg, V_wp]
  unfold wts gwts
  congr 1
  · funext e
    rw [row512]
  · funext e
    rw [row1024]

/-- The call's result at a row and a column. -/
theorem res_at (Q : Fin 16384) (j : Fin 1024) :
    ((dats m 0 c).arrAt 10 cfg0.N (ix2 Q j) : EReal)
      = Row.out (gtok (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (bat Q) (pos Q))
        (gwts (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))) j := by
  have ht : Q.val / 1024 < cfg0.N := by show Q.val / 1024 < 16; omega
  have hR : Q.val % 1024 < 1024 := Nat.mod_lt _ (by decide)
  have hQ : grow ⟨Q.val / 1024, ht⟩ ⟨Q.val % 1024, hR⟩ = Q := Fin.ext (by show 1024 * (Q.val / 1024) + Q.val % 1024 = Q.val; omega)
  have i0 : ∀ t : Fin grid0.N, cc0_transform_10 (grid0.coords t) 0 = t.val ∧ cc0_transform_10 (grid0.coords t) 1 = 0 := by decide +kernel
  have hemb : ((cfg0.win 10).rect ⟨Q.val / 1024, ht⟩).emb (ix2 ⟨Q.val % 1024, hR⟩ j) = ix2 Q j := funext fun a => Fin.ext (by
    rw [Pipeline.Window.rect_emb_val (cfg0.win 10) _ (ix2 ⟨Q.val % 1024, hR⟩ j) a]
    match a with
    | ⟨0, _⟩ => show cc0_transform_10 (grid0.coords ⟨Q.val / 1024, ht⟩) 0 * 1024 + Q.val % 1024 = Q.val; rw [(i0 _).1]; show Q.val / 1024 * 1024 + _ = _; omega
    | ⟨1, _⟩ => show cc0_transform_10 (grid0.coords ⟨Q.val / 1024, ht⟩) 1 * 1024 + j.val = j.val; rw [(i0 _).2]; omega)
  have hb := (Value.blocks10 m c ⟨Q.val / 1024, ht⟩ (flush0_10 _)).trans (Value.flushed10_A m c ⟨Q.val / 1024, ht⟩)
  have h1 := congrFun hb (ix2 ⟨Q.val % 1024, hR⟩ j)
  have h2 : (dats m 0 c).arrAt 10 cfg0.N (((cfg0.win 10).rect ⟨Q.val / 1024, ht⟩).emb (ix2 ⟨Q.val % 1024, hR⟩ j)) = _ := h1
  rw [hemb] at h2
  refine h2.trans ?_
  refine (blk_at _ _ _ _ _ _ _ _ _ _ _ _ _ _ _ _ _ _ _ _ _ _ _ _ _ _ _ _ _ _ _ _ _ _ ⟨Q.val % 1024, hR⟩ j).trans ?_
  rw [tok_at, wts_at, hQ]

end Cert.Kernel2Ideal.Out

end
-- ==== Proof.RefVal2.lean ====
module

public import proofs.«01_k».proof.Proof.OutVal
public import proofs.«01_k».proof.Proof.RefVal
public import proofs.«01_k».proof.Proof.Gen.Reference2Ideal.Run

@[expose] public section

/-! The plain output layer at an index. -/

noncomputable section

namespace Cert.Reference2Ideal.Out

open Idealize.ShloMosaic Idealize.ShloMosaic.TcCoe Idealize.ShloMosaic.ValueIdx Idealize.ShloMosaic.Tactic
open Cert.Reference2Ideal Cert.Reference2Ideal.Gen
open Cert.Kernel2Ideal.Out (sil gtok gwts bat pos flat)

/-! ## The stages -/

section
variable {F : FTy → Type} [FloatOps F]

def gated (o z : FVec F S2x8192x512 .f32) : FVec F S2x8192x512 .f32 :=
  mulf o (mulf z (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf z)))))
def nrm512 (y : FVec F S2x8192x512 .f32) (g : FVec F S512 .f32) : FVec F S2x8192x512 .f32 :=
  mulf (mulf y (broadcastInDim S2x8192x512 ![0, 1, 2] bcast_S2x8192x1_S2x8192x512_0_1_2 (Host.rsqrt (addf
    (Host.divf (broadcastInDim S2x8192x1 ![0, 1] bcast_S2x8192_S2x8192x1_0_1 (Host.reduceAdd (mulf y y) (constant S_ .f32 0x00000000#32) reducesTo_S2x8192x512_S2x8192_d2 h_S_))
      (broadcastInDim S2x8192x1 ![] bcast_S_S2x8192x1 (constant S_ .f32 0x44000000#32)))
    (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 g))
def nrm1024 (y : FVec F S2x8192x1024 .f32) (g : FVec F S1024 .f32) : FVec F S2x8192x1024 .f32 :=
  mulf (mulf y (broadcastInDim S2x8192x1024 ![0, 1, 2] bcast_S2x8192x1_S2x8192x1024_0_1_2 (Host.rsqrt (addf
    (Host.divf (broadcastInDim S2x8192x1 ![0, 1] bcast_S2x8192_S2x8192x1_0_1 (Host.reduceAdd (mulf y y) (constant S_ .f32 0x00000000#32) reducesTo_S2x8192x1024_S2x8192_d2 h_S_))
      (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))
def both (a b : FVec F S2x8192x512 .f32) : FVec F S2x8192x1024 .f32 :=
  concatenate S2x8192x1024 2 [⟨S2x8192x512, a⟩, ⟨S2x8192x512, b⟩] concatenates_S2x8192x512_S2x8192x512_S2x8192x1024_d2
def mm (x : FVec F S2x8192x1024 .f32) (w : FVec F S1024x1024 .f32) : FVec F S2x8192x1024 .f32 :=
  Host.dotGeneral dot_S2x8192x1024_S1024x1024_S2x8192x1024_2_0_01_1_n_n none x w
def mid (o z yc : FVec F S2x8192x512 .f32) (x : FVec F S2x8192x1024 .f32) (ga : FVec F S512 .f32) (wo : FVec F S1024x1024 .f32) : FVec F S2x8192x1024 .f32 :=
  addf x (mm (both (nrm512 (gated o z) ga) yc) wo)
def sigm (x : FVec F S2x8192x1024 .f32) : FVec F S2x8192x1024 .f32 :=
  Host.divf (broadcastInDim S2x8192x1024 ![] bcast_S_S2x8192x1024 (constant S_ .f32 0x3F800000#32))
    (addf (broadcastInDim S2x8192x1024 ![] bcast_S_S2x8192x1024 (constant S_ .f32 0x3F800000#32)) (Host.exp (Host.negf x)))
def last (x : FVec F S2x8192x1024 .f32) (p : FVec F S2x8192x256 .f32) (gp : FVec F S1024 .f32) (wg : FVec F S1024x1024 .f32) (wp : FVec F S256x1024 .f32) : FVec F S2x8192x1024 .f32 :=
  addf x (mulf (sigm (mm (nrm1024 x gp) wg)) (Host.dotGeneral dot_S2x8192x256_S256x1024_S2x8192x1024_2_0_01_1_n_n none p wp))
def refOf (o z yc : FVec F S2x8192x512 .f32) (x : FVec F S2x8192x1024 .f32) (p : FVec F S2x8192x256 .f32) (ga : FVec F S512 .f32) (wo : FVec F S1024x1024 .f32)
    (gp : FVec F S1024 .f32) (wg : FVec F S1024x1024 .f32) (wp : FVec F S256x1024 .f32) : FVec F S16384x1024 .f32 :=
  shapeCast _ (last (mid o z yc x ga wo) p gp wg wp) shapeCasts_S2x8192x1024_S16384x1024

set_option maxRecDepth 8192 in
theorem res_eq (m : (ℓ : Loc nD τ sig) → Buf (Elt F) ℓ) (c : Dev nD) :
    Value.res_main_v41 m c = refOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
  unfold Value.res_main_v41
  chain_rfl
end

/-! ## At an index -/

variable (b : Fin 2) (n : Fin 8192)

theorem mm_at (x : FVec Ideal S2x8192x1024 .f32) (w : FVec Ideal S1024x1024 .f32) (j : Fin 1024) :
    (mm x w (ix3 b n j) : EReal) = ∑ e : Fin 1024, (x (ix3 b n e) : EReal) * (w (ix2 e j) : EReal) := by
  have hr : dot_S2x8192x1024_S1024x1024_S2x8192x1024_2_0_01_1_n_n.contr.rank = 1 := rfl
  have hs : dot_S2x8192x1024_S1024x1024_S2x8192x1024_2_0_01_1_n_n.contr.size ⟨0, by omega⟩ = 1024 := rfl
  unfold mm
  simp only [Host.dotGeneral]
  rw [Ideal.dotGeneral_apply, ← Equiv.sum_comp (contrEquiv1 _ 1024 hr hs).symm]
  refine Finset.sum_congr rfl fun e _ => ?_
  have hk := contrEquiv1_symm_val _ 1024 hr hs e
  congr 1
  · refine congrArg x (funext fun a => Fin.ext ?_)
    match a with
    | ⟨0, _⟩ => rfl
    | ⟨1, _⟩ => rfl
    | ⟨2, _⟩ => exact hk
  · refine congrArg w (funext fun a => Fin.ext ?_)
    match a with
    | ⟨0, _⟩ => exact hk
    | ⟨1, _⟩ => rfl

theorem mp_at (p : FVec Ideal S2x8192x256 .f32) (w : FVec Ideal S256x1024 .f32) (j : Fin 1024) :
    (Host.dotGeneral dot_S2x8192x256_S256x1024_S2x8192x1024_2_0_01_1_n_n none p w (ix3 b n j) : EReal) = ∑ e : Fin 256, (p (ix3 b n e) : EReal) * (w (ix2 e j) : EReal) := by
  have hr : dot_S2x8192x256_S256x1024_S2x8192x1024_2_0_01_1_n_n.contr.rank = 1 := rfl
  have hs : dot_S2x8192x256_S256x1024_S2x8192x1024_2_0_01_1_n_n.contr.size ⟨0, by omega⟩ = 256 := rfl
  simp only [Host.dotGeneral]
  rw [Ideal.dotGeneral_apply, ← Equiv.sum_comp (contrEquiv1 _ 256 hr hs).symm]
  refine Finset.sum_congr rfl fun e _ => ?_
  have hk := contrEquiv1_symm_val _ 256 hr hs e
  congr 1
  · refine congrArg p (funext fun a => Fin.ext ?_)
    match a with
    | ⟨0, _⟩ => rfl
    | ⟨1, _⟩ => rfl
    | ⟨2, _⟩ => exact hk
  · refine congrArg w (funext fun a => Fin.ext ?_)
    match a with
    | ⟨0, _⟩ => exact hk
    | ⟨1, _⟩ => rfl

theorem red512 : S2x8192x512.Reduces [2] S2x8192 := by decide
theorem red1024 : S2x8192x1024.Reduces [2] S2x8192 := by decide

theorem lift512 (e : Fin 512) : red512.lift (ix2 b n) e = ix3 b n e := funext fun a => Fin.ext (by
  match a with
  | ⟨0, _⟩ => rfl
  | ⟨1, _⟩ => rfl
  | ⟨2, _⟩ => rfl)

theorem sum512 (y : FVec Ideal S2x8192x512 .f32) :
    (Host.reduceAdd y (constant S_ .f32 0x00000000#32) reducesTo_S2x8192x512_S2x8192_d2 h_S_ (ix2 b n) : EReal) = ∑ e : Fin 512, (y (ix3 b n e) : EReal) := by
  rw [hostReduceAdd_apply, Ideal.hostReduceAdd_single _ red512]
  rw [show (constant (F := Ideal) S_ .f32 0x00000000#32 (Shape.Idx.first h_S_) : EReal) = 0 from Ideal.ofBits_zero_f32, zero_add]
  exact Finset.sum_congr rfl fun e _ => congrArg y (lift512 b n e)

theorem nrm512_at (y : FVec Ideal S2x8192x512 .f32) (g : FVec Ideal S512 .f32) (e : Fin 512) :
    (nrm512 y g (ix3 b n e) : EReal) = (y (ix3 b n e) : EReal) * Row.scale Row.w512 (fun e => (y (ix3 b n e) : EReal)) * (g (ix1 e) : EReal) := by
  unfold nrm512
  show (y (ix3 b n e) : EReal) * (broadcastInDim S2x8192x512 ![0, 1, 2] bcast_S2x8192x1_S2x8192x512_0_1_2 (Host.rsqrt (F := Ideal) (addf
    (Host.divf (broadcastInDim S2x8192x1 ![0, 1] bcast_S2x8192_S2x8192x1_0_1 (Host.reduceAdd (F := Ideal) (mulf y y) (constant S_ .f32 0x00000000#32) reducesTo_S2x8192x512_S2x8192_d2 h_S_))
      (broadcastInDim S2x8192x1 ![] bcast_S_S2x8192x1 (constant S_ .f32 0x44000000#32)))
    (broadcastInDim S2x8192x1 ![] bcast_S_S2x8192x1 (constant S_ .f32 0x358637BD#32)))) (ix3 b n e) : EReal)
    * (broadcastInDim S2x8192x512 ![0, 1, 2] bcast_S1x1x512_S2x8192x512_0_1_2 (broadcastInDim S1x1x512 ![2] bcast_S512_S1x1x512_2 g) (ix3 b n e) : EReal) = _
  rw [broadcastInDim_apply ![0, 1, 2] bcast_S2x8192x1_S2x8192x512_0_1_2 _ (ix3 b n e) (ix3 b n 0) (fun a => by
      match a with
      | ⟨0, _⟩ => rfl
      | ⟨1, _⟩ => rfl
      | ⟨2, _⟩ => rfl),
    broadcastInDim_apply ![0, 1, 2] bcast_S1x1x512_S2x8192x512_0_1_2 _ (ix3 b n e) (ix3 0 0 e) (fun a => by
      match a with
      | ⟨0, _⟩ => rfl
      | ⟨1, _⟩ => rfl
      | ⟨2, _⟩ => rfl),
    broadcastInDim_apply ![2] bcast_S512_S1x1x512_2 _ (ix3 0 0 e) (ix1 e) (fun a => by
      match a with
      | ⟨0, _⟩ => rfl)]
  have hm : (broadcastInDim S2x8192x1 ![0, 1] bcast_S2x8192_S2x8192x1_0_1
      (Host.reduceAdd (F := Ideal) (mulf y y) (constant S_ .f32 0x00000000#32) reducesTo_S2x8192x512_S2x8192_d2 h_S_) (ix3 b n 0) : EReal)
      = ∑ e : Fin 512, (y (ix3 b n e) : EReal) * (y (ix3 b n e) : EReal) := by
    rw [broadcastInDim_apply ![0, 1] bcast_S2x8192_S2x8192x1_0_1 _ (ix3 b n 0) (ix2 b n) (fun a => by
      match a with
      | ⟨0, _⟩ => rfl
      | ⟨1, _⟩ => rfl), sum512]
    exact Finset.sum_congr rfl fun _ _ => rfl
  refine congrArg (fun s => (y (ix3 b n e) : EReal) * s * (g (ix1 e) : EReal)) ?_
  show Ideal.rsqrt (Ideal.div (broadcastInDim S2x8192x1 ![0, 1] bcast_S2x8192_S2x8192x1_0_1
      (Host.reduceAdd (F := Ideal) (mulf y y) (constant S_ .f32 0x00000000#32) reducesTo_S2x8192x512_S2x8192_d2 h_S_) (ix3 b n 0) : EReal)
    (Ideal.ofBits .f32 0x44000000#32) + Row.eps) = _
  rw [hm, Row.div512]
  rfl

theorem lift1024 (e : Fin 1024) : red1024.lift (ix2 b n) e = ix3 b n e := funext fun a => Fin.ext (by
  match a with
  | ⟨0, _⟩ => rfl
  | ⟨1, _⟩ => rfl
  | ⟨2, _⟩ => rfl)

theorem sum1024 (y : FVec Ideal S2x8192x1024 .f32) :
    (Host.reduceAdd y (constant S_ .f32 0x00000000#32) reducesTo_S2x8192x1024_S2x8192_d2 h_S_ (ix2 b n) : EReal) = ∑ e : Fin 1024, (y (ix3 b n e) : EReal) := by
  rw [hostReduceAdd_apply, Ideal.hostReduceAdd_single _ red1024]
  rw [show (constant (F := Ideal) S_ .f32 0x00000000#32 (Shape.Idx.first h_S_) : EReal) = 0 from Ideal.ofBits_zero_f32, zero_add]
  exact Finset.sum_congr rfl fun e _ => congrArg y (lift1024 b n e)

theorem nrm1024_at (y : FVec Ideal S2x8192x1024 .f32) (g : FVec Ideal S1024 .f32) (e : Fin 1024) :
    (nrm1024 y g (ix3 b n e) : EReal) = (y (ix3 b n e) : EReal) * Row.scale Row.w1024 (fun e => (y (ix3 b n e) : EReal)) * (g (ix1 e) : EReal) := by
  unfold nrm1024
  show (y (ix3 b n e) : EReal) * (broadcastInDim S2x8192x1024 ![0, 1, 2] bcast_S2x8192x1_S2x8192x1024_0_1_2 (Host.rsqrt (F := Ideal) (addf
    (Host.divf (broadcastInDim S2x8192x1 ![0, 1] bcast_S2x8192_S2x8192x1_0_1 (Host.reduceAdd (F := Ideal) (mulf y y) (constant S_ .f32 0x00000000#32) reducesTo_S2x8192x1024_S2x8192_d2 h_S_))
      (broadcastInDim S2x8192x1 ![] bcast_S_S2x8192x1 (constant S_ .f32 0x44800000#32)))
    (broadcastInDim S2x8192x1 ![] bcast_S_S2x8192x1 (constant S_ .f32 0x358637BD#32)))) (ix3 b n e) : EReal)
    * (broadcastInDim S2x8192x1024 ![0, 1, 2] bcast_S1x1x1024_S2x8192x1024_0_1_2 (broadcastInDim S1x1x1024 ![2] bcast_S1024_S1x1x1024_2 g) (ix3 b n e) : EReal) = _
  rw [broadcastInDim_apply ![0, 1, 2] bcast_S2x8192x1_S2x8192x1024_0_1_2 _ (ix3 b n e) (ix3 b n 0) (fun a => by
      match a with
      | ⟨0, _⟩ => rfl
      | ⟨1, _⟩ => rfl
      | ⟨2, _⟩ => rfl),
    broadcastInDim_apply ![0, 1, 2] bcast_S1x1x1024_S2x8192x1024_0_1_2 _ (ix3 b n e) (ix3 0 0 e) (fun a => by
      match a with
      | ⟨0, _⟩ => rfl
      | ⟨1, _⟩ => rfl
      | ⟨2, _⟩ => rfl),
    broadcastInDim_apply ![2] bcast_S1024_S1x1x1024_2 _ (ix3 0 0 e) (ix1 e) (fun a => by
      match a with
      | ⟨0, _⟩ => rfl)]
  have hm : (broadcastInDim S2x8192x1 ![0, 1] bcast_S2x8192_S2x8192x1_0_1
      (Host.reduceAdd (F := Ideal) (mulf y y) (constant S_ .f32 0x00000000#32) reducesTo_S2x8192x1024_S2x8192_d2 h_S_) (ix3 b n 0) : EReal)
      = ∑ e : Fin 1024, (y (ix3 b n e) : EReal) * (y (ix3 b n e) : EReal) := by
    rw [broadcastInDim_apply ![0, 1] bcast_S2x8192_S2x8192x1_0_1 _ (ix3 b n 0) (ix2 b n) (fun a => by
      match a with
      | ⟨0, _⟩ => rfl
      | ⟨1, _⟩ => rfl), sum1024]
    exact Finset.sum_congr rfl fun _ _ => rfl
  refine congrArg (fun s => (y (ix3 b n e) : EReal) * s * (g (ix1 e) : EReal)) ?_
  show Ideal.rsqrt (Ideal.div (broadcastInDim S2x8192x1 ![0, 1] bcast_S2x8192_S2x8192x1_0_1
      (Host.reduceAdd (F := Ideal) (mulf y y) (constant S_ .f32 0x00000000#32) reducesTo_S2x8192x1024_S2x8192_d2 h_S_) (ix3 b n 0) : EReal)
    (Ideal.ofBits .f32 0x44800000#32) + Row.eps) = _
  rw [hm, Row.div1024]
  rfl

theorem both_at (y yc : FVec Ideal S2x8192x512 .f32) (e : Fin 1024) :
    (both y yc (ix3 b n e) : EReal) = if h : e.val < 512 then (y (ix3 b n ⟨e.val, h⟩) : EReal) else (yc (ix3 b n ⟨e.val - 512, by omega⟩) : EReal) := by
  unfold both
  by_cases h : e.val < 512
  · rw [dif_pos h]
    refine concatenate_pair_apply_left (s₁ := S2x8192x512) (s₂ := S2x8192x512) (t := S2x8192x1024) 2 _ _
      concatenates_S2x8192x512_S2x8192x512_S2x8192x1024_d2 _ rfl (ix3 b n ⟨e.val, h⟩) (fun a => ?_)
    match a with
    | ⟨0, _⟩ => rfl
    | ⟨1, _⟩ => rfl
    | ⟨2, _⟩ => rfl
  · rw [dif_neg h]
    refine concatenate_pair_apply_right (s₁ := S2x8192x512) (s₂ := S2x8192x512) (t := S2x8192x1024) 2 _ _
      concatenates_S2x8192x512_S2x8192x512_S2x8192x1024_d2 _ rfl rfl (ix3 b n ⟨e.val - 512, by omega⟩) (fun a ha => ?_) ?_
    · match a with
      | ⟨0, _⟩ => rfl
      | ⟨1, _⟩ => rfl
      | ⟨2, _⟩ => exact absurd rfl ha
    · show e.val - 512 + 512 = e.val; omega

variable (o z yc : FVec Ideal S2x8192x512 .f32) (x : FVec Ideal S2x8192x1024 .f32) (p : FVec Ideal S2x8192x256 .f32)
variable (ga : FVec Ideal S512 .f32) (wo : FVec Ideal S1024x1024 .f32) (gp : FVec Ideal S1024 .f32) (wg : FVec Ideal S1024x1024 .f32) (wp : FVec Ideal S256x1024 .f32)

theorem gated_at (e : Fin 512) : (gated o z (ix3 b n e) : EReal) = (gtok o z yc x p b n).y e := rfl

theorem mid_at (j : Fin 1024) : (mid o z yc x ga wo (ix3 b n j) : EReal) = Row.mid (gtok o z yc x p b n) (gwts ga wo gp wg wp) j := by
  unfold mid Row.mid
  show (x (ix3 b n j) : EReal) + (mm (both (nrm512 (gated o z) ga) yc) wo (ix3 b n j) : EReal) = _
  rw [mm_at]
  refine congrArg₂ (· + ·) rfl (Finset.sum_congr rfl fun e _ => congrArg₂ (· * ·) ?_ rfl)
  rw [both_at]
  unfold Row.cat
  by_cases h : e.val < 512
  · rw [dif_pos h, dif_pos h, nrm512_at]
    rfl
  · rw [dif_neg h, dif_neg h]
    rfl

/-- The reference's result at a row and a column. -/
theorem ref_at (Q : Fin 16384) (j : Fin 1024) :
    (refOf o z yc x p ga wo gp wg wp (ix2 Q j) : EReal) = Row.out (gtok o z yc x p (bat Q) (pos Q)) (gwts ga wo gp wg wp) j := by
  unfold refOf
  refine (flat 1024 _ _ rfl rfl _ shapeCasts_S2x8192x1024_S16384x1024 Q j).trans ?_
  unfold last Row.out
  show (mid o z yc x ga wo (ix3 (bat Q) (pos Q) j) : EReal)
    + Ideal.div (Ideal.ofBits .f32 0x3F800000#32) (Ideal.ofBits .f32 0x3F800000#32 + Ideal.exp (-(mm (nrm1024 (mid o z yc x ga wo) gp) wg (ix3 (bat Q) (pos Q) j) : EReal)))
    * (Host.dotGeneral (F := Ideal) dot_S2x8192x256_S256x1024_S2x8192x1024_2_0_01_1_n_n none p wp (ix3 (bat Q) (pos Q) j) : EReal) = _
  rw [mp_at, mm_at, mid_at (bat Q) (pos Q) o z yc x p ga wo gp wg wp, Ideal.ofBits_one_f32]
  have hn : ∀ e : Fin 1024, (nrm1024 (mid o z yc x ga wo) gp (ix3 (bat Q) (pos Q) e) : EReal) = Row.nrm (gtok o z yc x p (bat Q) (pos Q)) (gwts ga wo gp wg wp) e := fun e => by
    rw [nrm1024_at]
    simp only [mid_at (bat Q) (pos Q) o z yc x p ga wo gp wg wp]
    rfl
  simp only [hn]
  rfl

end Cert.Reference2Ideal.Out

end
-- ==== Proof.Alg2.lean ====
module

public import proofs.«01_k».proof.Defs
public import proofs.«01_k».proof.Proof.OutVal
public import proofs.«01_k».proof.Proof.RefVal2

@[expose] public section

/-! The output call's result is the plain output layer's. -/

noncomputable section

namespace Cert.Proof

open Idealize.ShloMosaic Idealize.ShloMosaic.TcCoe Idealize.ShloMosaic.ValueIdx
open Idealize.SL Idealize.SL.Sem

/-- The array the call leaves. -/
def left (m : (ℓ : Loc Cert.Kernel2Ideal.nD Cert.Kernel2Ideal.τ Cert.Kernel2Ideal.sig) → Buf (Elt Ideal) ℓ) (c : Dev Cert.Kernel2Ideal.nD) :
    Buf (Elt Ideal) ((c.tc : Thread Cert.Kernel2Ideal.nD Cert.Kernel2Ideal.τ).loc Cert.Kernel2Ideal.main_v14) :=
  (Cert.Kernel2Ideal.Gen.dats (F := Ideal) m 0 c).arrAt 10 Cert.Kernel2Ideal.cfg0.N

theorem left_eq (m : (ℓ : Loc Cert.Kernel2Ideal.nD Cert.Kernel2Ideal.τ Cert.Kernel2Ideal.sig) → Buf (Elt Ideal) ℓ) (c : Dev Cert.Kernel2Ideal.nD) :
    Cert.Reference2Ideal.Out.refOf (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9)) = left m c := by
  funext i
  rw [eq_ix2 i]
  exact (Cert.Reference2Ideal.Out.ref_at _ _ _ _ _ _ _ _ _ _ _ _).trans (Cert.Kernel2Ideal.Out.res_at m c _ _).symm

theorem algebraic2 : Cert.algebraic_Kernel2Ideal_Reference2Ideal (hKernel2Ideal := Cert.Kernel2Ideal.Gen.facts)
    (hReference2Ideal := Cert.Reference2Ideal.Gen.facts) := fun m g m' g' _ ha =>
  ⟨left m, Cert.Kernel2Ideal.Value.run_blocks (F := Ideal) m g,
    (θ_run (Cert.Reference2Ideal.defs (F := Ideal)) _ _).mono (fun _ h c => ⟨by
        refine (h c).1.trans ((Cert.Reference2Ideal.Out.res_eq (F := Ideal) m' c).trans ?_)
        obtain ⟨h0, h1, h2, h3, h4, h5, h6, h7, h8, h9⟩ := ha c
        rw [h0, h1, h2, h3, h4, h5, h6, h7, h8, h9]
        exact left_eq m c, (h c).2⟩)
      (Cert.Reference2Ideal.Value.run (F := Ideal) m' g')⟩

end Cert.Proof

end
-- ==== Proof.PrepRun.lean ====
module

public import proofs.«01_k».proof.Proof.Gen.Kernel3Ideal.Skeleton
public import proofs.«01_k».proof.Proof.Gen.Kernel3Ideal.Launch
public import Idealize.ShloMosaic.Lib.Pipeline.Frame
public import Idealize.ShloMosaic.Lib.Pipeline.FrameBody
public import Idealize.ShloMosaic.Lib.Pipeline.TableIdle
public import Idealize.ShloMosaic.Lib.Pipeline.ReadBack
public import Idealize.ShloMosaic.Lib.Ring

@[expose] public section

set_option maxRecDepth 16384
set_option synthInstance.maxSize 4096

/-! The weight preparation's body as a run: at the first point it also writes the latent's columns, at the others only
the woven ones. -/

noncomputable section

namespace Cert.Kernel3Ideal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

section
variable (c : Dev nD) (i : grid0.Coords) (p1 : Memref sig .tc .smem S5 .i32) (hp1 : p1.IsWhole) (p2 : Memref sig .tc .smem S5 .i32) (hp2 : p2.IsWhole)
  (b0 : Memref sig .tc .vmem S448x1024 .f32) (h0 : b0.IsWhole) (b1 : Memref sig .tc .vmem S256x1024 .f32) (h1 : b1.IsWhole)
  (b2 : Memref sig .tc .vmem S256x1024 .f32) (h2 : b2.IsWhole) (b3 : Memref sig .tc .vmem S1x1024 .f32) (h3 : b3.IsWhole)
  (o4 : Memref sig .tc .vmem S1024x512 .bf16) (h4 : o4.IsWhole) (o5 : Memref sig .tc .vmem S1024x512 .bf16) (h5 : o5.IsWhole)
  (l : Vec F S448x1024 .f32) (a b : Vec F S256x1024 .f32) (g : Vec F S1x1024 .f32)

/-- The four inputs' buffers at their contents. -/
def ins : sProp 𝕄 :=
  iprop(owns (c : Thread nD τ) b0 fullShare l ∗ owns (c : Thread nD τ) b1 fullShare a ∗ owns (c : Thread nD τ) b2 fullShare b ∗ owns (c : Thread nD τ) b3 fullShare g)

/-- Away from the first point: the latent's buffer untouched, the woven columns' stores as found. -/
def runLater (hc : ¬ k0_cond1 i = 1#1) :
    { L : List (View.Piece (Elt F) S1024x512 .bf16) //
      ∀ (E : Set ℕ) (K : PUnit → sProp 𝕄),
        iprop(ins c b0 b1 b2 b3 l a b g ∗ (∃ d, owns (c : Thread nD τ) o5 fullShare d)
            ∗ (iprop(ins c b0 b1 b2 b3 l a b g ∗ (∃ f, o5.view.loc (c : Thread nD τ) ↦[o5.view.set]{fullShare} o5.view.writes (Elt F) f L)) -∗ K ⟨⟩))
          ⊢ wp frame (wpE (defs₀ (F := F)) Variants.none c none) E (cc0_mla_conv_w_in_prep i p1 hp1 p2 hp2 b0 h0 b1 h1 b2 h2 b3 h3 o4 h4 o5 h5) K } := by
  refine ⟨?_, fun E K => ?run⟩
  case run =>
    simp only [cc0_mla_conv_w_in_prep_eq_skeleton]; unfold cc0_mla_conv_w_in_prep_skel
    simp only [dif_neg hc]
    unfold ins owns
    iintro ⟨⟨⟨%f0, %e0, H0⟩, ⟨%f1, %e1, H1⟩, ⟨%f2, %e2, H2⟩, ⟨%f3, %e3, H3⟩⟩, ⟨%d5, %f5, -, H5⟩, Hk⟩
    obtain rfl := h0.eq_unread e0; obtain rfl := h1.eq_unread e1; obtain rfl := h2.eq_unread e2; obtain rfl := h3.eq_unread e3
    sl_exec
    sl_step
    iapply Hk
    isplitr [H5]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      iexists _; isplitr; · ipureintro; exact h3.read_unread _
      iexact H3
    iexists _; iexact H5

/-- At the first point: both outputs' stores as found. -/
def runFirst (hc : k0_cond1 i = 1#1) :
    { L : List (View.Piece (Elt F) S1024x512 .bf16) × List (View.Piece (Elt F) S1024x512 .bf16) //
      ∀ (E : Set ℕ) (K : PUnit → sProp 𝕄),
        iprop(ins c b0 b1 b2 b3 l a b g ∗ (∃ d, owns (c : Thread nD τ) o4 fullShare d) ∗ (∃ d, owns (c : Thread nD τ) o5 fullShare d)
            ∗ (iprop(ins c b0 b1 b2 b3 l a b g ∗ (∃ f, o4.view.loc (c : Thread nD τ) ↦[o4.view.set]{fullShare} o4.view.writes (Elt F) f L.1)
                ∗ (∃ f, o5.view.loc (c : Thread nD τ) ↦[o5.view.set]{fullShare} o5.view.writes (Elt F) f L.2)) -∗ K ⟨⟩))
          ⊢ wp frame (wpE (defs₀ (F := F)) Variants.none c none) E (cc0_mla_conv_w_in_prep i p1 hp1 p2 hp2 b0 h0 b1 h1 b2 h2 b3 h3 o4 h4 o5 h5) K } := by
  refine ⟨(?_, ?_), fun E K => ?run⟩
  case run =>
    simp only [cc0_mla_conv_w_in_prep_eq_skeleton]; unfold cc0_mla_conv_w_in_prep_skel
    simp only [dif_pos hc]
    unfold ins owns
    iintro ⟨⟨⟨%f0, %e0, H0⟩, ⟨%f1, %e1, H1⟩, ⟨%f2, %e2, H2⟩, ⟨%f3, %e3, H3⟩⟩, ⟨%d4, %f4, -, H4⟩, ⟨%d5, %f5, -, H5⟩, Hk⟩
    obtain rfl := h0.eq_unread e0; obtain rfl := h1.eq_unread e1; obtain rfl := h2.eq_unread e2; obtain rfl := h3.eq_unread e3
    sl_exec
    sl_step
    iapply Hk
    isplitl [H0 H1 H2 H3]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      iexists _; isplitr; · ipureintro; exact h3.read_unread _
      iexact H3
    isplitl [H4]
    · iexists _; iexact H4
    iexists _; iexact H5

/-- The woven columns' stores, the last first. -/
def weave : List (View.Piece (Elt F) S1024x512 .bf16) :=
  [⟨Rect.unit ![0, 384] ![1024, 128] inb_S1024x512_S1024x128_0_384, k0_pay8 g b⟩,
   ⟨Rect.unit ![0, 256] ![1024, 128] inb_S1024x512_S1024x128_0_256, k0_pay7 g a⟩,
   ⟨Rect.unit ![0, 128] ![1024, 128] inb_S1024x512_S1024x128_0_128, k0_pay6 g b⟩,
   ⟨Rect.unit ![0, 0] ![1024, 128] inb_S1024x512_S1024x128_0_0, k0_pay5 g a⟩]

/-- The latent's store. -/
def latent : List (View.Piece (Elt F) S1024x512 .bf16) :=
  [⟨Rect.unit ![0, 0] ![1024, 512] inb_S1024x512_S1024x512_0_0, k0_pay2 g l⟩]

theorem weave_cover (y : S1024x512.Idx) : ∃ pc ∈ weave a b g, y ∈ pc.1.set :=
  View.cover_of_tiledL (weave a b g) ![1024, 128] (by sl_kernel_rfl) y

theorem latent_cover (y : S1024x512.Idx) : ∃ pc ∈ latent l g, y ∈ pc.1.set :=
  View.cover_of_tiledL (latent l g) ![1024, 512] (by sl_kernel_rfl) y

theorem zero2 : (![0, 0] : Fin 2 → Nat) = fun _ => 0 := funext fun k => by fin_cases k <;> rfl

theorem later_pieces (hc : ¬ k0_cond1 i = 1#1) :
    (runLater c i p1 hp1 p2 hp2 b0 h0 b1 h1 b2 h2 b3 h3 o4 h4 o5 h5 l a b g hc).1 = weave a b g := by
  unfold runLater
  dsimp only
  simp only [View.readAt_eq_ld, h1.read_unread, h2.read_unread, h3.read_unread, View.ld_unit_zero (S := S1x1024) zero2, View.ld_unit_zero (S := S256x1024) zero2]
  rfl

theorem first_pieces (hc : k0_cond1 i = 1#1) :
    (runFirst c i p1 hp1 p2 hp2 b0 h0 b1 h1 b2 h2 b3 h3 o4 h4 o5 h5 l a b g hc).1 = (latent l g, weave a b g) := by
  unfold runFirst
  dsimp only
  simp only [View.readAt_eq_ld, h0.read_unread, h1.read_unread, h2.read_unread, h3.read_unread, View.ld_unit_zero (S := S1x1024) zero2,
    View.ld_unit_zero (S := S256x1024) zero2, View.ld_unit_zero (S := S448x1024) zero2]
  rfl

theorem later_run (hc : ¬ k0_cond1 i = 1#1) (E : Set ℕ) (K : PUnit → sProp 𝕄) :
    iprop(ins c b0 b1 b2 b3 l a b g ∗ (∃ d, owns (c : Thread nD τ) o5 fullShare d)
        ∗ (iprop(ins c b0 b1 b2 b3 l a b g ∗ owns (c : Thread nD τ) o5 fullShare (View.canon (weave a b g))) -∗ K ⟨⟩))
      ⊢ wp frame (wpE (defs₀ (F := F)) Variants.none c none) E (cc0_mla_conv_w_in_prep i p1 hp1 p2 hp2 b0 h0 b1 h1 b2 h2 b3 h3 o4 h4 o5 h5) K := by
  have h := (runLater c i p1 hp1 p2 hp2 b0 h0 b1 h1 b2 h2 b3 h3 o4 h4 o5 h5 l a b g hc).2 E K
  rw [later_pieces] at h
  refine BI.BIBase.Entails.trans ?_ h
  iintro ⟨Hi, H5, Hk⟩
  isplitl [Hi]; · iexact Hi
  isplitl [H5]; · iexact H5
  iintro ⟨Hi, ⟨%f5, H5⟩⟩
  iapply Hk
  isplitl [Hi]; · iexact Hi
  unfold owns; iexists _; isplitr
  swap; · iexact H5
  ipureintro; exact View.read_writes_eq_canon _ _ _ (weave_cover _ _ _)

theorem first_run (hc : k0_cond1 i = 1#1) (E : Set ℕ) (K : PUnit → sProp 𝕄) :
    iprop(ins c b0 b1 b2 b3 l a b g ∗ (∃ d, owns (c : Thread nD τ) o4 fullShare d) ∗ (∃ d, owns (c : Thread nD τ) o5 fullShare d)
        ∗ (iprop(ins c b0 b1 b2 b3 l a b g ∗ owns (c : Thread nD τ) o4 fullShare (View.canon (latent l g))
            ∗ owns (c : Thread nD τ) o5 fullShare (View.canon (weave a b g))) -∗ K ⟨⟩))
      ⊢ wp frame (wpE (defs₀ (F := F)) Variants.none c none) E (cc0_mla_conv_w_in_prep i p1 hp1 p2 hp2 b0 h0 b1 h1 b2 h2 b3 h3 o4 h4 o5 h5) K := by
  have h := (runFirst c i p1 hp1 p2 hp2 b0 h0 b1 h1 b2 h2 b3 h3 o4 h4 o5 h5 l a b g hc).2 E K
  rw [first_pieces] at h
  refine BI.BIBase.Entails.trans ?_ h
  iintro ⟨Hi, H4, H5, Hk⟩
  isplitl [Hi]; · iexact Hi
  isplitl [H4]; · iexact H4
  isplitl [H5]; · iexact H5
  iintro ⟨Hi, ⟨%f4, H4⟩, ⟨%f5, H5⟩⟩
  iapply Hk
  isplitl [Hi]; · iexact Hi
  isplitl [H4]
  · unfold owns; iexists _; isplitr
    swap; · iexact H4
    ipureintro; exact View.read_writes_eq_canon _ _ _ (latent_cover _ _)
  unfold owns; iexists _; isplitr
  swap; · iexact H5
  ipureintro; exact View.read_writes_eq_canon _ _ _ (weave_cover _ _ _)

end

end Cert.Kernel3Ideal.Prep

end
-- ==== Proof.PrepDat.lean ====
module

public import proofs.«01_k».proof.Proof.PrepRun
public import Idealize.ShloMosaic.Lib.IdealHost
public import Idealize.ShloMosaic.Lib.KernelVsHost
public import Idealize.ShloMosaic.Lib.Claim

@[expose] public section

set_option maxRecDepth 16384
set_option synthInstance.maxSize 4096

/-! The weight preparation's tables, what each window's buffer holds at each point, and the body's triple. -/

noncomputable section

namespace Cert.Kernel3Ideal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel3Ideal Cert.Kernel3Ideal.Gen

variable {F : FTy → Type} [FloatOps F]

local notation "𝕄" => MT nD τ sig Unit (Elt F) ℕ (UR sig nD τ) ℕ

/-- The two tables' words: where the two row windows begin. -/
def tab : pre0.Contents (Elt F) := fun
  | 0 => fun i => lit0 (S5.rowMajor i)
  | 1 => fun i => lit1 (S5.rowMajor i)
  | ⟨_ + 2, h⟩ => absurd h (Nat.not_lt.2 (Nat.le_add_left _ _))

theorem mult1_tab : ∀ i : grid0.Coords, (8 : Int) ∣ (k0_mult1 (tab (F := Bits)) i).toInt := by decide +kernel
theorem mult2_tab : ∀ i : grid0.Coords, (8 : Int) ∣ (k0_mult2 (tab (F := Bits)) i).toInt := by decide +kernel
theorem inb1_tab : ∀ (i : grid0.Coords) a, cc0_transform_1 Facts₀.k0_off1_inb Facts₀.numel1_S1 (tab (F := Bits)) i a + S256x1024.size a ≤ S3008x1024.size a := by
  decide +kernel
theorem inb2_tab : ∀ (i : grid0.Coords) a, cc0_transform_2 Facts₀.k0_off1_inb Facts₀.numel1_S1 (tab (F := Bits)) i a + S256x1024.size a ≤ S3008x1024.size a := by
  decide +kernel

theorem ok_tab : ok0 (tab (F := F)) :=
  ⟨mult1_tab, mult2_tab, fun i => ⟨inb1_tab i, .inl rfl⟩, fun i => ⟨inb2_tab i, .inl rfl⟩⟩

def ad : (pcfg0 (F := F)).Adm := ⟨tab, ok_tab⟩
abbrev adm : (p : Fin 1) → (pcfgs (F := F) p).Adm := fun _ => ad

section
variable (m : (ℓ : Loc nD τ sig) → Buf (Elt F) ℓ) (ρ : Dev nD → PrngReg)

/-- Every buffer as the call finds it. -/
abbrev V (c : Dev nD) (b : Ref sig .tc) : Buf (Elt F) ((c.tc : Thread nD τ).loc b) := StableHlo.after (hostOps0 (F := F)) (fun b => m (c, b)) b

theorem V_arg0 (c : Dev nD) : V m c main_arg0 = m ((c.tc : Thread nD τ).loc main_arg0) := by
  unfold_abbrev_sides
  simp only [hostOps0]
  after_results
theorem V_arg1 (c : Dev nD) : V m c main_arg1 = m ((c.tc : Thread nD τ).loc main_arg1) := by
  unfold_abbrev_sides
  simp only [hostOps0]
  after_results
theorem V_c (c : Dev nD) : V m c main_c = (fun i => lit0 (S5.rowMajor i)) := by
  unfold_abbrev_sides
  simp only [hostOps0]
  after_results
  chain_rfl
theorem V_c_0 (c : Dev nD) : V m c main_c_0 = (fun i => lit1 (S5.rowMajor i)) := by
  unfold_abbrev_sides
  simp only [hostOps0]
  after_results
  chain_rfl
theorem V_rows0 (c : Dev nD) : V m c main_v0 = transpose S3008x1024 [1, 0] (m ((c.tc : Thread nD τ).loc main_arg0)) transposes_S1024x3008_S3008x1024_1_0 := by
  unfold_abbrev_sides
  simp only [hostOps0]
  after_results
theorem V_rows1 (c : Dev nD) : V m c main_v1 = transpose S3008x1024 [1, 0] (m ((c.tc : Thread nD τ).loc main_arg0)) transposes_S1024x3008_S3008x1024_1_0 := by
  unfold_abbrev_sides
  simp only [hostOps0]
  after_results
theorem V_rows2 (c : Dev nD) : V m c main_v2 = transpose S3008x1024 [1, 0] (m ((c.tc : Thread nD τ).loc main_arg0)) transposes_S1024x3008_S3008x1024_1_0 := by
  unfold_abbrev_sides
  simp only [hostOps0]
  after_results
theorem V_gain (c : Dev nD) : V m c main_v3 = shapeCast S1x1024 (m ((c.tc : Thread nD τ).loc main_arg1)) shapeCasts_S1024_S1x1024 := by
  unfold_abbrev_sides
  simp only [hostOps0]
  after_results
  chain_rfl

theorem V_pre (c : Dev nD) : ∀ k, V m c (pre0.ref k) = (tab (F := F)) k := fun
  | 0 => V_c m c
  | 1 => V_c_0 m c
  | ⟨_ + 2, h⟩ => absurd h (Nat.not_lt.2 (Nat.le_add_left _ _))

/-- A window's block of its array at a point. -/
def blkOf (c : Dev nD) (w : Fin 6) (t : Fin grid0.N) : (((cfg0 (F := F) ad).win w).xblock (grid0.coords t)).Idx → Elt F ((cfg0 (F := F) ad).win w).elt :=
  (((cfg0 (F := F) ad).win w).blk t).view.read (Elt F) (V m c (Pipeline.arrRef spec0 w))

/-- The latent's columns, kept from the first point on. -/
def latOf (c : Dev nD) : Vec F S1024x512 .bf16 := View.canon (latent (blkOf m c 0 t0_0) (blkOf m c 3 t0_0))
/-- A point's woven columns. -/
def wovOf (c : Dev nD) (t : Fin grid0.N) : Vec F S1024x512 .bf16 := View.canon (weave (blkOf m c 1 t) (blkOf m c 2 t) (blkOf m c 3 t))

attribute [irreducible] latOf wovOf

def dats (_ : Fin 1) (c : Dev nD) : Dat τ (Elt F) Unit ℕ (UR sig nD τ) ℕ (cfg0 (F := F) ad) c where
  A w := V m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => latOf m c
    | ⟨5, _⟩ => wovOf m c t
  Φ _ := iprop(Pipeline.ΦA spec0 c ∗ Pipeline.ΦT pre0 tab c)
  q _ := fullShare
  owed _ := 0

theorem A_eq (c : Dev nD) (w : Fin 6) : (dats m 0 c).A w = V m c (Pipeline.arrRef spec0 w) := by dsimp only [dats]
theorem after0 (c : Dev nD) (t : Fin grid0.N) : (dats m 0 c).after 0 t = blkOf m c 0 t := rfl
theorem after1 (c : Dev nD) (t : Fin grid0.N) : (dats m 0 c).after 1 t = blkOf m c 1 t := rfl
theorem after2 (c : Dev nD) (t : Fin grid0.N) : (dats m 0 c).after 2 t = blkOf m c 2 t := rfl
theorem after3 (c : Dev nD) (t : Fin grid0.N) : (dats m 0 c).after 3 t = blkOf m c 3 t := rfl
theorem after4 (c : Dev nD) (t : Fin grid0.N) : (dats m 0 c).after 4 t = latOf m c := rfl
theorem after5 (c : Dev nD) (t : Fin grid0.N) : (dats m 0 c).after 5 t = wovOf m c t := rfl

theorem before0 (c : Dev nD) (t : Fin grid0.N) (d) : (dats m 0 c).before 0 t d = blkOf m c 0 t :=
  ((dats m 0 c).before_in_eq_fetched 0 rfl (fun _ => rfl) (fun _ _ _ => rfl) (fun t => by rw [after0]; unfold Dat.blockOf blkOf; rw [A_eq]; try rfl) t d).trans
    (by unfold Dat.fetched Dat.blockOf blkOf; rw [A_eq]; try rfl)
theorem before1 (c : Dev nD) (t : Fin grid0.N) (d) : (dats m 0 c).before 1 t d = blkOf m c 1 t :=
  ((dats m 0 c).before_in_eq_fetched 1 rfl (fun _ => rfl) (fun _ _ _ => rfl) (fun t => by rw [after1]; unfold Dat.blockOf blkOf; rw [A_eq]; try rfl) t d).trans
    (by unfold Dat.fetched Dat.blockOf blkOf; rw [A_eq]; try rfl)
theorem before2 (c : Dev nD) (t : Fin grid0.N) (d) : (dats m 0 c).before 2 t d = blkOf m c 2 t :=
  ((dats m 0 c).before_in_eq_fetched 2 rfl (fun _ => rfl) (fun _ _ _ => rfl) (fun t => by rw [after2]; unfold Dat.blockOf blkOf; rw [A_eq]; try rfl) t d).trans
    (by unfold Dat.fetched Dat.blockOf blkOf; rw [A_eq]; try rfl)
theorem before3 (c : Dev nD) (t : Fin grid0.N) (d) : (dats m 0 c).before 3 t d = blkOf m c 3 t :=
  ((dats m 0 c).before_in_eq_fetched 3 rfl (fun _ => rfl) (fun _ _ _ => rfl) (fun t => by rw [after3]; unfold Dat.blockOf blkOf; rw [A_eq]; try rfl) t d).trans
    (by unfold Dat.fetched Dat.blockOf blkOf; rw [A_eq]; try rfl)

/-- The first point is where the latent's columns are stored. -/
theorem cond_first : ∀ t : Fin grid0.N, k0_cond1 (grid0.coords t) = 1#1 ↔ t.val = 0 := by decide +kernel

theorem idle4 (t : Fin grid0.N) : (cfg0 (F := F) ad).idle 4 (grid0.coords t) = !(k0_cond1 (grid0.coords t) == 1#1) := rfl

/-- The latent's columns are written back at the last point only. -/
theorem flush4 (t : Fin grid0.N) : ((cfg0 (F := F) ad).win 4).flush t = decide (t.val = 4) := by
  rcases fin_N0 t with rfl | rfl | rfl | rfl | rfl <;> rfl

theorem fresh_step : ∀ t : Fin grid0.N, (t.val + 1 == 0 || t.val + 1 == 5)
    = (decide (t.val = 4) || (!(k0_cond1 (grid0.coords t) == 1#1) && (t.val == 0 || t.val == 5))) := by decide +kernel

theorem fresh4 : ∀ n, n ≤ 5 → (cfg0 (F := F) ad).fresh 4 n = (n == 0 || n == 5) :=
  (cfg0 (F := F) ad).fresh_tab 4 (fun n => n == 0 || n == 5) rfl (fun t => by
    rw [flush4, idle4]; exact fresh_step t)

theorem before4 (c : Dev nD) (t : Fin grid0.N) (ht : t.val ≠ 0) (d) : (dats m 0 c).before 4 t d = latOf m c := by
  rw [(dats m 0 c).before_out_traj 4 rfl (fun _ _ => rfl) (fun t _ _ _ => by rw [after4, after4]) t.val t rfl d,
    fresh4 t.val (by have := t.isLt; have := N_0; omega), if_neg (by have := t.isLt; have := N_0; simp; omega), after4]

end

end Cert.Kernel3Ideal.Prep

end
-- ==== Proof.PrepLaunch.lean ====
module

public import proofs.«01_k».proof.Proof.PrepDat

@[expose] public section

set_option maxRecDepth 16384
set_option synthInstance.maxSize 4096

/-! The weight preparation's run: the body's triple at every point, and the launch. -/

noncomputable section

namespace Cert.Kernel3Ideal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel3Ideal Cert.Kernel3Ideal.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-- The body at a point, on the buffers the windows are on there. -/
def bodyAt (t : Fin grid0.N) : Prog (TpuEff nD τ sig (Elt F) Λ₀ .tc) PUnit :=
  cc0_mla_conv_w_in_prep (grid0.coords t) (Memref.whole main_c) (Memref.isWhole_whole _) (Memref.whole main_c_0) (Memref.isWhole_whole _)
    (spec0_0.stage ((cfg0 (F := F) ad).slots t 0)) (hstage0_0 (((cfg0 (F := F) ad).slots t 0).cast nbuf0_0)) (spec0_1.stage ((cfg0 (F := F) ad).slots t 1)) (hstage0_1 (((cfg0 (F := F) ad).slots t 1).cast nbuf0_1)) (spec0_2.stage ((cfg0 (F := F) ad).slots t 2)) (hstage0_2 (((cfg0 (F := F) ad).slots t 2).cast nbuf0_2)) (spec0_3.stage ((cfg0 (F := F) ad).slots t 3)) (hstage0_3 (((cfg0 (F := F) ad).slots t 3).cast nbuf0_3)) (spec0_4.stage ((cfg0 (F := F) ad).slots t 4)) (hstage0_4 (((cfg0 (F := F) ad).slots t 4).cast nbuf0_4)) (spec0_5.stage ((cfg0 (F := F) ad).slots t 5)) (hstage0_5 (((cfg0 (F := F) ad).slots t 5).cast nbuf0_5))

theorem row (t : Fin grid0.N) : defs₀ (F := F) .tc (cfg0 (F := F) ad).body ((cfg0 (F := F) ad).bodyArgs t ((cfg0 (F := F) ad).slots t)) = bodyAt t := by
  unfold defs₀; rw [Defs.onTc_tc]; rfl

def pre (c : Dev nD) (t : Fin grid0.N) : sProp 𝕄 :=
  iprop((dats m 0 c).Φ t.castSucc ∗ (dats m 0 c).owesAt () t.castSucc
    ∗ (∃ d, owns (c : Thread nD τ) (((cfg0 (F := F) ad).win 0).stage ((cfg0 (F := F) ad).slots t 0)) fullShare ((dats m 0 c).before 0 t d))
    ∗ (∃ d, owns (c : Thread nD τ) (((cfg0 (F := F) ad).win 1).stage ((cfg0 (F := F) ad).slots t 1)) fullShare ((dats m 0 c).before 1 t d))
    ∗ (∃ d, owns (c : Thread nD τ) (((cfg0 (F := F) ad).win 2).stage ((cfg0 (F := F) ad).slots t 2)) fullShare ((dats m 0 c).before 2 t d))
    ∗ (∃ d, owns (c : Thread nD τ) (((cfg0 (F := F) ad).win 3).stage ((cfg0 (F := F) ad).slots t 3)) fullShare ((dats m 0 c).before 3 t d))
    ∗ (∃ d, owns (c : Thread nD τ) (((cfg0 (F := F) ad).win 4).stage ((cfg0 (F := F) ad).slots t 4)) fullShare ((dats m 0 c).before 4 t d))
    ∗ (∃ d, owns (c : Thread nD τ) (((cfg0 (F := F) ad).win 5).stage ((cfg0 (F := F) ad).slots t 5)) fullShare ((dats m 0 c).before 5 t d)))

def post (c : Dev nD) (t : Fin grid0.N) : sProp 𝕄 :=
  iprop((dats m 0 c).Φ t.succ ∗ (dats m 0 c).owesAt () t.succ
    ∗ owns (c : Thread nD τ) (((cfg0 (F := F) ad).win 0).stage ((cfg0 (F := F) ad).slots t 0)) fullShare (blkOf m c 0 t)
    ∗ owns (c : Thread nD τ) (((cfg0 (F := F) ad).win 1).stage ((cfg0 (F := F) ad).slots t 1)) fullShare (blkOf m c 1 t)
    ∗ owns (c : Thread nD τ) (((cfg0 (F := F) ad).win 2).stage ((cfg0 (F := F) ad).slots t 2)) fullShare (blkOf m c 2 t)
    ∗ owns (c : Thread nD τ) (((cfg0 (F := F) ad).win 3).stage ((cfg0 (F := F) ad).slots t 3)) fullShare (blkOf m c 3 t)
    ∗ owns (c : Thread nD τ) (((cfg0 (F := F) ad).win 4).stage ((cfg0 (F := F) ad).slots t 4)) fullShare (latOf m c)
    ∗ owns (c : Thread nD τ) (((cfg0 (F := F) ad).win 5).stage ((cfg0 (F := F) ad).slots t 5)) fullShare (wovOf m c t))

theorem sound (c : Dev nD) (t : Fin grid0.N) :
    pre m c t ⊢ wp frame (wpE (defs₀ (F := F)) Variants.none c none) Set.univ (bodyAt t) (fun _ => post m c t) := by
  unfold pre post bodyAt
  simp only [before0, before1, before2, before3]
  rw [show (dats m 0 c).Φ t.succ = (dats m 0 c).Φ t.castSucc from rfl,
    show (dats m 0 c).owesAt () t.succ = (dats m 0 c).owesAt () t.castSucc from rfl]
  by_cases ht : t.val = 0
  · have hc := (cond_first t).mpr ht
    obtain rfl : t = t0_0 := Fin.ext ht
    iintro ⟨HΦ, Ho, ⟨%d0, H0⟩, ⟨%d1, H1⟩, ⟨%d2, H2⟩, ⟨%d3, H3⟩, ⟨%d4, H4⟩, ⟨%d5, H5⟩⟩
    iapply (first_run c (grid0.coords t0_0) _ _ _ _ _ _ _ _ _ _ _ _ _ _ _ _ (blkOf m c 0 t0_0) (blkOf m c 1 t0_0) (blkOf m c 2 t0_0) (blkOf m c 3 t0_0) hc Set.univ _)
    unfold ins
    isplitl [H0 H1 H2 H3]
    · isplitl [H0]; · iexact H0
      isplitl [H1]; · iexact H1
      isplitl [H2]; · iexact H2
      iexact H3
    isplitl [H4]; · iexists _; iexact H4
    isplitl [H5]; · iexists _; iexact H5
    iintro ⟨⟨H0, H1, H2, H3⟩, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold latOf; iexact H4
    unfold wovOf; iexact H5
  · have hc : ¬ k0_cond1 (grid0.coords t) = 1#1 := fun h => ht ((cond_first t).mp h)
    simp only [before4 m c t ht]
    iintro ⟨HΦ, Ho, ⟨%d0, H0⟩, ⟨%d1, H1⟩, ⟨%d2, H2⟩, ⟨%d3, H3⟩, ⟨%d4, H4⟩, ⟨%d5, H5⟩⟩
    iapply (later_run c (grid0.coords t) _ _ _ _ _ _ _ _ _ _ _ _ _ _ _ _ (blkOf m c 0 t) (blkOf m c 1 t) (blkOf m c 2 t) (blkOf m c 3 t) hc Set.univ _)
    unfold ins
    isplitl [H0 H1 H2 H3]
    · isplitl [H0]; · iexact H0
      isplitl [H1]; · iexact H1
      isplitl [H2]; · iexact H2
      iexact H3
    isplitl [H5]; · iexists _; iexact H5
    iintro ⟨⟨H0, H1, H2, H3⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold wovOf; iexact H5

/-- One choice of what a buffer may be left at, from the one all of them follow from. -/
theorem choose {M : Type} [URA M] {X A B C : sProp M} (b f : Bool) (hA : b = true → f = false → X ⊢ A) (hB : X ⊢ B) (hC : X ⊢ C) :
    X ⊢ (match (generalizing := false) b with | true => (match (generalizing := false) f with | false => A | true => B) | false => C) := by
  cases b
  · exact hC
  · cases f
    · exact hA rfl rfl
    · exact hB

/-- What the pipeline asks back, the latent's buffer as its idleness has it. -/
def asked (c : Dev nD) (t : Fin grid0.N) : sProp 𝕄 :=
  iprop((dats m 0 c).Φ t.succ ∗ (dats m 0 c).owesAt () t.succ
    ∗ owns (c : Thread nD τ) (((cfg0 (F := F) ad).win 0).stage ((cfg0 (F := F) ad).slots t 0)) fullShare ((dats m 0 c).after 0 t)
    ∗ owns (c : Thread nD τ) (((cfg0 (F := F) ad).win 1).stage ((cfg0 (F := F) ad).slots t 1)) fullShare ((dats m 0 c).after 1 t)
    ∗ owns (c : Thread nD τ) (((cfg0 (F := F) ad).win 2).stage ((cfg0 (F := F) ad).slots t 2)) fullShare ((dats m 0 c).after 2 t)
    ∗ owns (c : Thread nD τ) (((cfg0 (F := F) ad).win 3).stage ((cfg0 (F := F) ad).slots t 3)) fullShare ((dats m 0 c).after 3 t)
    ∗ (match (cfg0 (F := F) ad).idle 4 (grid0.coords t) with | true => (match ((cfg0 (F := F) ad).win 4).flush t with | false => iprop(∃ d, owns (c : Thread nD τ) (((cfg0 (F := F) ad).win 4).stage ((cfg0 (F := F) ad).slots t 4)) fullShare ((dats m 0 c).before 4 t d)) | true => owns (c : Thread nD τ) (((cfg0 (F := F) ad).win 4).stage ((cfg0 (F := F) ad).slots t 4)) fullShare (latOf m c)) | false => owns (c : Thread nD τ) (((cfg0 (F := F) ad).win 4).stage ((cfg0 (F := F) ad).slots t 4)) fullShare (latOf m c))
    ∗ owns (c : Thread nD τ) (((cfg0 (F := F) ad).win 5).stage ((cfg0 (F := F) ad).slots t 5)) fullShare ((dats m 0 c).after 5 t))

theorem post_asked (c : Dev nD) (t : Fin grid0.N) : post m c t ⊢ asked m c t := by
  unfold post asked
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (choose ((cfg0 (F := F) ad).idle 4 (grid0.coords t)) (((cfg0 (F := F) ad).win 4).flush t)
      (X := owns (c : Thread nD τ) (((cfg0 (F := F) ad).win 4).stage ((cfg0 (F := F) ad).slots t 4)) fullShare (latOf m c))
      (A := iprop(∃ d, owns (c : Thread nD τ) (((cfg0 (F := F) ad).win 4).stage ((cfg0 (F := F) ad).slots t 4)) fullShare ((dats m 0 c).before 4 t d)))
      (B := owns (c : Thread nD τ) (((cfg0 (F := F) ad).win 4).stage ((cfg0 (F := F) ad).slots t 4)) fullShare (latOf m c)) (C := owns (c : Thread nD τ) (((cfg0 (F := F) ad).win 4).stage ((cfg0 (F := F) ad).slots t 4)) fullShare (latOf m c))
      (fun hi _ => by
        have ht : t.val ≠ 0 := fun h => by
          rw [idle4, (cond_first t).mpr h] at hi; exact absurd hi (by decide)
        simp only [before4 m c t ht]
        iintro H
        iexists (latOf m c)
        iexact H) .rfl .rfl)
    iexact H4
  iexact H5

theorem obligation (c : Dev nD) : BodyObligation (dats (F := F) m 0 c) (defs₀ (F := F)) Variants.none () Set.univ := fun t => by
  rw [bigSep_W0, bigSep_W0, row]
  exact triple_restated (sound m c t) rfl .rfl fun _ => post_asked m c t

set_option backward.isDefEq.respectTransparency.types false in
theorem run_main_quiescent : θ_run defs (onTc (τ := τ) (main (F := F))) (s₀ m ρ)
    (fun r => (Pipeline.FramePost (Pipeline.pin (pcfgs (F := F)) adm) (dats m) 0 (V m)) r ∧ r.2.sem = fun _ => 0) :=
  Pipeline.θ_run_frameP (Q' := _) (pcfgs (F := F)) adm (dats m) (0 : Fin 1) launch0 defs₀ Variants.none m ρ main
    (hbody := fun c => (obligation m c).loose) (hshare := fun c => (dats m 0 c).share_full fun _ => rfl)
    (howed := fun _ _ => rfl) (V := V m)
    (hmain := Pipeline.hmainP_prefix (pcfgs (F := F)) 0 defs₀ Variants.none m main hostOps0 hostOps0_sub (by simp only [List.Forall]; repeat' constructor) main_chain)
    (hA := A_eq m) (hpf := V_pre m) (hΦ := fun _ _ => rfl) (hQ' := fun _ h => h)

/-- Every run ends, with the two arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_arg0 (Pipeline.mem_restRefs_of main_arg0 (by decide) (show ∀ w : Fin 6, (spec0 w).arr.view.ref ≠ main_arg0 by decide))).trans (V_arg0 m c),
     ((h.1 c).2 main_arg1 (Pipeline.mem_restRefs_of main_arg1 (by decide) (show ∀ w : Fin 6, (spec0 w).arr.view.ref ≠ main_arg1 by decide))).trans (V_arg1 m c)⟩, h.2⟩) (run_main_quiescent m ρ)

end

end Cert.Kernel3Ideal.Prep

end
-- ==== Proof.PrepBoth.lean ====
module

public import proofs.«01_k».proof.Proof.PrepLaunch
public import proofs.«01_k».proof.Defs
public import proofs.«01_k».proof.Proof.Gen.Kernel3

@[expose] public section

set_option maxRecDepth 65536

/-! The weight preparation at the bits. -/

noncomputable section

namespace Cert.Kernel3Ideal.Prep

open Idealize.ShloMosaic Idealize.ShloMosaic.TcCoe Idealize.ShloMosaic.Tactic
open Idealize.SL Idealize.SL.Sem

/-- The two programs are one text. -/
theorem same_text [hKernel3 : Cert.Kernel3.Facts] (m : (ℓ : Loc Cert.Kernel3.nD Cert.Kernel3.τ Cert.Kernel3.sig) → Buf (Elt Bits) ℓ) (ρ : Dev Cert.Kernel3.nD → PrngReg) (Q) :
    (θ_run (Cert.Kernel3.defs (F := Bits)) (onTc (τ := Cert.Kernel3.τ) (Cert.Kernel3.main (F := Bits))) ⟨m, fun _ => 0, ρ⟩ Q)
    = (θ_run (Cert.Kernel3Ideal.defs (F := Bits)) (onTc (τ := Cert.Kernel3Ideal.τ) (Cert.Kernel3Ideal.main (F := Bits))) ⟨m, fun _ => 0, ρ⟩ Q) := by
  chain_rfl

theorem frame_kernel3 : Cert.quiescent_Kernel3 (hKernel3 := Cert.Kernel3.Gen.facts) := fun m ρ _ => by
  rw [same_text]
  exact frame (F := Bits) m ρ

theorem frame_ideal3 : Cert.quiescent_Kernel3Ideal (hKernel3Ideal := Cert.Kernel3Ideal.Gen.facts) := fun m ρ _ => frame (F := Ideal) m ρ

end Cert.Kernel3Ideal.Prep

end
-- ==== Proof.PrepVal.lean ====
module

public import proofs.«01_k».proof.Proof.PrepDat
public import proofs.«01_k».proof.Proof.Pay

@[expose] public section

set_option maxRecDepth 16384

/-! The weight preparation's two results at an element, from the program's arguments. -/

noncomputable section

namespace Cert.Kernel3Ideal.Prep

open Idealize.ShloMosaic Idealize.ShloMosaic.TcCoe Idealize.ShloMosaic.ValueIdx
open Cert.Kernel3Ideal Cert.Kernel3Ideal.Gen
open Cert.KernelIdeal.Attn (truncf_at shapeCast_same)

/-! ## What each result holds -/

/-- The input column that a woven column is read from: groups of 128 columns taken in turn from the two halves of `z_a`,
    from `cc` and `cx`, and from `cb` and `z_c`. -/
def srcN (J : ℕ) : ℕ :=
  if J < 512 then 448 + 256 * (J / 128 % 2) + 128 * (J / 256) + J % 128
  else if J < 1536 then 1472 + 512 * (J / 128 % 2) + 128 * ((J - 512) / 256) + J % 128
  else 960 + 1536 * (J / 128 % 2) + 128 * ((J - 1536) / 256) + J % 128

theorem srcN_lt (J : ℕ) (h : J < 2560) : srcN J < 3008 := by unfold srcN; split_ifs <;> omega

def src (J : Fin 2560) : Fin 3008 := ⟨srcN J.val, srcN_lt _ J.isLt⟩

/-- A column of the input weights with the rows' gains on it. -/
def scaled (w : Vec Ideal S1024x3008 .f32) (g : Vec Ideal S1024 .f32) (R : Fin 1024) (s : Fin 3008) : EReal := (w (ix2 R s) : EReal) * (g (ix1 R) : EReal)

/-! ## The tables -/

def startA (t : ℕ) : ℕ := if t = 0 then 448 else if t < 3 then 1472 + 256 * (t - 1) else 960 + 256 * (t - 3)
def startB (t : ℕ) : ℕ := if t = 0 then 704 else if t < 3 then 1984 + 256 * (t - 1) else 2496 + 256 * (t - 3)

theorem rowsA : ∀ t : Fin grid0.N, cc0_transform_1 Facts₀.k0_off1_inb Facts₀.numel1_S1 (tab (F := Bits)) (grid0.coords t) 0 = startA t.val
    ∧ cc0_transform_1 Facts₀.k0_off1_inb Facts₀.numel1_S1 (tab (F := Bits)) (grid0.coords t) 1 = 0 := by decide +kernel
theorem rowsB : ∀ t : Fin grid0.N, cc0_transform_2 Facts₀.k0_off1_inb Facts₀.numel1_S1 (tab (F := Bits)) (grid0.coords t) 0 = startB t.val
    ∧ cc0_transform_2 Facts₀.k0_off1_inb Facts₀.numel1_S1 (tab (F := Bits)) (grid0.coords t) 1 = 0 := by decide +kernel

theorem startA_lt (t : ℕ) (x : Fin 256) (h : t < 5) : startA t + x.val < 3008 := by have := x.isLt; unfold startA; split_ifs <;> omega
theorem startB_lt (t : ℕ) (x : Fin 256) (h : t < 5) : startB t + x.val < 3008 := by have := x.isLt; unfold startB; split_ifs <;> omega

theorem tN (t : Fin grid0.N) : t.val < 5 := t.isLt

/-! ## The blocks -/

section
variable (m : (ℓ : Loc nD τ sig) → Buf (Elt Ideal) ℓ) (c : Dev nD)

theorem turned (x : FVec Ideal S1024x3008 .f32) (s : Fin 3008) (R : Fin 1024) :
    transpose S3008x1024 [1, 0] x transposes_S1024x3008_S3008x1024_1_0 (ix2 s R) = x (ix2 R s) :=
  transpose_apply [1, 0] x transposes_S1024x3008_S3008x1024_1_0 (ix2 s R) (ix2 R s) (fun b => by
    match b with
    | ⟨0, _⟩ => rfl
    | ⟨1, _⟩ => rfl)

theorem in0 (t : Fin grid0.N) (x : Fin 448) (R : Fin 1024) :
    blkOf m c 0 t (ix2 x R) = m ((c.tc : Thread nD τ).loc main_arg0) (ix2 R ⟨x.val, by omega⟩) := by
  refine Eq.trans ?_ (turned _ ⟨x.val, by omega⟩ R)
  rw [← V_rows0 m c]
  show V m c main_v0 ((((cfg0 (F := Ideal) ad).win 0).rect t).emb (ix2 x R)) = _
  refine congrArg (V m c main_v0) (funext fun a => Fin.ext ?_)
  rw [Pipeline.Window.rect_emb_val_off ((cfg0 (F := Ideal) ad).win 0) t (ix2 x R) a]
  have i0 : ∀ t : Fin grid0.N, cc0_transform_0 (grid0.coords t) 0 = 0 ∧ cc0_transform_0 (grid0.coords t) 1 = 0 := by decide +kernel
  match a with
  | ⟨0, _⟩ => show cc0_transform_0 (grid0.coords t) 0 + x.val = x.val; rw [(i0 t).1]; omega
  | ⟨1, _⟩ => show cc0_transform_0 (grid0.coords t) 1 + R.val = R.val; rw [(i0 t).2]; omega

theorem in1 (t : Fin grid0.N) (x : Fin 256) (R : Fin 1024) :
    blkOf m c 1 t (ix2 x R) = m ((c.tc : Thread nD τ).loc main_arg0) (ix2 R ⟨startA t.val + x.val, startA_lt _ x (tN t)⟩) := by
  refine Eq.trans ?_ (turned _ ⟨startA t.val + x.val, startA_lt _ x (tN t)⟩ R)
  rw [← V_rows1 m c]
  show V m c main_v1 ((((cfg0 (F := Ideal) ad).win 1).rect t).emb (ix2 x R)) = _
  refine congrArg (V m c main_v1) (funext fun a => Fin.ext ?_)
  rw [Pipeline.Window.rect_emb_val_off ((cfg0 (F := Ideal) ad).win 1) t (ix2 x R) a]
  match a with
  | ⟨0, _⟩ => exact congrArg (fun n => n + x.val) (rowsA t).1
  | ⟨1, _⟩ => exact (congrArg (fun n => n + R.val) (rowsA t).2).trans (Nat.zero_add _)

theorem in2 (t : Fin grid0.N) (x : Fin 256) (R : Fin 1024) :
    blkOf m c 2 t (ix2 x R) = m ((c.tc : Thread nD τ).loc main_arg0) (ix2 R ⟨startB t.val + x.val, startB_lt _ x (tN t)⟩) := by
  refine Eq.trans ?_ (turned _ ⟨startB t.val + x.val, startB_lt _ x (tN t)⟩ R)
  rw [← V_rows2 m c]
  show V m c main_v2 ((((cfg0 (F := Ideal) ad).win 2).rect t).emb (ix2 x R)) = _
  refine congrArg (V m c main_v2) (funext fun a => Fin.ext ?_)
  rw [Pipeline.Window.rect_emb_val_off ((cfg0 (F := Ideal) ad).win 2) t (ix2 x R) a]
  match a with
  | ⟨0, _⟩ => exact congrArg (fun n => n + x.val) (rowsB t).1
  | ⟨1, _⟩ => exact (congrArg (fun n => n + R.val) (rowsB t).2).trans (Nat.zero_add _)

theorem in3 (t : Fin grid0.N) (R : Fin 1024) : blkOf m c 3 t (ix2 0 R) = m ((c.tc : Thread nD τ).loc main_arg1) (ix1 R) := by
  have i0 : ∀ t : Fin grid0.N, cc0_transform_3 (grid0.coords t) 0 = 0 ∧ cc0_transform_3 (grid0.coords t) 1 = 0 := by decide +kernel
  have h1 : V m c main_v3 (ix2 0 R) = m ((c.tc : Thread nD τ).loc main_arg1) (ix1 R) := by
    rw [V_gain m c]
    exact shapeCast_apply _ shapeCasts_S1024_S1x1024 (ix2 0 R) (ix1 R) (by
      rw [Shape.rowMajor_val_two]; show _ = 0 * 1024 + R.val; rw [Nat.zero_mul, Nat.zero_add]; exact Shape.rowMajor_val_one ..)
  rw [← h1]
  show V m c main_v3 ((((cfg0 (F := Ideal) ad).win 3).rect t).emb (ix2 0 R)) = _
  refine congrArg (V m c main_v3) (funext fun a => Fin.ext ?_)
  rw [Pipeline.Window.rect_emb_val_of_index_zero ((cfg0 (F := Ideal) ad).win 3) t a (by
    match a with
    | ⟨0, _⟩ => exact (i0 t).1
    | ⟨1, _⟩ => exact (i0 t).2)]
end

/-! ## The stored values -/

section
variable (g : Vec Ideal S1x1024 .f32) (l : Vec Ideal S448x1024 .f32) (a : Vec Ideal S256x1024 .f32) (b : Vec Ideal S256x1024 .f32) (R : Fin 1024)

theorem gain256 (u : Fin 256) : broadcastTo S256x1024 (k0_pay1 g) broadcasts_S1x1024_S256x1024 (ix2 u R) = g (ix2 0 R) := by
  rw [broadcastTo_apply _ broadcasts_S1x1024_S256x1024 (ix2 u R) (ix2 0 R) (fun a => by
    match a with
    | ⟨0, _⟩ => rfl
    | ⟨1, _⟩ => rfl)]
  unfold k0_pay1
  exact congrFun (shapeCast_same g _) _

theorem gain448 (u : Fin 448) : broadcastTo S448x1024 (k0_pay1 g) broadcasts_S1x1024_S448x1024 (ix2 u R) = g (ix2 0 R) := by
  rw [broadcastTo_apply _ broadcasts_S1x1024_S448x1024 (ix2 u R) (ix2 0 R) (fun a => by
    match a with
    | ⟨0, _⟩ => rfl
    | ⟨1, _⟩ => rfl)]
  unfold k0_pay1
  exact congrFun (shapeCast_same g _) _

theorem pay3_at (u : Fin 256) : (k0_pay3 g a (ix2 R u) : EReal) = (a (ix2 u R) : EReal) * (g (ix2 0 R) : EReal) := by
  unfold k0_pay3
  dsimp only
  rw [truncf_at, transpose_apply [1, 0] _ transposes_S256x1024_p1_0_S1024x256 (ix2 R u) (ix2 u R) (fun b => by
    match b with
    | ⟨0, _⟩ => rfl
    | ⟨1, _⟩ => rfl)]
  show (shapeCast S256x1024 a shapeCasts_S256x1024_S256x1024 (ix2 u R) : EReal) * (broadcastTo S256x1024 (k0_pay1 g) broadcasts_S1x1024_S256x1024 (ix2 u R) : EReal) = _
  rw [gain256, shapeCast_same]

theorem pay4_at (u : Fin 256) : (k0_pay4 g b (ix2 R u) : EReal) = (b (ix2 u R) : EReal) * (g (ix2 0 R) : EReal) := pay3_at g b R u

theorem half (x : FVec Ideal S1024x256 .bf16) (k : ℕ) (h : S1024x256.Slices ![0, k] S1024x128) (u : Fin 128) (v : Fin 256) (hv : v.val = k + u.val) :
    extractStridedSlice S1024x128 ![0, k] x h (ix2 R u) = x (ix2 R v) :=
  extractStridedSlice_apply ![0, k] x h (ix2 R u) (ix2 R v) (fun a => by
    match a with
    | ⟨0, _⟩ => exact (Nat.zero_add R.val).symm
    | ⟨1, _⟩ => exact hv)

theorem pay5_at (u : Fin 128) : (k0_pay5 g a (ix2 R u) : EReal) = (a (ix2 ⟨u.val, by omega⟩ R) : EReal) * (g (ix2 0 R) : EReal) := by
  unfold k0_pay5
  rw [half R _ 0 _ u ⟨u.val, by omega⟩ (Nat.zero_add _).symm, pay3_at]
theorem pay6_at (u : Fin 128) : (k0_pay6 g b (ix2 R u) : EReal) = (b (ix2 ⟨u.val, by omega⟩ R) : EReal) * (g (ix2 0 R) : EReal) := by
  unfold k0_pay6
  rw [half R _ 0 _ u ⟨u.val, by omega⟩ (Nat.zero_add _).symm, pay4_at]
theorem pay7_at (u : Fin 128) : (k0_pay7 g a (ix2 R u) : EReal) = (a (ix2 ⟨128 + u.val, by omega⟩ R) : EReal) * (g (ix2 0 R) : EReal) := by
  unfold k0_pay7
  rw [half R _ 128 _ u ⟨128 + u.val, by omega⟩ rfl, pay3_at]
theorem pay8_at (u : Fin 128) : (k0_pay8 g b (ix2 R u) : EReal) = (b (ix2 ⟨128 + u.val, by omega⟩ R) : EReal) * (g (ix2 0 R) : EReal) := by
  unfold k0_pay8
  rw [half R _ 128 _ u ⟨128 + u.val, by omega⟩ rfl, pay4_at]

theorem pay2_at (j : Fin 512) : (k0_pay2 g l (ix2 R j) : EReal)
    = if h : j.val < 448 then (l (ix2 ⟨j.val, h⟩ R) : EReal) * (g (ix2 0 R) : EReal) else 0 := by
  unfold k0_pay2
  dsimp only
  rw [truncf_at, transpose_apply [1, 0] _ transposes_S512x1024_p1_0_S1024x512 (ix2 R j) (ix2 j R) (fun b => by
    match b with
    | ⟨0, _⟩ => rfl
    | ⟨1, _⟩ => rfl)]
  by_cases h : j.val < 448
  · rw [dif_pos h, concatenate_pair_apply_left 0 _ _ concatenates_S448x1024_S64x1024_S512x1024_d0 (ix2 j R) rfl (ix2 ⟨j.val, h⟩ R) (fun b => by
      match b with
      | ⟨0, _⟩ => rfl
      | ⟨1, _⟩ => rfl)]
    show (shapeCast S448x1024 l shapeCasts_S448x1024_S448x1024 (ix2 ⟨j.val, h⟩ R) : EReal) * (broadcastTo S448x1024 (k0_pay1 g) broadcasts_S1x1024_S448x1024 (ix2 ⟨j.val, h⟩ R) : EReal) = _
    rw [gain448, shapeCast_same]
  · rw [dif_neg h, concatenate_pair_apply_right 0 _ _ concatenates_S448x1024_S64x1024_S512x1024_d0 (ix2 j R) rfl rfl (ix2 ⟨j.val - 448, by omega⟩ R) (fun b hb => by
      match b with
      | ⟨0, _⟩ => exact absurd rfl hb
      | ⟨1, _⟩ => rfl) (by show j.val - 448 + 448 = j.val; omega)]
    exact Ideal.ofBits_zero_f32

/-! ## The stores in place -/

theorem canon_in (k : ℕ) (inb : ∀ a, (![0, k] : Fin 2 → ℕ) a + (![1024, 128] : Fin 2 → ℕ) a ≤ S1024x512.size a)
    (w : Vec Ideal S1024x128 .bf16) (L : List (View.Piece (Elt Ideal) S1024x512 .bf16)) (J : Fin 512) (u : Fin 128) (h : J.val = k + u.val) :
    View.canon ((⟨Rect.unit ![0, k] ![1024, 128] inb, w⟩ : View.Piece (Elt Ideal) S1024x512 .bf16) :: L) (ix2 R J) = w (ix2 R u) := by
  have e : (Rect.unit (s := S1024x512) ![0, k] ![1024, 128] inb).emb (ix2 R u) = ix2 R J := funext fun a => Fin.ext (by
    match a with
    | ⟨0, _⟩ => show 0 + 1 * R.val = R.val; omega
    | ⟨1, _⟩ => show k + 1 * u.val = J.val; omega)
  rw [← e]
  exact View.canon_cons_emb (Val := Elt Ideal) (Rect.unit (s := S1024x512) ![0, k] ![1024, 128] inb) w L (ix2 R u)

theorem canon_out (k : ℕ) (inb : ∀ a, (![0, k] : Fin 2 → ℕ) a + (![1024, 128] : Fin 2 → ℕ) a ≤ S1024x512.size a)
    (w : Vec Ideal S1024x128 .bf16) (L : List (View.Piece (Elt Ideal) S1024x512 .bf16)) (J : Fin 512) (h : J.val < k) :
    View.canon ((⟨Rect.unit ![0, k] ![1024, 128] inb, w⟩ : View.Piece (Elt Ideal) S1024x512 .bf16) :: L) (ix2 R J) = View.canon L (ix2 R J) := by
  refine View.canon_cons_of_not_mem (Val := Elt Ideal) _ L fun hm => ?_
  rw [Rect.mem_set_unit] at hm
  have h0 : k ≤ J.val ∧ J.val < k + 128 := hm 1
  omega

theorem canon_whole (w : Vec Ideal S1024x512 .bf16) (L : List (View.Piece (Elt Ideal) S1024x512 .bf16)) (J : Fin 512) :
    View.canon ((⟨Rect.unit ![0, 0] ![1024, 512] inb_S1024x512_S1024x512_0_0, w⟩ : View.Piece (Elt Ideal) S1024x512 .bf16) :: L) (ix2 R J) = w (ix2 R J) := by
  have e : (Rect.unit (s := S1024x512) ![0, 0] ![1024, 512] inb_S1024x512_S1024x512_0_0).emb (ix2 R J) = ix2 R J := funext fun a => Fin.ext (by
    match a with
    | ⟨0, _⟩ => show 0 + 1 * R.val = R.val; omega
    | ⟨1, _⟩ => show 0 + 1 * J.val = J.val; omega)
  refine (congrArg (View.canon _) e.symm).trans ?_
  exact View.canon_cons_emb (Val := Elt Ideal) (Rect.unit (s := S1024x512) ![0, 0] ![1024, 512] inb_S1024x512_S1024x512_0_0) w L (ix2 R J)

theorem latent_at (j : Fin 512) : (View.canon (latent l g) (ix2 R j) : EReal)
    = if h : j.val < 448 then (l (ix2 ⟨j.val, h⟩ R) : EReal) * (g (ix2 0 R) : EReal) else 0 := by
  rw [← pay2_at]
  exact canon_whole R _ [] j

/-- A woven column: from the first block in the even groups of 128, from the second in the odd ones. -/
theorem weave_at (J : Fin 512) : (View.canon (weave a b g) (ix2 R J) : EReal)
    = ((if J.val / 128 % 2 = 0 then a else b) (ix2 ⟨128 * (J.val / 256) + J.val % 128, by omega⟩ R) : EReal) * (g (ix2 0 R) : EReal) := by
  unfold weave
  have hJ := J.isLt
  by_cases h3 : 384 ≤ J.val
  · rw [canon_in R 384 _ _ _ J ⟨J.val - 384, by omega⟩ (by show _ = 384 + (J.val - 384); omega), pay8_at, if_neg (by omega)]
    exact congrArg (fun v => (b (ix2 v R) : EReal) * (g (ix2 0 R) : EReal)) (Fin.ext (by show 128 + (J.val - 384) = 128 * (J.val / 256) + J.val % 128; omega))
  rw [canon_out R 384 _ _ _ J (by omega)]
  by_cases h2 : 256 ≤ J.val
  · rw [canon_in R 256 _ _ _ J ⟨J.val - 256, by omega⟩ (by show _ = 256 + (J.val - 256); omega), pay7_at, if_pos (by omega)]
    exact congrArg (fun v => (a (ix2 v R) : EReal) * (g (ix2 0 R) : EReal)) (Fin.ext (by show 128 + (J.val - 256) = 128 * (J.val / 256) + J.val % 128; omega))
  rw [canon_out R 256 _ _ _ J (by omega)]
  by_cases h1 : 128 ≤ J.val
  · rw [canon_in R 128 _ _ _ J ⟨J.val - 128, by omega⟩ (by show _ = 128 + (J.val - 128); omega), pay6_at, if_neg (by omega)]
    exact congrArg (fun v => (b (ix2 v R) : EReal) * (g (ix2 0 R) : EReal)) (Fin.ext (by show J.val - 128 = 128 * (J.val / 256) + J.val % 128; omega))
  rw [canon_out R 128 _ _ _ J (by omega)]
  rw [canon_in R 0 _ _ _ J ⟨J.val, by omega⟩ (by show _ = 0 + J.val; omega), pay5_at, if_pos (by omega)]
  exact congrArg (fun v => (a (ix2 v R) : EReal) * (g (ix2 0 R) : EReal)) (Fin.ext (by show J.val = 128 * (J.val / 256) + J.val % 128; omega))
end

/-! ## The results -/

section
variable (m : (ℓ : Loc nD τ sig) → Buf (Elt Ideal) ℓ) (c : Dev nD) (R : Fin 1024)

theorem latOf_at (j : Fin 512) : (latOf m c (ix2 R j) : EReal)
    = if h : j.val < 448 then scaled (m ((c.tc : Thread nD τ).loc main_arg0)) (m ((c.tc : Thread nD τ).loc main_arg1)) R ⟨j.val, by omega⟩ else 0 := by
  unfold latOf
  refine (latent_at (blkOf m c 3 t0_0) (blkOf m c 0 t0_0) R j).trans ?_
  by_cases h : j.val < 448
  · rw [dif_pos h, dif_pos h]
    exact congrArg₂ (fun x y : EReal => x * y) (in0 m c t0_0 ⟨j.val, h⟩ R) (in3 m c t0_0 R)
  · rw [dif_neg h, dif_neg h]

theorem src_blocks : ∀ (t : Fin 5) (J : Fin 512), srcN (512 * t.val + J.val)
    = if J.val / 128 % 2 = 0 then startA t.val + (128 * (J.val / 256) + J.val % 128) else startB t.val + (128 * (J.val / 256) + J.val % 128) := by
  decide +kernel

theorem src_block (t : ℕ) (J : ℕ) (hJ : J < 512) (ht : t < 5) : srcN (512 * t + J)
    = if J / 128 % 2 = 0 then startA t + (128 * (J / 256) + J % 128) else startB t + (128 * (J / 256) + J % 128) :=
  src_blocks ⟨t, ht⟩ ⟨J, hJ⟩

theorem wovOf_at (t : Fin grid0.N) (J : Fin 512) : (wovOf m c t (ix2 R J) : EReal)
    = scaled (m ((c.tc : Thread nD τ).loc main_arg0)) (m ((c.tc : Thread nD τ).loc main_arg1)) R
      (src ⟨512 * t.val + J.val, by have := tN t; omega⟩) := by
  unfold wovOf
  refine (weave_at (blkOf m c 3 t) (blkOf m c 1 t) (blkOf m c 2 t) R J).trans ?_
  have hs := src_block t.val J.val J.isLt (tN t)
  by_cases h : J.val / 128 % 2 = 0
  · rw [if_pos h]
    rw [if_pos h] at hs
    refine congrArg₂ (fun x y : EReal => x * y) ((in1 m c t _ R).trans ?_) (in3 m c t R)
    exact congrArg (fun s => m ((c.tc : Thread nD τ).loc main_arg0) (ix2 R s)) (Fin.ext hs.symm)
  · rw [if_neg h]
    rw [if_neg h] at hs
    refine congrArg₂ (fun x y : EReal => x * y) ((in2 m c t _ R).trans ?_) (in3 m c t R)
    exact congrArg (fun s => m ((c.tc : Thread nD τ).loc main_arg0) (ix2 R s)) (Fin.ext hs.symm)

theorem flush5 (t : Fin grid0.N) : ((cfg0 (F := Ideal) ad).win 5).flush t = true := by
  rcases fin_N0 t with rfl | rfl | rfl | rfl | rfl <;> rfl

theorem idx5 : ∀ t : Fin grid0.N, cc0_transform_5 (grid0.coords t) 0 = 0 ∧ cc0_transform_5 (grid0.coords t) 1 = t.val := by decide +kernel
theorem idx4 : ∀ t : Fin grid0.N, cc0_transform_4 (grid0.coords t) 0 = 0 ∧ cc0_transform_4 (grid0.coords t) 1 = 0 := by decide +kernel

theorem disjoint4 : ∀ t t' : Fin (cfg0 (F := Ideal) ad).N, ((cfg0 (F := Ideal) ad).win 4).flush t = true → ((cfg0 (F := Ideal) ad).win 4).flush t' = true → t ≠ t' →
    Disjoint (((cfg0 (F := Ideal) ad).win 4).blk t).view.set (((cfg0 (F := Ideal) ad).win 4).blk t').view.set := fun t t' h h' hne => by
  rw [flush4] at h h'
  exact absurd (Fin.ext ((of_decide_eq_true h).trans (of_decide_eq_true h').symm)) hne

theorem disjoint5 : ∀ t t' : Fin (cfg0 (F := Ideal) ad).N, ((cfg0 (F := Ideal) ad).win 5).flush t = true → ((cfg0 (F := Ideal) ad).win 5).flush t' = true → t ≠ t' →
    Disjoint (((cfg0 (F := Ideal) ad).win 5).blk t).view.set (((cfg0 (F := Ideal) ad).win 5).blk t').view.set :=
  fun t t' _ _ hne => ((cfg0 (F := Ideal) ad).win 5).disjoint_blk fun h => hne (Fin.ext (by
    have h1 : cc0_transform_5 (grid0.coords t) 1 = cc0_transform_5 (grid0.coords t') 1 := congrFun h 1
    rw [(idx5 t).2, (idx5 t').2] at h1
    exact h1))

/-- The latent's columns in the array. -/
theorem lat_at (j : Fin 512) : ((dats m 0 c).arrAt 4 (cfg0 (F := Ideal) ad).N (ix2 R j) : EReal)
    = if h : j.val < 448 then scaled (m ((c.tc : Thread nD τ).loc main_arg0)) (m ((c.tc : Thread nD τ).loc main_arg1)) R ⟨j.val, by omega⟩ else 0 := by
  rw [← latOf_at]
  have hf : ((cfg0 (F := Ideal) ad).win 4).flush (⟨4, by decide⟩ : Fin grid0.N) = true := by rw [flush4]; rfl
  have hemb : (((cfg0 (F := Ideal) ad).win 4).rect (⟨4, by decide⟩ : Fin grid0.N)).emb (ix2 R j) = ix2 R j := funext fun a => Fin.ext (by
    rw [Pipeline.Window.rect_emb_val ((cfg0 (F := Ideal) ad).win 4) _ (ix2 R j) a]
    match a with
    | ⟨0, _⟩ => show cc0_transform_4 (grid0.coords (⟨4, by decide⟩ : Fin grid0.N)) 0 * 1024 + R.val = R.val; rw [(idx4 _).1]; omega
    | ⟨1, _⟩ => show cc0_transform_4 (grid0.coords (⟨4, by decide⟩ : Fin grid0.N)) 1 * 512 + j.val = j.val; rw [(idx4 _).2]; omega)
  have hb := (dats m 0 c).read_blk_arrAt_eq_flushed 4 disjoint4 (cfg0 (F := Ideal) ad).N (⟨4, by decide⟩ : Fin grid0.N) (by decide) hf
  have h1 := congrFun hb (ix2 R j)
  have h2 : (dats m 0 c).arrAt 4 (cfg0 (F := Ideal) ad).N ((((cfg0 (F := Ideal) ad).win 4).rect (⟨4, by decide⟩ : Fin grid0.N)).emb (ix2 R j)) = _ := h1
  rw [hemb] at h2
  refine h2.trans ?_
  show (dats m 0 c).after 4 _ (ix2 R j) = _
  rw [after4]

/-- The woven columns in the array. -/
theorem wide_at (J : Fin 2560) : ((dats m 0 c).arrAt 5 (cfg0 (F := Ideal) ad).N (ix2 R J) : EReal)
    = scaled (m ((c.tc : Thread nD τ).loc main_arg0)) (m ((c.tc : Thread nD τ).loc main_arg1)) R (src J) := by
  have ht : J.val / 512 < grid0.N := by show J.val / 512 < 5; omega
  have he : J.val % 512 < 512 := Nat.mod_lt _ (by decide)
  have hJ : (⟨512 * (J.val / 512) + J.val % 512, by omega⟩ : Fin 2560) = J := Fin.ext (by show 512 * (J.val / 512) + J.val % 512 = J.val; omega)
  have hw := wovOf_at m c R ⟨J.val / 512, ht⟩ ⟨J.val % 512, he⟩
  refine Eq.trans ?_ (hw.trans (congrArg (fun j => scaled _ _ R (src j)) hJ))
  have hemb : (((cfg0 (F := Ideal) ad).win 5).rect (⟨J.val / 512, ht⟩ : Fin grid0.N)).emb (ix2 R ⟨J.val % 512, he⟩) = ix2 R J := funext fun a => Fin.ext (by
    rw [Pipeline.Window.rect_emb_val ((cfg0 (F := Ideal) ad).win 5) _ (ix2 R ⟨J.val % 512, he⟩) a]
    match a with
    | ⟨0, _⟩ => show cc0_transform_5 (grid0.coords ⟨J.val / 512, ht⟩) 0 * 1024 + R.val = R.val; rw [(idx5 _).1]; omega
    | ⟨1, _⟩ => show cc0_transform_5 (grid0.coords ⟨J.val / 512, ht⟩) 1 * 512 + J.val % 512 = J.val; rw [(idx5 _).2]; show J.val / 512 * 512 + _ = _; omega)
  have hb := (dats m 0 c).read_blk_arrAt_eq_flushed 5 disjoint5 (cfg0 (F := Ideal) ad).N (⟨J.val / 512, ht⟩ : Fin grid0.N) ht (flush5 _)
  have h1 := congrFun hb (ix2 R ⟨J.val % 512, he⟩)
  have h2 : (dats m 0 c).arrAt 5 (cfg0 (F := Ideal) ad).N ((((cfg0 (F := Ideal) ad).win 5).rect (⟨J.val / 512, ht⟩ : Fin grid0.N)).emb (ix2 R ⟨J.val % 512, he⟩)) = _ := h1
  rw [hemb] at h2
  refine h2.trans ?_
  show (dats m 0 c).after 5 _ (ix2 R ⟨J.val % 512, he⟩) = _
  rw [after5]
end

end Cert.Kernel3Ideal.Prep

end
-- ==== Proof.RefVal3.lean ====
module

public import proofs.«01_k».proof.Proof.PrepVal
public import proofs.«01_k».proof.Proof.Gen.Reference3Ideal.Run

@[expose] public section

/-! The plain weight preparation at an index. -/

noncomputable section

namespace Cert.Reference3Ideal.Prep

open Idealize.ShloMosaic Idealize.ShloMosaic.TcCoe Idealize.ShloMosaic.ValueIdx Idealize.ShloMosaic.Tactic
open Cert.Reference3Ideal Cert.Reference3Ideal.Gen
open Cert.Kernel3Ideal.Prep (src srcN scaled)

/-! ## The stages -/

section
variable {F : FTy → Type} [FloatOps F]

def gained (w : FVec F S1024x3008 .f32) (g : FVec F S1024 .f32) : FVec F S1024x3008 .f32 :=
  mulf (broadcastInDim S1024x3008 ![0, 1] bcast_S1024x1_S1024x3008_0_1 (broadcastInDim S1024x1 ![0] bcast_S1024_S1024x1_0 g)) w
def padded (w : FVec F S1024x3008 .f32) : FVec F S1024x512 .f32 :=
  concatenate S1024x512 1 [⟨S1024x448, extractStridedSlice S1024x448 ![0, 0] w slices_S1024x3008_S1024x448_0_0⟩,
    ⟨S1024x64, broadcastInDim S1024x64 ![] bcast_S_S1024x64 (constant S_ .f32 0x00000000#32)⟩] concatenates_S1024x448_S1024x64_S1024x512_d1
def weave2 (x y : FVec F S1024x256 .f32) : FVec F S1024x512 .f32 :=
  shapeCast S1024x512 (concatenate S1024x2x2x128 2 [⟨S1024x2x1x128, shapeCast S1024x2x1x128 x shapeCasts_S1024x256_S1024x2x1x128⟩,
    ⟨S1024x2x1x128, shapeCast S1024x2x1x128 y shapeCasts_S1024x256_S1024x2x1x128⟩] concatenates_S1024x2x1x128_S1024x2x1x128_S1024x2x2x128_d2) shapeCasts_S1024x2x2x128_S1024x512
def weave4 (x y : FVec F S1024x512 .f32) : FVec F S1024x1024 .f32 :=
  shapeCast S1024x1024 (concatenate S1024x4x2x128 2 [⟨S1024x4x1x128, shapeCast S1024x4x1x128 x shapeCasts_S1024x512_S1024x4x1x128⟩,
    ⟨S1024x4x1x128, shapeCast S1024x4x1x128 y shapeCasts_S1024x512_S1024x4x1x128⟩] concatenates_S1024x4x1x128_S1024x4x1x128_S1024x4x2x128_d2) shapeCasts_S1024x4x2x128_S1024x1024
def part (k : ℕ) (h : S1024x3008.Slices ![0, k] S1024x512) (w : FVec F S1024x3008 .f32) : FVec F S1024x512 .f32 := extractStridedSlice S1024x512 ![0, k] w h
def half (k : ℕ) (h : S1024x512.Slices ![0, k] S1024x256) (w : FVec F S1024x512 .f32) : FVec F S1024x256 .f32 := extractStridedSlice S1024x256 ![0, k] w h
def tail (w : FVec F S1024x3008 .f32) : FVec F S1024x2048 .f32 :=
  concatenate S1024x2048 1 [⟨S1024x1024, weave4 (part 1472 slices_S1024x3008_S1024x512_0_1472 w) (part 1984 slices_S1024x3008_S1024x512_0_1984 w)⟩,
    ⟨S1024x1024, weave4 (part 960 slices_S1024x3008_S1024x512_0_960 w) (part 2496 slices_S1024x3008_S1024x512_0_2496 w)⟩] concatenates_S1024x1024_S1024x1024_S1024x2048_d1
def woven (w : FVec F S1024x3008 .f32) : FVec F S1024x2560 .f32 :=
  concatenate S1024x2560 1 [⟨S1024x512, weave2 (half 0 slices_S1024x512_S1024x256_0_0 (part 448 slices_S1024x3008_S1024x512_0_448 w))
      (half 256 slices_S1024x512_S1024x256_0_256 (part 448 slices_S1024x3008_S1024x512_0_448 w))⟩,
    ⟨S1024x2048, tail w⟩] concatenates_S1024x512_S1024x2048_S1024x2560_d1
def latRef (w : FVec F S1024x3008 .f32) (g : FVec F S1024 .f32) : FVec F S1024x512 .bf16 := truncf .bf16 (padded (gained w g)) bitsLt_bf16_f32
def wideRef (w : FVec F S1024x3008 .f32) (g : FVec F S1024 .f32) : FVec F S1024x2560 .bf16 := truncf .bf16 (woven (gained w g)) bitsLt_bf16_f32
end

/-! ## At an index -/

variable (w : FVec Ideal S1024x3008 .f32) (g : FVec Ideal S1024 .f32) (R : Fin 1024)

theorem gained_at (s : Fin 3008) : (gained w g (ix2 R s) : EReal) = scaled w g R s := by
  unfold gained scaled
  show (broadcastInDim S1024x3008 ![0, 1] bcast_S1024x1_S1024x3008_0_1 (broadcastInDim S1024x1 ![0] bcast_S1024_S1024x1_0 g) (ix2 R s) : EReal) * (w (ix2 R s) : EReal) = _
  rw [broadcastInDim_apply ![0, 1] bcast_S1024x1_S1024x3008_0_1 _ (ix2 R s) (ix2 R 0) (fun a => by
      match a with
      | ⟨0, _⟩ => rfl
      | ⟨1, _⟩ => rfl),
    broadcastInDim_apply ![0] bcast_S1024_S1024x1_0 _ (ix2 R 0) (ix1 R) (fun a => by
      match a with
      | ⟨0, _⟩ => rfl), mul_comm]

theorem padded_at (x : FVec Ideal S1024x3008 .f32) (j : Fin 512) : (padded x (ix2 R j) : EReal)
    = if h : j.val < 448 then (x (ix2 R ⟨j.val, by omega⟩) : EReal) else 0 := by
  unfold padded
  by_cases h : j.val < 448
  · rw [dif_pos h, concatenate_pair_apply_left 1 _ _ concatenates_S1024x448_S1024x64_S1024x512_d1 (ix2 R j) rfl (ix2 R ⟨j.val, h⟩) (fun b => by
      match b with
      | ⟨0, _⟩ => rfl
      | ⟨1, _⟩ => rfl)]
    exact extractStridedSlice_apply ![0, 0] x slices_S1024x3008_S1024x448_0_0 (ix2 R ⟨j.val, h⟩) (ix2 R ⟨j.val, by omega⟩) (fun a => by
      match a with
      | ⟨0, _⟩ => exact (Nat.zero_add _).symm
      | ⟨1, _⟩ => exact (Nat.zero_add _).symm)
  · rw [dif_neg h, concatenate_pair_apply_right 1 _ _ concatenates_S1024x448_S1024x64_S1024x512_d1 (ix2 R j) rfl rfl (ix2 R ⟨j.val - 448, by omega⟩) (fun b hb => by
      match b with
      | ⟨0, _⟩ => rfl
      | ⟨1, _⟩ => exact absurd rfl hb) (by show j.val - 448 + 448 = j.val; omega)]
    exact Ideal.ofBits_zero_f32

theorem part_at (k : ℕ) (h) (x : FVec Ideal S1024x3008 .f32) (j : Fin 512) (s : Fin 3008) (hs : s.val = k + j.val) : part k h x (ix2 R j) = x (ix2 R s) := by
  unfold part
  exact extractStridedSlice_apply ![0, k] x h (ix2 R j) (ix2 R s) (fun a => by
    match a with
    | ⟨0, _⟩ => exact (Nat.zero_add _).symm
    | ⟨1, _⟩ => exact hs)
theorem half_at (k : ℕ) (h) (x : FVec Ideal S1024x512 .f32) (j : Fin 256) (s : Fin 512) (hs : s.val = k + j.val) : half k h x (ix2 R j) = x (ix2 R s) := by
  unfold half
  exact extractStridedSlice_apply ![0, k] x h (ix2 R j) (ix2 R s) (fun a => by
    match a with
    | ⟨0, _⟩ => exact (Nat.zero_add _).symm
    | ⟨1, _⟩ => exact hs)

theorem weave2_at (x y : FVec Ideal S1024x256 .f32) (J : Fin 512) : weave2 x y (ix2 R J)
    = (if J.val / 128 % 2 = 0 then x else y) (ix2 R ⟨128 * (J.val / 256) + J.val % 128, by omega⟩) := by
  have hJ := J.isLt
  have hu : J.val % 128 < 128 := Nat.mod_lt _ (by decide)
  have hq : J.val / 256 < 2 := by omega
  have hp : J.val / 128 % 2 < 2 := Nat.mod_lt _ (by decide)
  have hdm : J.val = 256 * (J.val / 256) + 128 * (J.val / 128 % 2) + J.val % 128 := by omega
  have hin : ∀ z : FVec Ideal S1024x256 .f32, shapeCast S1024x2x1x128 z shapeCasts_S1024x256_S1024x2x1x128 (ix4 R ⟨J.val / 256, hq⟩ 0 ⟨J.val % 128, hu⟩)
      = z (ix2 R ⟨128 * (J.val / 256) + J.val % 128, by omega⟩) := fun z =>
    shapeCast_apply _ _ _ _ (by
      rw [Shape.rowMajor_val_two, Shape.rowMajor_val_four]
      show R.val * 256 + (128 * (J.val / 256) + J.val % 128) = ((R.val * 2 + J.val / 256) * 1 + 0) * 128 + J.val % 128
      omega)
  unfold weave2
  rw [shapeCast_apply _ shapeCasts_S1024x2x2x128_S1024x512 (ix2 R J) (ix4 R ⟨J.val / 256, hq⟩ ⟨J.val / 128 % 2, hp⟩ ⟨J.val % 128, hu⟩) (by
    rw [Shape.rowMajor_val_two, Shape.rowMajor_val_four]
    show ((R.val * 2 + J.val / 256) * 2 + J.val / 128 % 2) * 128 + J.val % 128 = R.val * 512 + J.val
    clear hin
    omega)]
  by_cases h : J.val / 128 % 2 = 0
  · rw [if_pos h, concatenate_pair_apply_left 2 _ _ concatenates_S1024x2x1x128_S1024x2x1x128_S1024x2x2x128_d2 _ rfl (ix4 R ⟨J.val / 256, hq⟩ 0 ⟨J.val % 128, hu⟩) (fun b => by
      match b with
      | ⟨0, _⟩ => rfl
      | ⟨1, _⟩ => rfl
      | ⟨2, _⟩ => exact h.symm
      | ⟨3, _⟩ => rfl)]
    exact hin x
  · rw [if_neg h, concatenate_pair_apply_right 2 _ _ concatenates_S1024x2x1x128_S1024x2x1x128_S1024x2x2x128_d2 _ rfl rfl (ix4 R ⟨J.val / 256, hq⟩ 0 ⟨J.val % 128, hu⟩) (fun b hb => by
      match b with
      | ⟨0, _⟩ => rfl
      | ⟨1, _⟩ => rfl
      | ⟨2, _⟩ => exact absurd rfl hb
      | ⟨3, _⟩ => rfl) (by show 0 + 1 = J.val / 128 % 2; omega)]
    exact hin y

theorem weave4_at (x y : FVec Ideal S1024x512 .f32) (J : Fin 1024) : weave4 x y (ix2 R J)
    = (if J.val / 128 % 2 = 0 then x else y) (ix2 R ⟨128 * (J.val / 256) + J.val % 128, by omega⟩) := by
  have hJ := J.isLt
  have hu : J.val % 128 < 128 := Nat.mod_lt _ (by decide)
  have hq : J.val / 256 < 4 := by omega
  have hp : J.val / 128 % 2 < 2 := Nat.mod_lt _ (by decide)
  have hdm : J.val = 256 * (J.val / 256) + 128 * (J.val / 128 % 2) + J.val % 128 := by omega
  have hin : ∀ z : FVec Ideal S1024x512 .f32, shapeCast S1024x4x1x128 z shapeCasts_S1024x512_S1024x4x1x128 (ix4 R ⟨J.val / 256, hq⟩ 0 ⟨J.val % 128, hu⟩)
      = z (ix2 R ⟨128 * (J.val / 256) + J.val % 128, by omega⟩) := fun z =>
    shapeCast_apply _ _ _ _ (by
      rw [Shape.rowMajor_val_two, Shape.rowMajor_val_four]
      show R.val * 512 + (128 * (J.val / 256) + J.val % 128) = ((R.val * 4 + J.val / 256) * 1 + 0) * 128 + J.val % 128
      omega)
  unfold weave4
  rw [shapeCast_apply _ shapeCasts_S1024x4x2x128_S1024x1024 (ix2 R J) (ix4 R ⟨J.val / 256, hq⟩ ⟨J.val / 128 % 2, hp⟩ ⟨J.val % 128, hu⟩) (by
    rw [Shape.rowMajor_val_two, Shape.rowMajor_val_four]
    show ((R.val * 4 + J.val / 256) * 2 + J.val / 128 % 2) * 128 + J.val % 128 = R.val * 1024 + J.val
    clear hin
    omega)]
  by_cases h : J.val / 128 % 2 = 0
  · rw [if_pos h, concatenate_pair_apply_left 2 _ _ concatenates_S1024x4x1x128_S1024x4x1x128_S1024x4x2x128_d2 _ rfl (ix4 R ⟨J.val / 256, hq⟩ 0 ⟨J.val % 128, hu⟩) (fun b => by
      match b with
      | ⟨0, _⟩ => rfl
      | ⟨1, _⟩ => rfl
      | ⟨2, _⟩ => exact h.symm
      | ⟨3, _⟩ => rfl)]
    exact hin x
  · rw [if_neg h, concatenate_pair_apply_right 2 _ _ concatenates_S1024x4x1x128_S1024x4x1x128_S1024x4x2x128_d2 _ rfl rfl (ix4 R ⟨J.val / 256, hq⟩ 0 ⟨J.val % 128, hu⟩) (fun b hb => by
      match b with
      | ⟨0, _⟩ => rfl
      | ⟨1, _⟩ => rfl
      | ⟨2, _⟩ => exact absurd rfl hb
      | ⟨3, _⟩ => rfl) (by show 0 + 1 = J.val / 128 % 2; omega)]
    exact hin y

theorem src_mid : ∀ J : Fin 1024, srcN (512 + J.val) = if J.val / 128 % 2 = 0 then 1472 + (128 * (J.val / 256) + J.val % 128) else 1984 + (128 * (J.val / 256) + J.val % 128) := by
  decide +kernel
theorem src_last : ∀ J : Fin 1024, srcN (1536 + J.val) = if J.val / 128 % 2 = 0 then 960 + (128 * (J.val / 256) + J.val % 128) else 2496 + (128 * (J.val / 256) + J.val % 128) := by
  decide +kernel
theorem src_first : ∀ J : Fin 512, srcN J.val = if J.val / 128 % 2 = 0 then 448 + (0 + (128 * (J.val / 256) + J.val % 128)) else 448 + (256 + (128 * (J.val / 256) + J.val % 128)) := by
  decide +kernel

/-- Two parts woven: each column is the source column's. -/
theorem weave4_part (k l : ℕ) (hk hl) (x : FVec Ideal S1024x3008 .f32) (J : Fin 1024) (s : Fin 3008)
    (hs : s.val = if J.val / 128 % 2 = 0 then k + (128 * (J.val / 256) + J.val % 128) else l + (128 * (J.val / 256) + J.val % 128)) :
    weave4 (part k hk x) (part l hl x) (ix2 R J) = x (ix2 R s) := by
  rw [weave4_at]
  by_cases h : J.val / 128 % 2 = 0
  · rw [if_pos h] at hs ⊢
    exact part_at R k hk x _ s hs
  · rw [if_neg h] at hs ⊢
    exact part_at R l hl x _ s hs

theorem woven_at (x : FVec Ideal S1024x3008 .f32) (J : Fin 2560) : woven x (ix2 R J) = x (ix2 R (src J)) := by
  have hJ := J.isLt
  unfold woven
  by_cases h : J.val < 512
  · rw [concatenate_pair_apply_left 1 _ _ concatenates_S1024x512_S1024x2048_S1024x2560_d1 (ix2 R J) rfl (ix2 R ⟨J.val, h⟩) (fun b => by
      match b with
      | ⟨0, _⟩ => rfl
      | ⟨1, _⟩ => rfl), weave2_at]
    have hs := src_first ⟨J.val, h⟩
    dsimp only at hs ⊢
    by_cases hp : J.val / 128 % 2 = 0
    · rw [if_pos hp] at hs ⊢
      exact (half_at R 0 _ _ _ ⟨0 + (128 * (J.val / 256) + J.val % 128), by omega⟩ rfl).trans (part_at R 448 _ x _ (src J) hs)
    · rw [if_neg hp] at hs ⊢
      exact (half_at R 256 _ _ _ ⟨256 + (128 * (J.val / 256) + J.val % 128), by omega⟩ rfl).trans (part_at R 448 _ x _ (src J) hs)
  rw [concatenate_pair_apply_right 1 _ _ concatenates_S1024x512_S1024x2048_S1024x2560_d1 (ix2 R J) rfl rfl (ix2 R ⟨J.val - 512, by omega⟩) (fun b hb => by
    match b with
    | ⟨0, _⟩ => rfl
    | ⟨1, _⟩ => exact absurd rfl hb) (by show J.val - 512 + 512 = J.val; omega)]
  unfold tail
  by_cases h2 : J.val - 512 < 1024
  · rw [concatenate_pair_apply_left 1 _ _ concatenates_S1024x1024_S1024x1024_S1024x2048_d1 (ix2 R ⟨J.val - 512, by omega⟩) rfl (ix2 R ⟨J.val - 512, h2⟩) (fun b => by
      match b with
      | ⟨0, _⟩ => rfl
      | ⟨1, _⟩ => rfl)]
    refine weave4_part R 1472 1984 _ _ x _ (src J) ((congrArg srcN ?_).trans (src_mid ⟨J.val - 512, h2⟩))
    show J.val = 512 + (J.val - 512); omega
  · rw [concatenate_pair_apply_right 1 _ _ concatenates_S1024x1024_S1024x1024_S1024x2048_d1 (ix2 R ⟨J.val - 512, by omega⟩) rfl rfl (ix2 R ⟨J.val - 512 - 1024, by omega⟩) (fun b hb => by
      match b with
      | ⟨0, _⟩ => rfl
      | ⟨1, _⟩ => exact absurd rfl hb) (by show J.val - 512 - 1024 + 1024 = J.val - 512; omega)]
    refine weave4_part R 960 2496 _ _ x _ (src J) ((congrArg srcN ?_).trans (src_last ⟨J.val - 512 - 1024, by omega⟩))
    show J.val = 1536 + (J.val - 512 - 1024); omega

theorem latRef_at (j : Fin 512) : (latRef w g (ix2 R j) : EReal) = if h : j.val < 448 then scaled w g R ⟨j.val, by omega⟩ else 0 := by
  refine (padded_at R (gained w g) j).trans ?_
  by_cases h : j.val < 448
  · rw [dif_pos h, dif_pos h, gained_at]
  · rw [dif_neg h, dif_neg h]

theorem wideRef_at (J : Fin 2560) : (wideRef w g (ix2 R J) : EReal) = scaled w g R (src J) := by
  refine (woven_at R (gained w g) J).trans ?_
  exact gained_at w g R (src J)

end Cert.Reference3Ideal.Prep

end
-- ==== Proof.Alg3.lean ====
module

public import proofs.«01_k».proof.Defs
public import proofs.«01_k».proof.Proof.PrepBoth
public import proofs.«01_k».proof.Proof.PrepVal
public import proofs.«01_k».proof.Proof.RefVal3

@[expose] public section

set_option maxRecDepth 16384

/-! The weight preparation's two results are the plain ones. -/

noncomputable section

namespace Cert.Proof

open Idealize.ShloMosaic Idealize.ShloMosaic.TcCoe Idealize.ShloMosaic.ValueIdx Idealize.ShloMosaic.Tactic
open Idealize.SL Idealize.SL.Sem

section
variable (m : (ℓ : Loc Cert.Kernel3Ideal.nD Cert.Kernel3Ideal.τ Cert.Kernel3Ideal.sig) → Buf (Elt Ideal) ℓ) (c : Dev Cert.Kernel3Ideal.nD)

/-- The latent's columns that the call leaves. -/
def lat3 : Buf (Elt Ideal) ((c.tc : Thread Cert.Kernel3Ideal.nD Cert.Kernel3Ideal.τ).loc Cert.Kernel3Ideal.main_v4_0) :=
  (Cert.Kernel3Ideal.Prep.dats (F := Ideal) m 0 c).arrAt 4 (Cert.Kernel3Ideal.cfg0 (F := Ideal) Cert.Kernel3Ideal.Prep.ad).N

/-- The woven columns that the call leaves. -/
def wide3 : Buf (Elt Ideal) ((c.tc : Thread Cert.Kernel3Ideal.nD Cert.Kernel3Ideal.τ).loc Cert.Kernel3Ideal.main_v4_1) :=
  (Cert.Kernel3Ideal.Prep.dats (F := Ideal) m 0 c).arrAt 5 (Cert.Kernel3Ideal.cfg0 (F := Ideal) Cert.Kernel3Ideal.Prep.ad).N

theorem lat3_eq : Cert.Reference3Ideal.Prep.latRef (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = lat3 m c := by
  funext i
  rw [eq_ix2 i]
  exact (Cert.Reference3Ideal.Prep.latRef_at _ _ _ _).trans (Cert.Kernel3Ideal.Prep.lat_at m c _ _).symm

theorem wide3_eq : Cert.Reference3Ideal.Prep.wideRef (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = wide3 m c := by
  funext i
  rw [eq_ix2 i]
  exact (Cert.Reference3Ideal.Prep.wideRef_at _ _ _ _).trans (Cert.Kernel3Ideal.Prep.wide_at m c _ _).symm
end

open Cert.Kernel3Ideal Cert.Kernel3Ideal.Gen Cert.Kernel3Ideal.Prep in
theorem run3 (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = lat3 m c
      ∧ r.2.mem ((c.tc : Thread nD τ).loc main_v4_1) = wide3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun r h c => ⟨(h.1 c).1 4, (h.1 c).1 5,
    ((h.1 c).2 main_arg0 (Pipeline.mem_restRefs_of main_arg0 (by decide) (show ∀ w : Fin 6, (spec0 w).arr.view.ref ≠ main_arg0 by decide))).trans (V_arg0 m c),
    ((h.1 c).2 main_arg1 (Pipeline.mem_restRefs_of main_arg1 (by decide) (show ∀ w : Fin 6, (spec0 w).arr.view.ref ≠ main_arg1 by decide))).trans (V_arg1 m c)⟩)
    (run_main_quiescent (F := Ideal) m ρ)

theorem algebraic3 : Cert.algebraic_Kernel3Ideal_Reference3Ideal (hKernel3Ideal := Cert.Kernel3Ideal.Gen.facts)
    (hReference3Ideal := Cert.Reference3Ideal.Gen.facts) := fun m g m' g' _ ha =>
  ⟨lat3 m, wide3 m, run3 m g,
    (θ_run (Cert.Reference3Ideal.defs (F := Ideal)) _ _).mono (fun _ h c => ⟨by
        refine (h c).1.trans (Eq.trans (b := Cert.Reference3Ideal.Prep.latRef (F := Ideal)
          (m' ((c.tc : Thread Cert.Reference3Ideal.nD Cert.Reference3Ideal.τ).loc Cert.Reference3Ideal.main_arg0))
          (m' ((c.tc : Thread Cert.Reference3Ideal.nD Cert.Reference3Ideal.τ).loc Cert.Reference3Ideal.main_arg1))) (by chain_rfl) ?_)
        rw [(ha c).1, (ha c).2]
        exact lat3_eq m c, by
        refine (h c).2.1.trans (Eq.trans (b := Cert.Reference3Ideal.Prep.wideRef (F := Ideal)
          (m' ((c.tc : Thread Cert.Reference3Ideal.nD Cert.Reference3Ideal.τ).loc Cert.Reference3Ideal.main_arg0))
          (m' ((c.tc : Thread Cert.Reference3Ideal.nD Cert.Reference3Ideal.τ).loc Cert.Reference3Ideal.main_arg1))) (by chain_rfl) ?_)
        rw [(ha c).1, (ha c).2]
        exact wide3_eq m c, (h c).2.2⟩)
      (Cert.Reference3Ideal.Value.run (F := Ideal) m' g')⟩

end Cert.Proof

end
-- ==== Proof.lean ====
module

public import proofs.«01_k».proof.Defs
public import proofs.«01_k».proof.Proof.Both
public import proofs.«01_k».proof.Proof.Alg
public import proofs.«01_k».proof.Proof.Alg2
public import proofs.«01_k».proof.Proof.Alg3
public import proofs.«01_k».proof.Proof.PrepBoth
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.PureOps.IdealRules

@[expose] public section

/-! The claims, from the runs. -/

noncomputable section

namespace Cert.Proof

open Idealize.ShloMosaic Idealize.ShloMosaic.TcCoe
open Idealize.SL Idealize.SL.Sem

theorem frame_ideal : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1, (h.1 c).2.2.1⟩, h.2⟩)
    (Cert.KernelIdeal.Attn.frame_all (F := Ideal) m ρ)

theorem frame_ref : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The same runs, from finite queries and keys. -/
theorem frame_ideal_finite : Cert.quiescent_KernelIdeal_pre_finite_qk (hKernelIdeal := Cert.KernelIdeal.Gen.facts)
    (hPre_finite_qk := Cert.KernelIdeal.Attn.facts_pre) := fun m ρ _ => frame_ideal m ρ trivial

theorem frame_ref_finite : Cert.quiescent_ReferenceIdeal_pre_finite_qk (hReferenceIdeal := Cert.ReferenceIdeal.Gen.facts)
    (hPre_finite_qk := Cert.KernelIdeal.Attn.facts_pre) := fun m ρ _ => frame_ref m ρ trivial

theorem preserves : Cert.preserves_Kernel_KernelIdeal := IdealRules.named_const.statement _ _ _ _ _ rfl

/-! ## The output call -/

theorem frame_kernel2 : Cert.quiescent_Kernel2 (hKernel2 := Cert.Kernel2.Gen.facts) := fun m ρ _ => Cert.Kernel2.Gen.frame (F := Bits) m ρ

theorem frame_ideal2 : Cert.quiescent_Kernel2Ideal (hKernel2Ideal := Cert.Kernel2Ideal.Gen.facts) := fun m ρ _ =>
  Cert.Kernel2Ideal.Gen.frame (F := Ideal) m ρ

theorem frame_ref2 : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)

/-! ## The weight preparation -/

theorem frame_ref3 : Cert.quiescent_Reference3Ideal (hReference3Ideal := Cert.Reference3Ideal.Gen.facts) := fun m ρ _ =>
  (θ_run (Cert.Reference3Ideal.defs (F := Ideal)) _ _).mono (fun r h => ⟨fun c => (h c).2.2, sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.KernelIdeal.Attn.facts_pre,
  Cert.KernelIdeal.Attn.frame_kernel, frame_ideal, frame_ideal_finite, frame_ref, frame_ref_finite, frame_kernel2, frame_ideal2, frame_ref2,
  Cert.Kernel3Ideal.Prep.frame_kernel3, Cert.Kernel3Ideal.Prep.frame_ideal3, frame_ref3,
  preserves, algebraic, trivial, algebraic2, trivial, algebraic3⟩

end Cert.Proof

end
